-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x11776 : Shape := ⟨3, ![2, 1536, 11776]⟩
abbrev S2x1536x92 : Shape := ⟨3, ![2, 1536, 92]⟩
abbrev S11776x1920 : Shape := ⟨2, ![11776, 1920]⟩
abbrev S92x15 : Shape := ⟨2, ![92, 15]⟩
abbrev S3072x11776 : Shape := ⟨2, ![3072, 11776]⟩
abbrev S92x2x1536 : Shape := ⟨3, ![92, 2, 1536]⟩
abbrev S15x92 : Shape := ⟨2, ![15, 92]⟩
abbrev S3072x1920 : Shape := ⟨2, ![3072, 1920]⟩
abbrev S2x1536 : Shape := ⟨2, ![2, 1536]⟩
abbrev S1920x11776 : Shape := ⟨2, ![1920, 11776]⟩
abbrev S6x256x1920 : Shape := ⟨3, ![6, 256, 1920]⟩
abbrev S2x256x11776 : Shape := ⟨3, ![2, 256, 11776]⟩
abbrev S92x256 : Shape := ⟨2, ![92, 256]⟩
abbrev S2x256x128 : Shape := ⟨3, ![2, 256, 128]⟩
abbrev S1920x256 : Shape := ⟨2, ![1920, 256]⟩
abbrev S8x256 : Shape := ⟨2, ![8, 256]⟩
abbrev S2x256x1920 : Shape := ⟨3, ![2, 256, 1920]⟩
abbrev S6 : Shape := ⟨1, ![6]⟩
abbrev S_ : Shape := ⟨0, ![]⟩
abbrev S2 : Shape := ⟨1, ![2]⟩
abbrev S92x1x256 : Shape := ⟨3, ![92, 1, 256]⟩
abbrev S1x256x512 : Shape := ⟨3, ![1, 256, 512]⟩
abbrev S256x512 : Shape := ⟨2, ![256, 512]⟩
abbrev S1 : Shape := ⟨1, ![1]⟩
abbrev S1x256x1920 : Shape := ⟨3, ![1, 256, 1920]⟩
abbrev S256x1920 : Shape := ⟨2, ![256, 1920]⟩
abbrev S1x256x11264 : Shape := ⟨3, ![1, 256, 11264]⟩
abbrev S256x11264 : Shape := ⟨2, ![256, 11264]⟩
abbrev S96x256 : Shape := ⟨2, ![96, 256]⟩
abbrev S36x256 : Shape := ⟨2, ![36, 256]⟩
abbrev S128x256 : Shape := ⟨2, ![128, 256]⟩
abbrev S256x128 : Shape := ⟨2, ![256, 128]⟩
abbrev S1x256x128 : Shape := ⟨3, ![1, 256, 128]⟩
abbrev S1x128x128 : Shape := ⟨3, ![1, 128, 128]⟩
abbrev S128x128 : Shape := ⟨2, ![128, 128]⟩
abbrev S1x1 : Shape := ⟨2, ![1, 1]⟩
abbrev S256x128x1 : Shape := ⟨3, ![256, 128, 1]⟩
abbrev S256x256 : Shape := ⟨2, ![256, 256]⟩
abbrev S1x256x11776 : Shape := ⟨3, ![1, 256, 11776]⟩
abbrev S256x11776 : Shape := ⟨2, ![256, 11776]⟩
abbrev S12x8x256 : Shape := ⟨3, ![12, 8, 256]⟩
abbrev S256 : Shape := ⟨1, ![256]⟩
abbrev S1x256 : Shape := ⟨2, ![1, 256]⟩
abbrev S2x256 : Shape := ⟨2, ![2, 256]⟩
abbrev S16x8x256 : Shape := ⟨3, ![16, 8, 256]⟩
abbrev S1x8x256 : Shape := ⟨3, ![1, 8, 256]⟩
abbrev S2x1536x1920 : Shape := ⟨3, ![2, 1536, 1920]⟩

abbrev nBuf : Space → Nat
  | .hbm => 10
  | .vmem => 10
  | .smem => 1
  | _ => 0

abbrev bufTy : (tb : Table) → Fin (tcTables nBuf tb) → BufTy
  | .hbm, ⟨0, _⟩ => ⟨S2x1536x11776, .fp8e4m3⟩
  | .hbm, ⟨1, _⟩ => ⟨S2x1536x92, .f32⟩
  | .hbm, ⟨2, _⟩ => ⟨S11776x1920, .fp8e4m3⟩
  | .hbm, ⟨3, _⟩ => ⟨S92x15, .f32⟩
  | .hbm, ⟨4, _⟩ => ⟨S3072x11776, .fp8e4m3⟩
  | .hbm, ⟨5, _⟩ => ⟨S92x2x1536, .f32⟩
  | .hbm, ⟨6, _⟩ => ⟨S15x92, .f32⟩
  | .hbm, ⟨7, _⟩ => ⟨S3072x1920, .fp8e4m3⟩
  | .hbm, ⟨8, _⟩ => ⟨S2x1536, .f32⟩
  | .hbm, ⟨9, _⟩ => ⟨S2x1536x1920, .fp8e4m3⟩
  | .local _ .vmem, ⟨0, _⟩ => ⟨S1920x11776, .bf16⟩
  | .local _ .vmem, ⟨1, _⟩ => ⟨S6x256x1920, .fp8e4m3⟩
  | .local _ .vmem, ⟨2, _⟩ => ⟨S2x256x11776, .fp8e4m3⟩
  | .local _ .vmem, ⟨3, _⟩ => ⟨S92x256, .f32⟩
  | .local _ .vmem, ⟨4, _⟩ => ⟨S2x256x128, .f32⟩
  | .local _ .vmem, ⟨5, _⟩ => ⟨S1920x256, .f32⟩
  | .local _ .vmem, ⟨6, _⟩ => ⟨S8x256, .f32⟩
  | .local _ .vmem, ⟨7, _⟩ => ⟨S8x256, .f32⟩
  | .local _ .vmem, ⟨8, _⟩ => ⟨S2x256x1920, .fp8e4m3⟩
  | .local _ .vmem, ⟨9, _⟩ => ⟨S2x1536, .f32⟩
  | .local _ .smem, ⟨0, _⟩ => ⟨S15x92, .f32⟩
  | _, _ => ⟨S2x1536x11776, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch5 : Ref sig .tc := ⟨.smem, 0, rfl⟩

abbrev nD : Nat := 1
abbrev τ : Topo := Topo.v7x

variable {F : FTy → Type} [FloatOps F]

abbrev grid0 : Pipeline.Grid := .none

def k0_mult1 : BitVec 32 :=
  let c0_i32_0_r0 : BitVec 32 := 0#32
  let c6_i32_1_r0 : BitVec 32 := 6#32
  let v1_r0 : BitVec 32 := Scalar.remsi c0_i32_0_r0 c6_i32_1_r0
  let c256_i32_r0 : BitVec 32 := 256#32
  let v2_r0 : BitVec 32 := Scalar.muli v1_r0 c256_i32_r0
  v2_r0
def k0_off1 (c0_i32_r0 : BitVec 32) (c0_i32_0_r0 : BitVec 32) : Fin 3 → Nat :=
  let c0_i32_2_r0 : BitVec 32 := 0#32
  let c6_i32_r0 : BitVec 32 := 6#32
  let v0_r0 : BitVec 32 := Scalar.divsi c0_i32_r0 c6_i32_r0
  let c6_i32_1_r0 : BitVec 32 := 6#32
  let v1_r0 : BitVec 32 := Scalar.remsi c0_i32_0_r0 c6_i32_1_r0
  let c256_i32_r0 : BitVec 32 := 256#32
  let v2_r0 : BitVec 32 := Scalar.muli v1_r0 c256_i32_r0
  let v3_r0 : BitVec 32 := v2_r0
  ![0, v0_r0.toNat, v3_r0.toNat]
def k0_off1_at (r : Fin 2) : BitVec 32 × BitVec 32 :=
  if r.val < 1 then
    (0#32, 0#32)
  else
    (1#32, 1#32)
def k0_mult2 : BitVec 32 :=
  let c0_i32_36_r0 : BitVec 32 := 0#32
  let c6_i32_37_r0 : BitVec 32 := 6#32
  let v59_r0 : BitVec 32 := Scalar.remsi c0_i32_36_r0 c6_i32_37_r0
  let c256_i32_38_r0 : BitVec 32 := 256#32
  let v60_r0 : BitVec 32 := Scalar.muli v59_r0 c256_i32_38_r0
  v60_r0
def k0_mult3 : BitVec 32 :=
  let c1_i32_48_r0 : BitVec 32 := 1#32
  let c6_i32_49_r0 : BitVec 32 := 6#32
  let v72_r0 : BitVec 32 := Scalar.remsi c1_i32_48_r0 c6_i32_49_r0
  let c256_i32_50_r0 : BitVec 32 := 256#32
  let v73_r0 : BitVec 32 := Scalar.muli v72_r0 c256_i32_50_r0
  v73_r0
@[reducible] def k0_t1_loop : Scf.Loop 32 :=
  let c0_i32_242_r0 : BitVec 32 := 0#32
  let c15_i32_r0 : BitVec 32 := 15#32
  let v426_r0 : BitVec 32 := Scalar.addi c0_i32_242_r0 c15_i32_r0
  let c1_i32_243_r0 : BitVec 32 := 1#32
  ⟨c0_i32_242_r0, v426_r0, c1_i32_243_r0⟩
def k0_cond1 (k0_t1 : Fin k0_t1_loop.trips) : BitVec 1 :=
  let c0_i32_242_r0 : BitVec 32 := 0#32
  let c1_i32_243_r0 : BitVec 32 := 1#32
  let arg24_r0 : BitVec 32 := Scf.iv c0_i32_242_r0 c1_i32_243_r0 k0_t1
  let c1_i32_631_r0 : BitVec 32 := 1#32
  let v1145_r0 : BitVec 32 := Scalar.addi arg24_r0 c1_i32_631_r0
  let c15_i32_632_r0 : BitVec 32 := 15#32
  let v1146_r0 : BitVec 1 := Scalar.cmpi .slt v1145_r0 c15_i32_632_r0
  let v1147_r0 : BitVec 32 := Scalar.extui v1146_r0
  let c0_i32_633_r0 : BitVec 32 := 0#32
  let v1148_r0 : BitVec 1 := Scalar.cmpi .ne v1147_r0 c0_i32_633_r0
  v1148_r0

def k0_mult4 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1384_r0 : BitVec 32 := 1#32
  let v2955_r0 : BitVec 32 := Scalar.addi v1142_r0 c1_i32_1384_r0
  let c3_i32_1385_r0 : BitVec 32 := 3#32
  let v2956_r0 : BitVec 32 := Scalar.addi v2955_r0 c3_i32_1385_r0
  let c0_i32_1386_r0 : BitVec 32 := 0#32
  let v2957_r0 : BitVec 32 := Scalar.addi v2956_r0 c0_i32_1386_r0
  let c256_i32_1389_r0 : BitVec 32 := 256#32
  let v2960_r0 : BitVec 32 := Scalar.muli v2957_r0 c256_i32_1389_r0
  v2960_r0
def k0_off2 (k0_t1 : Fin k0_t1_loop.trips) (c0_i32_1388_r0 : BitVec 32) : Fin 1 → Nat :=
  let c3_i32_1387_r0 : BitVec 32 := 3#32
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v2958_r0 : BitVec 32 := Scalar.subi c3_i32_1387_r0 v1144_r0
  let v2959_r0 : BitVec 32 := Scalar.addi v2958_r0 c0_i32_1388_r0
  ![v2959_r0.toNat]
def k0_off3 (k0_t1 : Fin k0_t1_loop.trips) (c0_i32_1388_r0 : BitVec 32) : Fin 3 → Nat :=
  let c3_i32_1387_r0 : BitVec 32 := 3#32
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v2958_r0 : BitVec 32 := Scalar.subi c3_i32_1387_r0 v1144_r0
  let v2959_r0 : BitVec 32 := Scalar.addi v2958_r0 c0_i32_1388_r0
  let c0_i32_1390_r0 : BitVec 32 := 0#32
  let c0_i32_1391_r0 : BitVec 32 := 0#32
  ![v2959_r0.toNat, 0, 0]
def k0_off4 (k0_t1 : Fin k0_t1_loop.trips) (c0_i32_1386_r0 : BitVec 32) : Fin 2 → Nat :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1384_r0 : BitVec 32 := 1#32
  let v2955_r0 : BitVec 32 := Scalar.addi v1142_r0 c1_i32_1384_r0
  let c3_i32_1385_r0 : BitVec 32 := 3#32
  let v2956_r0 : BitVec 32 := Scalar.addi v2955_r0 c3_i32_1385_r0
  let v2957_r0 : BitVec 32 := Scalar.addi v2956_r0 c0_i32_1386_r0
  let c256_i32_1389_r0 : BitVec 32 := 256#32
  let v2960_r0 : BitVec 32 := Scalar.muli v2957_r0 c256_i32_1389_r0
  let v2961_r0 : BitVec 32 := v2960_r0
  let c0_i32_1392_r0 : BitVec 32 := 0#32
  ![v2961_r0.toNat, 0]
def k0_mult5 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1393_r0 : BitVec 32 := 1#32
  let v2967_r0 : BitVec 32 := Scalar.addi v1142_r0 c1_i32_1393_r0
  let c3_i32_1394_r0 : BitVec 32 := 3#32
  let v2968_r0 : BitVec 32 := Scalar.addi v2967_r0 c3_i32_1394_r0
  let c1_i32_1395_r0 : BitVec 32 := 1#32
  let v2969_r0 : BitVec 32 := Scalar.addi v2968_r0 c1_i32_1395_r0
  let c256_i32_1398_r0 : BitVec 32 := 256#32
  let v2972_r0 : BitVec 32 := Scalar.muli v2969_r0 c256_i32_1398_r0
  v2972_r0
def k0_mult6 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1402_r0 : BitVec 32 := 1#32
  let v2979_r0 : BitVec 32 := Scalar.addi v1142_r0 c1_i32_1402_r0
  let c3_i32_1403_r0 : BitVec 32 := 3#32
  let v2980_r0 : BitVec 32 := Scalar.addi v2979_r0 c3_i32_1403_r0
  let c2_i32_1404_r0 : BitVec 32 := 2#32
  let v2981_r0 : BitVec 32 := Scalar.addi v2980_r0 c2_i32_1404_r0
  let c256_i32_1407_r0 : BitVec 32 := 256#32
  let v2984_r0 : BitVec 32 := Scalar.muli v2981_r0 c256_i32_1407_r0
  v2984_r0
def k0_mult7 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_634_r0 : BitVec 32 := 1#32
  let v1149_r0 : BitVec 32 := Scalar.addi v1142_r0 c1_i32_634_r0
  let c0_i32_635_r0 : BitVec 32 := 0#32
  let v1150_r0 : BitVec 32 := Scalar.addi v1149_r0 c0_i32_635_r0
  let c256_i32_637_r0 : BitVec 32 := 256#32
  let v1152_r0 : BitVec 32 := Scalar.muli v1150_r0 c256_i32_637_r0
  v1152_r0
def k0_off5 (k0_t1 : Fin k0_t1_loop.trips) (c0_i32_636_r0 : BitVec 32) : Fin 1 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1151_r0 : BitVec 32 := Scalar.addi v1144_r0 c0_i32_636_r0
  ![v1151_r0.toNat]
def k0_off6 (k0_t1 : Fin k0_t1_loop.trips) (c0_i32_636_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1151_r0 : BitVec 32 := Scalar.addi v1144_r0 c0_i32_636_r0
  let c0_i32_638_r0 : BitVec 32 := 0#32
  let c0_i32_639_r0 : BitVec 32 := 0#32
  ![v1151_r0.toNat, 0, 0]
def k0_off7 (k0_t1 : Fin k0_t1_loop.trips) (c0_i32_635_r0 : BitVec 32) : Fin 2 → Nat :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_634_r0 : BitVec 32 := 1#32
  let v1149_r0 : BitVec 32 := Scalar.addi v1142_r0 c1_i32_634_r0
  let v1150_r0 : BitVec 32 := Scalar.addi v1149_r0 c0_i32_635_r0
  let c256_i32_637_r0 : BitVec 32 := 256#32
  let v1152_r0 : BitVec 32 := Scalar.muli v1150_r0 c256_i32_637_r0
  let v1153_r0 : BitVec 32 := v1152_r0
  let c0_i32_640_r0 : BitVec 32 := 0#32
  ![v1153_r0.toNat, 0]
def k0_mult8 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_641_r0 : BitVec 32 := 1#32
  let v1159_r0 : BitVec 32 := Scalar.addi v1142_r0 c1_i32_641_r0
  let c1_i32_642_r0 : BitVec 32 := 1#32
  let v1160_r0 : BitVec 32 := Scalar.addi v1159_r0 c1_i32_642_r0
  let c256_i32_644_r0 : BitVec 32 := 256#32
  let v1162_r0 : BitVec 32 := Scalar.muli v1160_r0 c256_i32_644_r0
  v1162_r0
def k0_mult9 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_648_r0 : BitVec 32 := 1#32
  let v1169_r0 : BitVec 32 := Scalar.addi v1142_r0 c1_i32_648_r0
  let c2_i32_649_r0 : BitVec 32 := 2#32
  let v1170_r0 : BitVec 32 := Scalar.addi v1169_r0 c2_i32_649_r0
  let c256_i32_651_r0 : BitVec 32 := 256#32
  let v1172_r0 : BitVec 32 := Scalar.muli v1170_r0 c256_i32_651_r0
  v1172_r0
def k0_off8 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1182_r0 : Index := Scalar.indexCast v1181_r0
  let c0_658_r0 : Index := 0#32
  let c0_659_r0 : Index := 0#32
  ![v1182_r0.toNat, 0, 0]
def k0_off9 (k0_t1 : Fin k0_t1_loop.trips) (c0_i32_656_r0 : BitVec 32) (c0_i32_661_r0 : BitVec 32) : Fin 2 → Nat :=
  let c0_662_r0 : Index := 0#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_660_r0 : BitVec 32 := 2#32
  let v1185_r0 : BitVec 32 := Scalar.muli v1180_r0 c2_i32_660_r0
  let v1186_r0 : BitVec 32 := Scalar.addi v1185_r0 c0_i32_661_r0
  let v1187_r0 : Index := Scalar.indexCast v1186_r0
  ![0, v1187_r0.toNat]
def k0_off10 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1194_r0 : Index := Scalar.indexCast v1181_r0
  let c128_663_r0 : Index := 128#32
  let c0_664_r0 : Index := 0#32
  ![v1194_r0.toNat, 128, 0]
def k0_mult10 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_668_r0 : BitVec 32 := 256#32
  let v1207_r0 : BitVec 32 := Scalar.muli v1180_r0 c256_i32_668_r0
  v1207_r0
def k0_off11 (k0_t1 : Fin k0_t1_loop.trips) (c0_i32_656_r0 : BitVec 32) : Fin 2 → Nat :=
  let c0_669_r0 : Index := 0#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_668_r0 : BitVec 32 := 256#32
  let v1207_r0 : BitVec 32 := Scalar.muli v1180_r0 c256_i32_668_r0
  let v1208_r0 : BitVec 32 := v1207_r0
  let v1209_r0 : Index := Scalar.indexCast v1208_r0
  ![0, v1209_r0.toNat]
def k0_off12 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1213_r0 : Index := Scalar.indexCast v1181_r0
  let c0_670_r0 : Index := 0#32
  let c128_671_r0 : Index := 128#32
  ![v1213_r0.toNat, 0, 128]
def k0_off13 (k0_t1 : Fin k0_t1_loop.trips) (c0_i32_656_r0 : BitVec 32) (c0_i32_673_r0 : BitVec 32) : Fin 2 → Nat :=
  let c1_674_r0 : Index := 1#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_672_r0 : BitVec 32 := 2#32
  let v1216_r0 : BitVec 32 := Scalar.muli v1180_r0 c2_i32_672_r0
  let v1217_r0 : BitVec 32 := Scalar.addi v1216_r0 c0_i32_673_r0
  let v1218_r0 : Index := Scalar.indexCast v1217_r0
  ![1, v1218_r0.toNat]
def k0_off14 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1225_r0 : Index := Scalar.indexCast v1181_r0
  let c128_675_r0 : Index := 128#32
  let c128_676_r0 : Index := 128#32
  ![v1225_r0.toNat, 128, 128]
def k0_mult11 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_680_r0 : BitVec 32 := 256#32
  let v1238_r0 : BitVec 32 := Scalar.muli v1180_r0 c256_i32_680_r0
  v1238_r0
def k0_off15 (k0_t1 : Fin k0_t1_loop.trips) (c0_i32_656_r0 : BitVec 32) : Fin 2 → Nat :=
  let c128_681_r0 : Index := 128#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_680_r0 : BitVec 32 := 256#32
  let v1238_r0 : BitVec 32 := Scalar.muli v1180_r0 c256_i32_680_r0
  let v1239_r0 : BitVec 32 := v1238_r0
  let v1240_r0 : Index := Scalar.indexCast v1239_r0
  ![128, v1240_r0.toNat]
def k0_off16 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1244_r0 : Index := Scalar.indexCast v1181_r0
  let c0_682_r0 : Index := 0#32
  let c256_683_r0 : Index := 256#32
  ![v1244_r0.toNat, 0, 256]
def k0_off17 (k0_t1 : Fin k0_t1_loop.trips) (c0_i32_656_r0 : BitVec 32) (c0_i32_685_r0 : BitVec 32) : Fin 2 → Nat :=
  let c2_686_r0 : Index := 2#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_684_r0 : BitVec 32 := 2#32
  let v1247_r0 : BitVec 32 := Scalar.muli v1180_r0 c2_i32_684_r0
  let v1248_r0 : BitVec 32 := Scalar.addi v1247_r0 c0_i32_685_r0
  let v1249_r0 : Index := Scalar.indexCast v1248_r0
  ![2, v1249_r0.toNat]
def k0_off18 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1256_r0 : Index := Scalar.indexCast v1181_r0
  let c128_687_r0 : Index := 128#32
  let c256_688_r0 : Index := 256#32
  ![v1256_r0.toNat, 128, 256]
def k0_mult12 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_692_r0 : BitVec 32 := 256#32
  let v1269_r0 : BitVec 32 := Scalar.muli v1180_r0 c256_i32_692_r0
  v1269_r0
def k0_off19 (k0_t1 : Fin k0_t1_loop.trips) (c0_i32_656_r0 : BitVec 32) : Fin 2 → Nat :=
  let c256_693_r0 : Index := 256#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_692_r0 : BitVec 32 := 256#32
  let v1269_r0 : BitVec 32 := Scalar.muli v1180_r0 c256_i32_692_r0
  let v1270_r0 : BitVec 32 := v1269_r0
  let v1271_r0 : Index := Scalar.indexCast v1270_r0
  ![256, v1271_r0.toNat]
def k0_off20 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1275_r0 : Index := Scalar.indexCast v1181_r0
  let c0_694_r0 : Index := 0#32
  let c384_695_r0 : Index := 384#32
  ![v1275_r0.toNat, 0, 384]
def k0_off21 (k0_t1 : Fin k0_t1_loop.trips) (c0_i32_656_r0 : BitVec 32) (c0_i32_697_r0 : BitVec 32) : Fin 2 → Nat :=
  let c3_698_r0 : Index := 3#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_696_r0 : BitVec 32 := 2#32
  let v1278_r0 : BitVec 32 := Scalar.muli v1180_r0 c2_i32_696_r0
  let v1279_r0 : BitVec 32 := Scalar.addi v1278_r0 c0_i32_697_r0
  let v1280_r0 : Index := Scalar.indexCast v1279_r0
  ![3, v1280_r0.toNat]
def k0_off22 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1287_r0 : Index := Scalar.indexCast v1181_r0
  let c128_699_r0 : Index := 128#32
  let c384_700_r0 : Index := 384#32
  ![v1287_r0.toNat, 128, 384]
def k0_mult13 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_704_r0 : BitVec 32 := 256#32
  let v1300_r0 : BitVec 32 := Scalar.muli v1180_r0 c256_i32_704_r0
  v1300_r0
def k0_off23 (k0_t1 : Fin k0_t1_loop.trips) (c0_i32_656_r0 : BitVec 32) : Fin 2 → Nat :=
  let c384_705_r0 : Index := 384#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_704_r0 : BitVec 32 := 256#32
  let v1300_r0 : BitVec 32 := Scalar.muli v1180_r0 c256_i32_704_r0
  let v1301_r0 : BitVec 32 := v1300_r0
  let v1302_r0 : Index := Scalar.indexCast v1301_r0
  ![384, v1302_r0.toNat]
def k0_off24 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1306_r0 : Index := Scalar.indexCast v1181_r0
  let c0_706_r0 : Index := 0#32
  let c512_707_r0 : Index := 512#32
  ![v1306_r0.toNat, 0, 512]
def k0_off25 (k0_t1 : Fin k0_t1_loop.trips) (c0_i32_656_r0 : BitVec 32) (c0_i32_709_r0 : BitVec 32) : Fin 2 → Nat :=
  let c4_710_r0 : Index := 4#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_708_r0 : BitVec 32 := 2#32
  let v1309_r0 : BitVec 32 := Scalar.muli v1180_r0 c2_i32_708_r0
  let v1310_r0 : BitVec 32 := Scalar.addi v1309_r0 c0_i32_709_r0
  let v1311_r0 : Index := Scalar.indexCast v1310_r0
  ![4, v1311_r0.toNat]
def k0_off26 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1318_r0 : Index := Scalar.indexCast v1181_r0
  let c128_711_r0 : Index := 128#32
  let c512_712_r0 : Index := 512#32
  ![v1318_r0.toNat, 128, 512]
def k0_mult14 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_716_r0 : BitVec 32 := 256#32
  let v1331_r0 : BitVec 32 := Scalar.muli v1180_r0 c256_i32_716_r0
  v1331_r0
def k0_off27 (k0_t1 : Fin k0_t1_loop.trips) (c0_i32_656_r0 : BitVec 32) : Fin 2 → Nat :=
  let c512_717_r0 : Index := 512#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_716_r0 : BitVec 32 := 256#32
  let v1331_r0 : BitVec 32 := Scalar.muli v1180_r0 c256_i32_716_r0
  let v1332_r0 : BitVec 32 := v1331_r0
  let v1333_r0 : Index := Scalar.indexCast v1332_r0
  ![512, v1333_r0.toNat]
def k0_off28 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1337_r0 : Index := Scalar.indexCast v1181_r0
  let c0_718_r0 : Index := 0#32
  let c640_719_r0 : Index := 640#32
  ![v1337_r0.toNat, 0, 640]
def k0_off29 (k0_t1 : Fin k0_t1_loop.trips) (c0_i32_656_r0 : BitVec 32) (c0_i32_721_r0 : BitVec 32) : Fin 2 → Nat :=
  let c5_722_r0 : Index := 5#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_720_r0 : BitVec 32 := 2#32
  let v1340_r0 : BitVec 32 := Scalar.muli v1180_r0 c2_i32_720_r0
  let v1341_r0 : BitVec 32 := Scalar.addi v1340_r0 c0_i32_721_r0
  let v1342_r0 : Index := Scalar.indexCast v1341_r0
  ![5, v1342_r0.toNat]
def k0_off30 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1349_r0 : Index := Scalar.indexCast v1181_r0
  let c128_723_r0 : Index := 128#32
  let c640_724_r0 : Index := 640#32
  ![v1349_r0.toNat, 128, 640]
def k0_mult15 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_728_r0 : BitVec 32 := 256#32
  let v1362_r0 : BitVec 32 := Scalar.muli v1180_r0 c256_i32_728_r0
  v1362_r0
def k0_off31 (k0_t1 : Fin k0_t1_loop.trips) (c0_i32_656_r0 : BitVec 32) : Fin 2 → Nat :=
  let c640_729_r0 : Index := 640#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_728_r0 : BitVec 32 := 256#32
  let v1362_r0 : BitVec 32 := Scalar.muli v1180_r0 c256_i32_728_r0
  let v1363_r0 : BitVec 32 := v1362_r0
  let v1364_r0 : Index := Scalar.indexCast v1363_r0
  ![640, v1364_r0.toNat]
def k0_off32 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1368_r0 : Index := Scalar.indexCast v1181_r0
  let c0_730_r0 : Index := 0#32
  let c768_731_r0 : Index := 768#32
  ![v1368_r0.toNat, 0, 768]
def k0_off33 (k0_t1 : Fin k0_t1_loop.trips) (c0_i32_656_r0 : BitVec 32) (c0_i32_733_r0 : BitVec 32) : Fin 2 → Nat :=
  let c6_734_r0 : Index := 6#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_732_r0 : BitVec 32 := 2#32
  let v1371_r0 : BitVec 32 := Scalar.muli v1180_r0 c2_i32_732_r0
  let v1372_r0 : BitVec 32 := Scalar.addi v1371_r0 c0_i32_733_r0
  let v1373_r0 : Index := Scalar.indexCast v1372_r0
  ![6, v1373_r0.toNat]
def k0_off34 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1380_r0 : Index := Scalar.indexCast v1181_r0
  let c128_735_r0 : Index := 128#32
  let c768_736_r0 : Index := 768#32
  ![v1380_r0.toNat, 128, 768]
def k0_mult16 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_740_r0 : BitVec 32 := 256#32
  let v1393_r0 : BitVec 32 := Scalar.muli v1180_r0 c256_i32_740_r0
  v1393_r0
def k0_off35 (k0_t1 : Fin k0_t1_loop.trips) (c0_i32_656_r0 : BitVec 32) : Fin 2 → Nat :=
  let c768_741_r0 : Index := 768#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_740_r0 : BitVec 32 := 256#32
  let v1393_r0 : BitVec 32 := Scalar.muli v1180_r0 c256_i32_740_r0
  let v1394_r0 : BitVec 32 := v1393_r0
  let v1395_r0 : Index := Scalar.indexCast v1394_r0
  ![768, v1395_r0.toNat]
def k0_off36 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1399_r0 : Index := Scalar.indexCast v1181_r0
  let c0_742_r0 : Index := 0#32
  let c896_743_r0 : Index := 896#32
  ![v1399_r0.toNat, 0, 896]
def k0_off37 (k0_t1 : Fin k0_t1_loop.trips) (c0_i32_656_r0 : BitVec 32) (c0_i32_745_r0 : BitVec 32) : Fin 2 → Nat :=
  let c7_746_r0 : Index := 7#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_744_r0 : BitVec 32 := 2#32
  let v1402_r0 : BitVec 32 := Scalar.muli v1180_r0 c2_i32_744_r0
  let v1403_r0 : BitVec 32 := Scalar.addi v1402_r0 c0_i32_745_r0
  let v1404_r0 : Index := Scalar.indexCast v1403_r0
  ![7, v1404_r0.toNat]
def k0_off38 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1411_r0 : Index := Scalar.indexCast v1181_r0
  let c128_747_r0 : Index := 128#32
  let c896_748_r0 : Index := 896#32
  ![v1411_r0.toNat, 128, 896]
def k0_mult17 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_752_r0 : BitVec 32 := 256#32
  let v1424_r0 : BitVec 32 := Scalar.muli v1180_r0 c256_i32_752_r0
  v1424_r0
def k0_off39 (k0_t1 : Fin k0_t1_loop.trips) (c0_i32_656_r0 : BitVec 32) : Fin 2 → Nat :=
  let c896_753_r0 : Index := 896#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_752_r0 : BitVec 32 := 256#32
  let v1424_r0 : BitVec 32 := Scalar.muli v1180_r0 c256_i32_752_r0
  let v1425_r0 : BitVec 32 := v1424_r0
  let v1426_r0 : Index := Scalar.indexCast v1425_r0
  ![896, v1426_r0.toNat]
def k0_off40 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1430_r0 : Index := Scalar.indexCast v1181_r0
  let c0_754_r0 : Index := 0#32
  let c1024_755_r0 : Index := 1024#32
  ![v1430_r0.toNat, 0, 1024]
def k0_off41 (k0_t1 : Fin k0_t1_loop.trips) (c0_i32_656_r0 : BitVec 32) (c0_i32_757_r0 : BitVec 32) : Fin 2 → Nat :=
  let c8_758_r0 : Index := 8#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_756_r0 : BitVec 32 := 2#32
  let v1433_r0 : BitVec 32 := Scalar.muli v1180_r0 c2_i32_756_r0
  let v1434_r0 : BitVec 32 := Scalar.addi v1433_r0 c0_i32_757_r0
  let v1435_r0 : Index := Scalar.indexCast v1434_r0
  ![8, v1435_r0.toNat]
def k0_off42 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1442_r0 : Index := Scalar.indexCast v1181_r0
  let c128_759_r0 : Index := 128#32
  let c1024_760_r0 : Index := 1024#32
  ![v1442_r0.toNat, 128, 1024]
def k0_mult18 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_764_r0 : BitVec 32 := 256#32
  let v1455_r0 : BitVec 32 := Scalar.muli v1180_r0 c256_i32_764_r0
  v1455_r0
def k0_off43 (k0_t1 : Fin k0_t1_loop.trips) (c0_i32_656_r0 : BitVec 32) : Fin 2 → Nat :=
  let c1024_765_r0 : Index := 1024#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_764_r0 : BitVec 32 := 256#32
  let v1455_r0 : BitVec 32 := Scalar.muli v1180_r0 c256_i32_764_r0
  let v1456_r0 : BitVec 32 := v1455_r0
  let v1457_r0 : Index := Scalar.indexCast v1456_r0
  ![1024, v1457_r0.toNat]
def k0_off44 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1461_r0 : Index := Scalar.indexCast v1181_r0
  let c0_766_r0 : Index := 0#32
  let c1152_767_r0 : Index := 1152#32
  ![v1461_r0.toNat, 0, 1152]
def k0_off45 (k0_t1 : Fin k0_t1_loop.trips) (c0_i32_656_r0 : BitVec 32) (c0_i32_769_r0 : BitVec 32) : Fin 2 → Nat :=
  let c9_770_r0 : Index := 9#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_768_r0 : BitVec 32 := 2#32
  let v1464_r0 : BitVec 32 := Scalar.muli v1180_r0 c2_i32_768_r0
  let v1465_r0 : BitVec 32 := Scalar.addi v1464_r0 c0_i32_769_r0
  let v1466_r0 : Index := Scalar.indexCast v1465_r0
  ![9, v1466_r0.toNat]
def k0_off46 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1473_r0 : Index := Scalar.indexCast v1181_r0
  let c128_771_r0 : Index := 128#32
  let c1152_772_r0 : Index := 1152#32
  ![v1473_r0.toNat, 128, 1152]
def k0_mult19 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_776_r0 : BitVec 32 := 256#32
  let v1486_r0 : BitVec 32 := Scalar.muli v1180_r0 c256_i32_776_r0
  v1486_r0
def k0_off47 (k0_t1 : Fin k0_t1_loop.trips) (c0_i32_656_r0 : BitVec 32) : Fin 2 → Nat :=
  let c1152_777_r0 : Index := 1152#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_776_r0 : BitVec 32 := 256#32
  let v1486_r0 : BitVec 32 := Scalar.muli v1180_r0 c256_i32_776_r0
  let v1487_r0 : BitVec 32 := v1486_r0
  let v1488_r0 : Index := Scalar.indexCast v1487_r0
  ![1152, v1488_r0.toNat]
def k0_off48 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1492_r0 : Index := Scalar.indexCast v1181_r0
  let c0_778_r0 : Index := 0#32
  let c1280_779_r0 : Index := 1280#32
  ![v1492_r0.toNat, 0, 1280]
def k0_off49 (k0_t1 : Fin k0_t1_loop.trips) (c0_i32_656_r0 : BitVec 32) (c0_i32_781_r0 : BitVec 32) : Fin 2 → Nat :=
  let c10_782_r0 : Index := 10#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_780_r0 : BitVec 32 := 2#32
  let v1495_r0 : BitVec 32 := Scalar.muli v1180_r0 c2_i32_780_r0
  let v1496_r0 : BitVec 32 := Scalar.addi v1495_r0 c0_i32_781_r0
  let v1497_r0 : Index := Scalar.indexCast v1496_r0
  ![10, v1497_r0.toNat]
def k0_off50 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1504_r0 : Index := Scalar.indexCast v1181_r0
  let c128_783_r0 : Index := 128#32
  let c1280_784_r0 : Index := 1280#32
  ![v1504_r0.toNat, 128, 1280]
def k0_mult20 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_788_r0 : BitVec 32 := 256#32
  let v1517_r0 : BitVec 32 := Scalar.muli v1180_r0 c256_i32_788_r0
  v1517_r0
def k0_off51 (k0_t1 : Fin k0_t1_loop.trips) (c0_i32_656_r0 : BitVec 32) : Fin 2 → Nat :=
  let c1280_789_r0 : Index := 1280#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_788_r0 : BitVec 32 := 256#32
  let v1517_r0 : BitVec 32 := Scalar.muli v1180_r0 c256_i32_788_r0
  let v1518_r0 : BitVec 32 := v1517_r0
  let v1519_r0 : Index := Scalar.indexCast v1518_r0
  ![1280, v1519_r0.toNat]
def k0_off52 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1523_r0 : Index := Scalar.indexCast v1181_r0
  let c0_790_r0 : Index := 0#32
  let c1408_791_r0 : Index := 1408#32
  ![v1523_r0.toNat, 0, 1408]
def k0_off53 (k0_t1 : Fin k0_t1_loop.trips) (c0_i32_656_r0 : BitVec 32) (c0_i32_793_r0 : BitVec 32) : Fin 2 → Nat :=
  let c11_794_r0 : Index := 11#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_792_r0 : BitVec 32 := 2#32
  let v1526_r0 : BitVec 32 := Scalar.muli v1180_r0 c2_i32_792_r0
  let v1527_r0 : BitVec 32 := Scalar.addi v1526_r0 c0_i32_793_r0
  let v1528_r0 : Index := Scalar.indexCast v1527_r0
  ![11, v1528_r0.toNat]
def k0_off54 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1535_r0 : Index := Scalar.indexCast v1181_r0
  let c128_795_r0 : Index := 128#32
  let c1408_796_r0 : Index := 1408#32
  ![v1535_r0.toNat, 128, 1408]
def k0_mult21 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_800_r0 : BitVec 32 := 256#32
  let v1548_r0 : BitVec 32 := Scalar.muli v1180_r0 c256_i32_800_r0
  v1548_r0
def k0_off55 (k0_t1 : Fin k0_t1_loop.trips) (c0_i32_656_r0 : BitVec 32) : Fin 2 → Nat :=
  let c1408_801_r0 : Index := 1408#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_800_r0 : BitVec 32 := 256#32
  let v1548_r0 : BitVec 32 := Scalar.muli v1180_r0 c256_i32_800_r0
  let v1549_r0 : BitVec 32 := v1548_r0
  let v1550_r0 : Index := Scalar.indexCast v1549_r0
  ![1408, v1550_r0.toNat]
def k0_off56 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1554_r0 : Index := Scalar.indexCast v1181_r0
  let c0_802_r0 : Index := 0#32
  let c1536_803_r0 : Index := 1536#32
  ![v1554_r0.toNat, 0, 1536]
def k0_off57 (k0_t1 : Fin k0_t1_loop.trips) (c0_i32_656_r0 : BitVec 32) (c0_i32_805_r0 : BitVec 32) : Fin 2 → Nat :=
  let c12_806_r0 : Index := 12#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_804_r0 : BitVec 32 := 2#32
  let v1557_r0 : BitVec 32 := Scalar.muli v1180_r0 c2_i32_804_r0
  let v1558_r0 : BitVec 32 := Scalar.addi v1557_r0 c0_i32_805_r0
  let v1559_r0 : Index := Scalar.indexCast v1558_r0
  ![12, v1559_r0.toNat]
def k0_off58 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1566_r0 : Index := Scalar.indexCast v1181_r0
  let c128_807_r0 : Index := 128#32
  let c1536_808_r0 : Index := 1536#32
  ![v1566_r0.toNat, 128, 1536]
def k0_mult22 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_812_r0 : BitVec 32 := 256#32
  let v1579_r0 : BitVec 32 := Scalar.muli v1180_r0 c256_i32_812_r0
  v1579_r0
def k0_off59 (k0_t1 : Fin k0_t1_loop.trips) (c0_i32_656_r0 : BitVec 32) : Fin 2 → Nat :=
  let c1536_813_r0 : Index := 1536#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_812_r0 : BitVec 32 := 256#32
  let v1579_r0 : BitVec 32 := Scalar.muli v1180_r0 c256_i32_812_r0
  let v1580_r0 : BitVec 32 := v1579_r0
  let v1581_r0 : Index := Scalar.indexCast v1580_r0
  ![1536, v1581_r0.toNat]
def k0_off60 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1585_r0 : Index := Scalar.indexCast v1181_r0
  let c0_814_r0 : Index := 0#32
  let c1664_815_r0 : Index := 1664#32
  ![v1585_r0.toNat, 0, 1664]
def k0_off61 (k0_t1 : Fin k0_t1_loop.trips) (c0_i32_656_r0 : BitVec 32) (c0_i32_817_r0 : BitVec 32) : Fin 2 → Nat :=
  let c13_818_r0 : Index := 13#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_816_r0 : BitVec 32 := 2#32
  let v1588_r0 : BitVec 32 := Scalar.muli v1180_r0 c2_i32_816_r0
  let v1589_r0 : BitVec 32 := Scalar.addi v1588_r0 c0_i32_817_r0
  let v1590_r0 : Index := Scalar.indexCast v1589_r0
  ![13, v1590_r0.toNat]
def k0_off62 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1597_r0 : Index := Scalar.indexCast v1181_r0
  let c128_819_r0 : Index := 128#32
  let c1664_820_r0 : Index := 1664#32
  ![v1597_r0.toNat, 128, 1664]
def k0_mult23 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_824_r0 : BitVec 32 := 256#32
  let v1610_r0 : BitVec 32 := Scalar.muli v1180_r0 c256_i32_824_r0
  v1610_r0
def k0_off63 (k0_t1 : Fin k0_t1_loop.trips) (c0_i32_656_r0 : BitVec 32) : Fin 2 → Nat :=
  let c1664_825_r0 : Index := 1664#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_824_r0 : BitVec 32 := 256#32
  let v1610_r0 : BitVec 32 := Scalar.muli v1180_r0 c256_i32_824_r0
  let v1611_r0 : BitVec 32 := v1610_r0
  let v1612_r0 : Index := Scalar.indexCast v1611_r0
  ![1664, v1612_r0.toNat]
def k0_off64 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1616_r0 : Index := Scalar.indexCast v1181_r0
  let c0_826_r0 : Index := 0#32
  let c1792_827_r0 : Index := 1792#32
  ![v1616_r0.toNat, 0, 1792]
def k0_off65 (k0_t1 : Fin k0_t1_loop.trips) (c0_i32_656_r0 : BitVec 32) (c0_i32_829_r0 : BitVec 32) : Fin 2 → Nat :=
  let c14_830_r0 : Index := 14#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c2_i32_828_r0 : BitVec 32 := 2#32
  let v1619_r0 : BitVec 32 := Scalar.muli v1180_r0 c2_i32_828_r0
  let v1620_r0 : BitVec 32 := Scalar.addi v1619_r0 c0_i32_829_r0
  let v1621_r0 : Index := Scalar.indexCast v1620_r0
  ![14, v1621_r0.toNat]
def k0_off66 (k0_t1 : Fin k0_t1_loop.trips) (c0_i32_657_r0 : BitVec 32) : Fin 3 → Nat :=
  let c0_i32_242_r0 : BitVec 32 := 0#32
  let c1_i32_243_r0 : BitVec 32 := 1#32
  let arg24_r0 : BitVec 32 := Scf.iv c0_i32_242_r0 c1_i32_243_r0 k0_t1
  let c2_i32_629_r0 : BitVec 32 := 2#32
  let v1143_r0 : BitVec 32 := Scalar.remsi arg24_r0 c2_i32_629_r0
  let c3_i32_630_r0 : BitVec 32 := 3#32
  let v1144_r0 : BitVec 32 := Scalar.muli v1143_r0 c3_i32_630_r0
  let v1181_r0 : BitVec 32 := Scalar.addi v1144_r0 c0_i32_657_r0
  let v1628_r0 : Index := Scalar.indexCast v1181_r0
  let c128_831_r0 : Index := 128#32
  let c1792_832_r0 : Index := 1792#32
  ![v1628_r0.toNat, 128, 1792]
def k0_mult24 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let c0_i32_656_r0 : BitVec 32 := 0#32
  let v1180_r0 : BitVec 32 := Scalar.addi v1179_r0 c0_i32_656_r0
  let c256_i32_836_r0 : BitVec 32 := 256#32
  let v1641_r0 : BitVec 32 := Scalar.muli v1180_r0 c256_i32_836_r0
  v1641_r0
def k0_off67 (k0_t1 : Fin k0_t1_loop.trips) (c0_i32_656_r0 : BitVec 32) : Fin 2 → Nat :=
  let c1792_837_r0 : Index := 1792#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_655_r0 : BitVec 32 := 1#32
  let v1179_r0 : BitVec 32 := Scalar.addi v1142_r0 c1_i32_655_r0
  let v1180_r0 : BitVec 32 := Scalar.addi v1179_r0 c0_i32_656_r0
  let c256_i32_836_r0 : BitVec 32 := 256#32
  let v1641_r0 : BitVec 32 := Scalar.muli v1180_r0 c256_i32_836_r0
  let v1642_r0 : BitVec 32 := v1641_r0
  let v1643_r0 : Index := Scalar.indexCast v1642_r0
  ![1792, v1643_r0.toNat]
def k0_mult25 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_839_r0 : BitVec 32 := 256#32
  let v1648_r0 : BitVec 32 := Scalar.muli v1647_r0 c256_i32_839_r0
  v1648_r0
def k0_off68 (k0_t1 : Fin k0_t1_loop.trips) (c0_i32_838_r0 : BitVec 32) : Fin 2 → Nat :=
  let c0_840_r0 : Index := 0#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_839_r0 : BitVec 32 := 256#32
  let v1648_r0 : BitVec 32 := Scalar.muli v1647_r0 c256_i32_839_r0
  let v1649_r0 : BitVec 32 := v1648_r0
  let v1650_r0 : Index := Scalar.indexCast v1649_r0
  ![0, v1650_r0.toNat]
def k0_mult26 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_841_r0 : BitVec 32 := 256#32
  let v1652_r0 : BitVec 32 := Scalar.muli v1647_r0 c256_i32_841_r0
  v1652_r0
def k0_off69 (k0_t1 : Fin k0_t1_loop.trips) (c0_i32_838_r0 : BitVec 32) : Fin 2 → Nat :=
  let c960_842_r0 : Index := 960#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_841_r0 : BitVec 32 := 256#32
  let v1652_r0 : BitVec 32 := Scalar.muli v1647_r0 c256_i32_841_r0
  let v1653_r0 : BitVec 32 := v1652_r0
  let v1654_r0 : Index := Scalar.indexCast v1653_r0
  ![960, v1654_r0.toNat]
def k0_mult27 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_843_r0 : BitVec 32 := 256#32
  let v1656_r0 : BitVec 32 := Scalar.muli v1647_r0 c256_i32_843_r0
  v1656_r0
def k0_off70 (k0_t1 : Fin k0_t1_loop.trips) (c0_i32_838_r0 : BitVec 32) : Fin 2 → Nat :=
  let c96_844_r0 : Index := 96#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_843_r0 : BitVec 32 := 256#32
  let v1656_r0 : BitVec 32 := Scalar.muli v1647_r0 c256_i32_843_r0
  let v1657_r0 : BitVec 32 := v1656_r0
  let v1658_r0 : Index := Scalar.indexCast v1657_r0
  ![96, v1658_r0.toNat]
def k0_mult28 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_845_r0 : BitVec 32 := 256#32
  let v1660_r0 : BitVec 32 := Scalar.muli v1647_r0 c256_i32_845_r0
  v1660_r0
def k0_off71 (k0_t1 : Fin k0_t1_loop.trips) (c0_i32_838_r0 : BitVec 32) : Fin 2 → Nat :=
  let c1056_846_r0 : Index := 1056#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_845_r0 : BitVec 32 := 256#32
  let v1660_r0 : BitVec 32 := Scalar.muli v1647_r0 c256_i32_845_r0
  let v1661_r0 : BitVec 32 := v1660_r0
  let v1662_r0 : Index := Scalar.indexCast v1661_r0
  ![1056, v1662_r0.toNat]
def k0_mult29 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_847_r0 : BitVec 32 := 256#32
  let v1664_r0 : BitVec 32 := Scalar.muli v1647_r0 c256_i32_847_r0
  v1664_r0
def k0_off72 (k0_t1 : Fin k0_t1_loop.trips) (c0_i32_838_r0 : BitVec 32) : Fin 2 → Nat :=
  let c192_848_r0 : Index := 192#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_847_r0 : BitVec 32 := 256#32
  let v1664_r0 : BitVec 32 := Scalar.muli v1647_r0 c256_i32_847_r0
  let v1665_r0 : BitVec 32 := v1664_r0
  let v1666_r0 : Index := Scalar.indexCast v1665_r0
  ![192, v1666_r0.toNat]
def k0_mult30 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_849_r0 : BitVec 32 := 256#32
  let v1668_r0 : BitVec 32 := Scalar.muli v1647_r0 c256_i32_849_r0
  v1668_r0
def k0_off73 (k0_t1 : Fin k0_t1_loop.trips) (c0_i32_838_r0 : BitVec 32) : Fin 2 → Nat :=
  let c1152_850_r0 : Index := 1152#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_849_r0 : BitVec 32 := 256#32
  let v1668_r0 : BitVec 32 := Scalar.muli v1647_r0 c256_i32_849_r0
  let v1669_r0 : BitVec 32 := v1668_r0
  let v1670_r0 : Index := Scalar.indexCast v1669_r0
  ![1152, v1670_r0.toNat]
def k0_mult31 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_851_r0 : BitVec 32 := 256#32
  let v1672_r0 : BitVec 32 := Scalar.muli v1647_r0 c256_i32_851_r0
  v1672_r0
def k0_off74 (k0_t1 : Fin k0_t1_loop.trips) (c0_i32_838_r0 : BitVec 32) : Fin 2 → Nat :=
  let c288_852_r0 : Index := 288#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_851_r0 : BitVec 32 := 256#32
  let v1672_r0 : BitVec 32 := Scalar.muli v1647_r0 c256_i32_851_r0
  let v1673_r0 : BitVec 32 := v1672_r0
  let v1674_r0 : Index := Scalar.indexCast v1673_r0
  ![288, v1674_r0.toNat]
def k0_mult32 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_853_r0 : BitVec 32 := 256#32
  let v1676_r0 : BitVec 32 := Scalar.muli v1647_r0 c256_i32_853_r0
  v1676_r0
def k0_off75 (k0_t1 : Fin k0_t1_loop.trips) (c0_i32_838_r0 : BitVec 32) : Fin 2 → Nat :=
  let c1248_854_r0 : Index := 1248#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_853_r0 : BitVec 32 := 256#32
  let v1676_r0 : BitVec 32 := Scalar.muli v1647_r0 c256_i32_853_r0
  let v1677_r0 : BitVec 32 := v1676_r0
  let v1678_r0 : Index := Scalar.indexCast v1677_r0
  ![1248, v1678_r0.toNat]
def k0_mult33 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_855_r0 : BitVec 32 := 256#32
  let v1680_r0 : BitVec 32 := Scalar.muli v1647_r0 c256_i32_855_r0
  v1680_r0
def k0_off76 (k0_t1 : Fin k0_t1_loop.trips) (c0_i32_838_r0 : BitVec 32) : Fin 2 → Nat :=
  let c384_856_r0 : Index := 384#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_855_r0 : BitVec 32 := 256#32
  let v1680_r0 : BitVec 32 := Scalar.muli v1647_r0 c256_i32_855_r0
  let v1681_r0 : BitVec 32 := v1680_r0
  let v1682_r0 : Index := Scalar.indexCast v1681_r0
  ![384, v1682_r0.toNat]
def k0_mult34 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_857_r0 : BitVec 32 := 256#32
  let v1684_r0 : BitVec 32 := Scalar.muli v1647_r0 c256_i32_857_r0
  v1684_r0
def k0_off77 (k0_t1 : Fin k0_t1_loop.trips) (c0_i32_838_r0 : BitVec 32) : Fin 2 → Nat :=
  let c1344_858_r0 : Index := 1344#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_857_r0 : BitVec 32 := 256#32
  let v1684_r0 : BitVec 32 := Scalar.muli v1647_r0 c256_i32_857_r0
  let v1685_r0 : BitVec 32 := v1684_r0
  let v1686_r0 : Index := Scalar.indexCast v1685_r0
  ![1344, v1686_r0.toNat]
def k0_mult35 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_859_r0 : BitVec 32 := 256#32
  let v1688_r0 : BitVec 32 := Scalar.muli v1647_r0 c256_i32_859_r0
  v1688_r0
def k0_off78 (k0_t1 : Fin k0_t1_loop.trips) (c0_i32_838_r0 : BitVec 32) : Fin 2 → Nat :=
  let c480_860_r0 : Index := 480#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_859_r0 : BitVec 32 := 256#32
  let v1688_r0 : BitVec 32 := Scalar.muli v1647_r0 c256_i32_859_r0
  let v1689_r0 : BitVec 32 := v1688_r0
  let v1690_r0 : Index := Scalar.indexCast v1689_r0
  ![480, v1690_r0.toNat]
def k0_mult36 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_861_r0 : BitVec 32 := 256#32
  let v1692_r0 : BitVec 32 := Scalar.muli v1647_r0 c256_i32_861_r0
  v1692_r0
def k0_off79 (k0_t1 : Fin k0_t1_loop.trips) (c0_i32_838_r0 : BitVec 32) : Fin 2 → Nat :=
  let c1440_862_r0 : Index := 1440#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_861_r0 : BitVec 32 := 256#32
  let v1692_r0 : BitVec 32 := Scalar.muli v1647_r0 c256_i32_861_r0
  let v1693_r0 : BitVec 32 := v1692_r0
  let v1694_r0 : Index := Scalar.indexCast v1693_r0
  ![1440, v1694_r0.toNat]
def k0_mult37 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_863_r0 : BitVec 32 := 256#32
  let v1696_r0 : BitVec 32 := Scalar.muli v1647_r0 c256_i32_863_r0
  v1696_r0
def k0_off80 (k0_t1 : Fin k0_t1_loop.trips) (c0_i32_838_r0 : BitVec 32) : Fin 2 → Nat :=
  let c576_864_r0 : Index := 576#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_863_r0 : BitVec 32 := 256#32
  let v1696_r0 : BitVec 32 := Scalar.muli v1647_r0 c256_i32_863_r0
  let v1697_r0 : BitVec 32 := v1696_r0
  let v1698_r0 : Index := Scalar.indexCast v1697_r0
  ![576, v1698_r0.toNat]
def k0_mult38 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_865_r0 : BitVec 32 := 256#32
  let v1700_r0 : BitVec 32 := Scalar.muli v1647_r0 c256_i32_865_r0
  v1700_r0
def k0_off81 (k0_t1 : Fin k0_t1_loop.trips) (c0_i32_838_r0 : BitVec 32) : Fin 2 → Nat :=
  let c1536_866_r0 : Index := 1536#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_865_r0 : BitVec 32 := 256#32
  let v1700_r0 : BitVec 32 := Scalar.muli v1647_r0 c256_i32_865_r0
  let v1701_r0 : BitVec 32 := v1700_r0
  let v1702_r0 : Index := Scalar.indexCast v1701_r0
  ![1536, v1702_r0.toNat]
def k0_mult39 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_867_r0 : BitVec 32 := 256#32
  let v1704_r0 : BitVec 32 := Scalar.muli v1647_r0 c256_i32_867_r0
  v1704_r0
def k0_off82 (k0_t1 : Fin k0_t1_loop.trips) (c0_i32_838_r0 : BitVec 32) : Fin 2 → Nat :=
  let c672_868_r0 : Index := 672#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_867_r0 : BitVec 32 := 256#32
  let v1704_r0 : BitVec 32 := Scalar.muli v1647_r0 c256_i32_867_r0
  let v1705_r0 : BitVec 32 := v1704_r0
  let v1706_r0 : Index := Scalar.indexCast v1705_r0
  ![672, v1706_r0.toNat]
def k0_mult40 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_869_r0 : BitVec 32 := 256#32
  let v1708_r0 : BitVec 32 := Scalar.muli v1647_r0 c256_i32_869_r0
  v1708_r0
def k0_off83 (k0_t1 : Fin k0_t1_loop.trips) (c0_i32_838_r0 : BitVec 32) : Fin 2 → Nat :=
  let c1632_870_r0 : Index := 1632#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_869_r0 : BitVec 32 := 256#32
  let v1708_r0 : BitVec 32 := Scalar.muli v1647_r0 c256_i32_869_r0
  let v1709_r0 : BitVec 32 := v1708_r0
  let v1710_r0 : Index := Scalar.indexCast v1709_r0
  ![1632, v1710_r0.toNat]
def k0_mult41 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_871_r0 : BitVec 32 := 256#32
  let v1712_r0 : BitVec 32 := Scalar.muli v1647_r0 c256_i32_871_r0
  v1712_r0
def k0_off84 (k0_t1 : Fin k0_t1_loop.trips) (c0_i32_838_r0 : BitVec 32) : Fin 2 → Nat :=
  let c768_872_r0 : Index := 768#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_871_r0 : BitVec 32 := 256#32
  let v1712_r0 : BitVec 32 := Scalar.muli v1647_r0 c256_i32_871_r0
  let v1713_r0 : BitVec 32 := v1712_r0
  let v1714_r0 : Index := Scalar.indexCast v1713_r0
  ![768, v1714_r0.toNat]
def k0_mult42 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_873_r0 : BitVec 32 := 256#32
  let v1716_r0 : BitVec 32 := Scalar.muli v1647_r0 c256_i32_873_r0
  v1716_r0
def k0_off85 (k0_t1 : Fin k0_t1_loop.trips) (c0_i32_838_r0 : BitVec 32) : Fin 2 → Nat :=
  let c1728_874_r0 : Index := 1728#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_873_r0 : BitVec 32 := 256#32
  let v1716_r0 : BitVec 32 := Scalar.muli v1647_r0 c256_i32_873_r0
  let v1717_r0 : BitVec 32 := v1716_r0
  let v1718_r0 : Index := Scalar.indexCast v1717_r0
  ![1728, v1718_r0.toNat]
def k0_mult43 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_875_r0 : BitVec 32 := 256#32
  let v1720_r0 : BitVec 32 := Scalar.muli v1647_r0 c256_i32_875_r0
  v1720_r0
def k0_off86 (k0_t1 : Fin k0_t1_loop.trips) (c0_i32_838_r0 : BitVec 32) : Fin 2 → Nat :=
  let c864_876_r0 : Index := 864#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_875_r0 : BitVec 32 := 256#32
  let v1720_r0 : BitVec 32 := Scalar.muli v1647_r0 c256_i32_875_r0
  let v1721_r0 : BitVec 32 := v1720_r0
  let v1722_r0 : Index := Scalar.indexCast v1721_r0
  ![864, v1722_r0.toNat]
def k0_mult44 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c0_i32_838_r0 : BitVec 32 := 0#32
  let v1647_r0 : BitVec 32 := Scalar.addi v1142_r0 c0_i32_838_r0
  let c256_i32_877_r0 : BitVec 32 := 256#32
  let v1724_r0 : BitVec 32 := Scalar.muli v1647_r0 c256_i32_877_r0
  v1724_r0
def k0_off87 (k0_t1 : Fin k0_t1_loop.trips) (c0_i32_838_r0 : BitVec 32) : Fin 2 → Nat :=
  let c1824_878_r0 : Index := 1824#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let v1647_r0 : BitVec 32 := Scalar.addi v1142_r0 c0_i32_838_r0
  let c256_i32_877_r0 : BitVec 32 := 256#32
  let v1724_r0 : BitVec 32 := Scalar.muli v1647_r0 c256_i32_877_r0
  let v1725_r0 : BitVec 32 := v1724_r0
  let v1726_r0 : Index := Scalar.indexCast v1725_r0
  ![1824, v1726_r0.toNat]
def k0_mult45 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_879_r0 : BitVec 32 := 1#32
  let v1728_r0 : BitVec 32 := Scalar.addi v1142_r0 c1_i32_879_r0
  let c0_i32_880_r0 : BitVec 32 := 0#32
  let v1729_r0 : BitVec 32 := Scalar.addi v1728_r0 c0_i32_880_r0
  let c2_i32_884_r0 : BitVec 32 := 2#32
  let v1732_r0 : BitVec 32 := Scalar.muli v1729_r0 c2_i32_884_r0
  let c0_i32_885_r0 : BitVec 32 := 0#32
  let v1733_r0 : BitVec 32 := Scalar.addi v1732_r0 c0_i32_885_r0
  let c128_i32_886_r0 : BitVec 32 := 128#32
  let v1734_r0 : BitVec 32 := Scalar.muli v1733_r0 c128_i32_886_r0
  v1734_r0
def k0_off88 (k0_t1 : Fin k0_t1_loop.trips) (c0_i32_880_r0 : BitVec 32) (c0_i32_885_r0 : BitVec 32) : Fin 3 → Nat :=
  let c0_887_r0 : Index := 0#32
  let c0_888_r0 : Index := 0#32
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_879_r0 : BitVec 32 := 1#32
  let v1728_r0 : BitVec 32 := Scalar.addi v1142_r0 c1_i32_879_r0
  let v1729_r0 : BitVec 32 := Scalar.addi v1728_r0 c0_i32_880_r0
  let c2_i32_884_r0 : BitVec 32 := 2#32
  let v1732_r0 : BitVec 32 := Scalar.muli v1729_r0 c2_i32_884_r0
  let v1733_r0 : BitVec 32 := Scalar.addi v1732_r0 c0_i32_885_r0
  let c128_i32_886_r0 : BitVec 32 := 128#32
  let v1734_r0 : BitVec 32 := Scalar.muli v1733_r0 c128_i32_886_r0
  let v1735_r0 : BitVec 32 := v1734_r0
  let v1736_r0 : Index := Scalar.indexCast v1735_r0
  ![0, 0, v1736_r0.toNat]
def k0_mult46 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_879_r0 : BitVec 32 := 1#32
  let v1728_r0 : BitVec 32 := Scalar.addi v1142_r0 c1_i32_879_r0
  let c0_i32_880_r0 : BitVec 32 := 0#32
  let v1729_r0 : BitVec 32 := Scalar.addi v1728_r0 c0_i32_880_r0
  let c2_i32_891_r0 : BitVec 32 := 2#32
  let v1751_r0 : BitVec 32 := Scalar.muli v1729_r0 c2_i32_891_r0
  let c1_i32_892_r0 : BitVec 32 := 1#32
  let v1752_r0 : BitVec 32 := Scalar.addi v1751_r0 c1_i32_892_r0
  let c128_i32_893_r0 : BitVec 32 := 128#32
  let v1753_r0 : BitVec 32 := Scalar.muli v1752_r0 c128_i32_893_r0
  v1753_r0
def k0_mult47 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_911_r0 : BitVec 32 := 256#32
  let v1799_r0 : BitVec 32 := Scalar.muli v1772_r0 c256_i32_911_r0
  v1799_r0
def k0_mult48 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_923_r0 : BitVec 32 := 256#32
  let v1830_r0 : BitVec 32 := Scalar.muli v1772_r0 c256_i32_923_r0
  v1830_r0
def k0_mult49 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_935_r0 : BitVec 32 := 256#32
  let v1861_r0 : BitVec 32 := Scalar.muli v1772_r0 c256_i32_935_r0
  v1861_r0
def k0_mult50 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_947_r0 : BitVec 32 := 256#32
  let v1892_r0 : BitVec 32 := Scalar.muli v1772_r0 c256_i32_947_r0
  v1892_r0
def k0_mult51 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_959_r0 : BitVec 32 := 256#32
  let v1923_r0 : BitVec 32 := Scalar.muli v1772_r0 c256_i32_959_r0
  v1923_r0
def k0_mult52 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_971_r0 : BitVec 32 := 256#32
  let v1954_r0 : BitVec 32 := Scalar.muli v1772_r0 c256_i32_971_r0
  v1954_r0
def k0_mult53 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_983_r0 : BitVec 32 := 256#32
  let v1985_r0 : BitVec 32 := Scalar.muli v1772_r0 c256_i32_983_r0
  v1985_r0
def k0_mult54 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_995_r0 : BitVec 32 := 256#32
  let v2016_r0 : BitVec 32 := Scalar.muli v1772_r0 c256_i32_995_r0
  v2016_r0
def k0_mult55 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1007_r0 : BitVec 32 := 256#32
  let v2047_r0 : BitVec 32 := Scalar.muli v1772_r0 c256_i32_1007_r0
  v2047_r0
def k0_mult56 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1019_r0 : BitVec 32 := 256#32
  let v2078_r0 : BitVec 32 := Scalar.muli v1772_r0 c256_i32_1019_r0
  v2078_r0
def k0_mult57 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1031_r0 : BitVec 32 := 256#32
  let v2109_r0 : BitVec 32 := Scalar.muli v1772_r0 c256_i32_1031_r0
  v2109_r0
def k0_mult58 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1043_r0 : BitVec 32 := 256#32
  let v2140_r0 : BitVec 32 := Scalar.muli v1772_r0 c256_i32_1043_r0
  v2140_r0
def k0_mult59 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1055_r0 : BitVec 32 := 256#32
  let v2171_r0 : BitVec 32 := Scalar.muli v1772_r0 c256_i32_1055_r0
  v2171_r0
def k0_mult60 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1067_r0 : BitVec 32 := 256#32
  let v2202_r0 : BitVec 32 := Scalar.muli v1772_r0 c256_i32_1067_r0
  v2202_r0
def k0_mult61 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_898_r0 : BitVec 32 := 1#32
  let v1771_r0 : BitVec 32 := Scalar.addi v1142_r0 c1_i32_898_r0
  let c1_i32_899_r0 : BitVec 32 := 1#32
  let v1772_r0 : BitVec 32 := Scalar.addi v1771_r0 c1_i32_899_r0
  let c256_i32_1079_r0 : BitVec 32 := 256#32
  let v2233_r0 : BitVec 32 := Scalar.muli v1772_r0 c256_i32_1079_r0
  v2233_r0
def k0_mult62 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1082_r0 : BitVec 32 := 256#32
  let v2240_r0 : BitVec 32 := Scalar.muli v2239_r0 c256_i32_1082_r0
  v2240_r0
def k0_mult63 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1084_r0 : BitVec 32 := 256#32
  let v2244_r0 : BitVec 32 := Scalar.muli v2239_r0 c256_i32_1084_r0
  v2244_r0
def k0_mult64 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1086_r0 : BitVec 32 := 256#32
  let v2248_r0 : BitVec 32 := Scalar.muli v2239_r0 c256_i32_1086_r0
  v2248_r0
def k0_mult65 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1088_r0 : BitVec 32 := 256#32
  let v2252_r0 : BitVec 32 := Scalar.muli v2239_r0 c256_i32_1088_r0
  v2252_r0
def k0_mult66 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1090_r0 : BitVec 32 := 256#32
  let v2256_r0 : BitVec 32 := Scalar.muli v2239_r0 c256_i32_1090_r0
  v2256_r0
def k0_mult67 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1092_r0 : BitVec 32 := 256#32
  let v2260_r0 : BitVec 32 := Scalar.muli v2239_r0 c256_i32_1092_r0
  v2260_r0
def k0_mult68 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1094_r0 : BitVec 32 := 256#32
  let v2264_r0 : BitVec 32 := Scalar.muli v2239_r0 c256_i32_1094_r0
  v2264_r0
def k0_mult69 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1096_r0 : BitVec 32 := 256#32
  let v2268_r0 : BitVec 32 := Scalar.muli v2239_r0 c256_i32_1096_r0
  v2268_r0
def k0_mult70 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1098_r0 : BitVec 32 := 256#32
  let v2272_r0 : BitVec 32 := Scalar.muli v2239_r0 c256_i32_1098_r0
  v2272_r0
def k0_mult71 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1100_r0 : BitVec 32 := 256#32
  let v2276_r0 : BitVec 32 := Scalar.muli v2239_r0 c256_i32_1100_r0
  v2276_r0
def k0_mult72 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1102_r0 : BitVec 32 := 256#32
  let v2280_r0 : BitVec 32 := Scalar.muli v2239_r0 c256_i32_1102_r0
  v2280_r0
def k0_mult73 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1104_r0 : BitVec 32 := 256#32
  let v2284_r0 : BitVec 32 := Scalar.muli v2239_r0 c256_i32_1104_r0
  v2284_r0
def k0_mult74 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1106_r0 : BitVec 32 := 256#32
  let v2288_r0 : BitVec 32 := Scalar.muli v2239_r0 c256_i32_1106_r0
  v2288_r0
def k0_mult75 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1108_r0 : BitVec 32 := 256#32
  let v2292_r0 : BitVec 32 := Scalar.muli v2239_r0 c256_i32_1108_r0
  v2292_r0
def k0_mult76 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1110_r0 : BitVec 32 := 256#32
  let v2296_r0 : BitVec 32 := Scalar.muli v2239_r0 c256_i32_1110_r0
  v2296_r0
def k0_mult77 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1112_r0 : BitVec 32 := 256#32
  let v2300_r0 : BitVec 32 := Scalar.muli v2239_r0 c256_i32_1112_r0
  v2300_r0
def k0_mult78 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1114_r0 : BitVec 32 := 256#32
  let v2304_r0 : BitVec 32 := Scalar.muli v2239_r0 c256_i32_1114_r0
  v2304_r0
def k0_mult79 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1116_r0 : BitVec 32 := 256#32
  let v2308_r0 : BitVec 32 := Scalar.muli v2239_r0 c256_i32_1116_r0
  v2308_r0
def k0_mult80 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1118_r0 : BitVec 32 := 256#32
  let v2312_r0 : BitVec 32 := Scalar.muli v2239_r0 c256_i32_1118_r0
  v2312_r0
def k0_mult81 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1081_r0 : BitVec 32 := 1#32
  let v2239_r0 : BitVec 32 := Scalar.addi v1142_r0 c1_i32_1081_r0
  let c256_i32_1120_r0 : BitVec 32 := 256#32
  let v2316_r0 : BitVec 32 := Scalar.muli v2239_r0 c256_i32_1120_r0
  v2316_r0
def k0_mult82 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1122_r0 : BitVec 32 := 1#32
  let v2320_r0 : BitVec 32 := Scalar.addi v1142_r0 c1_i32_1122_r0
  let c1_i32_1123_r0 : BitVec 32 := 1#32
  let v2321_r0 : BitVec 32 := Scalar.addi v2320_r0 c1_i32_1123_r0
  let c2_i32_1127_r0 : BitVec 32 := 2#32
  let v2324_r0 : BitVec 32 := Scalar.muli v2321_r0 c2_i32_1127_r0
  let c0_i32_1128_r0 : BitVec 32 := 0#32
  let v2325_r0 : BitVec 32 := Scalar.addi v2324_r0 c0_i32_1128_r0
  let c128_i32_1129_r0 : BitVec 32 := 128#32
  let v2326_r0 : BitVec 32 := Scalar.muli v2325_r0 c128_i32_1129_r0
  v2326_r0
def k0_mult83 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1122_r0 : BitVec 32 := 1#32
  let v2320_r0 : BitVec 32 := Scalar.addi v1142_r0 c1_i32_1122_r0
  let c1_i32_1123_r0 : BitVec 32 := 1#32
  let v2321_r0 : BitVec 32 := Scalar.addi v2320_r0 c1_i32_1123_r0
  let c2_i32_1134_r0 : BitVec 32 := 2#32
  let v2343_r0 : BitVec 32 := Scalar.muli v2321_r0 c2_i32_1134_r0
  let c1_i32_1135_r0 : BitVec 32 := 1#32
  let v2344_r0 : BitVec 32 := Scalar.addi v2343_r0 c1_i32_1135_r0
  let c128_i32_1136_r0 : BitVec 32 := 128#32
  let v2345_r0 : BitVec 32 := Scalar.muli v2344_r0 c128_i32_1136_r0
  v2345_r0
def k0_mult84 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1154_r0 : BitVec 32 := 256#32
  let v2391_r0 : BitVec 32 := Scalar.muli v2364_r0 c256_i32_1154_r0
  v2391_r0
def k0_mult85 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1166_r0 : BitVec 32 := 256#32
  let v2422_r0 : BitVec 32 := Scalar.muli v2364_r0 c256_i32_1166_r0
  v2422_r0
def k0_mult86 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1178_r0 : BitVec 32 := 256#32
  let v2453_r0 : BitVec 32 := Scalar.muli v2364_r0 c256_i32_1178_r0
  v2453_r0
def k0_mult87 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1190_r0 : BitVec 32 := 256#32
  let v2484_r0 : BitVec 32 := Scalar.muli v2364_r0 c256_i32_1190_r0
  v2484_r0
def k0_mult88 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1202_r0 : BitVec 32 := 256#32
  let v2515_r0 : BitVec 32 := Scalar.muli v2364_r0 c256_i32_1202_r0
  v2515_r0
def k0_mult89 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1214_r0 : BitVec 32 := 256#32
  let v2546_r0 : BitVec 32 := Scalar.muli v2364_r0 c256_i32_1214_r0
  v2546_r0
def k0_mult90 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1226_r0 : BitVec 32 := 256#32
  let v2577_r0 : BitVec 32 := Scalar.muli v2364_r0 c256_i32_1226_r0
  v2577_r0
def k0_mult91 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1238_r0 : BitVec 32 := 256#32
  let v2608_r0 : BitVec 32 := Scalar.muli v2364_r0 c256_i32_1238_r0
  v2608_r0
def k0_mult92 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1250_r0 : BitVec 32 := 256#32
  let v2639_r0 : BitVec 32 := Scalar.muli v2364_r0 c256_i32_1250_r0
  v2639_r0
def k0_mult93 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1262_r0 : BitVec 32 := 256#32
  let v2670_r0 : BitVec 32 := Scalar.muli v2364_r0 c256_i32_1262_r0
  v2670_r0
def k0_mult94 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1274_r0 : BitVec 32 := 256#32
  let v2701_r0 : BitVec 32 := Scalar.muli v2364_r0 c256_i32_1274_r0
  v2701_r0
def k0_mult95 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1286_r0 : BitVec 32 := 256#32
  let v2732_r0 : BitVec 32 := Scalar.muli v2364_r0 c256_i32_1286_r0
  v2732_r0
def k0_mult96 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1298_r0 : BitVec 32 := 256#32
  let v2763_r0 : BitVec 32 := Scalar.muli v2364_r0 c256_i32_1298_r0
  v2763_r0
def k0_mult97 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1310_r0 : BitVec 32 := 256#32
  let v2794_r0 : BitVec 32 := Scalar.muli v2364_r0 c256_i32_1310_r0
  v2794_r0
def k0_mult98 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1141_r0 : BitVec 32 := 1#32
  let v2363_r0 : BitVec 32 := Scalar.addi v1142_r0 c1_i32_1141_r0
  let c2_i32_1142_r0 : BitVec 32 := 2#32
  let v2364_r0 : BitVec 32 := Scalar.addi v2363_r0 c2_i32_1142_r0
  let c256_i32_1322_r0 : BitVec 32 := 256#32
  let v2825_r0 : BitVec 32 := Scalar.muli v2364_r0 c256_i32_1322_r0
  v2825_r0
def k0_mult99 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1325_r0 : BitVec 32 := 256#32
  let v2832_r0 : BitVec 32 := Scalar.muli v2831_r0 c256_i32_1325_r0
  v2832_r0
def k0_mult100 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1327_r0 : BitVec 32 := 256#32
  let v2836_r0 : BitVec 32 := Scalar.muli v2831_r0 c256_i32_1327_r0
  v2836_r0
def k0_mult101 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1329_r0 : BitVec 32 := 256#32
  let v2840_r0 : BitVec 32 := Scalar.muli v2831_r0 c256_i32_1329_r0
  v2840_r0
def k0_mult102 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1331_r0 : BitVec 32 := 256#32
  let v2844_r0 : BitVec 32 := Scalar.muli v2831_r0 c256_i32_1331_r0
  v2844_r0
def k0_mult103 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1333_r0 : BitVec 32 := 256#32
  let v2848_r0 : BitVec 32 := Scalar.muli v2831_r0 c256_i32_1333_r0
  v2848_r0
def k0_mult104 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1335_r0 : BitVec 32 := 256#32
  let v2852_r0 : BitVec 32 := Scalar.muli v2831_r0 c256_i32_1335_r0
  v2852_r0
def k0_mult105 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1337_r0 : BitVec 32 := 256#32
  let v2856_r0 : BitVec 32 := Scalar.muli v2831_r0 c256_i32_1337_r0
  v2856_r0
def k0_mult106 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1339_r0 : BitVec 32 := 256#32
  let v2860_r0 : BitVec 32 := Scalar.muli v2831_r0 c256_i32_1339_r0
  v2860_r0
def k0_mult107 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1341_r0 : BitVec 32 := 256#32
  let v2864_r0 : BitVec 32 := Scalar.muli v2831_r0 c256_i32_1341_r0
  v2864_r0
def k0_mult108 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1343_r0 : BitVec 32 := 256#32
  let v2868_r0 : BitVec 32 := Scalar.muli v2831_r0 c256_i32_1343_r0
  v2868_r0
def k0_mult109 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1345_r0 : BitVec 32 := 256#32
  let v2872_r0 : BitVec 32 := Scalar.muli v2831_r0 c256_i32_1345_r0
  v2872_r0
def k0_mult110 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1347_r0 : BitVec 32 := 256#32
  let v2876_r0 : BitVec 32 := Scalar.muli v2831_r0 c256_i32_1347_r0
  v2876_r0
def k0_mult111 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1349_r0 : BitVec 32 := 256#32
  let v2880_r0 : BitVec 32 := Scalar.muli v2831_r0 c256_i32_1349_r0
  v2880_r0
def k0_mult112 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1351_r0 : BitVec 32 := 256#32
  let v2884_r0 : BitVec 32 := Scalar.muli v2831_r0 c256_i32_1351_r0
  v2884_r0
def k0_mult113 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1353_r0 : BitVec 32 := 256#32
  let v2888_r0 : BitVec 32 := Scalar.muli v2831_r0 c256_i32_1353_r0
  v2888_r0
def k0_mult114 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1355_r0 : BitVec 32 := 256#32
  let v2892_r0 : BitVec 32 := Scalar.muli v2831_r0 c256_i32_1355_r0
  v2892_r0
def k0_mult115 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1357_r0 : BitVec 32 := 256#32
  let v2896_r0 : BitVec 32 := Scalar.muli v2831_r0 c256_i32_1357_r0
  v2896_r0
def k0_mult116 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1359_r0 : BitVec 32 := 256#32
  let v2900_r0 : BitVec 32 := Scalar.muli v2831_r0 c256_i32_1359_r0
  v2900_r0
def k0_mult117 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1361_r0 : BitVec 32 := 256#32
  let v2904_r0 : BitVec 32 := Scalar.muli v2831_r0 c256_i32_1361_r0
  v2904_r0
def k0_mult118 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c2_i32_1324_r0 : BitVec 32 := 2#32
  let v2831_r0 : BitVec 32 := Scalar.addi v1142_r0 c2_i32_1324_r0
  let c256_i32_1363_r0 : BitVec 32 := 256#32
  let v2908_r0 : BitVec 32 := Scalar.muli v2831_r0 c256_i32_1363_r0
  v2908_r0
def k0_mult119 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1365_r0 : BitVec 32 := 1#32
  let v2912_r0 : BitVec 32 := Scalar.addi v1142_r0 c1_i32_1365_r0
  let c2_i32_1366_r0 : BitVec 32 := 2#32
  let v2913_r0 : BitVec 32 := Scalar.addi v2912_r0 c2_i32_1366_r0
  let c2_i32_1370_r0 : BitVec 32 := 2#32
  let v2916_r0 : BitVec 32 := Scalar.muli v2913_r0 c2_i32_1370_r0
  let c0_i32_1371_r0 : BitVec 32 := 0#32
  let v2917_r0 : BitVec 32 := Scalar.addi v2916_r0 c0_i32_1371_r0
  let c128_i32_1372_r0 : BitVec 32 := 128#32
  let v2918_r0 : BitVec 32 := Scalar.muli v2917_r0 c128_i32_1372_r0
  v2918_r0
def k0_mult120 (k0_t1 : Fin k0_t1_loop.trips) : BitVec 32 :=
  let c0_i32_242_r0 : BitVec 32 := 0#32
  let c1_i32_243_r0 : BitVec 32 := 1#32
  let arg24_r0 : BitVec 32 := Scf.iv c0_i32_242_r0 c1_i32_243_r0 k0_t1
  let c3_i32_628_r0 : BitVec 32 := 3#32
  let v1142_r0 : BitVec 32 := Scalar.muli arg24_r0 c3_i32_628_r0
  let c1_i32_1365_r0 : BitVec 32 := 1#32
  let v2912_r0 : BitVec 32 := Scalar.addi v1142_r0 c1_i32_1365_r0
  let c2_i32_1366_r0 : BitVec 32 := 2#32
  let v2913_r0 : BitVec 32 := Scalar.addi v2912_r0 c2_i32_1366_r0
  let c2_i32_1377_r0 : BitVec 32 := 2#32
  let v2935_r0 : BitVec 32 := Scalar.muli v2913_r0 c2_i32_1377_r0
  let c1_i32_1378_r0 : BitVec 32 := 1#32
  let v2936_r0 : BitVec 32 := Scalar.addi v2935_r0 c1_i32_1378_r0
  let c128_i32_1379_r0 : BitVec 32 := 128#32
  let v2937_r0 : BitVec 32 := Scalar.muli v2936_r0 c128_i32_1379_r0
  v2937_r0
def k0_mult121 : BitVec 32 :=
  let c1_i32_247_r0 : BitVec 32 := 1#32
  let c6_i32_248_r0 : BitVec 32 := 6#32
  let v428_r0 : BitVec 32 := Scalar.remsi c1_i32_247_r0 c6_i32_248_r0
  let c256_i32_249_r0 : BitVec 32 := 256#32
  let v429_r0 : BitVec 32 := Scalar.muli v428_r0 c256_i32_249_r0
  v429_r0
@[reducible] def k0_t2_loop : Scf.Loop 32 :=
  let c1_i32_439_r0 : BitVec 32 := 1#32
  let c11_i32_r0 : BitVec 32 := 11#32
  let v749_r0 : BitVec 32 := Scalar.addi c1_i32_439_r0 c11_i32_r0
  let c1_i32_440_r0 : BitVec 32 := 1#32
  ⟨c1_i32_439_r0, v749_r0, c1_i32_440_r0⟩
def k0_cond2 (k0_t2 : Fin k0_t2_loop.trips) : BitVec 1 :=
  let c1_i32_439_r0 : BitVec 32 := 1#32
  let c1_i32_440_r0 : BitVec 32 := 1#32
  let arg24_r0 : BitVec 32 := Scf.iv c1_i32_439_r0 c1_i32_440_r0 k0_t2
  let c1_i32_629_r0 : BitVec 32 := 1#32
  let v1143_r0 : BitVec 32 := Scalar.addi arg24_r0 c1_i32_629_r0
  let c12_i32_r0 : BitVec 32 := 12#32
  let v1144_r0 : BitVec 1 := Scalar.cmpi .slt v1143_r0 c12_i32_r0
  let v1145_r0 : BitVec 32 := Scalar.extui v1144_r0
  let c0_i32_630_r0 : BitVec 32 := 0#32
  let v1146_r0 : BitVec 1 := Scalar.cmpi .ne v1145_r0 c0_i32_630_r0
  v1146_r0

def k0_mult122 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.addi arg24_r0 c1_i32_683_r0
  let c6_i32_685_r0 : BitVec 32 := 6#32
  let v1267_r0 : BitVec 32 := Scalar.remsi v1265_r0 c6_i32_685_r0
  let c256_i32_686_r0 : BitVec 32 := 256#32
  let v1268_r0 : BitVec 32 := Scalar.muli v1267_r0 c256_i32_686_r0
  v1268_r0
def k0_off89 (k0_t2 : Fin k0_t2_loop.trips) : Fin 3 → Nat :=
  let c0_i32_687_r0 : BitVec 32 := 0#32
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.addi arg24_r0 c1_i32_683_r0
  let c6_i32_684_r0 : BitVec 32 := 6#32
  let v1266_r0 : BitVec 32 := Scalar.divsi v1265_r0 c6_i32_684_r0
  let c6_i32_685_r0 : BitVec 32 := 6#32
  let v1267_r0 : BitVec 32 := Scalar.remsi v1265_r0 c6_i32_685_r0
  let c256_i32_686_r0 : BitVec 32 := 256#32
  let v1268_r0 : BitVec 32 := Scalar.muli v1267_r0 c256_i32_686_r0
  let v1269_r0 : BitVec 32 := v1268_r0
  ![0, v1266_r0.toNat, v1269_r0.toNat]
def k0_mult123 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_688_r0 : BitVec 32 := 1#32
  let v1272_r0 : BitVec 32 := Scalar.addi arg24_r0 c1_i32_688_r0
  let c256_i32_690_r0 : BitVec 32 := 256#32
  let v1274_r0 : BitVec 32 := Scalar.muli v1272_r0 c256_i32_690_r0
  v1274_r0
def k0_off90 (k0_t2 : Fin k0_t2_loop.trips) : Fin 1 → Nat :=
  let c1_i32_689_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1273_r0 : BitVec 32 := Scalar.subi c1_i32_689_r0 v1142_r0
  ![v1273_r0.toNat]
def k0_off91 (k0_t2 : Fin k0_t2_loop.trips) : Fin 3 → Nat :=
  let c1_i32_689_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1273_r0 : BitVec 32 := Scalar.subi c1_i32_689_r0 v1142_r0
  let c0_i32_691_r0 : BitVec 32 := 0#32
  let c0_i32_692_r0 : BitVec 32 := 0#32
  ![v1273_r0.toNat, 0, 0]
def k0_off92 (k0_t2 : Fin k0_t2_loop.trips) : Fin 2 → Nat :=
  let c1_i32_439_r0 : BitVec 32 := 1#32
  let c1_i32_440_r0 : BitVec 32 := 1#32
  let arg24_r0 : BitVec 32 := Scf.iv c1_i32_439_r0 c1_i32_440_r0 k0_t2
  let c1_i32_688_r0 : BitVec 32 := 1#32
  let v1272_r0 : BitVec 32 := Scalar.addi arg24_r0 c1_i32_688_r0
  let c256_i32_690_r0 : BitVec 32 := 256#32
  let v1274_r0 : BitVec 32 := Scalar.muli v1272_r0 c256_i32_690_r0
  let v1275_r0 : BitVec 32 := v1274_r0
  let c0_i32_693_r0 : BitVec 32 := 0#32
  ![v1275_r0.toNat, 0]
def k0_cond3 (k0_t2 : Fin k0_t2_loop.trips) : BitVec 1 :=
  let c1_i32_439_r0 : BitVec 32 := 1#32
  let c1_i32_440_r0 : BitVec 32 := 1#32
  let arg24_r0 : BitVec 32 := Scf.iv c1_i32_439_r0 c1_i32_440_r0 k0_t2
  let c1_i32_631_r0 : BitVec 32 := 1#32
  let v1147_r0 : BitVec 1 := Scalar.cmpi .sgt arg24_r0 c1_i32_631_r0
  let v1148_r0 : BitVec 32 := Scalar.extui v1147_r0
  let c0_i32_632_r0 : BitVec 32 := 0#32
  let v1149_r0 : BitVec 1 := Scalar.cmpi .ne v1148_r0 c0_i32_632_r0
  v1149_r0

def k0_mult124 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c2_i32_683_r0 : BitVec 32 := 2#32
  let v1265_r0 : BitVec 32 := Scalar.subi arg24_r0 c2_i32_683_r0
  let c256_i32_684_r0 : BitVec 32 := 256#32
  let v1266_r0 : BitVec 32 := Scalar.muli v1265_r0 c256_i32_684_r0
  v1266_r0
def k0_off93 (k0_t2 : Fin k0_t2_loop.trips) : Fin 1 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  ![v1142_r0.toNat]
def k0_off94 (k0_t2 : Fin k0_t2_loop.trips) : Fin 2 → Nat :=
  let c1_i32_439_r0 : BitVec 32 := 1#32
  let c1_i32_440_r0 : BitVec 32 := 1#32
  let arg24_r0 : BitVec 32 := Scf.iv c1_i32_439_r0 c1_i32_440_r0 k0_t2
  let c2_i32_683_r0 : BitVec 32 := 2#32
  let v1265_r0 : BitVec 32 := Scalar.subi arg24_r0 c2_i32_683_r0
  let c256_i32_684_r0 : BitVec 32 := 256#32
  let v1266_r0 : BitVec 32 := Scalar.muli v1265_r0 c256_i32_684_r0
  let v1267_r0 : BitVec 32 := v1266_r0
  let c0_i32_685_r0 : BitVec 32 := 0#32
  ![v1267_r0.toNat, 0]
def k0_off95 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let c0_i32_686_r0 : BitVec 32 := 0#32
  let c0_i32_687_r0 : BitVec 32 := 0#32
  ![v1142_r0.toNat, 0, 0]
def k0_cond4 (k0_t2 : Fin k0_t2_loop.trips) : BitVec 1 :=
  let c1_i32_439_r0 : BitVec 32 := 1#32
  let c1_i32_440_r0 : BitVec 32 := 1#32
  let arg24_r0 : BitVec 32 := Scf.iv c1_i32_439_r0 c1_i32_440_r0 k0_t2
  let c2_i32_633_r0 : BitVec 32 := 2#32
  let v1150_r0 : BitVec 1 := Scalar.cmpi .sgt arg24_r0 c2_i32_633_r0
  let v1151_r0 : BitVec 32 := Scalar.extui v1150_r0
  let c0_i32_634_r0 : BitVec 32 := 0#32
  let v1152_r0 : BitVec 1 := Scalar.cmpi .ne v1151_r0 c0_i32_634_r0
  v1152_r0

def k0_mult125 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c3_i32_683_r0 : BitVec 32 := 3#32
  let v1265_r0 : BitVec 32 := Scalar.subi arg24_r0 c3_i32_683_r0
  let c256_i32_685_r0 : BitVec 32 := 256#32
  let v1267_r0 : BitVec 32 := Scalar.muli v1265_r0 c256_i32_685_r0
  v1267_r0
def k0_off96 (k0_t2 : Fin k0_t2_loop.trips) : Fin 1 → Nat :=
  let c1_i32_684_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1266_r0 : BitVec 32 := Scalar.subi c1_i32_684_r0 v1142_r0
  ![v1266_r0.toNat]
def k0_off97 (k0_t2 : Fin k0_t2_loop.trips) : Fin 2 → Nat :=
  let c1_i32_439_r0 : BitVec 32 := 1#32
  let c1_i32_440_r0 : BitVec 32 := 1#32
  let arg24_r0 : BitVec 32 := Scf.iv c1_i32_439_r0 c1_i32_440_r0 k0_t2
  let c3_i32_683_r0 : BitVec 32 := 3#32
  let v1265_r0 : BitVec 32 := Scalar.subi arg24_r0 c3_i32_683_r0
  let c256_i32_685_r0 : BitVec 32 := 256#32
  let v1267_r0 : BitVec 32 := Scalar.muli v1265_r0 c256_i32_685_r0
  let v1268_r0 : BitVec 32 := v1267_r0
  let c0_i32_686_r0 : BitVec 32 := 0#32
  ![v1268_r0.toNat, 0]
def k0_off98 (k0_t2 : Fin k0_t2_loop.trips) : Fin 3 → Nat :=
  let c1_i32_684_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1266_r0 : BitVec 32 := Scalar.subi c1_i32_684_r0 v1142_r0
  let c0_i32_687_r0 : BitVec 32 := 0#32
  let c0_i32_688_r0 : BitVec 32 := 0#32
  ![v1266_r0.toNat, 0, 0]
def k0_mult126 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_635_r0 : BitVec 32 := 1#32
  let v1153_r0 : BitVec 32 := Scalar.subi arg24_r0 c1_i32_635_r0
  let c6_i32_667_r0 : BitVec 32 := 6#32
  let v1240_r0 : BitVec 32 := Scalar.remsi v1153_r0 c6_i32_667_r0
  let c256_i32_668_r0 : BitVec 32 := 256#32
  let v1241_r0 : BitVec 32 := Scalar.muli v1240_r0 c256_i32_668_r0
  v1241_r0
def k0_off99 (k0_t2 : Fin k0_t2_loop.trips) : Fin 2 → Nat :=
  let c0_669_r0 : Index := 0#32
  let c1_i32_439_r0 : BitVec 32 := 1#32
  let c1_i32_440_r0 : BitVec 32 := 1#32
  let arg24_r0 : BitVec 32 := Scf.iv c1_i32_439_r0 c1_i32_440_r0 k0_t2
  let c1_i32_635_r0 : BitVec 32 := 1#32
  let v1153_r0 : BitVec 32 := Scalar.subi arg24_r0 c1_i32_635_r0
  let c6_i32_667_r0 : BitVec 32 := 6#32
  let v1240_r0 : BitVec 32 := Scalar.remsi v1153_r0 c6_i32_667_r0
  let c256_i32_668_r0 : BitVec 32 := 256#32
  let v1241_r0 : BitVec 32 := Scalar.muli v1240_r0 c256_i32_668_r0
  let v1242_r0 : BitVec 32 := v1241_r0
  let v1243_r0 : Index := Scalar.indexCast v1242_r0
  ![0, v1243_r0.toNat]
@[reducible] def k0_t3_loop : Scf.Loop 32 :=
  let c0_i32_673_r0 : BitVec 32 := 0#32
  let c5_i32_674_r0 : BitVec 32 := 5#32
  let v1256_r0 : BitVec 32 := Scalar.addi c0_i32_673_r0 c5_i32_674_r0
  let c1_i32_675_r0 : BitVec 32 := 1#32
  ⟨c0_i32_673_r0, v1256_r0, c1_i32_675_r0⟩
def k0_mult127 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_686_r0 : BitVec 32 := 256#32
  let v1268_r0 : BitVec 32 := Scalar.muli v1267_r0 c256_i32_686_r0
  v1268_r0
def k0_off100 (k0_t3 : Fin k0_t3_loop.trips) (c0_i32_685_r0 : BitVec 32) : Fin 2 → Nat :=
  let c0_687_r0 : Index := 0#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_686_r0 : BitVec 32 := 256#32
  let v1268_r0 : BitVec 32 := Scalar.muli v1267_r0 c256_i32_686_r0
  let v1269_r0 : BitVec 32 := v1268_r0
  let v1270_r0 : Index := Scalar.indexCast v1269_r0
  ![0, v1270_r0.toNat]
def k0_mult128 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_688_r0 : BitVec 32 := 256#32
  let v1272_r0 : BitVec 32 := Scalar.muli v1267_r0 c256_i32_688_r0
  v1272_r0
def k0_off101 (k0_t3 : Fin k0_t3_loop.trips) (c0_i32_685_r0 : BitVec 32) : Fin 2 → Nat :=
  let c960_689_r0 : Index := 960#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_688_r0 : BitVec 32 := 256#32
  let v1272_r0 : BitVec 32 := Scalar.muli v1267_r0 c256_i32_688_r0
  let v1273_r0 : BitVec 32 := v1272_r0
  let v1274_r0 : Index := Scalar.indexCast v1273_r0
  ![960, v1274_r0.toNat]
def k0_mult129 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_690_r0 : BitVec 32 := 256#32
  let v1276_r0 : BitVec 32 := Scalar.muli v1267_r0 c256_i32_690_r0
  v1276_r0
def k0_off102 (k0_t3 : Fin k0_t3_loop.trips) (c0_i32_685_r0 : BitVec 32) : Fin 2 → Nat :=
  let c96_691_r0 : Index := 96#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_690_r0 : BitVec 32 := 256#32
  let v1276_r0 : BitVec 32 := Scalar.muli v1267_r0 c256_i32_690_r0
  let v1277_r0 : BitVec 32 := v1276_r0
  let v1278_r0 : Index := Scalar.indexCast v1277_r0
  ![96, v1278_r0.toNat]
def k0_mult130 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_692_r0 : BitVec 32 := 256#32
  let v1280_r0 : BitVec 32 := Scalar.muli v1267_r0 c256_i32_692_r0
  v1280_r0
def k0_off103 (k0_t3 : Fin k0_t3_loop.trips) (c0_i32_685_r0 : BitVec 32) : Fin 2 → Nat :=
  let c1056_693_r0 : Index := 1056#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_692_r0 : BitVec 32 := 256#32
  let v1280_r0 : BitVec 32 := Scalar.muli v1267_r0 c256_i32_692_r0
  let v1281_r0 : BitVec 32 := v1280_r0
  let v1282_r0 : Index := Scalar.indexCast v1281_r0
  ![1056, v1282_r0.toNat]
def k0_mult131 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_694_r0 : BitVec 32 := 256#32
  let v1284_r0 : BitVec 32 := Scalar.muli v1267_r0 c256_i32_694_r0
  v1284_r0
def k0_off104 (k0_t3 : Fin k0_t3_loop.trips) (c0_i32_685_r0 : BitVec 32) : Fin 2 → Nat :=
  let c192_695_r0 : Index := 192#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_694_r0 : BitVec 32 := 256#32
  let v1284_r0 : BitVec 32 := Scalar.muli v1267_r0 c256_i32_694_r0
  let v1285_r0 : BitVec 32 := v1284_r0
  let v1286_r0 : Index := Scalar.indexCast v1285_r0
  ![192, v1286_r0.toNat]
def k0_mult132 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_696_r0 : BitVec 32 := 256#32
  let v1288_r0 : BitVec 32 := Scalar.muli v1267_r0 c256_i32_696_r0
  v1288_r0
def k0_off105 (k0_t3 : Fin k0_t3_loop.trips) (c0_i32_685_r0 : BitVec 32) : Fin 2 → Nat :=
  let c1152_697_r0 : Index := 1152#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_696_r0 : BitVec 32 := 256#32
  let v1288_r0 : BitVec 32 := Scalar.muli v1267_r0 c256_i32_696_r0
  let v1289_r0 : BitVec 32 := v1288_r0
  let v1290_r0 : Index := Scalar.indexCast v1289_r0
  ![1152, v1290_r0.toNat]
def k0_mult133 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_698_r0 : BitVec 32 := 256#32
  let v1292_r0 : BitVec 32 := Scalar.muli v1267_r0 c256_i32_698_r0
  v1292_r0
def k0_off106 (k0_t3 : Fin k0_t3_loop.trips) (c0_i32_685_r0 : BitVec 32) : Fin 2 → Nat :=
  let c288_699_r0 : Index := 288#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_698_r0 : BitVec 32 := 256#32
  let v1292_r0 : BitVec 32 := Scalar.muli v1267_r0 c256_i32_698_r0
  let v1293_r0 : BitVec 32 := v1292_r0
  let v1294_r0 : Index := Scalar.indexCast v1293_r0
  ![288, v1294_r0.toNat]
def k0_mult134 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_700_r0 : BitVec 32 := 256#32
  let v1296_r0 : BitVec 32 := Scalar.muli v1267_r0 c256_i32_700_r0
  v1296_r0
def k0_off107 (k0_t3 : Fin k0_t3_loop.trips) (c0_i32_685_r0 : BitVec 32) : Fin 2 → Nat :=
  let c1248_701_r0 : Index := 1248#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_700_r0 : BitVec 32 := 256#32
  let v1296_r0 : BitVec 32 := Scalar.muli v1267_r0 c256_i32_700_r0
  let v1297_r0 : BitVec 32 := v1296_r0
  let v1298_r0 : Index := Scalar.indexCast v1297_r0
  ![1248, v1298_r0.toNat]
def k0_mult135 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_702_r0 : BitVec 32 := 256#32
  let v1300_r0 : BitVec 32 := Scalar.muli v1267_r0 c256_i32_702_r0
  v1300_r0
def k0_off108 (k0_t3 : Fin k0_t3_loop.trips) (c0_i32_685_r0 : BitVec 32) : Fin 2 → Nat :=
  let c384_703_r0 : Index := 384#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_702_r0 : BitVec 32 := 256#32
  let v1300_r0 : BitVec 32 := Scalar.muli v1267_r0 c256_i32_702_r0
  let v1301_r0 : BitVec 32 := v1300_r0
  let v1302_r0 : Index := Scalar.indexCast v1301_r0
  ![384, v1302_r0.toNat]
def k0_mult136 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_704_r0 : BitVec 32 := 256#32
  let v1304_r0 : BitVec 32 := Scalar.muli v1267_r0 c256_i32_704_r0
  v1304_r0
def k0_off109 (k0_t3 : Fin k0_t3_loop.trips) (c0_i32_685_r0 : BitVec 32) : Fin 2 → Nat :=
  let c1344_705_r0 : Index := 1344#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_704_r0 : BitVec 32 := 256#32
  let v1304_r0 : BitVec 32 := Scalar.muli v1267_r0 c256_i32_704_r0
  let v1305_r0 : BitVec 32 := v1304_r0
  let v1306_r0 : Index := Scalar.indexCast v1305_r0
  ![1344, v1306_r0.toNat]
def k0_mult137 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_706_r0 : BitVec 32 := 256#32
  let v1308_r0 : BitVec 32 := Scalar.muli v1267_r0 c256_i32_706_r0
  v1308_r0
def k0_off110 (k0_t3 : Fin k0_t3_loop.trips) (c0_i32_685_r0 : BitVec 32) : Fin 2 → Nat :=
  let c480_707_r0 : Index := 480#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_706_r0 : BitVec 32 := 256#32
  let v1308_r0 : BitVec 32 := Scalar.muli v1267_r0 c256_i32_706_r0
  let v1309_r0 : BitVec 32 := v1308_r0
  let v1310_r0 : Index := Scalar.indexCast v1309_r0
  ![480, v1310_r0.toNat]
def k0_mult138 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_708_r0 : BitVec 32 := 256#32
  let v1312_r0 : BitVec 32 := Scalar.muli v1267_r0 c256_i32_708_r0
  v1312_r0
def k0_off111 (k0_t3 : Fin k0_t3_loop.trips) (c0_i32_685_r0 : BitVec 32) : Fin 2 → Nat :=
  let c1440_709_r0 : Index := 1440#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_708_r0 : BitVec 32 := 256#32
  let v1312_r0 : BitVec 32 := Scalar.muli v1267_r0 c256_i32_708_r0
  let v1313_r0 : BitVec 32 := v1312_r0
  let v1314_r0 : Index := Scalar.indexCast v1313_r0
  ![1440, v1314_r0.toNat]
def k0_mult139 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_710_r0 : BitVec 32 := 256#32
  let v1316_r0 : BitVec 32 := Scalar.muli v1267_r0 c256_i32_710_r0
  v1316_r0
def k0_off112 (k0_t3 : Fin k0_t3_loop.trips) (c0_i32_685_r0 : BitVec 32) : Fin 2 → Nat :=
  let c576_711_r0 : Index := 576#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_710_r0 : BitVec 32 := 256#32
  let v1316_r0 : BitVec 32 := Scalar.muli v1267_r0 c256_i32_710_r0
  let v1317_r0 : BitVec 32 := v1316_r0
  let v1318_r0 : Index := Scalar.indexCast v1317_r0
  ![576, v1318_r0.toNat]
def k0_mult140 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_712_r0 : BitVec 32 := 256#32
  let v1320_r0 : BitVec 32 := Scalar.muli v1267_r0 c256_i32_712_r0
  v1320_r0
def k0_off113 (k0_t3 : Fin k0_t3_loop.trips) (c0_i32_685_r0 : BitVec 32) : Fin 2 → Nat :=
  let c1536_713_r0 : Index := 1536#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_712_r0 : BitVec 32 := 256#32
  let v1320_r0 : BitVec 32 := Scalar.muli v1267_r0 c256_i32_712_r0
  let v1321_r0 : BitVec 32 := v1320_r0
  let v1322_r0 : Index := Scalar.indexCast v1321_r0
  ![1536, v1322_r0.toNat]
def k0_mult141 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_714_r0 : BitVec 32 := 256#32
  let v1324_r0 : BitVec 32 := Scalar.muli v1267_r0 c256_i32_714_r0
  v1324_r0
def k0_off114 (k0_t3 : Fin k0_t3_loop.trips) (c0_i32_685_r0 : BitVec 32) : Fin 2 → Nat :=
  let c672_715_r0 : Index := 672#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_714_r0 : BitVec 32 := 256#32
  let v1324_r0 : BitVec 32 := Scalar.muli v1267_r0 c256_i32_714_r0
  let v1325_r0 : BitVec 32 := v1324_r0
  let v1326_r0 : Index := Scalar.indexCast v1325_r0
  ![672, v1326_r0.toNat]
def k0_mult142 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_716_r0 : BitVec 32 := 256#32
  let v1328_r0 : BitVec 32 := Scalar.muli v1267_r0 c256_i32_716_r0
  v1328_r0
def k0_off115 (k0_t3 : Fin k0_t3_loop.trips) (c0_i32_685_r0 : BitVec 32) : Fin 2 → Nat :=
  let c1632_717_r0 : Index := 1632#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_716_r0 : BitVec 32 := 256#32
  let v1328_r0 : BitVec 32 := Scalar.muli v1267_r0 c256_i32_716_r0
  let v1329_r0 : BitVec 32 := v1328_r0
  let v1330_r0 : Index := Scalar.indexCast v1329_r0
  ![1632, v1330_r0.toNat]
def k0_mult143 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_718_r0 : BitVec 32 := 256#32
  let v1332_r0 : BitVec 32 := Scalar.muli v1267_r0 c256_i32_718_r0
  v1332_r0
def k0_off116 (k0_t3 : Fin k0_t3_loop.trips) (c0_i32_685_r0 : BitVec 32) : Fin 2 → Nat :=
  let c768_719_r0 : Index := 768#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_718_r0 : BitVec 32 := 256#32
  let v1332_r0 : BitVec 32 := Scalar.muli v1267_r0 c256_i32_718_r0
  let v1333_r0 : BitVec 32 := v1332_r0
  let v1334_r0 : Index := Scalar.indexCast v1333_r0
  ![768, v1334_r0.toNat]
def k0_mult144 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_720_r0 : BitVec 32 := 256#32
  let v1336_r0 : BitVec 32 := Scalar.muli v1267_r0 c256_i32_720_r0
  v1336_r0
def k0_off117 (k0_t3 : Fin k0_t3_loop.trips) (c0_i32_685_r0 : BitVec 32) : Fin 2 → Nat :=
  let c1728_721_r0 : Index := 1728#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_720_r0 : BitVec 32 := 256#32
  let v1336_r0 : BitVec 32 := Scalar.muli v1267_r0 c256_i32_720_r0
  let v1337_r0 : BitVec 32 := v1336_r0
  let v1338_r0 : Index := Scalar.indexCast v1337_r0
  ![1728, v1338_r0.toNat]
def k0_mult145 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_722_r0 : BitVec 32 := 256#32
  let v1340_r0 : BitVec 32 := Scalar.muli v1267_r0 c256_i32_722_r0
  v1340_r0
def k0_off118 (k0_t3 : Fin k0_t3_loop.trips) (c0_i32_685_r0 : BitVec 32) : Fin 2 → Nat :=
  let c864_723_r0 : Index := 864#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_722_r0 : BitVec 32 := 256#32
  let v1340_r0 : BitVec 32 := Scalar.muli v1267_r0 c256_i32_722_r0
  let v1341_r0 : BitVec 32 := v1340_r0
  let v1342_r0 : Index := Scalar.indexCast v1341_r0
  ![864, v1342_r0.toNat]
def k0_mult146 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_685_r0 : BitVec 32 := 0#32
  let v1267_r0 : BitVec 32 := Scalar.addi v1266_r0 c0_i32_685_r0
  let c256_i32_724_r0 : BitVec 32 := 256#32
  let v1344_r0 : BitVec 32 := Scalar.muli v1267_r0 c256_i32_724_r0
  v1344_r0
def k0_off119 (k0_t3 : Fin k0_t3_loop.trips) (c0_i32_685_r0 : BitVec 32) : Fin 2 → Nat :=
  let c1824_725_r0 : Index := 1824#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1267_r0 : BitVec 32 := Scalar.addi v1266_r0 c0_i32_685_r0
  let c256_i32_724_r0 : BitVec 32 := 256#32
  let v1344_r0 : BitVec 32 := Scalar.muli v1267_r0 c256_i32_724_r0
  let v1345_r0 : BitVec 32 := v1344_r0
  let v1346_r0 : Index := Scalar.indexCast v1345_r0
  ![1824, v1346_r0.toNat]
def k0_off120 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1350_r0 : Index := Scalar.indexCast v1142_r0
  let c0_728_r0 : Index := 0#32
  let c0_729_r0 : Index := 0#32
  ![v1350_r0.toNat, 0, 0]
def k0_mult147 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_726_r0 : BitVec 32 := 0#32
  let v1348_r0 : BitVec 32 := Scalar.addi v1266_r0 c0_i32_726_r0
  let c1_i32_727_r0 : BitVec 32 := 1#32
  let v1349_r0 : BitVec 32 := Scalar.addi v1348_r0 c1_i32_727_r0
  let c2_i32_730_r0 : BitVec 32 := 2#32
  let v1353_r0 : BitVec 32 := Scalar.muli v1349_r0 c2_i32_730_r0
  let c0_i32_731_r0 : BitVec 32 := 0#32
  let v1354_r0 : BitVec 32 := Scalar.addi v1353_r0 c0_i32_731_r0
  let c128_i32_732_r0 : BitVec 32 := 128#32
  let v1355_r0 : BitVec 32 := Scalar.muli v1354_r0 c128_i32_732_r0
  v1355_r0
def k0_off121 (k0_t2 : Fin k0_t2_loop.trips) (k0_t3 : Fin k0_t3_loop.trips) (c0_i32_726_r0 : BitVec 32) (c0_i32_731_r0 : BitVec 32) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1357_r0 : Index := Scalar.indexCast v1142_r0
  let c0_733_r0 : Index := 0#32
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let v1348_r0 : BitVec 32 := Scalar.addi v1266_r0 c0_i32_726_r0
  let c1_i32_727_r0 : BitVec 32 := 1#32
  let v1349_r0 : BitVec 32 := Scalar.addi v1348_r0 c1_i32_727_r0
  let c2_i32_730_r0 : BitVec 32 := 2#32
  let v1353_r0 : BitVec 32 := Scalar.muli v1349_r0 c2_i32_730_r0
  let v1354_r0 : BitVec 32 := Scalar.addi v1353_r0 c0_i32_731_r0
  let c128_i32_732_r0 : BitVec 32 := 128#32
  let v1355_r0 : BitVec 32 := Scalar.muli v1354_r0 c128_i32_732_r0
  let v1356_r0 : BitVec 32 := v1355_r0
  let v1358_r0 : Index := Scalar.indexCast v1356_r0
  ![v1357_r0.toNat, 0, v1358_r0.toNat]
def k0_mult148 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c0_i32_726_r0 : BitVec 32 := 0#32
  let v1348_r0 : BitVec 32 := Scalar.addi v1266_r0 c0_i32_726_r0
  let c1_i32_727_r0 : BitVec 32 := 1#32
  let v1349_r0 : BitVec 32 := Scalar.addi v1348_r0 c1_i32_727_r0
  let c2_i32_736_r0 : BitVec 32 := 2#32
  let v1373_r0 : BitVec 32 := Scalar.muli v1349_r0 c2_i32_736_r0
  let c1_i32_737_r0 : BitVec 32 := 1#32
  let v1374_r0 : BitVec 32 := Scalar.addi v1373_r0 c1_i32_737_r0
  let c128_i32_738_r0 : BitVec 32 := 128#32
  let v1375_r0 : BitVec 32 := Scalar.muli v1374_r0 c128_i32_738_r0
  v1375_r0
def k0_mult149 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_742_r0 : BitVec 32 := 3#32
  let v1394_r0 : BitVec 32 := Scalar.muli arg25_r0 c3_i32_742_r0
  let c0_i32_743_r0 : BitVec 32 := 0#32
  let v1395_r0 : BitVec 32 := Scalar.addi v1394_r0 c0_i32_743_r0
  let c128_i32_745_r0 : BitVec 32 := 128#32
  let v1397_r0 : BitVec 32 := Scalar.muli v1395_r0 c128_i32_745_r0
  v1397_r0
def k0_off122 (k0_t3 : Fin k0_t3_loop.trips) (c0_i32_743_r0 : BitVec 32) : Fin 2 → Nat :=
  let c0_i32_673_r0 : BitVec 32 := 0#32
  let c1_i32_675_r0 : BitVec 32 := 1#32
  let arg25_r0 : BitVec 32 := Scf.iv c0_i32_673_r0 c1_i32_675_r0 k0_t3
  let c3_i32_742_r0 : BitVec 32 := 3#32
  let v1394_r0 : BitVec 32 := Scalar.muli arg25_r0 c3_i32_742_r0
  let v1395_r0 : BitVec 32 := Scalar.addi v1394_r0 c0_i32_743_r0
  let c128_i32_745_r0 : BitVec 32 := 128#32
  let v1397_r0 : BitVec 32 := Scalar.muli v1395_r0 c128_i32_745_r0
  let v1398_r0 : BitVec 32 := v1397_r0
  let v1399_r0 : Index := Scalar.indexCast v1398_r0
  let c0_746_r0 : Index := 0#32
  ![v1399_r0.toNat, 0]
def k0_mult150 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_742_r0 : BitVec 32 := 3#32
  let v1394_r0 : BitVec 32 := Scalar.muli arg25_r0 c3_i32_742_r0
  let c0_i32_743_r0 : BitVec 32 := 0#32
  let v1395_r0 : BitVec 32 := Scalar.addi v1394_r0 c0_i32_743_r0
  let c128_i32_751_r0 : BitVec 32 := 128#32
  let v1415_r0 : BitVec 32 := Scalar.muli v1395_r0 c128_i32_751_r0
  v1415_r0
def k0_off123 (k0_t2 : Fin k0_t2_loop.trips) (k0_t3 : Fin k0_t3_loop.trips) (c0_i32_743_r0 : BitVec 32) : Fin 3 → Nat :=
  let c1_i32_744_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1396_r0 : BitVec 32 := Scalar.subi c1_i32_744_r0 v1142_r0
  let v1417_r0 : Index := Scalar.indexCast v1396_r0
  let c0_752_r0 : Index := 0#32
  let c0_i32_673_r0 : BitVec 32 := 0#32
  let c1_i32_675_r0 : BitVec 32 := 1#32
  let arg25_r0 : BitVec 32 := Scf.iv c0_i32_673_r0 c1_i32_675_r0 k0_t3
  let c3_i32_742_r0 : BitVec 32 := 3#32
  let v1394_r0 : BitVec 32 := Scalar.muli arg25_r0 c3_i32_742_r0
  let v1395_r0 : BitVec 32 := Scalar.addi v1394_r0 c0_i32_743_r0
  let c128_i32_751_r0 : BitVec 32 := 128#32
  let v1415_r0 : BitVec 32 := Scalar.muli v1395_r0 c128_i32_751_r0
  let v1416_r0 : BitVec 32 := v1415_r0
  let v1418_r0 : Index := Scalar.indexCast v1416_r0
  ![v1417_r0.toNat, 0, v1418_r0.toNat]
def k0_mult151 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_754_r0 : BitVec 32 := 256#32
  let v1423_r0 : BitVec 32 := Scalar.muli v1422_r0 c256_i32_754_r0
  v1423_r0
def k0_mult152 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_756_r0 : BitVec 32 := 256#32
  let v1427_r0 : BitVec 32 := Scalar.muli v1422_r0 c256_i32_756_r0
  v1427_r0
def k0_mult153 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_758_r0 : BitVec 32 := 256#32
  let v1431_r0 : BitVec 32 := Scalar.muli v1422_r0 c256_i32_758_r0
  v1431_r0
def k0_mult154 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_760_r0 : BitVec 32 := 256#32
  let v1435_r0 : BitVec 32 := Scalar.muli v1422_r0 c256_i32_760_r0
  v1435_r0
def k0_mult155 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_762_r0 : BitVec 32 := 256#32
  let v1439_r0 : BitVec 32 := Scalar.muli v1422_r0 c256_i32_762_r0
  v1439_r0
def k0_mult156 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_764_r0 : BitVec 32 := 256#32
  let v1443_r0 : BitVec 32 := Scalar.muli v1422_r0 c256_i32_764_r0
  v1443_r0
def k0_mult157 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_766_r0 : BitVec 32 := 256#32
  let v1447_r0 : BitVec 32 := Scalar.muli v1422_r0 c256_i32_766_r0
  v1447_r0
def k0_mult158 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_768_r0 : BitVec 32 := 256#32
  let v1451_r0 : BitVec 32 := Scalar.muli v1422_r0 c256_i32_768_r0
  v1451_r0
def k0_mult159 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_770_r0 : BitVec 32 := 256#32
  let v1455_r0 : BitVec 32 := Scalar.muli v1422_r0 c256_i32_770_r0
  v1455_r0
def k0_mult160 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_772_r0 : BitVec 32 := 256#32
  let v1459_r0 : BitVec 32 := Scalar.muli v1422_r0 c256_i32_772_r0
  v1459_r0
def k0_mult161 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_774_r0 : BitVec 32 := 256#32
  let v1463_r0 : BitVec 32 := Scalar.muli v1422_r0 c256_i32_774_r0
  v1463_r0
def k0_mult162 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_776_r0 : BitVec 32 := 256#32
  let v1467_r0 : BitVec 32 := Scalar.muli v1422_r0 c256_i32_776_r0
  v1467_r0
def k0_mult163 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_778_r0 : BitVec 32 := 256#32
  let v1471_r0 : BitVec 32 := Scalar.muli v1422_r0 c256_i32_778_r0
  v1471_r0
def k0_mult164 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_780_r0 : BitVec 32 := 256#32
  let v1475_r0 : BitVec 32 := Scalar.muli v1422_r0 c256_i32_780_r0
  v1475_r0
def k0_mult165 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_782_r0 : BitVec 32 := 256#32
  let v1479_r0 : BitVec 32 := Scalar.muli v1422_r0 c256_i32_782_r0
  v1479_r0
def k0_mult166 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_784_r0 : BitVec 32 := 256#32
  let v1483_r0 : BitVec 32 := Scalar.muli v1422_r0 c256_i32_784_r0
  v1483_r0
def k0_mult167 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_786_r0 : BitVec 32 := 256#32
  let v1487_r0 : BitVec 32 := Scalar.muli v1422_r0 c256_i32_786_r0
  v1487_r0
def k0_mult168 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_788_r0 : BitVec 32 := 256#32
  let v1491_r0 : BitVec 32 := Scalar.muli v1422_r0 c256_i32_788_r0
  v1491_r0
def k0_mult169 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_790_r0 : BitVec 32 := 256#32
  let v1495_r0 : BitVec 32 := Scalar.muli v1422_r0 c256_i32_790_r0
  v1495_r0
def k0_mult170 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_753_r0 : BitVec 32 := 1#32
  let v1422_r0 : BitVec 32 := Scalar.addi v1266_r0 c1_i32_753_r0
  let c256_i32_792_r0 : BitVec 32 := 256#32
  let v1499_r0 : BitVec 32 := Scalar.muli v1422_r0 c256_i32_792_r0
  v1499_r0
def k0_mult171 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_794_r0 : BitVec 32 := 1#32
  let v1503_r0 : BitVec 32 := Scalar.addi v1266_r0 c1_i32_794_r0
  let c1_i32_795_r0 : BitVec 32 := 1#32
  let v1504_r0 : BitVec 32 := Scalar.addi v1503_r0 c1_i32_795_r0
  let c2_i32_798_r0 : BitVec 32 := 2#32
  let v1508_r0 : BitVec 32 := Scalar.muli v1504_r0 c2_i32_798_r0
  let c0_i32_799_r0 : BitVec 32 := 0#32
  let v1509_r0 : BitVec 32 := Scalar.addi v1508_r0 c0_i32_799_r0
  let c128_i32_800_r0 : BitVec 32 := 128#32
  let v1510_r0 : BitVec 32 := Scalar.muli v1509_r0 c128_i32_800_r0
  v1510_r0
def k0_mult172 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c1_i32_794_r0 : BitVec 32 := 1#32
  let v1503_r0 : BitVec 32 := Scalar.addi v1266_r0 c1_i32_794_r0
  let c1_i32_795_r0 : BitVec 32 := 1#32
  let v1504_r0 : BitVec 32 := Scalar.addi v1503_r0 c1_i32_795_r0
  let c2_i32_804_r0 : BitVec 32 := 2#32
  let v1528_r0 : BitVec 32 := Scalar.muli v1504_r0 c2_i32_804_r0
  let c1_i32_805_r0 : BitVec 32 := 1#32
  let v1529_r0 : BitVec 32 := Scalar.addi v1528_r0 c1_i32_805_r0
  let c128_i32_806_r0 : BitVec 32 := 128#32
  let v1530_r0 : BitVec 32 := Scalar.muli v1529_r0 c128_i32_806_r0
  v1530_r0
def k0_mult173 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_810_r0 : BitVec 32 := 3#32
  let v1549_r0 : BitVec 32 := Scalar.muli arg25_r0 c3_i32_810_r0
  let c1_i32_811_r0 : BitVec 32 := 1#32
  let v1550_r0 : BitVec 32 := Scalar.addi v1549_r0 c1_i32_811_r0
  let c128_i32_813_r0 : BitVec 32 := 128#32
  let v1552_r0 : BitVec 32 := Scalar.muli v1550_r0 c128_i32_813_r0
  v1552_r0
def k0_mult174 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_810_r0 : BitVec 32 := 3#32
  let v1549_r0 : BitVec 32 := Scalar.muli arg25_r0 c3_i32_810_r0
  let c1_i32_811_r0 : BitVec 32 := 1#32
  let v1550_r0 : BitVec 32 := Scalar.addi v1549_r0 c1_i32_811_r0
  let c128_i32_819_r0 : BitVec 32 := 128#32
  let v1570_r0 : BitVec 32 := Scalar.muli v1550_r0 c128_i32_819_r0
  v1570_r0
def k0_mult175 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_822_r0 : BitVec 32 := 256#32
  let v1578_r0 : BitVec 32 := Scalar.muli v1577_r0 c256_i32_822_r0
  v1578_r0
def k0_mult176 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_824_r0 : BitVec 32 := 256#32
  let v1582_r0 : BitVec 32 := Scalar.muli v1577_r0 c256_i32_824_r0
  v1582_r0
def k0_mult177 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_826_r0 : BitVec 32 := 256#32
  let v1586_r0 : BitVec 32 := Scalar.muli v1577_r0 c256_i32_826_r0
  v1586_r0
def k0_mult178 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_828_r0 : BitVec 32 := 256#32
  let v1590_r0 : BitVec 32 := Scalar.muli v1577_r0 c256_i32_828_r0
  v1590_r0
def k0_mult179 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_830_r0 : BitVec 32 := 256#32
  let v1594_r0 : BitVec 32 := Scalar.muli v1577_r0 c256_i32_830_r0
  v1594_r0
def k0_mult180 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_832_r0 : BitVec 32 := 256#32
  let v1598_r0 : BitVec 32 := Scalar.muli v1577_r0 c256_i32_832_r0
  v1598_r0
def k0_mult181 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_834_r0 : BitVec 32 := 256#32
  let v1602_r0 : BitVec 32 := Scalar.muli v1577_r0 c256_i32_834_r0
  v1602_r0
def k0_mult182 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_836_r0 : BitVec 32 := 256#32
  let v1606_r0 : BitVec 32 := Scalar.muli v1577_r0 c256_i32_836_r0
  v1606_r0
def k0_mult183 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_838_r0 : BitVec 32 := 256#32
  let v1610_r0 : BitVec 32 := Scalar.muli v1577_r0 c256_i32_838_r0
  v1610_r0
def k0_mult184 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_840_r0 : BitVec 32 := 256#32
  let v1614_r0 : BitVec 32 := Scalar.muli v1577_r0 c256_i32_840_r0
  v1614_r0
def k0_mult185 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_842_r0 : BitVec 32 := 256#32
  let v1618_r0 : BitVec 32 := Scalar.muli v1577_r0 c256_i32_842_r0
  v1618_r0
def k0_mult186 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_844_r0 : BitVec 32 := 256#32
  let v1622_r0 : BitVec 32 := Scalar.muli v1577_r0 c256_i32_844_r0
  v1622_r0
def k0_mult187 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_846_r0 : BitVec 32 := 256#32
  let v1626_r0 : BitVec 32 := Scalar.muli v1577_r0 c256_i32_846_r0
  v1626_r0
def k0_mult188 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_848_r0 : BitVec 32 := 256#32
  let v1630_r0 : BitVec 32 := Scalar.muli v1577_r0 c256_i32_848_r0
  v1630_r0
def k0_mult189 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_850_r0 : BitVec 32 := 256#32
  let v1634_r0 : BitVec 32 := Scalar.muli v1577_r0 c256_i32_850_r0
  v1634_r0
def k0_mult190 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_852_r0 : BitVec 32 := 256#32
  let v1638_r0 : BitVec 32 := Scalar.muli v1577_r0 c256_i32_852_r0
  v1638_r0
def k0_mult191 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_854_r0 : BitVec 32 := 256#32
  let v1642_r0 : BitVec 32 := Scalar.muli v1577_r0 c256_i32_854_r0
  v1642_r0
def k0_mult192 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_856_r0 : BitVec 32 := 256#32
  let v1646_r0 : BitVec 32 := Scalar.muli v1577_r0 c256_i32_856_r0
  v1646_r0
def k0_mult193 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_858_r0 : BitVec 32 := 256#32
  let v1650_r0 : BitVec 32 := Scalar.muli v1577_r0 c256_i32_858_r0
  v1650_r0
def k0_mult194 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_821_r0 : BitVec 32 := 2#32
  let v1577_r0 : BitVec 32 := Scalar.addi v1266_r0 c2_i32_821_r0
  let c256_i32_860_r0 : BitVec 32 := 256#32
  let v1654_r0 : BitVec 32 := Scalar.muli v1577_r0 c256_i32_860_r0
  v1654_r0
def k0_mult195 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_862_r0 : BitVec 32 := 2#32
  let v1658_r0 : BitVec 32 := Scalar.addi v1266_r0 c2_i32_862_r0
  let c1_i32_863_r0 : BitVec 32 := 1#32
  let v1659_r0 : BitVec 32 := Scalar.addi v1658_r0 c1_i32_863_r0
  let c2_i32_866_r0 : BitVec 32 := 2#32
  let v1663_r0 : BitVec 32 := Scalar.muli v1659_r0 c2_i32_866_r0
  let c0_i32_867_r0 : BitVec 32 := 0#32
  let v1664_r0 : BitVec 32 := Scalar.addi v1663_r0 c0_i32_867_r0
  let c128_i32_868_r0 : BitVec 32 := 128#32
  let v1665_r0 : BitVec 32 := Scalar.muli v1664_r0 c128_i32_868_r0
  v1665_r0
def k0_mult196 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c2_i32_862_r0 : BitVec 32 := 2#32
  let v1658_r0 : BitVec 32 := Scalar.addi v1266_r0 c2_i32_862_r0
  let c1_i32_863_r0 : BitVec 32 := 1#32
  let v1659_r0 : BitVec 32 := Scalar.addi v1658_r0 c1_i32_863_r0
  let c2_i32_872_r0 : BitVec 32 := 2#32
  let v1683_r0 : BitVec 32 := Scalar.muli v1659_r0 c2_i32_872_r0
  let c1_i32_873_r0 : BitVec 32 := 1#32
  let v1684_r0 : BitVec 32 := Scalar.addi v1683_r0 c1_i32_873_r0
  let c128_i32_874_r0 : BitVec 32 := 128#32
  let v1685_r0 : BitVec 32 := Scalar.muli v1684_r0 c128_i32_874_r0
  v1685_r0
def k0_mult197 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_878_r0 : BitVec 32 := 3#32
  let v1704_r0 : BitVec 32 := Scalar.muli arg25_r0 c3_i32_878_r0
  let c2_i32_879_r0 : BitVec 32 := 2#32
  let v1705_r0 : BitVec 32 := Scalar.addi v1704_r0 c2_i32_879_r0
  let c128_i32_881_r0 : BitVec 32 := 128#32
  let v1707_r0 : BitVec 32 := Scalar.muli v1705_r0 c128_i32_881_r0
  v1707_r0
def k0_mult198 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c3_i32_878_r0 : BitVec 32 := 3#32
  let v1704_r0 : BitVec 32 := Scalar.muli arg25_r0 c3_i32_878_r0
  let c2_i32_879_r0 : BitVec 32 := 2#32
  let v1705_r0 : BitVec 32 := Scalar.addi v1704_r0 c2_i32_879_r0
  let c128_i32_887_r0 : BitVec 32 := 128#32
  let v1725_r0 : BitVec 32 := Scalar.muli v1705_r0 c128_i32_887_r0
  v1725_r0
def k0_mult199 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_890_r0 : BitVec 32 := 256#32
  let v1733_r0 : BitVec 32 := Scalar.muli v1732_r0 c256_i32_890_r0
  v1733_r0
def k0_mult200 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_892_r0 : BitVec 32 := 256#32
  let v1737_r0 : BitVec 32 := Scalar.muli v1732_r0 c256_i32_892_r0
  v1737_r0
def k0_mult201 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_894_r0 : BitVec 32 := 256#32
  let v1741_r0 : BitVec 32 := Scalar.muli v1732_r0 c256_i32_894_r0
  v1741_r0
def k0_mult202 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_896_r0 : BitVec 32 := 256#32
  let v1745_r0 : BitVec 32 := Scalar.muli v1732_r0 c256_i32_896_r0
  v1745_r0
def k0_mult203 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_898_r0 : BitVec 32 := 256#32
  let v1749_r0 : BitVec 32 := Scalar.muli v1732_r0 c256_i32_898_r0
  v1749_r0
def k0_mult204 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_900_r0 : BitVec 32 := 256#32
  let v1753_r0 : BitVec 32 := Scalar.muli v1732_r0 c256_i32_900_r0
  v1753_r0
def k0_mult205 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_902_r0 : BitVec 32 := 256#32
  let v1757_r0 : BitVec 32 := Scalar.muli v1732_r0 c256_i32_902_r0
  v1757_r0
def k0_mult206 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_904_r0 : BitVec 32 := 256#32
  let v1761_r0 : BitVec 32 := Scalar.muli v1732_r0 c256_i32_904_r0
  v1761_r0
def k0_mult207 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_906_r0 : BitVec 32 := 256#32
  let v1765_r0 : BitVec 32 := Scalar.muli v1732_r0 c256_i32_906_r0
  v1765_r0
def k0_mult208 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_908_r0 : BitVec 32 := 256#32
  let v1769_r0 : BitVec 32 := Scalar.muli v1732_r0 c256_i32_908_r0
  v1769_r0
def k0_mult209 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_910_r0 : BitVec 32 := 256#32
  let v1773_r0 : BitVec 32 := Scalar.muli v1732_r0 c256_i32_910_r0
  v1773_r0
def k0_mult210 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_912_r0 : BitVec 32 := 256#32
  let v1777_r0 : BitVec 32 := Scalar.muli v1732_r0 c256_i32_912_r0
  v1777_r0
def k0_mult211 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_914_r0 : BitVec 32 := 256#32
  let v1781_r0 : BitVec 32 := Scalar.muli v1732_r0 c256_i32_914_r0
  v1781_r0
def k0_mult212 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_916_r0 : BitVec 32 := 256#32
  let v1785_r0 : BitVec 32 := Scalar.muli v1732_r0 c256_i32_916_r0
  v1785_r0
def k0_mult213 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_918_r0 : BitVec 32 := 256#32
  let v1789_r0 : BitVec 32 := Scalar.muli v1732_r0 c256_i32_918_r0
  v1789_r0
def k0_mult214 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_920_r0 : BitVec 32 := 256#32
  let v1793_r0 : BitVec 32 := Scalar.muli v1732_r0 c256_i32_920_r0
  v1793_r0
def k0_mult215 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_922_r0 : BitVec 32 := 256#32
  let v1797_r0 : BitVec 32 := Scalar.muli v1732_r0 c256_i32_922_r0
  v1797_r0
def k0_mult216 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_924_r0 : BitVec 32 := 256#32
  let v1801_r0 : BitVec 32 := Scalar.muli v1732_r0 c256_i32_924_r0
  v1801_r0
def k0_mult217 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_926_r0 : BitVec 32 := 256#32
  let v1805_r0 : BitVec 32 := Scalar.muli v1732_r0 c256_i32_926_r0
  v1805_r0
def k0_mult218 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_889_r0 : BitVec 32 := 3#32
  let v1732_r0 : BitVec 32 := Scalar.addi v1266_r0 c3_i32_889_r0
  let c256_i32_928_r0 : BitVec 32 := 256#32
  let v1809_r0 : BitVec 32 := Scalar.muli v1732_r0 c256_i32_928_r0
  v1809_r0
def k0_mult219 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_930_r0 : BitVec 32 := 3#32
  let v1813_r0 : BitVec 32 := Scalar.addi v1266_r0 c3_i32_930_r0
  let c1_i32_931_r0 : BitVec 32 := 1#32
  let v1814_r0 : BitVec 32 := Scalar.addi v1813_r0 c1_i32_931_r0
  let c2_i32_934_r0 : BitVec 32 := 2#32
  let v1818_r0 : BitVec 32 := Scalar.muli v1814_r0 c2_i32_934_r0
  let c0_i32_935_r0 : BitVec 32 := 0#32
  let v1819_r0 : BitVec 32 := Scalar.addi v1818_r0 c0_i32_935_r0
  let c128_i32_936_r0 : BitVec 32 := 128#32
  let v1820_r0 : BitVec 32 := Scalar.muli v1819_r0 c128_i32_936_r0
  v1820_r0
def k0_mult220 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c3_i32_930_r0 : BitVec 32 := 3#32
  let v1813_r0 : BitVec 32 := Scalar.addi v1266_r0 c3_i32_930_r0
  let c1_i32_931_r0 : BitVec 32 := 1#32
  let v1814_r0 : BitVec 32 := Scalar.addi v1813_r0 c1_i32_931_r0
  let c2_i32_940_r0 : BitVec 32 := 2#32
  let v1838_r0 : BitVec 32 := Scalar.muli v1814_r0 c2_i32_940_r0
  let c1_i32_941_r0 : BitVec 32 := 1#32
  let v1839_r0 : BitVec 32 := Scalar.addi v1838_r0 c1_i32_941_r0
  let c128_i32_942_r0 : BitVec 32 := 128#32
  let v1840_r0 : BitVec 32 := Scalar.muli v1839_r0 c128_i32_942_r0
  v1840_r0
def k0_mult221 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_947_r0 : BitVec 32 := 256#32
  let v1860_r0 : BitVec 32 := Scalar.muli v1859_r0 c256_i32_947_r0
  v1860_r0
def k0_mult222 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_949_r0 : BitVec 32 := 256#32
  let v1864_r0 : BitVec 32 := Scalar.muli v1859_r0 c256_i32_949_r0
  v1864_r0
def k0_mult223 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_951_r0 : BitVec 32 := 256#32
  let v1868_r0 : BitVec 32 := Scalar.muli v1859_r0 c256_i32_951_r0
  v1868_r0
def k0_mult224 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_953_r0 : BitVec 32 := 256#32
  let v1872_r0 : BitVec 32 := Scalar.muli v1859_r0 c256_i32_953_r0
  v1872_r0
def k0_mult225 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_955_r0 : BitVec 32 := 256#32
  let v1876_r0 : BitVec 32 := Scalar.muli v1859_r0 c256_i32_955_r0
  v1876_r0
def k0_mult226 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_957_r0 : BitVec 32 := 256#32
  let v1880_r0 : BitVec 32 := Scalar.muli v1859_r0 c256_i32_957_r0
  v1880_r0
def k0_mult227 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_959_r0 : BitVec 32 := 256#32
  let v1884_r0 : BitVec 32 := Scalar.muli v1859_r0 c256_i32_959_r0
  v1884_r0
def k0_mult228 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_961_r0 : BitVec 32 := 256#32
  let v1888_r0 : BitVec 32 := Scalar.muli v1859_r0 c256_i32_961_r0
  v1888_r0
def k0_mult229 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_963_r0 : BitVec 32 := 256#32
  let v1892_r0 : BitVec 32 := Scalar.muli v1859_r0 c256_i32_963_r0
  v1892_r0
def k0_mult230 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_965_r0 : BitVec 32 := 256#32
  let v1896_r0 : BitVec 32 := Scalar.muli v1859_r0 c256_i32_965_r0
  v1896_r0
def k0_mult231 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_967_r0 : BitVec 32 := 256#32
  let v1900_r0 : BitVec 32 := Scalar.muli v1859_r0 c256_i32_967_r0
  v1900_r0
def k0_mult232 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_969_r0 : BitVec 32 := 256#32
  let v1904_r0 : BitVec 32 := Scalar.muli v1859_r0 c256_i32_969_r0
  v1904_r0
def k0_mult233 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_971_r0 : BitVec 32 := 256#32
  let v1908_r0 : BitVec 32 := Scalar.muli v1859_r0 c256_i32_971_r0
  v1908_r0
def k0_mult234 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_973_r0 : BitVec 32 := 256#32
  let v1912_r0 : BitVec 32 := Scalar.muli v1859_r0 c256_i32_973_r0
  v1912_r0
def k0_mult235 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_975_r0 : BitVec 32 := 256#32
  let v1916_r0 : BitVec 32 := Scalar.muli v1859_r0 c256_i32_975_r0
  v1916_r0
def k0_mult236 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_977_r0 : BitVec 32 := 256#32
  let v1920_r0 : BitVec 32 := Scalar.muli v1859_r0 c256_i32_977_r0
  v1920_r0
def k0_mult237 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_979_r0 : BitVec 32 := 256#32
  let v1924_r0 : BitVec 32 := Scalar.muli v1859_r0 c256_i32_979_r0
  v1924_r0
def k0_mult238 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_981_r0 : BitVec 32 := 256#32
  let v1928_r0 : BitVec 32 := Scalar.muli v1859_r0 c256_i32_981_r0
  v1928_r0
def k0_mult239 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_983_r0 : BitVec 32 := 256#32
  let v1932_r0 : BitVec 32 := Scalar.muli v1859_r0 c256_i32_983_r0
  v1932_r0
def k0_mult240 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_946_r0 : BitVec 32 := 4#32
  let v1859_r0 : BitVec 32 := Scalar.addi v1266_r0 c4_i32_946_r0
  let c256_i32_985_r0 : BitVec 32 := 256#32
  let v1936_r0 : BitVec 32 := Scalar.muli v1859_r0 c256_i32_985_r0
  v1936_r0
def k0_mult241 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_987_r0 : BitVec 32 := 4#32
  let v1940_r0 : BitVec 32 := Scalar.addi v1266_r0 c4_i32_987_r0
  let c1_i32_988_r0 : BitVec 32 := 1#32
  let v1941_r0 : BitVec 32 := Scalar.addi v1940_r0 c1_i32_988_r0
  let c2_i32_991_r0 : BitVec 32 := 2#32
  let v1945_r0 : BitVec 32 := Scalar.muli v1941_r0 c2_i32_991_r0
  let c0_i32_992_r0 : BitVec 32 := 0#32
  let v1946_r0 : BitVec 32 := Scalar.addi v1945_r0 c0_i32_992_r0
  let c128_i32_993_r0 : BitVec 32 := 128#32
  let v1947_r0 : BitVec 32 := Scalar.muli v1946_r0 c128_i32_993_r0
  v1947_r0
def k0_mult242 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c4_i32_987_r0 : BitVec 32 := 4#32
  let v1940_r0 : BitVec 32 := Scalar.addi v1266_r0 c4_i32_987_r0
  let c1_i32_988_r0 : BitVec 32 := 1#32
  let v1941_r0 : BitVec 32 := Scalar.addi v1940_r0 c1_i32_988_r0
  let c2_i32_997_r0 : BitVec 32 := 2#32
  let v1965_r0 : BitVec 32 := Scalar.muli v1941_r0 c2_i32_997_r0
  let c1_i32_998_r0 : BitVec 32 := 1#32
  let v1966_r0 : BitVec 32 := Scalar.addi v1965_r0 c1_i32_998_r0
  let c128_i32_999_r0 : BitVec 32 := 128#32
  let v1967_r0 : BitVec 32 := Scalar.muli v1966_r0 c128_i32_999_r0
  v1967_r0
def k0_mult243 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1004_r0 : BitVec 32 := 256#32
  let v1987_r0 : BitVec 32 := Scalar.muli v1986_r0 c256_i32_1004_r0
  v1987_r0
def k0_mult244 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1006_r0 : BitVec 32 := 256#32
  let v1991_r0 : BitVec 32 := Scalar.muli v1986_r0 c256_i32_1006_r0
  v1991_r0
def k0_mult245 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1008_r0 : BitVec 32 := 256#32
  let v1995_r0 : BitVec 32 := Scalar.muli v1986_r0 c256_i32_1008_r0
  v1995_r0
def k0_mult246 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1010_r0 : BitVec 32 := 256#32
  let v1999_r0 : BitVec 32 := Scalar.muli v1986_r0 c256_i32_1010_r0
  v1999_r0
def k0_mult247 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1012_r0 : BitVec 32 := 256#32
  let v2003_r0 : BitVec 32 := Scalar.muli v1986_r0 c256_i32_1012_r0
  v2003_r0
def k0_mult248 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1014_r0 : BitVec 32 := 256#32
  let v2007_r0 : BitVec 32 := Scalar.muli v1986_r0 c256_i32_1014_r0
  v2007_r0
def k0_mult249 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1016_r0 : BitVec 32 := 256#32
  let v2011_r0 : BitVec 32 := Scalar.muli v1986_r0 c256_i32_1016_r0
  v2011_r0
def k0_mult250 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1018_r0 : BitVec 32 := 256#32
  let v2015_r0 : BitVec 32 := Scalar.muli v1986_r0 c256_i32_1018_r0
  v2015_r0
def k0_mult251 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1020_r0 : BitVec 32 := 256#32
  let v2019_r0 : BitVec 32 := Scalar.muli v1986_r0 c256_i32_1020_r0
  v2019_r0
def k0_mult252 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1022_r0 : BitVec 32 := 256#32
  let v2023_r0 : BitVec 32 := Scalar.muli v1986_r0 c256_i32_1022_r0
  v2023_r0
def k0_mult253 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1024_r0 : BitVec 32 := 256#32
  let v2027_r0 : BitVec 32 := Scalar.muli v1986_r0 c256_i32_1024_r0
  v2027_r0
def k0_mult254 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1026_r0 : BitVec 32 := 256#32
  let v2031_r0 : BitVec 32 := Scalar.muli v1986_r0 c256_i32_1026_r0
  v2031_r0
def k0_mult255 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1028_r0 : BitVec 32 := 256#32
  let v2035_r0 : BitVec 32 := Scalar.muli v1986_r0 c256_i32_1028_r0
  v2035_r0
def k0_mult256 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1030_r0 : BitVec 32 := 256#32
  let v2039_r0 : BitVec 32 := Scalar.muli v1986_r0 c256_i32_1030_r0
  v2039_r0
def k0_mult257 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1032_r0 : BitVec 32 := 256#32
  let v2043_r0 : BitVec 32 := Scalar.muli v1986_r0 c256_i32_1032_r0
  v2043_r0
def k0_mult258 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1034_r0 : BitVec 32 := 256#32
  let v2047_r0 : BitVec 32 := Scalar.muli v1986_r0 c256_i32_1034_r0
  v2047_r0
def k0_mult259 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1036_r0 : BitVec 32 := 256#32
  let v2051_r0 : BitVec 32 := Scalar.muli v1986_r0 c256_i32_1036_r0
  v2051_r0
def k0_mult260 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1038_r0 : BitVec 32 := 256#32
  let v2055_r0 : BitVec 32 := Scalar.muli v1986_r0 c256_i32_1038_r0
  v2055_r0
def k0_mult261 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1040_r0 : BitVec 32 := 256#32
  let v2059_r0 : BitVec 32 := Scalar.muli v1986_r0 c256_i32_1040_r0
  v2059_r0
def k0_mult262 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1003_r0 : BitVec 32 := 5#32
  let v1986_r0 : BitVec 32 := Scalar.addi v1266_r0 c5_i32_1003_r0
  let c256_i32_1042_r0 : BitVec 32 := 256#32
  let v2063_r0 : BitVec 32 := Scalar.muli v1986_r0 c256_i32_1042_r0
  v2063_r0
def k0_mult263 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1044_r0 : BitVec 32 := 5#32
  let v2067_r0 : BitVec 32 := Scalar.addi v1266_r0 c5_i32_1044_r0
  let c1_i32_1045_r0 : BitVec 32 := 1#32
  let v2068_r0 : BitVec 32 := Scalar.addi v2067_r0 c1_i32_1045_r0
  let c2_i32_1048_r0 : BitVec 32 := 2#32
  let v2072_r0 : BitVec 32 := Scalar.muli v2068_r0 c2_i32_1048_r0
  let c0_i32_1049_r0 : BitVec 32 := 0#32
  let v2073_r0 : BitVec 32 := Scalar.addi v2072_r0 c0_i32_1049_r0
  let c128_i32_1050_r0 : BitVec 32 := 128#32
  let v2074_r0 : BitVec 32 := Scalar.muli v2073_r0 c128_i32_1050_r0
  v2074_r0
def k0_mult264 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c5_i32_1044_r0 : BitVec 32 := 5#32
  let v2067_r0 : BitVec 32 := Scalar.addi v1266_r0 c5_i32_1044_r0
  let c1_i32_1045_r0 : BitVec 32 := 1#32
  let v2068_r0 : BitVec 32 := Scalar.addi v2067_r0 c1_i32_1045_r0
  let c2_i32_1054_r0 : BitVec 32 := 2#32
  let v2092_r0 : BitVec 32 := Scalar.muli v2068_r0 c2_i32_1054_r0
  let c1_i32_1055_r0 : BitVec 32 := 1#32
  let v2093_r0 : BitVec 32 := Scalar.addi v2092_r0 c1_i32_1055_r0
  let c128_i32_1056_r0 : BitVec 32 := 128#32
  let v2094_r0 : BitVec 32 := Scalar.muli v2093_r0 c128_i32_1056_r0
  v2094_r0
def k0_mult265 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1061_r0 : BitVec 32 := 256#32
  let v2114_r0 : BitVec 32 := Scalar.muli v2113_r0 c256_i32_1061_r0
  v2114_r0
def k0_mult266 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1063_r0 : BitVec 32 := 256#32
  let v2118_r0 : BitVec 32 := Scalar.muli v2113_r0 c256_i32_1063_r0
  v2118_r0
def k0_mult267 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1065_r0 : BitVec 32 := 256#32
  let v2122_r0 : BitVec 32 := Scalar.muli v2113_r0 c256_i32_1065_r0
  v2122_r0
def k0_mult268 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1067_r0 : BitVec 32 := 256#32
  let v2126_r0 : BitVec 32 := Scalar.muli v2113_r0 c256_i32_1067_r0
  v2126_r0
def k0_mult269 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1069_r0 : BitVec 32 := 256#32
  let v2130_r0 : BitVec 32 := Scalar.muli v2113_r0 c256_i32_1069_r0
  v2130_r0
def k0_mult270 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1071_r0 : BitVec 32 := 256#32
  let v2134_r0 : BitVec 32 := Scalar.muli v2113_r0 c256_i32_1071_r0
  v2134_r0
def k0_mult271 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1073_r0 : BitVec 32 := 256#32
  let v2138_r0 : BitVec 32 := Scalar.muli v2113_r0 c256_i32_1073_r0
  v2138_r0
def k0_mult272 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1075_r0 : BitVec 32 := 256#32
  let v2142_r0 : BitVec 32 := Scalar.muli v2113_r0 c256_i32_1075_r0
  v2142_r0
def k0_mult273 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1077_r0 : BitVec 32 := 256#32
  let v2146_r0 : BitVec 32 := Scalar.muli v2113_r0 c256_i32_1077_r0
  v2146_r0
def k0_mult274 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1079_r0 : BitVec 32 := 256#32
  let v2150_r0 : BitVec 32 := Scalar.muli v2113_r0 c256_i32_1079_r0
  v2150_r0
def k0_mult275 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1081_r0 : BitVec 32 := 256#32
  let v2154_r0 : BitVec 32 := Scalar.muli v2113_r0 c256_i32_1081_r0
  v2154_r0
def k0_mult276 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1083_r0 : BitVec 32 := 256#32
  let v2158_r0 : BitVec 32 := Scalar.muli v2113_r0 c256_i32_1083_r0
  v2158_r0
def k0_mult277 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1085_r0 : BitVec 32 := 256#32
  let v2162_r0 : BitVec 32 := Scalar.muli v2113_r0 c256_i32_1085_r0
  v2162_r0
def k0_mult278 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1087_r0 : BitVec 32 := 256#32
  let v2166_r0 : BitVec 32 := Scalar.muli v2113_r0 c256_i32_1087_r0
  v2166_r0
def k0_mult279 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1089_r0 : BitVec 32 := 256#32
  let v2170_r0 : BitVec 32 := Scalar.muli v2113_r0 c256_i32_1089_r0
  v2170_r0
def k0_mult280 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1091_r0 : BitVec 32 := 256#32
  let v2174_r0 : BitVec 32 := Scalar.muli v2113_r0 c256_i32_1091_r0
  v2174_r0
def k0_mult281 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1093_r0 : BitVec 32 := 256#32
  let v2178_r0 : BitVec 32 := Scalar.muli v2113_r0 c256_i32_1093_r0
  v2178_r0
def k0_mult282 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1095_r0 : BitVec 32 := 256#32
  let v2182_r0 : BitVec 32 := Scalar.muli v2113_r0 c256_i32_1095_r0
  v2182_r0
def k0_mult283 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1097_r0 : BitVec 32 := 256#32
  let v2186_r0 : BitVec 32 := Scalar.muli v2113_r0 c256_i32_1097_r0
  v2186_r0
def k0_mult284 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1060_r0 : BitVec 32 := 6#32
  let v2113_r0 : BitVec 32 := Scalar.addi v1266_r0 c6_i32_1060_r0
  let c256_i32_1099_r0 : BitVec 32 := 256#32
  let v2190_r0 : BitVec 32 := Scalar.muli v2113_r0 c256_i32_1099_r0
  v2190_r0
def k0_mult285 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1101_r0 : BitVec 32 := 6#32
  let v2194_r0 : BitVec 32 := Scalar.addi v1266_r0 c6_i32_1101_r0
  let c1_i32_1102_r0 : BitVec 32 := 1#32
  let v2195_r0 : BitVec 32 := Scalar.addi v2194_r0 c1_i32_1102_r0
  let c2_i32_1105_r0 : BitVec 32 := 2#32
  let v2199_r0 : BitVec 32 := Scalar.muli v2195_r0 c2_i32_1105_r0
  let c0_i32_1106_r0 : BitVec 32 := 0#32
  let v2200_r0 : BitVec 32 := Scalar.addi v2199_r0 c0_i32_1106_r0
  let c128_i32_1107_r0 : BitVec 32 := 128#32
  let v2201_r0 : BitVec 32 := Scalar.muli v2200_r0 c128_i32_1107_r0
  v2201_r0
def k0_mult286 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c6_i32_1101_r0 : BitVec 32 := 6#32
  let v2194_r0 : BitVec 32 := Scalar.addi v1266_r0 c6_i32_1101_r0
  let c1_i32_1102_r0 : BitVec 32 := 1#32
  let v2195_r0 : BitVec 32 := Scalar.addi v2194_r0 c1_i32_1102_r0
  let c2_i32_1111_r0 : BitVec 32 := 2#32
  let v2219_r0 : BitVec 32 := Scalar.muli v2195_r0 c2_i32_1111_r0
  let c1_i32_1112_r0 : BitVec 32 := 1#32
  let v2220_r0 : BitVec 32 := Scalar.addi v2219_r0 c1_i32_1112_r0
  let c128_i32_1113_r0 : BitVec 32 := 128#32
  let v2221_r0 : BitVec 32 := Scalar.muli v2220_r0 c128_i32_1113_r0
  v2221_r0
def k0_mult287 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1117_r0 : BitVec 32 := 256#32
  let v2241_r0 : BitVec 32 := Scalar.muli v2240_r0 c256_i32_1117_r0
  v2241_r0
def k0_mult288 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1119_r0 : BitVec 32 := 256#32
  let v2245_r0 : BitVec 32 := Scalar.muli v2240_r0 c256_i32_1119_r0
  v2245_r0
def k0_mult289 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1121_r0 : BitVec 32 := 256#32
  let v2249_r0 : BitVec 32 := Scalar.muli v2240_r0 c256_i32_1121_r0
  v2249_r0
def k0_mult290 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1123_r0 : BitVec 32 := 256#32
  let v2253_r0 : BitVec 32 := Scalar.muli v2240_r0 c256_i32_1123_r0
  v2253_r0
def k0_mult291 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1125_r0 : BitVec 32 := 256#32
  let v2257_r0 : BitVec 32 := Scalar.muli v2240_r0 c256_i32_1125_r0
  v2257_r0
def k0_mult292 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1127_r0 : BitVec 32 := 256#32
  let v2261_r0 : BitVec 32 := Scalar.muli v2240_r0 c256_i32_1127_r0
  v2261_r0
def k0_mult293 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1129_r0 : BitVec 32 := 256#32
  let v2265_r0 : BitVec 32 := Scalar.muli v2240_r0 c256_i32_1129_r0
  v2265_r0
def k0_mult294 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1131_r0 : BitVec 32 := 256#32
  let v2269_r0 : BitVec 32 := Scalar.muli v2240_r0 c256_i32_1131_r0
  v2269_r0
def k0_mult295 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1133_r0 : BitVec 32 := 256#32
  let v2273_r0 : BitVec 32 := Scalar.muli v2240_r0 c256_i32_1133_r0
  v2273_r0
def k0_mult296 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1135_r0 : BitVec 32 := 256#32
  let v2277_r0 : BitVec 32 := Scalar.muli v2240_r0 c256_i32_1135_r0
  v2277_r0
def k0_mult297 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1137_r0 : BitVec 32 := 256#32
  let v2281_r0 : BitVec 32 := Scalar.muli v2240_r0 c256_i32_1137_r0
  v2281_r0
def k0_mult298 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1139_r0 : BitVec 32 := 256#32
  let v2285_r0 : BitVec 32 := Scalar.muli v2240_r0 c256_i32_1139_r0
  v2285_r0
def k0_mult299 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1141_r0 : BitVec 32 := 256#32
  let v2289_r0 : BitVec 32 := Scalar.muli v2240_r0 c256_i32_1141_r0
  v2289_r0
def k0_mult300 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1143_r0 : BitVec 32 := 256#32
  let v2293_r0 : BitVec 32 := Scalar.muli v2240_r0 c256_i32_1143_r0
  v2293_r0
def k0_mult301 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1145_r0 : BitVec 32 := 256#32
  let v2297_r0 : BitVec 32 := Scalar.muli v2240_r0 c256_i32_1145_r0
  v2297_r0
def k0_mult302 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1147_r0 : BitVec 32 := 256#32
  let v2301_r0 : BitVec 32 := Scalar.muli v2240_r0 c256_i32_1147_r0
  v2301_r0
def k0_mult303 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1149_r0 : BitVec 32 := 256#32
  let v2305_r0 : BitVec 32 := Scalar.muli v2240_r0 c256_i32_1149_r0
  v2305_r0
def k0_mult304 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1151_r0 : BitVec 32 := 256#32
  let v2309_r0 : BitVec 32 := Scalar.muli v2240_r0 c256_i32_1151_r0
  v2309_r0
def k0_mult305 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1153_r0 : BitVec 32 := 256#32
  let v2313_r0 : BitVec 32 := Scalar.muli v2240_r0 c256_i32_1153_r0
  v2313_r0
def k0_mult306 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_r0 : BitVec 32 := 7#32
  let v2240_r0 : BitVec 32 := Scalar.addi v1266_r0 c7_i32_r0
  let c256_i32_1155_r0 : BitVec 32 := 256#32
  let v2317_r0 : BitVec 32 := Scalar.muli v2240_r0 c256_i32_1155_r0
  v2317_r0
def k0_mult307 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_1157_r0 : BitVec 32 := 7#32
  let v2321_r0 : BitVec 32 := Scalar.addi v1266_r0 c7_i32_1157_r0
  let c1_i32_1158_r0 : BitVec 32 := 1#32
  let v2322_r0 : BitVec 32 := Scalar.addi v2321_r0 c1_i32_1158_r0
  let c2_i32_1161_r0 : BitVec 32 := 2#32
  let v2326_r0 : BitVec 32 := Scalar.muli v2322_r0 c2_i32_1161_r0
  let c0_i32_1162_r0 : BitVec 32 := 0#32
  let v2327_r0 : BitVec 32 := Scalar.addi v2326_r0 c0_i32_1162_r0
  let c128_i32_1163_r0 : BitVec 32 := 128#32
  let v2328_r0 : BitVec 32 := Scalar.muli v2327_r0 c128_i32_1163_r0
  v2328_r0
def k0_mult308 (k0_t3 : Fin k0_t3_loop.trips) : BitVec 32 :=
  let c0_i32_673_r0 : BitVec 32 := 0#32
  let c1_i32_675_r0 : BitVec 32 := 1#32
  let arg25_r0 : BitVec 32 := Scf.iv c0_i32_673_r0 c1_i32_675_r0 k0_t3
  let c8_i32_683_r0 : BitVec 32 := 8#32
  let v1265_r0 : BitVec 32 := Scalar.muli arg25_r0 c8_i32_683_r0
  let c1_i32_684_r0 : BitVec 32 := 1#32
  let v1266_r0 : BitVec 32 := Scalar.addi v1265_r0 c1_i32_684_r0
  let c7_i32_1157_r0 : BitVec 32 := 7#32
  let v2321_r0 : BitVec 32 := Scalar.addi v1266_r0 c7_i32_1157_r0
  let c1_i32_1158_r0 : BitVec 32 := 1#32
  let v2322_r0 : BitVec 32 := Scalar.addi v2321_r0 c1_i32_1158_r0
  let c2_i32_1167_r0 : BitVec 32 := 2#32
  let v2346_r0 : BitVec 32 := Scalar.muli v2322_r0 c2_i32_1167_r0
  let c1_i32_1168_r0 : BitVec 32 := 1#32
  let v2347_r0 : BitVec 32 := Scalar.addi v2346_r0 c1_i32_1168_r0
  let c128_i32_1169_r0 : BitVec 32 := 128#32
  let v2348_r0 : BitVec 32 := Scalar.muli v2347_r0 c128_i32_1169_r0
  v2348_r0
def k0_cond5 (k0_t2 : Fin k0_t2_loop.trips) : BitVec 1 :=
  let c1_i32_439_r0 : BitVec 32 := 1#32
  let c1_i32_440_r0 : BitVec 32 := 1#32
  let arg24_r0 : BitVec 32 := Scf.iv c1_i32_439_r0 c1_i32_440_r0 k0_t2
  let c1_i32_677_r0 : BitVec 32 := 1#32
  let v1257_r0 : BitVec 32 := Scalar.addi arg24_r0 c1_i32_677_r0
  let c12_i32_678_r0 : BitVec 32 := 12#32
  let v1258_r0 : BitVec 1 := Scalar.cmpi .slt v1257_r0 c12_i32_678_r0
  let v1259_r0 : BitVec 32 := Scalar.extui v1258_r0
  let c0_i32_679_r0 : BitVec 32 := 0#32
  let v1260_r0 : BitVec 1 := Scalar.cmpi .ne v1259_r0 c0_i32_679_r0
  v1260_r0

def k0_mult309 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.addi arg24_r0 c1_i32_683_r0
  let c6_i32_685_r0 : BitVec 32 := 6#32
  let v1267_r0 : BitVec 32 := Scalar.remsi v1265_r0 c6_i32_685_r0
  let c256_i32_686_r0 : BitVec 32 := 256#32
  let v1268_r0 : BitVec 32 := Scalar.muli v1267_r0 c256_i32_686_r0
  v1268_r0
def k0_off124 (k0_t2 : Fin k0_t2_loop.trips) : Fin 3 → Nat :=
  let c0_i32_687_r0 : BitVec 32 := 0#32
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.addi arg24_r0 c1_i32_683_r0
  let c6_i32_684_r0 : BitVec 32 := 6#32
  let v1266_r0 : BitVec 32 := Scalar.divsi v1265_r0 c6_i32_684_r0
  let c6_i32_685_r0 : BitVec 32 := 6#32
  let v1267_r0 : BitVec 32 := Scalar.remsi v1265_r0 c6_i32_685_r0
  let c256_i32_686_r0 : BitVec 32 := 256#32
  let v1268_r0 : BitVec 32 := Scalar.muli v1267_r0 c256_i32_686_r0
  let v1269_r0 : BitVec 32 := v1268_r0
  ![0, v1266_r0.toNat, v1269_r0.toNat]
def k0_mult310 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_688_r0 : BitVec 32 := 1#32
  let v1272_r0 : BitVec 32 := Scalar.addi arg24_r0 c1_i32_688_r0
  let c256_i32_690_r0 : BitVec 32 := 256#32
  let v1274_r0 : BitVec 32 := Scalar.muli v1272_r0 c256_i32_690_r0
  v1274_r0
def k0_off125 (k0_t2 : Fin k0_t2_loop.trips) : Fin 1 → Nat :=
  let c1_i32_689_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1273_r0 : BitVec 32 := Scalar.subi c1_i32_689_r0 v1142_r0
  ![v1273_r0.toNat]
def k0_off126 (k0_t2 : Fin k0_t2_loop.trips) : Fin 3 → Nat :=
  let c1_i32_689_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1273_r0 : BitVec 32 := Scalar.subi c1_i32_689_r0 v1142_r0
  let c0_i32_691_r0 : BitVec 32 := 0#32
  let c0_i32_692_r0 : BitVec 32 := 0#32
  ![v1273_r0.toNat, 0, 0]
def k0_off127 (k0_t2 : Fin k0_t2_loop.trips) : Fin 2 → Nat :=
  let c1_i32_439_r0 : BitVec 32 := 1#32
  let c1_i32_440_r0 : BitVec 32 := 1#32
  let arg24_r0 : BitVec 32 := Scf.iv c1_i32_439_r0 c1_i32_440_r0 k0_t2
  let c1_i32_688_r0 : BitVec 32 := 1#32
  let v1272_r0 : BitVec 32 := Scalar.addi arg24_r0 c1_i32_688_r0
  let c256_i32_690_r0 : BitVec 32 := 256#32
  let v1274_r0 : BitVec 32 := Scalar.muli v1272_r0 c256_i32_690_r0
  let v1275_r0 : BitVec 32 := v1274_r0
  let c0_i32_693_r0 : BitVec 32 := 0#32
  ![v1275_r0.toNat, 0]
def k0_off128 (k0_t2 : Fin k0_t2_loop.trips) : Fin 3 → Nat :=
  let c1_i32_694_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1281_r0 : BitVec 32 := Scalar.subi c1_i32_694_r0 v1142_r0
  let v1286_r0 : Index := Scalar.indexCast v1281_r0
  let c0_698_r0 : Index := 0#32
  let c0_699_r0 : Index := 0#32
  ![v1286_r0.toNat, 0, 0]
def k0_off129 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1310_r0 : Index := Scalar.indexCast v1142_r0
  let c0_739_r0 : Index := 0#32
  let c0_740_r0 : Index := 0#32
  ![v1310_r0.toNat, 0, 0]
def k0_off130 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1313_r0 : Index := Scalar.indexCast v1142_r0
  let c0_741_r0 : Index := 0#32
  let c10752_r0 : Index := 10752#32
  ![v1313_r0.toNat, 0, 10752]
def k0_off131 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1328_r0 : Index := Scalar.indexCast v1142_r0
  let c0_744_r0 : Index := 0#32
  let c10880_r0 : Index := 10880#32
  ![v1328_r0.toNat, 0, 10880]
def k0_off132 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1367_r0 : Index := Scalar.indexCast v1142_r0
  let c0_789_r0 : Index := 0#32
  let c11008_r0 : Index := 11008#32
  ![v1367_r0.toNat, 0, 11008]
def k0_off133 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1382_r0 : Index := Scalar.indexCast v1142_r0
  let c0_792_r0 : Index := 0#32
  let c11136_r0 : Index := 11136#32
  ![v1382_r0.toNat, 0, 11136]
def k0_off134 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1421_r0 : Index := Scalar.indexCast v1142_r0
  let c0_837_r0 : Index := 0#32
  let c11264_r0 : Index := 11264#32
  ![v1421_r0.toNat, 0, 11264]
def k0_off135 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1436_r0 : Index := Scalar.indexCast v1142_r0
  let c0_840_r0 : Index := 0#32
  let c11392_r0 : Index := 11392#32
  ![v1436_r0.toNat, 0, 11392]
def k0_off136 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1475_r0 : Index := Scalar.indexCast v1142_r0
  let c0_885_r0 : Index := 0#32
  let c11520_886_r0 : Index := 11520#32
  ![v1475_r0.toNat, 0, 11520]
def k0_off137 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1490_r0 : Index := Scalar.indexCast v1142_r0
  let c0_889_r0 : Index := 0#32
  let c11648_r0 : Index := 11648#32
  ![v1490_r0.toNat, 0, 11648]
def k0_off138 (k0_t2 : Fin k0_t2_loop.trips) : Fin 3 → Nat :=
  let c1_i32_932_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1526_r0 : BitVec 32 := Scalar.subi c1_i32_932_r0 v1142_r0
  let v1530_r0 : Index := Scalar.indexCast v1526_r0
  let c0_935_r0 : Index := 0#32
  let c0_936_r0 : Index := 0#32
  ![v1530_r0.toNat, 0, 0]
def k0_off139 (k0_t2 : Fin k0_t2_loop.trips) : Fin 3 → Nat :=
  let c1_i32_932_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1526_r0 : BitVec 32 := Scalar.subi c1_i32_932_r0 v1142_r0
  let v1545_r0 : Index := Scalar.indexCast v1526_r0
  let c0_940_r0 : Index := 0#32
  let c128_941_r0 : Index := 128#32
  ![v1545_r0.toNat, 0, 128]
def k0_off140 (k0_t2 : Fin k0_t2_loop.trips) : Fin 3 → Nat :=
  let c1_i32_1065_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1780_r0 : BitVec 32 := Scalar.subi c1_i32_1065_r0 v1142_r0
  let v1784_r0 : Index := Scalar.indexCast v1780_r0
  let c0_1068_r0 : Index := 0#32
  let c256_1069_r0 : Index := 256#32
  ![v1784_r0.toNat, 0, 256]
def k0_off141 (k0_t2 : Fin k0_t2_loop.trips) : Fin 3 → Nat :=
  let c1_i32_1065_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1780_r0 : BitVec 32 := Scalar.subi c1_i32_1065_r0 v1142_r0
  let v1799_r0 : Index := Scalar.indexCast v1780_r0
  let c0_1073_r0 : Index := 0#32
  let c384_1074_r0 : Index := 384#32
  ![v1799_r0.toNat, 0, 384]
def k0_cond6 (k0_t2 : Fin k0_t2_loop.trips) : BitVec 1 :=
  let c1_i32_439_r0 : BitVec 32 := 1#32
  let c1_i32_440_r0 : BitVec 32 := 1#32
  let arg24_r0 : BitVec 32 := Scf.iv c1_i32_439_r0 c1_i32_440_r0 k0_t2
  let c1_i32_680_r0 : BitVec 32 := 1#32
  let v1261_r0 : BitVec 32 := Scalar.addi arg24_r0 c1_i32_680_r0
  let c12_i32_681_r0 : BitVec 32 := 12#32
  let v1262_r0 : BitVec 1 := Scalar.cmpi .eq v1261_r0 c12_i32_681_r0
  let v1263_r0 : BitVec 32 := Scalar.extui v1262_r0
  let c0_i32_682_r0 : BitVec 32 := 0#32
  let v1264_r0 : BitVec 1 := Scalar.cmpi .ne v1263_r0 c0_i32_682_r0
  v1264_r0

def k0_mult311 (k0_t2 : Fin k0_t2_loop.trips) : BitVec 32 :=
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.subi arg24_r0 c1_i32_683_r0
  let c256_i32_685_r0 : BitVec 32 := 256#32
  let v1267_r0 : BitVec 32 := Scalar.muli v1265_r0 c256_i32_685_r0
  v1267_r0
def k0_off142 (k0_t2 : Fin k0_t2_loop.trips) : Fin 1 → Nat :=
  let c1_i32_684_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1266_r0 : BitVec 32 := Scalar.subi c1_i32_684_r0 v1142_r0
  ![v1266_r0.toNat]
def k0_off143 (k0_t2 : Fin k0_t2_loop.trips) : Fin 2 → Nat :=
  let c1_i32_439_r0 : BitVec 32 := 1#32
  let c1_i32_440_r0 : BitVec 32 := 1#32
  let arg24_r0 : BitVec 32 := Scf.iv c1_i32_439_r0 c1_i32_440_r0 k0_t2
  let c1_i32_683_r0 : BitVec 32 := 1#32
  let v1265_r0 : BitVec 32 := Scalar.subi arg24_r0 c1_i32_683_r0
  let c256_i32_685_r0 : BitVec 32 := 256#32
  let v1267_r0 : BitVec 32 := Scalar.muli v1265_r0 c256_i32_685_r0
  let v1268_r0 : BitVec 32 := v1267_r0
  let c0_i32_686_r0 : BitVec 32 := 0#32
  ![v1268_r0.toNat, 0]
def k0_off144 (k0_t2 : Fin k0_t2_loop.trips) : Fin 3 → Nat :=
  let c1_i32_684_r0 : BitVec 32 := 1#32
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1266_r0 : BitVec 32 := Scalar.subi c1_i32_684_r0 v1142_r0
  let c0_i32_687_r0 : BitVec 32 := 0#32
  let c0_i32_688_r0 : BitVec 32 := 0#32
  ![v1266_r0.toNat, 0, 0]
def k0_off145 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1294_r0 : Index := Scalar.indexCast v1142_r0
  let c0_728_r0 : Index := 0#32
  let c0_729_r0 : Index := 0#32
  ![v1294_r0.toNat, 0, 0]
def k0_off146 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1297_r0 : Index := Scalar.indexCast v1142_r0
  let c0_730_r0 : Index := 0#32
  let c10752_r0 : Index := 10752#32
  ![v1297_r0.toNat, 0, 10752]
def k0_off147 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1312_r0 : Index := Scalar.indexCast v1142_r0
  let c0_733_r0 : Index := 0#32
  let c10880_r0 : Index := 10880#32
  ![v1312_r0.toNat, 0, 10880]
def k0_off148 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1351_r0 : Index := Scalar.indexCast v1142_r0
  let c0_778_r0 : Index := 0#32
  let c11008_r0 : Index := 11008#32
  ![v1351_r0.toNat, 0, 11008]
def k0_off149 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1366_r0 : Index := Scalar.indexCast v1142_r0
  let c0_781_r0 : Index := 0#32
  let c11136_r0 : Index := 11136#32
  ![v1366_r0.toNat, 0, 11136]
def k0_off150 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1405_r0 : Index := Scalar.indexCast v1142_r0
  let c0_826_r0 : Index := 0#32
  let c11264_r0 : Index := 11264#32
  ![v1405_r0.toNat, 0, 11264]
def k0_off151 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1420_r0 : Index := Scalar.indexCast v1142_r0
  let c0_829_r0 : Index := 0#32
  let c11392_r0 : Index := 11392#32
  ![v1420_r0.toNat, 0, 11392]
def k0_off152 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1459_r0 : Index := Scalar.indexCast v1142_r0
  let c0_874_r0 : Index := 0#32
  let c11520_875_r0 : Index := 11520#32
  ![v1459_r0.toNat, 0, 11520]
def k0_off153 (k0_t2 : Fin k0_t2_loop.trips) : Fin 3 → Nat :=
  let c1_i32_439_r0 : BitVec 32 := 1#32
  let c1_i32_440_r0 : BitVec 32 := 1#32
  let arg24_r0 : BitVec 32 := Scf.iv c1_i32_439_r0 c1_i32_440_r0 k0_t2
  let c2_i32_628_r0 : BitVec 32 := 2#32
  let v1142_r0 : BitVec 32 := Scalar.remsi arg24_r0 c2_i32_628_r0
  let v1474_r0 : Index := Scalar.indexCast v1142_r0
  let c0_878_r0 : Index := 0#32
  let c11648_r0 : Index := 11648#32
  ![v1474_r0.toNat, 0, 11648]
def k0_mult312 : BitVec 32 :=
  let c11_i32_470_r0 : BitVec 32 := 11#32
  let c6_i32_471_r0 : BitVec 32 := 6#32
  let v841_r0 : BitVec 32 := Scalar.remsi c11_i32_470_r0 c6_i32_471_r0
  let c256_i32_472_r0 : BitVec 32 := 256#32
  let v842_r0 : BitVec 32 := Scalar.muli v841_r0 c256_i32_472_r0
  v842_r0
def k0_off154 : Fin 2 → Nat :=
  let c0_473_r0 : Index := 0#32
  let c11_i32_470_r0 : BitVec 32 := 11#32
  let c6_i32_471_r0 : BitVec 32 := 6#32
  let v841_r0 : BitVec 32 := Scalar.remsi c11_i32_470_r0 c6_i32_471_r0
  let c256_i32_472_r0 : BitVec 32 := 256#32
  let v842_r0 : BitVec 32 := Scalar.muli v841_r0 c256_i32_472_r0
  let v843_r0 : BitVec 32 := v842_r0
  let v844_r0 : Index := Scalar.indexCast v843_r0
  ![0, v844_r0.toNat]
-- ==== ReferenceIdeal.lean ====
abbrev S2x1536x11776 : Shape := ⟨3, ![2, 1536, 11776]⟩
abbrev S2x1536x92 : Shape := ⟨3, ![2, 1536, 92]⟩
abbrev S11776x1920 : Shape := ⟨2, ![11776, 1920]⟩
abbrev S92x15 : Shape := ⟨2, ![92, 15]⟩
abbrev S1x254 : Shape := ⟨2, ![1, 254]⟩
abbrev S2x1536x92x1 : Shape := ⟨4, ![2, 1536, 92, 1]⟩
abbrev S2x1536x92x128 : Shape := ⟨4, ![2, 1536, 92, 128]⟩
abbrev S3072x11776 : Shape := ⟨2, ![3072, 11776]⟩
abbrev S92x1x15x1 : Shape := ⟨4, ![92, 1, 15, 1]⟩
abbrev S92x128x15x128 : Shape := ⟨4, ![92, 128, 15, 128]⟩
abbrev S3072x1920 : Shape := ⟨2, ![3072, 1920]⟩
abbrev S3072x1 : Shape := ⟨2, ![3072, 1]⟩
abbrev S3072 : Shape := ⟨1, ![3072]⟩
abbrev S3072x254 : Shape := ⟨2, ![3072, 254]⟩
abbrev S2x1536x1920 : Shape := ⟨3, ![2, 1536, 1920]⟩
abbrev S2x1536 : Shape := ⟨2, ![2, 1536]⟩

abbrev nBuf : Space → Nat
  | .hbm => 16
  | .vmem => 7
  | .smem => 0
  | _ => 0

abbrev bufTy : (tb : Table) → Fin (tcTables nBuf tb) → BufTy
  | .hbm, ⟨0, _⟩ => ⟨S2x1536x11776, .fp8e4m3⟩
  | .hbm, ⟨1, _⟩ => ⟨S2x1536x92, .f32⟩
  | .hbm, ⟨2, _⟩ => ⟨S11776x1920, .fp8e4m3⟩
  | .hbm, ⟨3, _⟩ => ⟨S92x15, .f32⟩
  | .hbm, ⟨4, _⟩ => ⟨S1x254, .f32⟩
  | .hbm, ⟨5, _⟩ => ⟨S2x1536x92x1, .f32⟩
  | .hbm, ⟨6, _⟩ => ⟨S2x1536x92x128, .f32⟩
  | .hbm, ⟨7, _⟩ => ⟨S3072x11776, .f32⟩
  | .hbm, ⟨8, _⟩ => ⟨S92x1x15x1, .f32⟩
  | .hbm, ⟨9, _⟩ => ⟨S92x128x15x128, .f32⟩
  | .hbm, ⟨10, _⟩ => ⟨S11776x1920, .f32⟩
  | .hbm, ⟨11, _⟩ => ⟨S3072x11776, .fp8e4m3⟩
  | .hbm, ⟨12, _⟩ => ⟨S3072x1920, .fp8e4m3⟩
  | .hbm, ⟨13, _⟩ => ⟨S3072x1, .f32⟩
  | .hbm, ⟨14, _⟩ => ⟨S2x1536x1920, .fp8e4m3⟩
  | .hbm, ⟨15, _⟩ => ⟨S2x1536, .f32⟩
  | .local _ .vmem, ⟨0, _⟩ => ⟨S3072x11776, .fp8e4m3⟩
  | .local _ .vmem, ⟨1, _⟩ => ⟨S3072x11776, .f32⟩
  | .local _ .vmem, ⟨2, _⟩ => ⟨S11776x1920, .fp8e4m3⟩
  | .local _ .vmem, ⟨3, _⟩ => ⟨S11776x1920, .f32⟩
  | .local _ .vmem, ⟨4, _⟩ => ⟨S1x254, .f32⟩
  | .local _ .vmem, ⟨5, _⟩ => ⟨S3072x1920, .fp8e4m3⟩
  | .local _ .vmem, ⟨6, _⟩ => ⟨S3072x1, .f32⟩
  | _, _ => ⟨S2x1536x11776, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x11776 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x11776 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11776x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11776x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x254 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Steps.lean ====
/- The kernel's program written over its concrete buffers as a chain of a few repeated steps, each a
   function of what comes after it. `Bridge` shows that the printed kernel is this program. -/
module

public import proofs.«01_k».proof.Proof.Gen.Kernel.Skeleton
public import Idealize.ShloMosaic.Lib.Mxu.Lemmas

@[expose] public section

set_option synthInstance.maxSize 4096

noncomputable section

namespace Cert.Kernel.V

open Idealize.ShloMosaic Idealize.SL.Sem Cert.Kernel.Gen

variable {F : FTy → Type} [FloatOps F]

/-- A program of the kernel's core. -/
abbrev PP (F : FTy → Type) [FloatOps F] (α : Type) := Prog (TpuEff nD τ sig (Elt F) Λ₀ .tc) α

variable {α : Type}

abbrev xM : Memref sig .tc .hbm S3072x11776 .fp8e4m3 := Memref.whole main_v0
abbrev xsM : Memref sig .tc .hbm S92x2x1536 .f32 := Memref.whole main_v1
abbrev wM : Memref sig .tc .hbm S11776x1920 .fp8e4m3 := Memref.whole main_arg2
abbrev wsM : Memref sig .tc .hbm S15x92 .f32 := Memref.whole main_v2
abbrev yM : Memref sig .tc .hbm S3072x1920 .fp8e4m3 := Memref.whole main_v3_0
abbrev ysM : Memref sig .tc .hbm S2x1536 .f32 := Memref.whole main_v3_1
abbrev wtM : Memref sig .tc .vmem S1920x11776 .bf16 := Memref.whole cc0_scratch0
abbrev stM : Memref sig .tc .vmem S6x256x1920 .fp8e4m3 := Memref.whole cc0_scratch1
abbrev xbM : Memref sig .tc .vmem S2x256x11776 .fp8e4m3 := Memref.whole cc0_scratch2
abbrev rawM : Memref sig .tc .vmem S92x256 .f32 := Memref.whole cc0_scratch3
abbrev scM : Memref sig .tc .vmem S2x256x128 .f32 := Memref.whole cc0_scratch4
abbrev smM : Memref sig .tc .smem S15x92 .f32 := Memref.whole cc0_scratch5
abbrev actM : Memref sig .tc .vmem S1920x256 .f32 := Memref.whole cc0_scratch6
abbrev mxM : Memref sig .tc .vmem S8x256 .f32 := Memref.whole cc0_scratch7
abbrev invM : Memref sig .tc .vmem S8x256 .f32 := Memref.whole cc0_scratch8
abbrev outM : Memref sig .tc .vmem S2x256x1920 .fp8e4m3 := Memref.whole cc0_scratch9
abbrev oscM : Memref sig .tc .vmem S2x1536 .f32 := Memref.whole cc0_scratch10

/-! ## The matrix unit -/

/-- A tile of weights read at `o` and accumulated at piece `p` of unit `q`, by the tile register 0 holds. -/
structure AccO where
  q : Fin 2
  A : Nat
  fits : Mxu.Fits A 96
  o : Fin 2 → Nat
  h : ∀ a, o a + S96x256.size a ≤ S1920x11776.size a

/-- The accumulate that first loads register 0's tile into the unit. -/
def accF (a : AccO) (m : Mxu F) (K : Mxu F → PP F α) : PP F α :=
  .op (.load wtM (Rect.unit (s := S1920x11776) a.o S96x256.size a.h).toLoadRect (View.loadsAt_vmem h_S96x256)) fun (v : Vec F S96x256 .bf16) =>
    K (m.accLhs a.q 0 a.A (M := 96) (φ := .bf16) v a.fits)

/-- The accumulate by the tile already loaded. -/
def accL (a : AccO) (m : Mxu F) (K : Mxu F → PP F α) : PP F α :=
  .op (.load wtM (Rect.unit (s := S1920x11776) a.o S96x256.size a.h).toLoadRect (View.loadsAt_vmem h_S96x256)) fun (v : Vec F S96x256 .bf16) =>
    m.accLhsLoaded a.q a.A (M := 96) (φ := .bf16) v a.fits >>= K

/-- Accumulates in a row. -/
def accLs : List AccO → Mxu F → (Mxu F → PP F α) → PP F α
  | [], m, K => K m
  | a :: L, m, K => accL a m fun m => accLs L m K

/-- The tile of activations, from the transposed scales of its slot, the lanes `g0` and `g1` and the two blocks of codes. -/
def tile (v : Vec F S1x256x128 .f32) (g0 : BitVec 32) (a : Vec F S1x256x128 .fp8e4m3) (g1 : BitVec 32)
    (b : Vec F S1x256x128 .fp8e4m3) : FVec F S256x256 .bf16 :=
  concatenate S256x256 1
    [⟨S256x128, half v g0 a⟩, ⟨S256x128, half v g1 b⟩] concatenates_S256x128_S256x128_S256x256_d1
where
  /-- One block of codes, each by its token's scale of group `g`. -/
  half (v : Vec F S1x256x128 .f32) (g : BitVec 32) (a : Vec F S1x256x128 .fp8e4m3) : FVec F S256x128 .bf16 :=
    mulf (extf .bf16 (shapeCast S256x128 a shapeCasts_S1x256x128_S256x128) bitsLt_fp8e4m3_bf16)
      (truncf .bf16 (dynamicGather 1 (shapeCast S256x128 v shapeCasts_S1x256x128_S256x128)
        (shapeCast S256x128 (shapeCast S256x128x1 (lane g) shapeCasts_S256x128_S256x128x1) shapeCasts_S256x128x1_S256x128))
        bitsLt_bf16_f32)
  /-- The lane index of group `g`, wrapped when negative. -/
  lane (g : BitVec 32) : IVec S256x128 32 :=
    select (cmpi .slt (broadcast S256x128 g) (broadcast S256x128 0#32))
      (addi (broadcast S256x128 g) (broadcast S256x128 128#32)) (broadcast S256x128 g)

/-- Where a pushed tile is read: its scales, its two blocks of codes, and the two groups' numbers. -/
structure PushO where
  o10 : Fin 3 → Nat
  h10 : ∀ a, o10 a + S1x256x128.size a ≤ S2x256x128.size a
  g0 : BitVec 32
  oa : Fin 3 → Nat
  ha : ∀ a, oa a + S1x256x128.size a ≤ S2x256x11776.size a
  g1 : BitVec 32
  ob : Fin 3 → Nat
  hb : ∀ a, ob a + S1x256x128.size a ≤ S2x256x11776.size a

/-- The activation tile built and pushed onto register 0 of both units. -/
def push (p : PushO) (m : Mxu F) (K : Mxu F → PP F α) : PP F α :=
  .op (.load scM (Rect.unit (s := S2x256x128) p.o10 S1x256x128.size p.h10).toLoadRect (View.loadsAt_vmem h_S1x256x128)) fun v =>
  .op (.load xbM (Rect.unit (s := S2x256x11776) p.oa S1x256x128.size p.ha).toLoadRect (View.loadsAt_vmem h_S1x256x128)) fun a =>
  .op (.load xbM (Rect.unit (s := S2x256x11776) p.ob S1x256x128.size p.hb).toLoadRect (View.loadsAt_vmem h_S1x256x128)) fun b =>
  m.pushRhs 0 0 true (tile v p.g0 a p.g1 b) >>= fun m =>
  m.pushRhs 1 0 true (tile v p.g0 a p.g1 b) >>= K

/-! ## The weights -/

/-- One block of weights: two blocks of codes, each by its scale, transposed and side by side. -/
def wblock (a : Vec F S1x128x128 .fp8e4m3) (s : Elt F .f32) (b : Vec F S1x128x128 .fp8e4m3) (t : Elt F .f32) : FVec F S128x256 .bf16 :=
  shapeCast S128x256 (concatenate S128x256 1
    [⟨S128x128, half a s⟩, ⟨S128x128, half b t⟩] concatenates_S128x128_S128x128_S128x256_d1) shapeCasts_S128x256_S128x256
where
  /-- One block of codes by its scale, transposed. -/
  half (a : Vec F S1x128x128 .fp8e4m3) (s : Elt F .f32) : FVec F S128x128 .bf16 :=
    transpose S128x128 [1, 0]
      (mulf (extf .bf16 (shapeCast S128x128 a shapeCasts_S1x128x128_S128x128) bitsLt_fp8e4m3_bf16)
        (truncf .bf16 (broadcast S128x128 s) bitsLt_bf16_f32)) transposes_S128x128_p1_0_S128x128

/-- Where one block of weights is read and written. -/
structure PrepO where
  o1 : Fin 3 → Nat
  h1 : ∀ a, o1 a + S1x128x128.size a ≤ S6x256x1920.size a
  oa : Fin 2 → Nat
  ha : ∀ a, oa a + S1x1.size a ≤ S15x92.size a
  o2 : Fin 3 → Nat
  h2 : ∀ a, o2 a + S1x128x128.size a ≤ S6x256x1920.size a
  ob : Fin 2 → Nat
  hb : ∀ a, ob a + S1x1.size a ≤ S15x92.size a
  o3 : Fin 2 → Nat
  h3 : ∀ a, o3 a + S128x256.size a ≤ S1920x11776.size a
  hp : (Rect.unit (s := S1920x11776) o3 S128x256.size h3).PackedRows (EltTy.packing .bf16)

/-- One block of weights prepared. -/
def prep (p : PrepO) (K : PP F α) : PP F α :=
  .op (.load stM (Rect.unit (s := S6x256x1920) p.o1 S1x128x128.size p.h1).toLoadRect (View.loadsAt_vmem h_S1x128x128)) fun a =>
  smemLoad smM (Rect.unit (s := S15x92) p.oa S1x1.size p.ha) numel1_S1x1 rfl >>= fun s =>
  .op (.load stM (Rect.unit (s := S6x256x1920) p.o2 S1x128x128.size p.h2).toLoadRect (View.loadsAt_vmem h_S1x128x128)) fun b =>
  smemLoad smM (Rect.unit (s := S15x92) p.ob S1x1.size p.hb) numel1_S1x1 rfl >>= fun t =>
  .op (.load wtM (Rect.unit (s := S1920x11776) p.o3 S128x256.size p.h3).toLoadRect (View.loadsAt_vmem h_S128x256)) fun _ =>
  .op (.store wtM (Rect.unit (s := S1920x11776) p.o3 S128x256.size p.h3) (wblock a s b t) Finset.univ
    (View.stores_vmem h_S128x256 ((Memref.isWhole_whole _).storeExact_slice rfl _ p.hp) (fun _ => rfl)) (.inl rfl)) fun _ => K

/-- Blocks of weights prepared in a row. -/
def preps : List PrepO → PP F α → PP F α
  | [], K => K
  | p :: L, K => prep p (preps L K)

/-! ## Copies -/

/-- A slot of the weight staging buffer, and the rows of the weights it takes. -/
structure WO where
  os : Fin 1 → Nat
  hs : ∀ a, os a + S1.size a ≤ S6.size a
  o7 : Fin 3 → Nat
  h7 : ∀ a, o7 a + S1x256x1920.size a ≤ S6x256x1920.size a
  p7 : (Rect.unit (s := S6x256x1920) o7 S1x256x1920.size h7).WholeWords (EltTy.packing .fp8e4m3)
  o2 : Fin 2 → Nat
  h2 : ∀ a, o2 a + S256x1920.size a ≤ S11776x1920.size a
  p2 : (Rect.unit (s := S11776x1920) o2 S256x1920.size h2).WholeWords (EltTy.packing .fp8e4m3)

abbrev WO.sem (w : WO) : DmaSem sig :=
  ((cc0_scratch11.slice (Rect.unit (s := S6) w.os S1.size w.hs)).squeeze S_ squeezes_S1_S_).sem
abbrev WO.dst (w : WO) : Memref sig .tc .vmem S256x1920 .fp8e4m3 :=
  (stM.slice (Rect.unit (s := S6x256x1920) w.o7 S1x256x1920.size w.h7) (fun _ => rfl)).squeeze S256x1920 squeezes_S1x256x1920_S256x1920
abbrev WO.src (w : WO) : Memref sig .tc .hbm S256x1920 .fp8e4m3 :=
  wM.slice (Rect.unit (s := S11776x1920) w.o2 S256x1920.size w.h2) (fun _ => rfl)

def wStart (w : WO) (K : PP F α) : PP F α :=
  .op (.enqueueDma w.src (.here w.dst) (.dma w.sem) ((Memref.isWhole_whole _).wordExact_slice rfl _ w.p2)
    (((Memref.isWhole_whole _).wordExact_slice rfl _ w.p7).reshape _ _) ⟨Or.inl rfl, trivial⟩) fun _ => K

def wWait (w : WO) (K : PP F α) : PP F α :=
  .op (.waitDma2 w.sem w.src w.dst ((Memref.isWhole_whole _).wordExact_slice rfl _ w.p2)
    (((Memref.isWhole_whole _).wordExact_slice rfl _ w.p7).reshape _ _)) fun _ => K

/-- The token scales of one row of tiles, into the raw buffer. -/
structure XsO where
  o : Fin 3 → Nat
  h : ∀ a, o a + S92x1x256.size a ≤ S92x2x1536.size a

abbrev XsO.src (x : XsO) : Memref sig .tc .hbm S92x256 .f32 :=
  (xsM.slice (Rect.unit (s := S92x2x1536) x.o S92x1x256.size x.h) (fun _ => rfl)).squeeze S92x256 squeezes_S92x1x256_S92x256

def xsStart (x : XsO) (K : PP F α) : PP F α :=
  .op (.enqueueDma x.src (.here rawM) (.dma cc0_scratch14.sem) ((View.wordExact_bits rfl).reshape _ _)
    (Memref.isWhole_whole _).wordExact ⟨Or.inl rfl, trivial⟩) fun _ => K

def xsWait (x : XsO) (K : PP F α) : PP F α :=
  .op (.waitDma2 cc0_scratch14.sem x.src rawM ((View.wordExact_bits rfl).reshape _ _) (Memref.isWhole_whole _).wordExact) fun _ => K

/-- A slot of the activation buffer and the rows of the activations it takes. -/
structure XO where
  os : Fin 1 → Nat
  hs : ∀ a, os a + S1.size a ≤ S2.size a
  o8 : Fin 3 → Nat
  h8 : ∀ a, o8 a + S1x256x11776.size a ≤ S2x256x11776.size a
  p8 : (Rect.unit (s := S2x256x11776) o8 S1x256x11776.size h8).WholeWords (EltTy.packing .fp8e4m3)
  o0 : Fin 2 → Nat
  h0 : ∀ a, o0 a + S256x11776.size a ≤ S3072x11776.size a
  p0 : (Rect.unit (s := S3072x11776) o0 S256x11776.size h0).WholeWords (EltTy.packing .fp8e4m3)

abbrev XO.sem (x : XO) : DmaSem sig :=
  ((cc0_scratch13.slice (Rect.unit (s := S2) x.os S1.size x.hs)).squeeze S_ squeezes_S1_S_).sem
abbrev XO.dst (x : XO) : Memref sig .tc .vmem S256x11776 .fp8e4m3 :=
  (xbM.slice (Rect.unit (s := S2x256x11776) x.o8 S1x256x11776.size x.h8) (fun _ => rfl)).squeeze S256x11776 squeezes_S1x256x11776_S256x11776
abbrev XO.src (x : XO) : Memref sig .tc .hbm S256x11776 .fp8e4m3 :=
  xM.slice (Rect.unit (s := S3072x11776) x.o0 S256x11776.size x.h0) (fun _ => rfl)

def xStart (x : XO) (K : PP F α) : PP F α :=
  .op (.enqueueDma x.src (.here x.dst) (.dma x.sem) ((Memref.isWhole_whole _).wordExact_slice rfl _ x.p0)
    (((Memref.isWhole_whole _).wordExact_slice rfl _ x.p8).reshape _ _) ⟨Or.inl rfl, trivial⟩) fun _ => K

def xWait (x : XO) (K : PP F α) : PP F α :=
  .op (.waitDma2 x.sem x.src x.dst ((Memref.isWhole_whole _).wordExact_slice rfl _ x.p0)
    (((Memref.isWhole_whole _).wordExact_slice rfl _ x.p8).reshape _ _)) fun _ => K

/-- A slot of the result buffer and the rows of the result it fills. -/
structure YO where
  os : Fin 1 → Nat
  hs : ∀ a, os a + S1.size a ≤ S2.size a
  o4 : Fin 2 → Nat
  h4 : ∀ a, o4 a + S256x1920.size a ≤ S3072x1920.size a
  p4 : (Rect.unit (s := S3072x1920) o4 S256x1920.size h4).WholeWords (EltTy.packing .fp8e4m3)
  oo : Fin 3 → Nat
  ho : ∀ a, oo a + S1x256x1920.size a ≤ S2x256x1920.size a
  po : (Rect.unit (s := S2x256x1920) oo S1x256x1920.size ho).WholeWords (EltTy.packing .fp8e4m3)

abbrev YO.sem (y : YO) : DmaSem sig :=
  ((cc0_scratch16.slice (Rect.unit (s := S2) y.os S1.size y.hs)).squeeze S_ squeezes_S1_S_).sem
abbrev YO.dst (y : YO) : Memref sig .tc .hbm S256x1920 .fp8e4m3 :=
  yM.slice (Rect.unit (s := S3072x1920) y.o4 S256x1920.size y.h4) (fun _ => rfl)
abbrev YO.src (y : YO) : Memref sig .tc .vmem S256x1920 .fp8e4m3 :=
  (outM.slice (Rect.unit (s := S2x256x1920) y.oo S1x256x1920.size y.ho) (fun _ => rfl)).squeeze S256x1920 squeezes_S1x256x1920_S256x1920

def yStart (y : YO) (K : PP F α) : PP F α :=
  .op (.enqueueDma y.src (.here y.dst) (.dma y.sem) (((Memref.isWhole_whole _).wordExact_slice rfl _ y.po).reshape _ _)
    ((Memref.isWhole_whole _).wordExact_slice rfl _ y.p4) ⟨Or.inl rfl, trivial⟩) fun _ => K

def yWait (y : YO) (K : PP F α) : PP F α :=
  .op (.waitDma2 y.sem y.src y.dst (((Memref.isWhole_whole _).wordExact_slice rfl _ y.po).reshape _ _)
    ((Memref.isWhole_whole _).wordExact_slice rfl _ y.p4)) fun _ => K

abbrev xhDst : Memref sig .tc .vmem S256x512 .fp8e4m3 :=
  (xbM.slice (Rect.unit (s := S2x256x11776) ![0, 0, 0] S1x256x512.size inb_S2x256x11776_S1x256x512_0_0_0) (fun _ => rfl)).squeeze S256x512 squeezes_S1x256x512_S256x512
abbrev xhSrc : Memref sig .tc .hbm S256x512 .fp8e4m3 :=
  xM.slice (Rect.unit (s := S3072x11776) ![0, 0] S256x512.size inb_S3072x11776_S256x512_0_0) (fun _ => rfl)

def xhStart (K : PP F α) : PP F α :=
  .op (.enqueueDma xhSrc (.here xhDst) (.dma cc0_scratch12.sem) ((Memref.isWhole_whole _).wordExact_slice rfl _ wordsfp8e4m3_S3072x11776_S256x512_0_0)
    (((Memref.isWhole_whole _).wordExact_slice rfl _ wordsfp8e4m3_S2x256x11776_S1x256x512_0_0_0).reshape _ _) ⟨Or.inl rfl, trivial⟩) fun _ => K

def xhWait (K : PP F α) : PP F α :=
  .op (.waitDma2 cc0_scratch12.sem xhSrc xhDst ((Memref.isWhole_whole _).wordExact_slice rfl _ wordsfp8e4m3_S3072x11776_S256x512_0_0)
    (((Memref.isWhole_whole _).wordExact_slice rfl _ wordsfp8e4m3_S2x256x11776_S1x256x512_0_0_0).reshape _ _)) fun _ => K

abbrev xrSem : DmaSem sig := ((cc0_scratch13.slice (Rect.unit (s := S2) ![0] S1.size inb_S2_S1_0)).squeeze S_ squeezes_S1_S_).sem
abbrev xrDst : Memref sig .tc .vmem S256x11264 .fp8e4m3 :=
  (xbM.slice (Rect.unit (s := S2x256x11776) ![0, 0, 512] S1x256x11264.size inb_S2x256x11776_S1x256x11264_0_0_512) (fun _ => rfl)).squeeze S256x11264 squeezes_S1x256x11264_S256x11264
abbrev xrSrc : Memref sig .tc .hbm S256x11264 .fp8e4m3 :=
  xM.slice (Rect.unit (s := S3072x11776) ![0, 512] S256x11264.size inb_S3072x11776_S256x11264_0_512) (fun _ => rfl)

def xrStart (K : PP F α) : PP F α :=
  .op (.enqueueDma xrSrc (.here xrDst) (.dma xrSem) ((Memref.isWhole_whole _).wordExact_slice rfl _ wordsfp8e4m3_S3072x11776_S256x11264_0_512)
    (((Memref.isWhole_whole _).wordExact_slice rfl _ wordsfp8e4m3_S2x256x11776_S1x256x11264_0_0_512).reshape _ _) ⟨Or.inl rfl, trivial⟩) fun _ => K

def xrWait (K : PP F α) : PP F α :=
  .op (.waitDma2 xrSem xrSrc xrDst ((Memref.isWhole_whole _).wordExact_slice rfl _ wordsfp8e4m3_S3072x11776_S256x11264_0_512)
    (((Memref.isWhole_whole _).wordExact_slice rfl _ wordsfp8e4m3_S2x256x11776_S1x256x11264_0_0_512).reshape _ _)) fun _ => K

def wsStart (K : PP F α) : PP F α :=
  .op (.enqueueDma wsM (.here smM) (.dma cc0_scratch15.sem) (Memref.isWhole_whole _).wordExact (Memref.isWhole_whole _).wordExact ⟨Or.inl rfl, trivial⟩) fun _ => K

def wsWait (K : PP F α) : PP F α :=
  .op (.waitDma2 cc0_scratch15.sem wsM smM (Memref.isWhole_whole _).wordExact (Memref.isWhole_whole _).wordExact) fun _ => K

def ysStart (K : PP F α) : PP F α :=
  .op (.enqueueDma oscM (.here ysM) (.dma cc0_scratch17.sem) (Memref.isWhole_whole _).wordExact (Memref.isWhole_whole _).wordExact ⟨Or.inl rfl, trivial⟩) fun _ => K

def ysWait (K : PP F α) : PP F α :=
  .op (.waitDma2 cc0_scratch17.sem oscM ysM (Memref.isWhole_whole _).wordExact (Memref.isWhole_whole _).wordExact) fun _ => K

/-! ## Draining, quantising -/

/-- The squared positive part of a drained piece. -/
def sq (h : FVec F S96x256 .f32) : FVec F S96x256 .f32 :=
  mulf (maximumf h (broadcast S96x256 (Scalar.ofBits .f32 0x00000000#32))) (maximumf h (broadcast S96x256 (Scalar.ofBits .f32 0x00000000#32)))

/-- The largest of a drained piece, eight rows at a time. -/
def top (h : FVec F S96x256 .f32) : FVec F S8x256 .f32 :=
  multiReduction .maximumf [0] S8x256 (shapeCast S12x8x256 (sq h) shapeCasts_S96x256_S12x8x256) 0xFF800000#32 reduces_S12x8x256_S8x256 (.inl rfl) rfl

/-- The two units' address and rows of one piece. -/
structure DrO where
  q : Fin 2
  A : Nat
  fits : Mxu.Fits A 96
  o : Fin 2 → Nat
  h : ∀ a, o a + S96x256.size a ≤ S1920x256.size a

/-- One piece drained: its value squared and stored. -/
def drain (d : DrO) (m : Mxu F) (K : FVec F S96x256 .f32 → Mxu F → PP F α) : PP F α :=
  .op (.load actM (Rect.unit (s := S1920x256) d.o S96x256.size d.h).toLoadRect (View.loadsAt_vmem h_S96x256)) fun _ =>
  .op (.store actM (Rect.unit (s := S1920x256) d.o S96x256.size d.h) (shapeCast S96x256 (sq (m.read d.q d.A (M := 96) d.fits)) shapeCasts_S96x256_S96x256)
    Finset.univ (View.stores_vmem_bits_univ h_S96x256 rfl) (.inl rfl)) fun _ =>
  K (m.read d.q d.A (M := 96) d.fits) (m.pop d.q d.A 96 d.fits)

def storeMax (v : FVec F S8x256 .f32) (K : PP F α) : PP F α :=
  .op (.load mxM (Rect.unit (s := S8x256) ![0, 0] S8x256.size inb_S8x256_S8x256_0_0).toLoadRect (View.loadsAt_vmem h_S8x256)) fun _ =>
  .op (.store mxM (Rect.unit (s := S8x256) ![0, 0] S8x256.size inb_S8x256_S8x256_0_0) (shapeCast S8x256 v shapeCasts_S8x256_S8x256)
    Finset.univ (View.stores_vmem_bits_univ h_S8x256 rfl) (.inl rfl)) fun _ => K

/-- Scales of a tile padded and transposed. -/
def turned (v : Vec F S92x256 .f32) : FVec F S1x256x128 .f32 :=
  shapeCast S1x256x128 (transpose S256x128 [1, 0] (concatenate S128x256 0
    [⟨S92x256, v⟩, ⟨S36x256, broadcast S36x256 (Scalar.ofBits .f32 0x00000000#32)⟩] concatenates_S92x256_S36x256_S128x256_d0)
    transposes_S128x256_p1_0_S256x128) shapeCasts_S256x128_S1x256x128

structure TrO where
  o : Fin 3 → Nat
  h : ∀ a, o a + S1x256x128.size a ≤ S2x256x128.size a

def turn (p : TrO) (K : PP F α) : PP F α :=
  .op (.load rawM (Rect.unit (s := S92x256) ![0, 0] S92x256.size inb_S92x256_S92x256_0_0).toLoadRect (View.loadsAt_vmem h_S92x256)) fun v =>
  .op (.load scM (Rect.unit (s := S2x256x128) p.o S1x256x128.size p.h).toLoadRect (View.loadsAt_vmem h_S1x256x128)) fun _ =>
  .op (.store scM (Rect.unit (s := S2x256x128) p.o S1x256x128.size p.h) (turned v)
    Finset.univ (View.stores_vmem_bits_univ h_S1x256x128 rfl) (.inl rfl)) fun _ => K

def zeroOsc (K : PP F α) : PP F α :=
  .op (.load oscM (Rect.unit (s := S2x1536) ![0, 0] S2x1536.size inb_S2x1536_S2x1536_0_0).toLoadRect (View.loadsAt_vmem h_S2x1536)) fun _ =>
  .op (.store oscM (Rect.unit (s := S2x1536) ![0, 0] S2x1536.size inb_S2x1536_S2x1536_0_0) (k0_pay277 (F := F))
    Finset.univ (View.stores_vmem_bits_univ h_S2x1536 rfl) (.inl rfl)) fun _ => K

/-- One block quantised: scaled, clipped, rounded to eight bits, transposed. -/
def quant (v : Vec F S128x256 .f32) (w : Vec F S8x256 .f32) : FVec F S1x256x128 .fp8e4m3 :=
  k0_pay105 (k0_pay104 v w)

structure QO where
  o : Fin 2 → Nat
  h : ∀ a, o a + S128x256.size a ≤ S1920x256.size a
  oo : Fin 3 → Nat
  ho : ∀ a, oo a + S1x256x128.size a ≤ S2x256x1920.size a
  po : (Rect.unit (s := S2x256x1920) oo S1x256x128.size ho).PackedRows (EltTy.packing .fp8e4m3)

def quantise (q : QO) (K : PP F α) : PP F α :=
  .op (.load actM (Rect.unit (s := S1920x256) q.o S128x256.size q.h).toLoadRect (View.loadsAt_vmem h_S128x256)) fun v =>
  .op (.load invM (Rect.unit (s := S8x256) ![0, 0] S8x256.size inb_S8x256_S8x256_0_0).toLoadRect (View.loadsAt_vmem h_S8x256)) fun w =>
  .op (.load outM (Rect.unit (s := S2x256x1920) q.oo S1x256x128.size q.ho).toLoadRect (View.loadsAt_vmem h_S1x256x128)) fun _ =>
  .op (.store outM (Rect.unit (s := S2x256x1920) q.oo S1x256x128.size q.ho) (quant v w)
    Finset.univ (View.stores_vmem h_S1x256x128 ((Memref.isWhole_whole _).storeExact_slice rfl _ q.po) (fun _ => rfl)) (.inl rfl)) fun _ => K

/-! ## The scale -/

/-- The tile's largest value, and the same over 448. -/
def amaxOf (v : Vec F S8x256 .f32) : FVec F S1x256 .f32 := k0_pay264 v
def mOf (v : Vec F S8x256 .f32) : FVec F S1x256 .f32 := k0_pay265 v
/-- The exponent field found by trying its bits from the top. -/
def fieldOf (v : Vec F S8x256 .f32) : IVec S1x256 32 := k0_pay269 (mOf v) (k0_pay266 v) (k0_pay267 v) (k0_pay268 v)
/-- The scale's exponent. -/
def expOf (v : Vec F S8x256 .f32) : IVec S1x256 32 :=
  k0_pay273 (k0_pay270 (amaxOf v) (mOf v) (k0_pay266 v) (k0_pay267 v) (k0_pay268 v)) (k0_pay271 (mOf v) (k0_pay266 v) (k0_pay267 v) (k0_pay268 v)) k0_pay272
def scaleOf (v : Vec F S8x256 .f32) : FVec F S1x256 .f32 :=
  bitcastToFloat .f32 (shli (addi (expOf v) (broadcast S1x256 127#32)) (broadcast S1x256 23#32))
def invOf (v : Vec F S8x256 .f32) : FVec F S8x256 .f32 :=
  shapeCast S8x256 (broadcastTo S8x256 (shapeCast S1x256
    (bitcastToFloat .f32 (shli (subi (broadcast S1x256 127#32) (expOf v)) (broadcast S1x256 23#32))) shapeCasts_S1x256_S1x256) broadcasts_S1x256_S8x256) shapeCasts_S8x256_S8x256
/-- The scales' buffer's two rows with row `r` replaced by the scale. -/
def oscOf (r : BitVec 32) (v : Vec F S8x256 .f32) (w : Vec F S2x256 .f32) : FVec F S2x256 .f32 :=
  shapeCast S2x256 (select (cmpi .eq (iota .tc S2x256 32 [0] iota_S2x256_d0_w32) (broadcast S2x256 r))
    (broadcastTo S2x256 (shapeCast S1x256 (scaleOf v) shapeCasts_S1x256_S1x256) broadcasts_S1x256_S2x256) w) shapeCasts_S2x256_S2x256

structure FsO where
  o : Fin 2 → Nat
  h : ∀ a, o a + S2x256.size a ≤ S2x1536.size a
  r : BitVec 32

def findScale (p : FsO) (K : PP F α) : PP F α :=
  .op (.load mxM (Rect.unit (s := S8x256) ![0, 0] S8x256.size inb_S8x256_S8x256_0_0).toLoadRect (View.loadsAt_vmem h_S8x256)) fun v =>
  .op (.load invM (Rect.unit (s := S8x256) ![0, 0] S8x256.size inb_S8x256_S8x256_0_0).toLoadRect (View.loadsAt_vmem h_S8x256)) fun _ =>
  .op (.store invM (Rect.unit (s := S8x256) ![0, 0] S8x256.size inb_S8x256_S8x256_0_0) (invOf v)
    Finset.univ (View.stores_vmem_bits_univ h_S8x256 rfl) (.inl rfl)) fun _ =>
  .op (.load oscM (Rect.unit (s := S2x1536) p.o S2x256.size p.h).toLoadRect (View.loadsAt_vmem h_S2x256)) fun w =>
  .op (.load oscM (Rect.unit (s := S2x1536) p.o S2x256.size p.h).toLoadRect (View.loadsAt_vmem h_S2x256)) fun _ =>
  .op (.store oscM (Rect.unit (s := S2x1536) p.o S2x256.size p.h) (oscOf p.r v w)
    Finset.univ (View.stores_vmem_bits_univ h_S2x256 rfl) (.inl rfl)) fun _ => K

end Cert.Kernel.V
-- ==== Proof.Prog.lean ====
/- The kernel's program: the prepared passes, the trips over a tile, the tiles, and the whole. -/
module

public import proofs.«01_k».proof.Proof.Steps

@[expose] public section

set_option synthInstance.maxSize 4096
set_option maxRecDepth 4096

noncomputable section

namespace Cert.Kernel.V

open Idealize.ShloMosaic Idealize.SL.Sem Cert.Kernel.Gen

variable {F : FTy → Type} [FloatOps F]
variable {α : Type}

/-- Do `f` first if `c` holds. -/
def iff {c : Prop} [Decidable c] (f : c → PP F α → PP F α) (K : PP F α) : PP F α :=
  if h : c then f h K else K

/-- The same, of a part that goes on from the matrix unit. -/
def iffm {c : Prop} [Decidable c] (f : c → Mxu F → (Mxu F → PP F α) → PP F α) (m : Mxu F) (K : Mxu F → PP F α) : PP F α :=
  if h : c then f h m K else K m

/-- Step `j` of trip `t` of the prepared passes: the next pass's weights, this pass's products, the next tile pushed. -/
def step1 (k0_t1 : Fin k0_t1_loop.trips) (j : Fin 3) (m : Mxu F) (K : Mxu F → PP F α) : PP F α :=
  preps [
    ⟨(k0_off8 k0_t1 (BitVec.ofNat 32 j.val)), (k0_off8_inb k0_t1 j), (k0_off9 k0_t1 (BitVec.ofNat 32 j.val) 0#32), (k0_off9_inb k0_t1 j 0), (k0_off10 k0_t1 (BitVec.ofNat 32 j.val)), (k0_off10_inb k0_t1 j), (k0_off9 k0_t1 (BitVec.ofNat 32 j.val) 1#32), (k0_off9_inb k0_t1 j 1), (k0_off11 k0_t1 (BitVec.ofNat 32 j.val)), (k0_off11_inb k0_t1 j), (k0_off11_packedbf16 k0_t1 j)⟩,
    ⟨(k0_off12 k0_t1 (BitVec.ofNat 32 j.val)), (k0_off12_inb k0_t1 j), (k0_off13 k0_t1 (BitVec.ofNat 32 j.val) 0#32), (k0_off13_inb k0_t1 j 0), (k0_off14 k0_t1 (BitVec.ofNat 32 j.val)), (k0_off14_inb k0_t1 j), (k0_off13 k0_t1 (BitVec.ofNat 32 j.val) 1#32), (k0_off13_inb k0_t1 j 1), (k0_off15 k0_t1 (BitVec.ofNat 32 j.val)), (k0_off15_inb k0_t1 j), (k0_off15_packedbf16 k0_t1 j)⟩,
    ⟨(k0_off16 k0_t1 (BitVec.ofNat 32 j.val)), (k0_off16_inb k0_t1 j), (k0_off17 k0_t1 (BitVec.ofNat 32 j.val) 0#32), (k0_off17_inb k0_t1 j 0), (k0_off18 k0_t1 (BitVec.ofNat 32 j.val)), (k0_off18_inb k0_t1 j), (k0_off17 k0_t1 (BitVec.ofNat 32 j.val) 1#32), (k0_off17_inb k0_t1 j 1), (k0_off19 k0_t1 (BitVec.ofNat 32 j.val)), (k0_off19_inb k0_t1 j), (k0_off19_packedbf16 k0_t1 j)⟩,
    ⟨(k0_off20 k0_t1 (BitVec.ofNat 32 j.val)), (k0_off20_inb k0_t1 j), (k0_off21 k0_t1 (BitVec.ofNat 32 j.val) 0#32), (k0_off21_inb k0_t1 j 0), (k0_off22 k0_t1 (BitVec.ofNat 32 j.val)), (k0_off22_inb k0_t1 j), (k0_off21 k0_t1 (BitVec.ofNat 32 j.val) 1#32), (k0_off21_inb k0_t1 j 1), (k0_off23 k0_t1 (BitVec.ofNat 32 j.val)), (k0_off23_inb k0_t1 j), (k0_off23_packedbf16 k0_t1 j)⟩,
    ⟨(k0_off24 k0_t1 (BitVec.ofNat 32 j.val)), (k0_off24_inb k0_t1 j), (k0_off25 k0_t1 (BitVec.ofNat 32 j.val) 0#32), (k0_off25_inb k0_t1 j 0), (k0_off26 k0_t1 (BitVec.ofNat 32 j.val)), (k0_off26_inb k0_t1 j), (k0_off25 k0_t1 (BitVec.ofNat 32 j.val) 1#32), (k0_off25_inb k0_t1 j 1), (k0_off27 k0_t1 (BitVec.ofNat 32 j.val)), (k0_off27_inb k0_t1 j), (k0_off27_packedbf16 k0_t1 j)⟩,
    ⟨(k0_off28 k0_t1 (BitVec.ofNat 32 j.val)), (k0_off28_inb k0_t1 j), (k0_off29 k0_t1 (BitVec.ofNat 32 j.val) 0#32), (k0_off29_inb k0_t1 j 0), (k0_off30 k0_t1 (BitVec.ofNat 32 j.val)), (k0_off30_inb k0_t1 j), (k0_off29 k0_t1 (BitVec.ofNat 32 j.val) 1#32), (k0_off29_inb k0_t1 j 1), (k0_off31 k0_t1 (BitVec.ofNat 32 j.val)), (k0_off31_inb k0_t1 j), (k0_off31_packedbf16 k0_t1 j)⟩,
    ⟨(k0_off32 k0_t1 (BitVec.ofNat 32 j.val)), (k0_off32_inb k0_t1 j), (k0_off33 k0_t1 (BitVec.ofNat 32 j.val) 0#32), (k0_off33_inb k0_t1 j 0), (k0_off34 k0_t1 (BitVec.ofNat 32 j.val)), (k0_off34_inb k0_t1 j), (k0_off33 k0_t1 (BitVec.ofNat 32 j.val) 1#32), (k0_off33_inb k0_t1 j 1), (k0_off35 k0_t1 (BitVec.ofNat 32 j.val)), (k0_off35_inb k0_t1 j), (k0_off35_packedbf16 k0_t1 j)⟩,
    ⟨(k0_off36 k0_t1 (BitVec.ofNat 32 j.val)), (k0_off36_inb k0_t1 j), (k0_off37 k0_t1 (BitVec.ofNat 32 j.val) 0#32), (k0_off37_inb k0_t1 j 0), (k0_off38 k0_t1 (BitVec.ofNat 32 j.val)), (k0_off38_inb k0_t1 j), (k0_off37 k0_t1 (BitVec.ofNat 32 j.val) 1#32), (k0_off37_inb k0_t1 j 1), (k0_off39 k0_t1 (BitVec.ofNat 32 j.val)), (k0_off39_inb k0_t1 j), (k0_off39_packedbf16 k0_t1 j)⟩,
    ⟨(k0_off40 k0_t1 (BitVec.ofNat 32 j.val)), (k0_off40_inb k0_t1 j), (k0_off41 k0_t1 (BitVec.ofNat 32 j.val) 0#32), (k0_off41_inb k0_t1 j 0), (k0_off42 k0_t1 (BitVec.ofNat 32 j.val)), (k0_off42_inb k0_t1 j), (k0_off41 k0_t1 (BitVec.ofNat 32 j.val) 1#32), (k0_off41_inb k0_t1 j 1), (k0_off43 k0_t1 (BitVec.ofNat 32 j.val)), (k0_off43_inb k0_t1 j), (k0_off43_packedbf16 k0_t1 j)⟩,
    ⟨(k0_off44 k0_t1 (BitVec.ofNat 32 j.val)), (k0_off44_inb k0_t1 j), (k0_off45 k0_t1 (BitVec.ofNat 32 j.val) 0#32), (k0_off45_inb k0_t1 j 0), (k0_off46 k0_t1 (BitVec.ofNat 32 j.val)), (k0_off46_inb k0_t1 j), (k0_off45 k0_t1 (BitVec.ofNat 32 j.val) 1#32), (k0_off45_inb k0_t1 j 1), (k0_off47 k0_t1 (BitVec.ofNat 32 j.val)), (k0_off47_inb k0_t1 j), (k0_off47_packedbf16 k0_t1 j)⟩,
    ⟨(k0_off48 k0_t1 (BitVec.ofNat 32 j.val)), (k0_off48_inb k0_t1 j), (k0_off49 k0_t1 (BitVec.ofNat 32 j.val) 0#32), (k0_off49_inb k0_t1 j 0), (k0_off50 k0_t1 (BitVec.ofNat 32 j.val)), (k0_off50_inb k0_t1 j), (k0_off49 k0_t1 (BitVec.ofNat 32 j.val) 1#32), (k0_off49_inb k0_t1 j 1), (k0_off51 k0_t1 (BitVec.ofNat 32 j.val)), (k0_off51_inb k0_t1 j), (k0_off51_packedbf16 k0_t1 j)⟩,
    ⟨(k0_off52 k0_t1 (BitVec.ofNat 32 j.val)), (k0_off52_inb k0_t1 j), (k0_off53 k0_t1 (BitVec.ofNat 32 j.val) 0#32), (k0_off53_inb k0_t1 j 0), (k0_off54 k0_t1 (BitVec.ofNat 32 j.val)), (k0_off54_inb k0_t1 j), (k0_off53 k0_t1 (BitVec.ofNat 32 j.val) 1#32), (k0_off53_inb k0_t1 j 1), (k0_off55 k0_t1 (BitVec.ofNat 32 j.val)), (k0_off55_inb k0_t1 j), (k0_off55_packedbf16 k0_t1 j)⟩,
    ⟨(k0_off56 k0_t1 (BitVec.ofNat 32 j.val)), (k0_off56_inb k0_t1 j), (k0_off57 k0_t1 (BitVec.ofNat 32 j.val) 0#32), (k0_off57_inb k0_t1 j 0), (k0_off58 k0_t1 (BitVec.ofNat 32 j.val)), (k0_off58_inb k0_t1 j), (k0_off57 k0_t1 (BitVec.ofNat 32 j.val) 1#32), (k0_off57_inb k0_t1 j 1), (k0_off59 k0_t1 (BitVec.ofNat 32 j.val)), (k0_off59_inb k0_t1 j), (k0_off59_packedbf16 k0_t1 j)⟩,
    ⟨(k0_off60 k0_t1 (BitVec.ofNat 32 j.val)), (k0_off60_inb k0_t1 j), (k0_off61 k0_t1 (BitVec.ofNat 32 j.val) 0#32), (k0_off61_inb k0_t1 j 0), (k0_off62 k0_t1 (BitVec.ofNat 32 j.val)), (k0_off62_inb k0_t1 j), (k0_off61 k0_t1 (BitVec.ofNat 32 j.val) 1#32), (k0_off61_inb k0_t1 j 1), (k0_off63 k0_t1 (BitVec.ofNat 32 j.val)), (k0_off63_inb k0_t1 j), (k0_off63_packedbf16 k0_t1 j)⟩,
    ⟨(k0_off64 k0_t1 (BitVec.ofNat 32 j.val)), (k0_off64_inb k0_t1 j), (k0_off65 k0_t1 (BitVec.ofNat 32 j.val) 0#32), (k0_off65_inb k0_t1 j 0), (k0_off66 k0_t1 (BitVec.ofNat 32 j.val)), (k0_off66_inb k0_t1 j), (k0_off65 k0_t1 (BitVec.ofNat 32 j.val) 1#32), (k0_off65_inb k0_t1 j 1), (k0_off67 k0_t1 (BitVec.ofNat 32 j.val)), (k0_off67_inb k0_t1 j), (k0_off67_packedbf16 k0_t1 j)⟩] <|
  accF ⟨0, 0, fits_0_96, (k0_off68 k0_t1 (BitVec.ofNat 32 j.val)), (k0_off68_inb k0_t1 j)⟩ m fun m =>
  accF ⟨1, 0, fits_0_96, (k0_off69 k0_t1 (BitVec.ofNat 32 j.val)), (k0_off69_inb k0_t1 j)⟩ m fun m =>
  accLs [
    ⟨0, 24, fits_24_96, (k0_off70 k0_t1 (BitVec.ofNat 32 j.val)), (k0_off70_inb k0_t1 j)⟩,
    ⟨1, 24, fits_24_96, (k0_off71 k0_t1 (BitVec.ofNat 32 j.val)), (k0_off71_inb k0_t1 j)⟩,
    ⟨0, 48, fits_48_96, (k0_off72 k0_t1 (BitVec.ofNat 32 j.val)), (k0_off72_inb k0_t1 j)⟩,
    ⟨1, 48, fits_48_96, (k0_off73 k0_t1 (BitVec.ofNat 32 j.val)), (k0_off73_inb k0_t1 j)⟩,
    ⟨0, 72, fits_72_96, (k0_off74 k0_t1 (BitVec.ofNat 32 j.val)), (k0_off74_inb k0_t1 j)⟩,
    ⟨1, 72, fits_72_96, (k0_off75 k0_t1 (BitVec.ofNat 32 j.val)), (k0_off75_inb k0_t1 j)⟩,
    ⟨0, 96, fits_96_96, (k0_off76 k0_t1 (BitVec.ofNat 32 j.val)), (k0_off76_inb k0_t1 j)⟩,
    ⟨1, 96, fits_96_96, (k0_off77 k0_t1 (BitVec.ofNat 32 j.val)), (k0_off77_inb k0_t1 j)⟩,
    ⟨0, 120, fits_120_96, (k0_off78 k0_t1 (BitVec.ofNat 32 j.val)), (k0_off78_inb k0_t1 j)⟩,
    ⟨1, 120, fits_120_96, (k0_off79 k0_t1 (BitVec.ofNat 32 j.val)), (k0_off79_inb k0_t1 j)⟩,
    ⟨0, 144, fits_144_96, (k0_off80 k0_t1 (BitVec.ofNat 32 j.val)), (k0_off80_inb k0_t1 j)⟩,
    ⟨1, 144, fits_144_96, (k0_off81 k0_t1 (BitVec.ofNat 32 j.val)), (k0_off81_inb k0_t1 j)⟩,
    ⟨0, 168, fits_168_96, (k0_off82 k0_t1 (BitVec.ofNat 32 j.val)), (k0_off82_inb k0_t1 j)⟩,
    ⟨1, 168, fits_168_96, (k0_off83 k0_t1 (BitVec.ofNat 32 j.val)), (k0_off83_inb k0_t1 j)⟩,
    ⟨0, 192, fits_192_96, (k0_off84 k0_t1 (BitVec.ofNat 32 j.val)), (k0_off84_inb k0_t1 j)⟩,
    ⟨1, 192, fits_192_96, (k0_off85 k0_t1 (BitVec.ofNat 32 j.val)), (k0_off85_inb k0_t1 j)⟩,
    ⟨0, 216, fits_216_96, (k0_off86 k0_t1 (BitVec.ofNat 32 j.val)), (k0_off86_inb k0_t1 j)⟩,
    ⟨1, 216, fits_216_96, (k0_off87 k0_t1 (BitVec.ofNat 32 j.val)), (k0_off87_inb k0_t1 j)⟩] m fun m =>
  push ⟨![0, 0, 0], inb_S2x256x128_S1x256x128_0_0_0, (Scalar.addi (Scalar.muli (Scalar.addi (Scalar.addi (Scalar.muli (Scf.iv 0#32 1#32 k0_t1) 3#32) 1#32) (BitVec.ofNat 32 j.val)) 2#32) 0#32), (k0_off88 k0_t1 (BitVec.ofNat 32 j.val) 0#32), (k0_off88_inb k0_t1 j 0), (Scalar.addi (Scalar.muli (Scalar.addi (Scalar.addi (Scalar.muli (Scf.iv 0#32 1#32 k0_t1) 3#32) 1#32) (BitVec.ofNat 32 j.val)) 2#32) 1#32), (k0_off88 k0_t1 (BitVec.ofNat 32 j.val) 1#32), (k0_off88_inb k0_t1 j 1)⟩ m fun m =>
  K m

def start1 (k0_t1 : Fin k0_t1_loop.trips) (k0_h1 : k0_cond1 k0_t1 = 1#1) (K : PP F α) : PP F α :=
  wStart ⟨(k0_off2 k0_t1 0#32), (k0_off2_inb k0_t1 k0_h1 0), (k0_off3 k0_t1 0#32), (k0_off3_inb k0_t1 k0_h1 0), (k0_off3_wordsfp8e4m3 k0_t1 k0_h1 0), (k0_off4 k0_t1 0#32), (k0_off4_inb k0_t1 k0_h1 0), (k0_off4_wordsfp8e4m3 k0_t1 k0_h1 0)⟩ <|
  wStart ⟨(k0_off2 k0_t1 1#32), (k0_off2_inb k0_t1 k0_h1 1), (k0_off3 k0_t1 1#32), (k0_off3_inb k0_t1 k0_h1 1), (k0_off3_wordsfp8e4m3 k0_t1 k0_h1 1), (k0_off4 k0_t1 1#32), (k0_off4_inb k0_t1 k0_h1 1), (k0_off4_wordsfp8e4m3 k0_t1 k0_h1 1)⟩ <|
  wStart ⟨(k0_off2 k0_t1 2#32), (k0_off2_inb k0_t1 k0_h1 2), (k0_off3 k0_t1 2#32), (k0_off3_inb k0_t1 k0_h1 2), (k0_off3_wordsfp8e4m3 k0_t1 k0_h1 2), (k0_off4 k0_t1 2#32), (k0_off4_inb k0_t1 k0_h1 2), (k0_off4_wordsfp8e4m3 k0_t1 k0_h1 2)⟩ <|
  K

/-- One trip of the prepared passes. -/
def body1 (k0_t1 : Fin k0_t1_loop.trips) (m : Mxu F) (K : Mxu F → PP F α) : PP F α :=
  iff (start1 k0_t1) <|
  wWait ⟨(k0_off5 k0_t1 0#32), (k0_off5_inb k0_t1 0), (k0_off6 k0_t1 0#32), (k0_off6_inb k0_t1 0), (k0_off6_wordsfp8e4m3 k0_t1 0), (k0_off7 k0_t1 0#32), (k0_off7_inb k0_t1 0), (k0_off7_wordsfp8e4m3 k0_t1 0)⟩ <|
  wWait ⟨(k0_off5 k0_t1 1#32), (k0_off5_inb k0_t1 1), (k0_off6 k0_t1 1#32), (k0_off6_inb k0_t1 1), (k0_off6_wordsfp8e4m3 k0_t1 1), (k0_off7 k0_t1 1#32), (k0_off7_inb k0_t1 1), (k0_off7_wordsfp8e4m3 k0_t1 1)⟩ <|
  wWait ⟨(k0_off5 k0_t1 2#32), (k0_off5_inb k0_t1 2), (k0_off6 k0_t1 2#32), (k0_off6_inb k0_t1 2), (k0_off6_wordsfp8e4m3 k0_t1 2), (k0_off7 k0_t1 2#32), (k0_off7_inb k0_t1 2), (k0_off7_wordsfp8e4m3 k0_t1 2)⟩ <|
  step1 k0_t1 0 m fun m => step1 k0_t1 1 m fun m => step1 k0_t1 2 m K

/-- Step `j` of trip `k0_t3` over tile `k0_t2`: a pass's products, the next tile pushed. -/
def step3 (k0_t2 : Fin k0_t2_loop.trips) (k0_t3 : Fin k0_t3_loop.trips) (j : Fin 8) (m : Mxu F) (K : Mxu F → PP F α) : PP F α :=
  accF ⟨0, 0, fits_0_96, (k0_off100 k0_t3 (BitVec.ofNat 32 j.val)), (k0_off100_inb k0_t3 j)⟩ m fun m =>
  accF ⟨1, 0, fits_0_96, (k0_off101 k0_t3 (BitVec.ofNat 32 j.val)), (k0_off101_inb k0_t3 j)⟩ m fun m =>
  accLs [
    ⟨0, 24, fits_24_96, (k0_off102 k0_t3 (BitVec.ofNat 32 j.val)), (k0_off102_inb k0_t3 j)⟩,
    ⟨1, 24, fits_24_96, (k0_off103 k0_t3 (BitVec.ofNat 32 j.val)), (k0_off103_inb k0_t3 j)⟩,
    ⟨0, 48, fits_48_96, (k0_off104 k0_t3 (BitVec.ofNat 32 j.val)), (k0_off104_inb k0_t3 j)⟩,
    ⟨1, 48, fits_48_96, (k0_off105 k0_t3 (BitVec.ofNat 32 j.val)), (k0_off105_inb k0_t3 j)⟩,
    ⟨0, 72, fits_72_96, (k0_off106 k0_t3 (BitVec.ofNat 32 j.val)), (k0_off106_inb k0_t3 j)⟩,
    ⟨1, 72, fits_72_96, (k0_off107 k0_t3 (BitVec.ofNat 32 j.val)), (k0_off107_inb k0_t3 j)⟩,
    ⟨0, 96, fits_96_96, (k0_off108 k0_t3 (BitVec.ofNat 32 j.val)), (k0_off108_inb k0_t3 j)⟩,
    ⟨1, 96, fits_96_96, (k0_off109 k0_t3 (BitVec.ofNat 32 j.val)), (k0_off109_inb k0_t3 j)⟩,
    ⟨0, 120, fits_120_96, (k0_off110 k0_t3 (BitVec.ofNat 32 j.val)), (k0_off110_inb k0_t3 j)⟩,
    ⟨1, 120, fits_120_96, (k0_off111 k0_t3 (BitVec.ofNat 32 j.val)), (k0_off111_inb k0_t3 j)⟩,
    ⟨0, 144, fits_144_96, (k0_off112 k0_t3 (BitVec.ofNat 32 j.val)), (k0_off112_inb k0_t3 j)⟩,
    ⟨1, 144, fits_144_96, (k0_off113 k0_t3 (BitVec.ofNat 32 j.val)), (k0_off113_inb k0_t3 j)⟩,
    ⟨0, 168, fits_168_96, (k0_off114 k0_t3 (BitVec.ofNat 32 j.val)), (k0_off114_inb k0_t3 j)⟩,
    ⟨1, 168, fits_168_96, (k0_off115 k0_t3 (BitVec.ofNat 32 j.val)), (k0_off115_inb k0_t3 j)⟩,
    ⟨0, 192, fits_192_96, (k0_off116 k0_t3 (BitVec.ofNat 32 j.val)), (k0_off116_inb k0_t3 j)⟩,
    ⟨1, 192, fits_192_96, (k0_off117 k0_t3 (BitVec.ofNat 32 j.val)), (k0_off117_inb k0_t3 j)⟩,
    ⟨0, 216, fits_216_96, (k0_off118 k0_t3 (BitVec.ofNat 32 j.val)), (k0_off118_inb k0_t3 j)⟩,
    ⟨1, 216, fits_216_96, (k0_off119 k0_t3 (BitVec.ofNat 32 j.val)), (k0_off119_inb k0_t3 j)⟩] m fun m =>
  push ⟨(k0_off120 k0_t2), (k0_off120_inb k0_t2), (Scalar.addi (Scalar.muli (Scalar.addi (Scalar.addi (Scalar.addi (Scalar.muli (Scf.iv 0#32 1#32 k0_t3) 8#32) 1#32) (BitVec.ofNat 32 j.val)) 1#32) 2#32) 0#32), (k0_off121 k0_t2 k0_t3 (BitVec.ofNat 32 j.val) 0#32), (k0_off121_inb k0_t2 k0_t3 j 0), (Scalar.addi (Scalar.muli (Scalar.addi (Scalar.addi (Scalar.addi (Scalar.muli (Scf.iv 0#32 1#32 k0_t3) 8#32) 1#32) (BitVec.ofNat 32 j.val)) 1#32) 2#32) 1#32), (k0_off121 k0_t2 k0_t3 (BitVec.ofNat 32 j.val) 1#32), (k0_off121_inb k0_t2 k0_t3 j 1)⟩ m fun m =>
  K m

/-- One block of the tile before quantised. -/
def quant3 (k0_t2 : Fin k0_t2_loop.trips) (k0_t3 : Fin k0_t3_loop.trips) (j : Fin 3) (K : PP F α) : PP F α :=
  quantise ⟨(k0_off122 k0_t3 (BitVec.ofNat 32 j.val)), (k0_off122_inb k0_t3 j), (k0_off123 k0_t2 k0_t3 (BitVec.ofNat 32 j.val)), (k0_off123_inb k0_t2 k0_t3 j), (k0_off123_packedfp8e4m3 k0_t2 k0_t3 j)⟩ K

/-- One trip over a tile. -/
def body3 (k0_t2 : Fin k0_t2_loop.trips) (k0_t3 : Fin k0_t3_loop.trips) (m : Mxu F) (K : Mxu F → PP F α) : PP F α :=
  step3 k0_t2 k0_t3 0 m fun m => quant3 k0_t2 k0_t3 0 <|
  step3 k0_t2 k0_t3 1 m fun m => quant3 k0_t2 k0_t3 1 <|
  step3 k0_t2 k0_t3 2 m fun m => quant3 k0_t2 k0_t3 2 <|
  step3 k0_t2 k0_t3 3 m fun m => step3 k0_t2 k0_t3 4 m fun m => step3 k0_t2 k0_t3 5 m fun m =>
  step3 k0_t2 k0_t3 6 m fun m => step3 k0_t2 k0_t3 7 m K

def br2 (k0_t2 : Fin k0_t2_loop.trips) (k0_h2 : k0_cond2 k0_t2 = 1#1) (K : PP F α) : PP F α :=
  xsStart ⟨(k0_off89 k0_t2), (k0_off89_inb k0_t2 k0_h2)⟩ <|
  xStart ⟨(k0_off90 k0_t2), (k0_off90_inb k0_t2 k0_h2), (k0_off91 k0_t2), (k0_off91_inb k0_t2 k0_h2), (k0_off91_wordsfp8e4m3 k0_t2 k0_h2), (k0_off92 k0_t2), (k0_off92_inb k0_t2 k0_h2), (k0_off92_wordsfp8e4m3 k0_t2 k0_h2)⟩ <|
  K

def br3 (k0_t2 : Fin k0_t2_loop.trips) (k0_h3 : k0_cond3 k0_t2 = 1#1) (K : PP F α) : PP F α :=
  yStart ⟨(k0_off93 k0_t2), (k0_off93_inb k0_t2 k0_h3), (k0_off94 k0_t2), (k0_off94_inb k0_t2 k0_h3), (k0_off94_wordsfp8e4m3 k0_t2 k0_h3), (k0_off95 k0_t2), (k0_off95_inb k0_t2 k0_h3), (k0_off95_wordsfp8e4m3 k0_t2 k0_h3)⟩ <|
  K

def br4 (k0_t2 : Fin k0_t2_loop.trips) (k0_h4 : k0_cond4 k0_t2 = 1#1) (K : PP F α) : PP F α :=
  yWait ⟨(k0_off96 k0_t2), (k0_off96_inb k0_t2 k0_h4), (k0_off97 k0_t2), (k0_off97_inb k0_t2 k0_h4), (k0_off97_wordsfp8e4m3 k0_t2 k0_h4), (k0_off98 k0_t2), (k0_off98_inb k0_t2 k0_h4), (k0_off98_wordsfp8e4m3 k0_t2 k0_h4)⟩ <|
  K

/-- The end of a tile that is not the last. -/
def br5 (k0_t2 : Fin k0_t2_loop.trips) (k0_h5 : k0_cond5 k0_t2 = 1#1) (m : Mxu F) (K : Mxu F → PP F α) : PP F α :=
  xsWait ⟨(k0_off124 k0_t2), (k0_off124_inb k0_t2 k0_h5)⟩ <|
  xWait ⟨(k0_off125 k0_t2), (k0_off125_inb k0_t2 k0_h5), (k0_off126 k0_t2), (k0_off126_inb k0_t2 k0_h5), (k0_off126_wordsfp8e4m3 k0_t2 k0_h5), (k0_off127 k0_t2), (k0_off127_inb k0_t2 k0_h5), (k0_off127_wordsfp8e4m3 k0_t2 k0_h5)⟩ <|
  turn ⟨(k0_off128 k0_t2), (k0_off128_inb k0_t2 k0_h5)⟩ <|
  accF ⟨0, 0, fits_0_96, ![0, 10496], inb_S1920x11776_S96x256_0_10496⟩ m fun m =>
  accF ⟨1, 0, fits_0_96, ![960, 10496], inb_S1920x11776_S96x256_960_10496⟩ m fun m =>
  accLs [
    ⟨0, 24, fits_24_96, ![96, 10496], inb_S1920x11776_S96x256_96_10496⟩,
    ⟨1, 24, fits_24_96, ![1056, 10496], inb_S1920x11776_S96x256_1056_10496⟩,
    ⟨0, 48, fits_48_96, ![192, 10496], inb_S1920x11776_S96x256_192_10496⟩,
    ⟨1, 48, fits_48_96, ![1152, 10496], inb_S1920x11776_S96x256_1152_10496⟩,
    ⟨0, 72, fits_72_96, ![288, 10496], inb_S1920x11776_S96x256_288_10496⟩,
    ⟨1, 72, fits_72_96, ![1248, 10496], inb_S1920x11776_S96x256_1248_10496⟩,
    ⟨0, 96, fits_96_96, ![384, 10496], inb_S1920x11776_S96x256_384_10496⟩,
    ⟨1, 96, fits_96_96, ![1344, 10496], inb_S1920x11776_S96x256_1344_10496⟩,
    ⟨0, 120, fits_120_96, ![480, 10496], inb_S1920x11776_S96x256_480_10496⟩,
    ⟨1, 120, fits_120_96, ![1440, 10496], inb_S1920x11776_S96x256_1440_10496⟩,
    ⟨0, 144, fits_144_96, ![576, 10496], inb_S1920x11776_S96x256_576_10496⟩,
    ⟨1, 144, fits_144_96, ![1536, 10496], inb_S1920x11776_S96x256_1536_10496⟩,
    ⟨0, 168, fits_168_96, ![672, 10496], inb_S1920x11776_S96x256_672_10496⟩,
    ⟨1, 168, fits_168_96, ![1632, 10496], inb_S1920x11776_S96x256_1632_10496⟩,
    ⟨0, 192, fits_192_96, ![768, 10496], inb_S1920x11776_S96x256_768_10496⟩,
    ⟨1, 192, fits_192_96, ![1728, 10496], inb_S1920x11776_S96x256_1728_10496⟩,
    ⟨0, 216, fits_216_96, ![864, 10496], inb_S1920x11776_S96x256_864_10496⟩,
    ⟨1, 216, fits_216_96, ![1824, 10496], inb_S1920x11776_S96x256_1824_10496⟩] m fun m =>
  push ⟨(k0_off129 k0_t2), (k0_off129_inb k0_t2 k0_h5), (84#32), (k0_off130 k0_t2), (k0_off130_inb k0_t2 k0_h5), (85#32), (k0_off131 k0_t2), (k0_off131_inb k0_t2 k0_h5)⟩ m fun m =>
  accF ⟨0, 0, fits_0_96, ![0, 10752], inb_S1920x11776_S96x256_0_10752⟩ m fun m =>
  accF ⟨1, 0, fits_0_96, ![960, 10752], inb_S1920x11776_S96x256_960_10752⟩ m fun m =>
  accLs [
    ⟨0, 24, fits_24_96, ![96, 10752], inb_S1920x11776_S96x256_96_10752⟩,
    ⟨1, 24, fits_24_96, ![1056, 10752], inb_S1920x11776_S96x256_1056_10752⟩,
    ⟨0, 48, fits_48_96, ![192, 10752], inb_S1920x11776_S96x256_192_10752⟩,
    ⟨1, 48, fits_48_96, ![1152, 10752], inb_S1920x11776_S96x256_1152_10752⟩,
    ⟨0, 72, fits_72_96, ![288, 10752], inb_S1920x11776_S96x256_288_10752⟩,
    ⟨1, 72, fits_72_96, ![1248, 10752], inb_S1920x11776_S96x256_1248_10752⟩,
    ⟨0, 96, fits_96_96, ![384, 10752], inb_S1920x11776_S96x256_384_10752⟩,
    ⟨1, 96, fits_96_96, ![1344, 10752], inb_S1920x11776_S96x256_1344_10752⟩,
    ⟨0, 120, fits_120_96, ![480, 10752], inb_S1920x11776_S96x256_480_10752⟩,
    ⟨1, 120, fits_120_96, ![1440, 10752], inb_S1920x11776_S96x256_1440_10752⟩,
    ⟨0, 144, fits_144_96, ![576, 10752], inb_S1920x11776_S96x256_576_10752⟩,
    ⟨1, 144, fits_144_96, ![1536, 10752], inb_S1920x11776_S96x256_1536_10752⟩,
    ⟨0, 168, fits_168_96, ![672, 10752], inb_S1920x11776_S96x256_672_10752⟩,
    ⟨1, 168, fits_168_96, ![1632, 10752], inb_S1920x11776_S96x256_1632_10752⟩,
    ⟨0, 192, fits_192_96, ![768, 10752], inb_S1920x11776_S96x256_768_10752⟩,
    ⟨1, 192, fits_192_96, ![1728, 10752], inb_S1920x11776_S96x256_1728_10752⟩,
    ⟨0, 216, fits_216_96, ![864, 10752], inb_S1920x11776_S96x256_864_10752⟩,
    ⟨1, 216, fits_216_96, ![1824, 10752], inb_S1920x11776_S96x256_1824_10752⟩] m fun m =>
  push ⟨(k0_off129 k0_t2), (k0_off129_inb k0_t2 k0_h5), (86#32), (k0_off132 k0_t2), (k0_off132_inb k0_t2 k0_h5), (87#32), (k0_off133 k0_t2), (k0_off133_inb k0_t2 k0_h5)⟩ m fun m =>
  accF ⟨0, 0, fits_0_96, ![0, 11008], inb_S1920x11776_S96x256_0_11008⟩ m fun m =>
  accF ⟨1, 0, fits_0_96, ![960, 11008], inb_S1920x11776_S96x256_960_11008⟩ m fun m =>
  accLs [
    ⟨0, 24, fits_24_96, ![96, 11008], inb_S1920x11776_S96x256_96_11008⟩,
    ⟨1, 24, fits_24_96, ![1056, 11008], inb_S1920x11776_S96x256_1056_11008⟩,
    ⟨0, 48, fits_48_96, ![192, 11008], inb_S1920x11776_S96x256_192_11008⟩,
    ⟨1, 48, fits_48_96, ![1152, 11008], inb_S1920x11776_S96x256_1152_11008⟩,
    ⟨0, 72, fits_72_96, ![288, 11008], inb_S1920x11776_S96x256_288_11008⟩,
    ⟨1, 72, fits_72_96, ![1248, 11008], inb_S1920x11776_S96x256_1248_11008⟩,
    ⟨0, 96, fits_96_96, ![384, 11008], inb_S1920x11776_S96x256_384_11008⟩,
    ⟨1, 96, fits_96_96, ![1344, 11008], inb_S1920x11776_S96x256_1344_11008⟩,
    ⟨0, 120, fits_120_96, ![480, 11008], inb_S1920x11776_S96x256_480_11008⟩,
    ⟨1, 120, fits_120_96, ![1440, 11008], inb_S1920x11776_S96x256_1440_11008⟩,
    ⟨0, 144, fits_144_96, ![576, 11008], inb_S1920x11776_S96x256_576_11008⟩,
    ⟨1, 144, fits_144_96, ![1536, 11008], inb_S1920x11776_S96x256_1536_11008⟩,
    ⟨0, 168, fits_168_96, ![672, 11008], inb_S1920x11776_S96x256_672_11008⟩,
    ⟨1, 168, fits_168_96, ![1632, 11008], inb_S1920x11776_S96x256_1632_11008⟩,
    ⟨0, 192, fits_192_96, ![768, 11008], inb_S1920x11776_S96x256_768_11008⟩,
    ⟨1, 192, fits_192_96, ![1728, 11008], inb_S1920x11776_S96x256_1728_11008⟩,
    ⟨0, 216, fits_216_96, ![864, 11008], inb_S1920x11776_S96x256_864_11008⟩,
    ⟨1, 216, fits_216_96, ![1824, 11008], inb_S1920x11776_S96x256_1824_11008⟩] m fun m =>
  push ⟨(k0_off129 k0_t2), (k0_off129_inb k0_t2 k0_h5), (88#32), (k0_off134 k0_t2), (k0_off134_inb k0_t2 k0_h5), (89#32), (k0_off135 k0_t2), (k0_off135_inb k0_t2 k0_h5)⟩ m fun m =>
  accF ⟨0, 0, fits_0_96, ![0, 11264], inb_S1920x11776_S96x256_0_11264⟩ m fun m =>
  accF ⟨1, 0, fits_0_96, ![960, 11264], inb_S1920x11776_S96x256_960_11264⟩ m fun m =>
  accLs [
    ⟨0, 24, fits_24_96, ![96, 11264], inb_S1920x11776_S96x256_96_11264⟩,
    ⟨1, 24, fits_24_96, ![1056, 11264], inb_S1920x11776_S96x256_1056_11264⟩,
    ⟨0, 48, fits_48_96, ![192, 11264], inb_S1920x11776_S96x256_192_11264⟩,
    ⟨1, 48, fits_48_96, ![1152, 11264], inb_S1920x11776_S96x256_1152_11264⟩,
    ⟨0, 72, fits_72_96, ![288, 11264], inb_S1920x11776_S96x256_288_11264⟩,
    ⟨1, 72, fits_72_96, ![1248, 11264], inb_S1920x11776_S96x256_1248_11264⟩,
    ⟨0, 96, fits_96_96, ![384, 11264], inb_S1920x11776_S96x256_384_11264⟩,
    ⟨1, 96, fits_96_96, ![1344, 11264], inb_S1920x11776_S96x256_1344_11264⟩,
    ⟨0, 120, fits_120_96, ![480, 11264], inb_S1920x11776_S96x256_480_11264⟩,
    ⟨1, 120, fits_120_96, ![1440, 11264], inb_S1920x11776_S96x256_1440_11264⟩,
    ⟨0, 144, fits_144_96, ![576, 11264], inb_S1920x11776_S96x256_576_11264⟩,
    ⟨1, 144, fits_144_96, ![1536, 11264], inb_S1920x11776_S96x256_1536_11264⟩,
    ⟨0, 168, fits_168_96, ![672, 11264], inb_S1920x11776_S96x256_672_11264⟩,
    ⟨1, 168, fits_168_96, ![1632, 11264], inb_S1920x11776_S96x256_1632_11264⟩,
    ⟨0, 192, fits_192_96, ![768, 11264], inb_S1920x11776_S96x256_768_11264⟩,
    ⟨1, 192, fits_192_96, ![1728, 11264], inb_S1920x11776_S96x256_1728_11264⟩,
    ⟨0, 216, fits_216_96, ![864, 11264], inb_S1920x11776_S96x256_864_11264⟩,
    ⟨1, 216, fits_216_96, ![1824, 11264], inb_S1920x11776_S96x256_1824_11264⟩] m fun m =>
  push ⟨(k0_off129 k0_t2), (k0_off129_inb k0_t2 k0_h5), (90#32), (k0_off136 k0_t2), (k0_off136_inb k0_t2 k0_h5), (91#32), (k0_off137 k0_t2), (k0_off137_inb k0_t2 k0_h5)⟩ m fun m =>
  accF ⟨0, 0, fits_0_96, ![0, 11520], inb_S1920x11776_S96x256_0_11520⟩ m fun m =>
  accF ⟨1, 0, fits_0_96, ![960, 11520], inb_S1920x11776_S96x256_960_11520⟩ m fun m =>
  accLs [
    ⟨0, 24, fits_24_96, ![96, 11520], inb_S1920x11776_S96x256_96_11520⟩,
    ⟨1, 24, fits_24_96, ![1056, 11520], inb_S1920x11776_S96x256_1056_11520⟩,
    ⟨0, 48, fits_48_96, ![192, 11520], inb_S1920x11776_S96x256_192_11520⟩,
    ⟨1, 48, fits_48_96, ![1152, 11520], inb_S1920x11776_S96x256_1152_11520⟩,
    ⟨0, 72, fits_72_96, ![288, 11520], inb_S1920x11776_S96x256_288_11520⟩,
    ⟨1, 72, fits_72_96, ![1248, 11520], inb_S1920x11776_S96x256_1248_11520⟩,
    ⟨0, 96, fits_96_96, ![384, 11520], inb_S1920x11776_S96x256_384_11520⟩,
    ⟨1, 96, fits_96_96, ![1344, 11520], inb_S1920x11776_S96x256_1344_11520⟩,
    ⟨0, 120, fits_120_96, ![480, 11520], inb_S1920x11776_S96x256_480_11520⟩,
    ⟨1, 120, fits_120_96, ![1440, 11520], inb_S1920x11776_S96x256_1440_11520⟩,
    ⟨0, 144, fits_144_96, ![576, 11520], inb_S1920x11776_S96x256_576_11520⟩,
    ⟨1, 144, fits_144_96, ![1536, 11520], inb_S1920x11776_S96x256_1536_11520⟩,
    ⟨0, 168, fits_168_96, ![672, 11520], inb_S1920x11776_S96x256_672_11520⟩,
    ⟨1, 168, fits_168_96, ![1632, 11520], inb_S1920x11776_S96x256_1632_11520⟩,
    ⟨0, 192, fits_192_96, ![768, 11520], inb_S1920x11776_S96x256_768_11520⟩,
    ⟨1, 192, fits_192_96, ![1728, 11520], inb_S1920x11776_S96x256_1728_11520⟩,
    ⟨0, 216, fits_216_96, ![864, 11520], inb_S1920x11776_S96x256_864_11520⟩,
    ⟨1, 216, fits_216_96, ![1824, 11520], inb_S1920x11776_S96x256_1824_11520⟩] m fun m =>
  push ⟨(k0_off128 k0_t2), (k0_off128_inb k0_t2 k0_h5), (0#32), (k0_off138 k0_t2), (k0_off138_inb k0_t2 k0_h5), (1#32), (k0_off139 k0_t2), (k0_off139_inb k0_t2 k0_h5)⟩ m fun m =>
  drain ⟨0, 0, fits_0_96, ![0, 0], inb_S1920x256_S96x256_0_0⟩ m fun h0 m =>
  drain ⟨1, 0, fits_0_96, ![960, 0], inb_S1920x256_S96x256_960_0⟩ m fun h1 m =>
  accF ⟨0, 0, fits_0_96, ![0, 0], inb_S1920x11776_S96x256_0_0⟩ m fun m =>
  accF ⟨1, 0, fits_0_96, ![960, 0], inb_S1920x11776_S96x256_960_0⟩ m fun m =>
  drain ⟨0, 24, fits_24_96, ![96, 0], inb_S1920x256_S96x256_96_0⟩ m fun h2 m =>
  drain ⟨1, 24, fits_24_96, ![1056, 0], inb_S1920x256_S96x256_1056_0⟩ m fun h3 m =>
  accLs [
    ⟨0, 24, fits_24_96, ![96, 0], inb_S1920x11776_S96x256_96_0⟩,
    ⟨1, 24, fits_24_96, ![1056, 0], inb_S1920x11776_S96x256_1056_0⟩] m fun m =>
  drain ⟨0, 48, fits_48_96, ![192, 0], inb_S1920x256_S96x256_192_0⟩ m fun h4 m =>
  drain ⟨1, 48, fits_48_96, ![1152, 0], inb_S1920x256_S96x256_1152_0⟩ m fun h5 m =>
  accLs [
    ⟨0, 48, fits_48_96, ![192, 0], inb_S1920x11776_S96x256_192_0⟩,
    ⟨1, 48, fits_48_96, ![1152, 0], inb_S1920x11776_S96x256_1152_0⟩] m fun m =>
  drain ⟨0, 72, fits_72_96, ![288, 0], inb_S1920x256_S96x256_288_0⟩ m fun h6 m =>
  drain ⟨1, 72, fits_72_96, ![1248, 0], inb_S1920x256_S96x256_1248_0⟩ m fun h7 m =>
  accLs [
    ⟨0, 72, fits_72_96, ![288, 0], inb_S1920x11776_S96x256_288_0⟩,
    ⟨1, 72, fits_72_96, ![1248, 0], inb_S1920x11776_S96x256_1248_0⟩] m fun m =>
  drain ⟨0, 96, fits_96_96, ![384, 0], inb_S1920x256_S96x256_384_0⟩ m fun h8 m =>
  drain ⟨1, 96, fits_96_96, ![1344, 0], inb_S1920x256_S96x256_1344_0⟩ m fun h9 m =>
  accLs [
    ⟨0, 96, fits_96_96, ![384, 0], inb_S1920x11776_S96x256_384_0⟩,
    ⟨1, 96, fits_96_96, ![1344, 0], inb_S1920x11776_S96x256_1344_0⟩] m fun m =>
  drain ⟨0, 120, fits_120_96, ![480, 0], inb_S1920x256_S96x256_480_0⟩ m fun h10 m =>
  drain ⟨1, 120, fits_120_96, ![1440, 0], inb_S1920x256_S96x256_1440_0⟩ m fun h11 m =>
  accLs [
    ⟨0, 120, fits_120_96, ![480, 0], inb_S1920x11776_S96x256_480_0⟩,
    ⟨1, 120, fits_120_96, ![1440, 0], inb_S1920x11776_S96x256_1440_0⟩] m fun m =>
  drain ⟨0, 144, fits_144_96, ![576, 0], inb_S1920x256_S96x256_576_0⟩ m fun h12 m =>
  drain ⟨1, 144, fits_144_96, ![1536, 0], inb_S1920x256_S96x256_1536_0⟩ m fun h13 m =>
  accLs [
    ⟨0, 144, fits_144_96, ![576, 0], inb_S1920x11776_S96x256_576_0⟩,
    ⟨1, 144, fits_144_96, ![1536, 0], inb_S1920x11776_S96x256_1536_0⟩] m fun m =>
  drain ⟨0, 168, fits_168_96, ![672, 0], inb_S1920x256_S96x256_672_0⟩ m fun h14 m =>
  drain ⟨1, 168, fits_168_96, ![1632, 0], inb_S1920x256_S96x256_1632_0⟩ m fun h15 m =>
  accLs [
    ⟨0, 168, fits_168_96, ![672, 0], inb_S1920x11776_S96x256_672_0⟩,
    ⟨1, 168, fits_168_96, ![1632, 0], inb_S1920x11776_S96x256_1632_0⟩] m fun m =>
  drain ⟨0, 192, fits_192_96, ![768, 0], inb_S1920x256_S96x256_768_0⟩ m fun h16 m =>
  drain ⟨1, 192, fits_192_96, ![1728, 0], inb_S1920x256_S96x256_1728_0⟩ m fun h17 m =>
  accLs [
    ⟨0, 192, fits_192_96, ![768, 0], inb_S1920x11776_S96x256_768_0⟩,
    ⟨1, 192, fits_192_96, ![1728, 0], inb_S1920x11776_S96x256_1728_0⟩] m fun m =>
  drain ⟨0, 216, fits_216_96, ![864, 0], inb_S1920x256_S96x256_864_0⟩ m fun h18 m =>
  drain ⟨1, 216, fits_216_96, ![1824, 0], inb_S1920x256_S96x256_1824_0⟩ m fun h19 m =>
  accLs [
    ⟨0, 216, fits_216_96, ![864, 0], inb_S1920x11776_S96x256_864_0⟩,
    ⟨1, 216, fits_216_96, ![1824, 0], inb_S1920x11776_S96x256_1824_0⟩] m fun m =>
  push ⟨(k0_off128 k0_t2), (k0_off128_inb k0_t2 k0_h5), (2#32), (k0_off140 k0_t2), (k0_off140_inb k0_t2 k0_h5), (3#32), (k0_off141 k0_t2), (k0_off141_inb k0_t2 k0_h5)⟩ m fun m =>
  storeMax (maximumf (maximumf (maximumf (maximumf (maximumf (maximumf (maximumf (maximumf (maximumf (maximumf (maximumf (maximumf (maximumf (maximumf (maximumf (maximumf (maximumf (maximumf (maximumf (top h0) (top h1)) (top h2)) (top h3)) (top h4)) (top h5)) (top h6)) (top h7)) (top h8)) (top h9)) (top h10)) (top h11)) (top h12)) (top h13)) (top h14)) (top h15)) (top h16)) (top h17)) (top h18)) (top h19)) <|
  K m

/-- The end of the last tile. -/
def br6 (k0_t2 : Fin k0_t2_loop.trips) (k0_h6 : k0_cond6 k0_t2 = 1#1) (m : Mxu F) (K : Mxu F → PP F α) : PP F α :=
  yStart ⟨(k0_off142 k0_t2), (k0_off142_inb k0_t2 k0_h6), (k0_off143 k0_t2), (k0_off143_inb k0_t2 k0_h6), (k0_off143_wordsfp8e4m3 k0_t2 k0_h6), (k0_off144 k0_t2), (k0_off144_inb k0_t2 k0_h6), (k0_off144_wordsfp8e4m3 k0_t2 k0_h6)⟩ <|
  accF ⟨0, 0, fits_0_96, ![0, 10496], inb_S1920x11776_S96x256_0_10496⟩ m fun m =>
  accF ⟨1, 0, fits_0_96, ![960, 10496], inb_S1920x11776_S96x256_960_10496⟩ m fun m =>
  accLs [
    ⟨0, 24, fits_24_96, ![96, 10496], inb_S1920x11776_S96x256_96_10496⟩,
    ⟨1, 24, fits_24_96, ![1056, 10496], inb_S1920x11776_S96x256_1056_10496⟩,
    ⟨0, 48, fits_48_96, ![192, 10496], inb_S1920x11776_S96x256_192_10496⟩,
    ⟨1, 48, fits_48_96, ![1152, 10496], inb_S1920x11776_S96x256_1152_10496⟩,
    ⟨0, 72, fits_72_96, ![288, 10496], inb_S1920x11776_S96x256_288_10496⟩,
    ⟨1, 72, fits_72_96, ![1248, 10496], inb_S1920x11776_S96x256_1248_10496⟩,
    ⟨0, 96, fits_96_96, ![384, 10496], inb_S1920x11776_S96x256_384_10496⟩,
    ⟨1, 96, fits_96_96, ![1344, 10496], inb_S1920x11776_S96x256_1344_10496⟩,
    ⟨0, 120, fits_120_96, ![480, 10496], inb_S1920x11776_S96x256_480_10496⟩,
    ⟨1, 120, fits_120_96, ![1440, 10496], inb_S1920x11776_S96x256_1440_10496⟩,
    ⟨0, 144, fits_144_96, ![576, 10496], inb_S1920x11776_S96x256_576_10496⟩,
    ⟨1, 144, fits_144_96, ![1536, 10496], inb_S1920x11776_S96x256_1536_10496⟩,
    ⟨0, 168, fits_168_96, ![672, 10496], inb_S1920x11776_S96x256_672_10496⟩,
    ⟨1, 168, fits_168_96, ![1632, 10496], inb_S1920x11776_S96x256_1632_10496⟩,
    ⟨0, 192, fits_192_96, ![768, 10496], inb_S1920x11776_S96x256_768_10496⟩,
    ⟨1, 192, fits_192_96, ![1728, 10496], inb_S1920x11776_S96x256_1728_10496⟩,
    ⟨0, 216, fits_216_96, ![864, 10496], inb_S1920x11776_S96x256_864_10496⟩,
    ⟨1, 216, fits_216_96, ![1824, 10496], inb_S1920x11776_S96x256_1824_10496⟩] m fun m =>
  push ⟨(k0_off145 k0_t2), (k0_off145_inb k0_t2 k0_h6), (84#32), (k0_off146 k0_t2), (k0_off146_inb k0_t2 k0_h6), (85#32), (k0_off147 k0_t2), (k0_off147_inb k0_t2 k0_h6)⟩ m fun m =>
  accF ⟨0, 0, fits_0_96, ![0, 10752], inb_S1920x11776_S96x256_0_10752⟩ m fun m =>
  accF ⟨1, 0, fits_0_96, ![960, 10752], inb_S1920x11776_S96x256_960_10752⟩ m fun m =>
  accLs [
    ⟨0, 24, fits_24_96, ![96, 10752], inb_S1920x11776_S96x256_96_10752⟩,
    ⟨1, 24, fits_24_96, ![1056, 10752], inb_S1920x11776_S96x256_1056_10752⟩,
    ⟨0, 48, fits_48_96, ![192, 10752], inb_S1920x11776_S96x256_192_10752⟩,
    ⟨1, 48, fits_48_96, ![1152, 10752], inb_S1920x11776_S96x256_1152_10752⟩,
    ⟨0, 72, fits_72_96, ![288, 10752], inb_S1920x11776_S96x256_288_10752⟩,
    ⟨1, 72, fits_72_96, ![1248, 10752], inb_S1920x11776_S96x256_1248_10752⟩,
    ⟨0, 96, fits_96_96, ![384, 10752], inb_S1920x11776_S96x256_384_10752⟩,
    ⟨1, 96, fits_96_96, ![1344, 10752], inb_S1920x11776_S96x256_1344_10752⟩,
    ⟨0, 120, fits_120_96, ![480, 10752], inb_S1920x11776_S96x256_480_10752⟩,
    ⟨1, 120, fits_120_96, ![1440, 10752], inb_S1920x11776_S96x256_1440_10752⟩,
    ⟨0, 144, fits_144_96, ![576, 10752], inb_S1920x11776_S96x256_576_10752⟩,
    ⟨1, 144, fits_144_96, ![1536, 10752], inb_S1920x11776_S96x256_1536_10752⟩,
    ⟨0, 168, fits_168_96, ![672, 10752], inb_S1920x11776_S96x256_672_10752⟩,
    ⟨1, 168, fits_168_96, ![1632, 10752], inb_S1920x11776_S96x256_1632_10752⟩,
    ⟨0, 192, fits_192_96, ![768, 10752], inb_S1920x11776_S96x256_768_10752⟩,
    ⟨1, 192, fits_192_96, ![1728, 10752], inb_S1920x11776_S96x256_1728_10752⟩,
    ⟨0, 216, fits_216_96, ![864, 10752], inb_S1920x11776_S96x256_864_10752⟩,
    ⟨1, 216, fits_216_96, ![1824, 10752], inb_S1920x11776_S96x256_1824_10752⟩] m fun m =>
  push ⟨(k0_off145 k0_t2), (k0_off145_inb k0_t2 k0_h6), (86#32), (k0_off148 k0_t2), (k0_off148_inb k0_t2 k0_h6), (87#32), (k0_off149 k0_t2), (k0_off149_inb k0_t2 k0_h6)⟩ m fun m =>
  accF ⟨0, 0, fits_0_96, ![0, 11008], inb_S1920x11776_S96x256_0_11008⟩ m fun m =>
  accF ⟨1, 0, fits_0_96, ![960, 11008], inb_S1920x11776_S96x256_960_11008⟩ m fun m =>
  accLs [
    ⟨0, 24, fits_24_96, ![96, 11008], inb_S1920x11776_S96x256_96_11008⟩,
    ⟨1, 24, fits_24_96, ![1056, 11008], inb_S1920x11776_S96x256_1056_11008⟩,
    ⟨0, 48, fits_48_96, ![192, 11008], inb_S1920x11776_S96x256_192_11008⟩,
    ⟨1, 48, fits_48_96, ![1152, 11008], inb_S1920x11776_S96x256_1152_11008⟩,
    ⟨0, 72, fits_72_96, ![288, 11008], inb_S1920x11776_S96x256_288_11008⟩,
    ⟨1, 72, fits_72_96, ![1248, 11008], inb_S1920x11776_S96x256_1248_11008⟩,
    ⟨0, 96, fits_96_96, ![384, 11008], inb_S1920x11776_S96x256_384_11008⟩,
    ⟨1, 96, fits_96_96, ![1344, 11008], inb_S1920x11776_S96x256_1344_11008⟩,
    ⟨0, 120, fits_120_96, ![480, 11008], inb_S1920x11776_S96x256_480_11008⟩,
    ⟨1, 120, fits_120_96, ![1440, 11008], inb_S1920x11776_S96x256_1440_11008⟩,
    ⟨0, 144, fits_144_96, ![576, 11008], inb_S1920x11776_S96x256_576_11008⟩,
    ⟨1, 144, fits_144_96, ![1536, 11008], inb_S1920x11776_S96x256_1536_11008⟩,
    ⟨0, 168, fits_168_96, ![672, 11008], inb_S1920x11776_S96x256_672_11008⟩,
    ⟨1, 168, fits_168_96, ![1632, 11008], inb_S1920x11776_S96x256_1632_11008⟩,
    ⟨0, 192, fits_192_96, ![768, 11008], inb_S1920x11776_S96x256_768_11008⟩,
    ⟨1, 192, fits_192_96, ![1728, 11008], inb_S1920x11776_S96x256_1728_11008⟩,
    ⟨0, 216, fits_216_96, ![864, 11008], inb_S1920x11776_S96x256_864_11008⟩,
    ⟨1, 216, fits_216_96, ![1824, 11008], inb_S1920x11776_S96x256_1824_11008⟩] m fun m =>
  push ⟨(k0_off145 k0_t2), (k0_off145_inb k0_t2 k0_h6), (88#32), (k0_off150 k0_t2), (k0_off150_inb k0_t2 k0_h6), (89#32), (k0_off151 k0_t2), (k0_off151_inb k0_t2 k0_h6)⟩ m fun m =>
  accF ⟨0, 0, fits_0_96, ![0, 11264], inb_S1920x11776_S96x256_0_11264⟩ m fun m =>
  accF ⟨1, 0, fits_0_96, ![960, 11264], inb_S1920x11776_S96x256_960_11264⟩ m fun m =>
  accLs [
    ⟨0, 24, fits_24_96, ![96, 11264], inb_S1920x11776_S96x256_96_11264⟩,
    ⟨1, 24, fits_24_96, ![1056, 11264], inb_S1920x11776_S96x256_1056_11264⟩,
    ⟨0, 48, fits_48_96, ![192, 11264], inb_S1920x11776_S96x256_192_11264⟩,
    ⟨1, 48, fits_48_96, ![1152, 11264], inb_S1920x11776_S96x256_1152_11264⟩,
    ⟨0, 72, fits_72_96, ![288, 11264], inb_S1920x11776_S96x256_288_11264⟩,
    ⟨1, 72, fits_72_96, ![1248, 11264], inb_S1920x11776_S96x256_1248_11264⟩,
    ⟨0, 96, fits_96_96, ![384, 11264], inb_S1920x11776_S96x256_384_11264⟩,
    ⟨1, 96, fits_96_96, ![1344, 11264], inb_S1920x11776_S96x256_1344_11264⟩,
    ⟨0, 120, fits_120_96, ![480, 11264], inb_S1920x11776_S96x256_480_11264⟩,
    ⟨1, 120, fits_120_96, ![1440, 11264], inb_S1920x11776_S96x256_1440_11264⟩,
    ⟨0, 144, fits_144_96, ![576, 11264], inb_S1920x11776_S96x256_576_11264⟩,
    ⟨1, 144, fits_144_96, ![1536, 11264], inb_S1920x11776_S96x256_1536_11264⟩,
    ⟨0, 168, fits_168_96, ![672, 11264], inb_S1920x11776_S96x256_672_11264⟩,
    ⟨1, 168, fits_168_96, ![1632, 11264], inb_S1920x11776_S96x256_1632_11264⟩,
    ⟨0, 192, fits_192_96, ![768, 11264], inb_S1920x11776_S96x256_768_11264⟩,
    ⟨1, 192, fits_192_96, ![1728, 11264], inb_S1920x11776_S96x256_1728_11264⟩,
    ⟨0, 216, fits_216_96, ![864, 11264], inb_S1920x11776_S96x256_864_11264⟩,
    ⟨1, 216, fits_216_96, ![1824, 11264], inb_S1920x11776_S96x256_1824_11264⟩] m fun m =>
  push ⟨(k0_off145 k0_t2), (k0_off145_inb k0_t2 k0_h6), (90#32), (k0_off152 k0_t2), (k0_off152_inb k0_t2 k0_h6), (91#32), (k0_off153 k0_t2), (k0_off153_inb k0_t2 k0_h6)⟩ m fun m =>
  accF ⟨0, 0, fits_0_96, ![0, 11520], inb_S1920x11776_S96x256_0_11520⟩ m fun m =>
  accF ⟨1, 0, fits_0_96, ![960, 11520], inb_S1920x11776_S96x256_960_11520⟩ m fun m =>
  accLs [
    ⟨0, 24, fits_24_96, ![96, 11520], inb_S1920x11776_S96x256_96_11520⟩,
    ⟨1, 24, fits_24_96, ![1056, 11520], inb_S1920x11776_S96x256_1056_11520⟩,
    ⟨0, 48, fits_48_96, ![192, 11520], inb_S1920x11776_S96x256_192_11520⟩,
    ⟨1, 48, fits_48_96, ![1152, 11520], inb_S1920x11776_S96x256_1152_11520⟩,
    ⟨0, 72, fits_72_96, ![288, 11520], inb_S1920x11776_S96x256_288_11520⟩,
    ⟨1, 72, fits_72_96, ![1248, 11520], inb_S1920x11776_S96x256_1248_11520⟩,
    ⟨0, 96, fits_96_96, ![384, 11520], inb_S1920x11776_S96x256_384_11520⟩,
    ⟨1, 96, fits_96_96, ![1344, 11520], inb_S1920x11776_S96x256_1344_11520⟩,
    ⟨0, 120, fits_120_96, ![480, 11520], inb_S1920x11776_S96x256_480_11520⟩,
    ⟨1, 120, fits_120_96, ![1440, 11520], inb_S1920x11776_S96x256_1440_11520⟩,
    ⟨0, 144, fits_144_96, ![576, 11520], inb_S1920x11776_S96x256_576_11520⟩,
    ⟨1, 144, fits_144_96, ![1536, 11520], inb_S1920x11776_S96x256_1536_11520⟩,
    ⟨0, 168, fits_168_96, ![672, 11520], inb_S1920x11776_S96x256_672_11520⟩,
    ⟨1, 168, fits_168_96, ![1632, 11520], inb_S1920x11776_S96x256_1632_11520⟩,
    ⟨0, 192, fits_192_96, ![768, 11520], inb_S1920x11776_S96x256_768_11520⟩,
    ⟨1, 192, fits_192_96, ![1728, 11520], inb_S1920x11776_S96x256_1728_11520⟩,
    ⟨0, 216, fits_216_96, ![864, 11520], inb_S1920x11776_S96x256_864_11520⟩,
    ⟨1, 216, fits_216_96, ![1824, 11520], inb_S1920x11776_S96x256_1824_11520⟩] m fun m =>
  drain ⟨0, 0, fits_0_96, ![0, 0], inb_S1920x256_S96x256_0_0⟩ m fun h0 m =>
  drain ⟨1, 0, fits_0_96, ![960, 0], inb_S1920x256_S96x256_960_0⟩ m fun h1 m =>
  drain ⟨0, 24, fits_24_96, ![96, 0], inb_S1920x256_S96x256_96_0⟩ m fun h2 m =>
  drain ⟨1, 24, fits_24_96, ![1056, 0], inb_S1920x256_S96x256_1056_0⟩ m fun h3 m =>
  drain ⟨0, 48, fits_48_96, ![192, 0], inb_S1920x256_S96x256_192_0⟩ m fun h4 m =>
  drain ⟨1, 48, fits_48_96, ![1152, 0], inb_S1920x256_S96x256_1152_0⟩ m fun h5 m =>
  drain ⟨0, 72, fits_72_96, ![288, 0], inb_S1920x256_S96x256_288_0⟩ m fun h6 m =>
  drain ⟨1, 72, fits_72_96, ![1248, 0], inb_S1920x256_S96x256_1248_0⟩ m fun h7 m =>
  drain ⟨0, 96, fits_96_96, ![384, 0], inb_S1920x256_S96x256_384_0⟩ m fun h8 m =>
  drain ⟨1, 96, fits_96_96, ![1344, 0], inb_S1920x256_S96x256_1344_0⟩ m fun h9 m =>
  drain ⟨0, 120, fits_120_96, ![480, 0], inb_S1920x256_S96x256_480_0⟩ m fun h10 m =>
  drain ⟨1, 120, fits_120_96, ![1440, 0], inb_S1920x256_S96x256_1440_0⟩ m fun h11 m =>
  drain ⟨0, 144, fits_144_96, ![576, 0], inb_S1920x256_S96x256_576_0⟩ m fun h12 m =>
  drain ⟨1, 144, fits_144_96, ![1536, 0], inb_S1920x256_S96x256_1536_0⟩ m fun h13 m =>
  drain ⟨0, 168, fits_168_96, ![672, 0], inb_S1920x256_S96x256_672_0⟩ m fun h14 m =>
  drain ⟨1, 168, fits_168_96, ![1632, 0], inb_S1920x256_S96x256_1632_0⟩ m fun h15 m =>
  drain ⟨0, 192, fits_192_96, ![768, 0], inb_S1920x256_S96x256_768_0⟩ m fun h16 m =>
  drain ⟨1, 192, fits_192_96, ![1728, 0], inb_S1920x256_S96x256_1728_0⟩ m fun h17 m =>
  drain ⟨0, 216, fits_216_96, ![864, 0], inb_S1920x256_S96x256_864_0⟩ m fun h18 m =>
  drain ⟨1, 216, fits_216_96, ![1824, 0], inb_S1920x256_S96x256_1824_0⟩ m fun h19 m =>
  storeMax (maximumf (maximumf (maximumf (maximumf (maximumf (maximumf (maximumf (maximumf (maximumf (maximumf (maximumf (maximumf (maximumf (maximumf (maximumf (maximumf (maximumf (maximumf (maximumf (top h0) (top h1)) (top h2)) (top h3)) (top h4)) (top h5)) (top h6)) (top h7)) (top h8)) (top h9)) (top h10)) (top h11)) (top h12)) (top h13)) (top h14)) (top h15)) (top h16)) (top h17)) (top h18)) (top h19)) <|
  K m

/-- One tile. -/
def body2 (k0_t2 : Fin k0_t2_loop.trips) (m : Mxu F) (K : Mxu F → PP F α) : PP F α :=
  iff (br2 k0_t2) <|
  iff (br3 k0_t2) <|
  iff (br4 k0_t2) <|
  findScale ⟨(k0_off99 k0_t2), (k0_off99_inb k0_t2), Scalar.divsi (Scalar.subi (Scf.iv 1#32 1#32 k0_t2) 1#32) 6#32⟩ <|
  Scf.Loop.for k0_t3_loop k0_t3_ok m (fun k0_t3 m => body3 k0_t2 k0_t3 m .ret) >>= fun m =>
  iffm (br5 k0_t2) m fun m => iffm (br6 k0_t2) m K

/-- The unit at the start: every accumulator read off once. -/
def mxu0 : Mxu F :=
  (((((((((((((((((((Mxu.init.pop 0 0 96 fits_0_96).pop 0 24 96 fits_24_96).pop 0 48 96 fits_48_96).pop 0 72 96 fits_72_96).pop 0 96 96 fits_96_96).pop 0 120 96 fits_120_96).pop 0 144 96 fits_144_96).pop 0 168 96 fits_168_96).pop 0 192 96 fits_192_96).pop 0 216 96 fits_216_96).pop 1 0 96 fits_0_96).pop 1 24 96 fits_24_96).pop 1 48 96 fits_48_96).pop 1 72 96 fits_72_96).pop 1 96 96 fits_96_96).pop 1 120 96 fits_120_96).pop 1 144 96 fits_144_96).pop 1 168 96 fits_168_96).pop 1 192 96 fits_192_96).pop 1 216 96 fits_216_96

/-- Up to the prepared passes. -/
def pre (m : Mxu F) (K : Mxu F → PP F α) : PP F α :=
  wsStart <|
  xsStart ⟨(k0_off1 0#32 0#32), (k0_off1_inb 0)⟩ <|
  xhStart <|
  wStart ⟨![5], inb_S6_S1_5, ![5, 0, 0], inb_S6x256x1920_S1x256x1920_5_0_0, wordsfp8e4m3_S6x256x1920_S1x256x1920_5_0_0, ![0, 0], inb_S11776x1920_S256x1920_0_0, wordsfp8e4m3_S11776x1920_S256x1920_0_0⟩ <|
  xrStart <|
  wStart ⟨![0], inb_S6_S1_0, ![0, 0, 0], inb_S6x256x1920_S1x256x1920_0_0_0, wordsfp8e4m3_S6x256x1920_S1x256x1920_0_0_0, ![256, 0], inb_S11776x1920_S256x1920_256_0, wordsfp8e4m3_S11776x1920_S256x1920_256_0⟩ <|
  wStart ⟨![1], inb_S6_S1_1, ![1, 0, 0], inb_S6x256x1920_S1x256x1920_1_0_0, wordsfp8e4m3_S6x256x1920_S1x256x1920_1_0_0, ![512, 0], inb_S11776x1920_S256x1920_512_0, wordsfp8e4m3_S11776x1920_S256x1920_512_0⟩ <|
  wStart ⟨![2], inb_S6_S1_2, ![2, 0, 0], inb_S6x256x1920_S1x256x1920_2_0_0, wordsfp8e4m3_S6x256x1920_S1x256x1920_2_0_0, ![768, 0], inb_S11776x1920_S256x1920_768_0, wordsfp8e4m3_S11776x1920_S256x1920_768_0⟩ <|
  zeroOsc <|
  wsWait <|
  xsWait ⟨(k0_off1 0#32 0#32), (k0_off1_inb 0)⟩ <|
  turn ⟨![0, 0, 0], inb_S2x256x128_S1x256x128_0_0_0⟩ <|
  xsStart ⟨(k0_off1 1#32 1#32), (k0_off1_inb 1)⟩ <|
  xhWait <|
  wWait ⟨![5], inb_S6_S1_5, ![5, 0, 0], inb_S6x256x1920_S1x256x1920_5_0_0, wordsfp8e4m3_S6x256x1920_S1x256x1920_5_0_0, ![0, 0], inb_S11776x1920_S256x1920_0_0, wordsfp8e4m3_S11776x1920_S256x1920_0_0⟩ <|
  preps [
    ⟨![5, 0, 0], inb_S6x256x1920_S1x128x128_5_0_0, ![0, 0], inb_S15x92_S1x1_0_0, ![5, 128, 0], inb_S6x256x1920_S1x128x128_5_128_0, ![0, 1], inb_S15x92_S1x1_0_1, ![0, 0], inb_S1920x11776_S128x256_0_0, packedbf16_S1920x11776_S128x256_0_0⟩,
    ⟨![5, 0, 128], inb_S6x256x1920_S1x128x128_5_0_128, ![1, 0], inb_S15x92_S1x1_1_0, ![5, 128, 128], inb_S6x256x1920_S1x128x128_5_128_128, ![1, 1], inb_S15x92_S1x1_1_1, ![128, 0], inb_S1920x11776_S128x256_128_0, packedbf16_S1920x11776_S128x256_128_0⟩,
    ⟨![5, 0, 256], inb_S6x256x1920_S1x128x128_5_0_256, ![2, 0], inb_S15x92_S1x1_2_0, ![5, 128, 256], inb_S6x256x1920_S1x128x128_5_128_256, ![2, 1], inb_S15x92_S1x1_2_1, ![256, 0], inb_S1920x11776_S128x256_256_0, packedbf16_S1920x11776_S128x256_256_0⟩,
    ⟨![5, 0, 384], inb_S6x256x1920_S1x128x128_5_0_384, ![3, 0], inb_S15x92_S1x1_3_0, ![5, 128, 384], inb_S6x256x1920_S1x128x128_5_128_384, ![3, 1], inb_S15x92_S1x1_3_1, ![384, 0], inb_S1920x11776_S128x256_384_0, packedbf16_S1920x11776_S128x256_384_0⟩,
    ⟨![5, 0, 512], inb_S6x256x1920_S1x128x128_5_0_512, ![4, 0], inb_S15x92_S1x1_4_0, ![5, 128, 512], inb_S6x256x1920_S1x128x128_5_128_512, ![4, 1], inb_S15x92_S1x1_4_1, ![512, 0], inb_S1920x11776_S128x256_512_0, packedbf16_S1920x11776_S128x256_512_0⟩,
    ⟨![5, 0, 640], inb_S6x256x1920_S1x128x128_5_0_640, ![5, 0], inb_S15x92_S1x1_5_0, ![5, 128, 640], inb_S6x256x1920_S1x128x128_5_128_640, ![5, 1], inb_S15x92_S1x1_5_1, ![640, 0], inb_S1920x11776_S128x256_640_0, packedbf16_S1920x11776_S128x256_640_0⟩,
    ⟨![5, 0, 768], inb_S6x256x1920_S1x128x128_5_0_768, ![6, 0], inb_S15x92_S1x1_6_0, ![5, 128, 768], inb_S6x256x1920_S1x128x128_5_128_768, ![6, 1], inb_S15x92_S1x1_6_1, ![768, 0], inb_S1920x11776_S128x256_768_0, packedbf16_S1920x11776_S128x256_768_0⟩,
    ⟨![5, 0, 896], inb_S6x256x1920_S1x128x128_5_0_896, ![7, 0], inb_S15x92_S1x1_7_0, ![5, 128, 896], inb_S6x256x1920_S1x128x128_5_128_896, ![7, 1], inb_S15x92_S1x1_7_1, ![896, 0], inb_S1920x11776_S128x256_896_0, packedbf16_S1920x11776_S128x256_896_0⟩,
    ⟨![5, 0, 1024], inb_S6x256x1920_S1x128x128_5_0_1024, ![8, 0], inb_S15x92_S1x1_8_0, ![5, 128, 1024], inb_S6x256x1920_S1x128x128_5_128_1024, ![8, 1], inb_S15x92_S1x1_8_1, ![1024, 0], inb_S1920x11776_S128x256_1024_0, packedbf16_S1920x11776_S128x256_1024_0⟩,
    ⟨![5, 0, 1152], inb_S6x256x1920_S1x128x128_5_0_1152, ![9, 0], inb_S15x92_S1x1_9_0, ![5, 128, 1152], inb_S6x256x1920_S1x128x128_5_128_1152, ![9, 1], inb_S15x92_S1x1_9_1, ![1152, 0], inb_S1920x11776_S128x256_1152_0, packedbf16_S1920x11776_S128x256_1152_0⟩,
    ⟨![5, 0, 1280], inb_S6x256x1920_S1x128x128_5_0_1280, ![10, 0], inb_S15x92_S1x1_10_0, ![5, 128, 1280], inb_S6x256x1920_S1x128x128_5_128_1280, ![10, 1], inb_S15x92_S1x1_10_1, ![1280, 0], inb_S1920x11776_S128x256_1280_0, packedbf16_S1920x11776_S128x256_1280_0⟩,
    ⟨![5, 0, 1408], inb_S6x256x1920_S1x128x128_5_0_1408, ![11, 0], inb_S15x92_S1x1_11_0, ![5, 128, 1408], inb_S6x256x1920_S1x128x128_5_128_1408, ![11, 1], inb_S15x92_S1x1_11_1, ![1408, 0], inb_S1920x11776_S128x256_1408_0, packedbf16_S1920x11776_S128x256_1408_0⟩,
    ⟨![5, 0, 1536], inb_S6x256x1920_S1x128x128_5_0_1536, ![12, 0], inb_S15x92_S1x1_12_0, ![5, 128, 1536], inb_S6x256x1920_S1x128x128_5_128_1536, ![12, 1], inb_S15x92_S1x1_12_1, ![1536, 0], inb_S1920x11776_S128x256_1536_0, packedbf16_S1920x11776_S128x256_1536_0⟩,
    ⟨![5, 0, 1664], inb_S6x256x1920_S1x128x128_5_0_1664, ![13, 0], inb_S15x92_S1x1_13_0, ![5, 128, 1664], inb_S6x256x1920_S1x128x128_5_128_1664, ![13, 1], inb_S15x92_S1x1_13_1, ![1664, 0], inb_S1920x11776_S128x256_1664_0, packedbf16_S1920x11776_S128x256_1664_0⟩,
    ⟨![5, 0, 1792], inb_S6x256x1920_S1x128x128_5_0_1792, ![14, 0], inb_S15x92_S1x1_14_0, ![5, 128, 1792], inb_S6x256x1920_S1x128x128_5_128_1792, ![14, 1], inb_S15x92_S1x1_14_1, ![1792, 0], inb_S1920x11776_S128x256_1792_0, packedbf16_S1920x11776_S128x256_1792_0⟩] <|
  push ⟨![0, 0, 0], inb_S2x256x128_S1x256x128_0_0_0, (0#32), ![0, 0, 0], inb_S2x256x11776_S1x256x128_0_0_0, (1#32), ![0, 0, 128], inb_S2x256x11776_S1x256x128_0_0_128⟩ m fun m =>
  xrWait <|
  xStart ⟨![1], inb_S2_S1_1, ![1, 0, 0], inb_S2x256x11776_S1x256x11776_1_0_0, wordsfp8e4m3_S2x256x11776_S1x256x11776_1_0_0, ![256, 0], inb_S3072x11776_S256x11776_256_0, wordsfp8e4m3_S3072x11776_S256x11776_256_0⟩ <|
  K m

/-- From the prepared passes to the tiles. -/
def mid (m : Mxu F) (K : Mxu F → PP F α) : PP F α :=
  xsWait ⟨(k0_off1 1#32 1#32), (k0_off1_inb 1)⟩ <|
  xWait ⟨![1], inb_S2_S1_1, ![1, 0, 0], inb_S2x256x11776_S1x256x11776_1_0_0, wordsfp8e4m3_S2x256x11776_S1x256x11776_1_0_0, ![256, 0], inb_S3072x11776_S256x11776_256_0, wordsfp8e4m3_S3072x11776_S256x11776_256_0⟩ <|
  turn ⟨![1, 0, 0], inb_S2x256x128_S1x256x128_1_0_0⟩ <|
  accF ⟨0, 0, fits_0_96, ![0, 11520], inb_S1920x11776_S96x256_0_11520⟩ m fun m =>
  accF ⟨1, 0, fits_0_96, ![960, 11520], inb_S1920x11776_S96x256_960_11520⟩ m fun m =>
  accLs [
    ⟨0, 24, fits_24_96, ![96, 11520], inb_S1920x11776_S96x256_96_11520⟩,
    ⟨1, 24, fits_24_96, ![1056, 11520], inb_S1920x11776_S96x256_1056_11520⟩,
    ⟨0, 48, fits_48_96, ![192, 11520], inb_S1920x11776_S96x256_192_11520⟩,
    ⟨1, 48, fits_48_96, ![1152, 11520], inb_S1920x11776_S96x256_1152_11520⟩,
    ⟨0, 72, fits_72_96, ![288, 11520], inb_S1920x11776_S96x256_288_11520⟩,
    ⟨1, 72, fits_72_96, ![1248, 11520], inb_S1920x11776_S96x256_1248_11520⟩,
    ⟨0, 96, fits_96_96, ![384, 11520], inb_S1920x11776_S96x256_384_11520⟩,
    ⟨1, 96, fits_96_96, ![1344, 11520], inb_S1920x11776_S96x256_1344_11520⟩,
    ⟨0, 120, fits_120_96, ![480, 11520], inb_S1920x11776_S96x256_480_11520⟩,
    ⟨1, 120, fits_120_96, ![1440, 11520], inb_S1920x11776_S96x256_1440_11520⟩,
    ⟨0, 144, fits_144_96, ![576, 11520], inb_S1920x11776_S96x256_576_11520⟩,
    ⟨1, 144, fits_144_96, ![1536, 11520], inb_S1920x11776_S96x256_1536_11520⟩,
    ⟨0, 168, fits_168_96, ![672, 11520], inb_S1920x11776_S96x256_672_11520⟩,
    ⟨1, 168, fits_168_96, ![1632, 11520], inb_S1920x11776_S96x256_1632_11520⟩,
    ⟨0, 192, fits_192_96, ![768, 11520], inb_S1920x11776_S96x256_768_11520⟩,
    ⟨1, 192, fits_192_96, ![1728, 11520], inb_S1920x11776_S96x256_1728_11520⟩,
    ⟨0, 216, fits_216_96, ![864, 11520], inb_S1920x11776_S96x256_864_11520⟩,
    ⟨1, 216, fits_216_96, ![1824, 11520], inb_S1920x11776_S96x256_1824_11520⟩] m fun m =>
  push ⟨![1, 0, 0], inb_S2x256x128_S1x256x128_1_0_0, (0#32), ![1, 0, 0], inb_S2x256x11776_S1x256x128_1_0_0, (1#32), ![1, 0, 128], inb_S2x256x11776_S1x256x128_1_0_128⟩ m fun m =>
  drain ⟨0, 0, fits_0_96, ![0, 0], inb_S1920x256_S96x256_0_0⟩ m fun h0 m =>
  drain ⟨1, 0, fits_0_96, ![960, 0], inb_S1920x256_S96x256_960_0⟩ m fun h1 m =>
  accF ⟨0, 0, fits_0_96, ![0, 0], inb_S1920x11776_S96x256_0_0⟩ m fun m =>
  accF ⟨1, 0, fits_0_96, ![960, 0], inb_S1920x11776_S96x256_960_0⟩ m fun m =>
  drain ⟨0, 24, fits_24_96, ![96, 0], inb_S1920x256_S96x256_96_0⟩ m fun h2 m =>
  drain ⟨1, 24, fits_24_96, ![1056, 0], inb_S1920x256_S96x256_1056_0⟩ m fun h3 m =>
  accLs [
    ⟨0, 24, fits_24_96, ![96, 0], inb_S1920x11776_S96x256_96_0⟩,
    ⟨1, 24, fits_24_96, ![1056, 0], inb_S1920x11776_S96x256_1056_0⟩] m fun m =>
  drain ⟨0, 48, fits_48_96, ![192, 0], inb_S1920x256_S96x256_192_0⟩ m fun h4 m =>
  drain ⟨1, 48, fits_48_96, ![1152, 0], inb_S1920x256_S96x256_1152_0⟩ m fun h5 m =>
  accLs [
    ⟨0, 48, fits_48_96, ![192, 0], inb_S1920x11776_S96x256_192_0⟩,
    ⟨1, 48, fits_48_96, ![1152, 0], inb_S1920x11776_S96x256_1152_0⟩] m fun m =>
  drain ⟨0, 72, fits_72_96, ![288, 0], inb_S1920x256_S96x256_288_0⟩ m fun h6 m =>
  drain ⟨1, 72, fits_72_96, ![1248, 0], inb_S1920x256_S96x256_1248_0⟩ m fun h7 m =>
  accLs [
    ⟨0, 72, fits_72_96, ![288, 0], inb_S1920x11776_S96x256_288_0⟩,
    ⟨1, 72, fits_72_96, ![1248, 0], inb_S1920x11776_S96x256_1248_0⟩] m fun m =>
  drain ⟨0, 96, fits_96_96, ![384, 0], inb_S1920x256_S96x256_384_0⟩ m fun h8 m =>
  drain ⟨1, 96, fits_96_96, ![1344, 0], inb_S1920x256_S96x256_1344_0⟩ m fun h9 m =>
  accLs [
    ⟨0, 96, fits_96_96, ![384, 0], inb_S1920x11776_S96x256_384_0⟩,
    ⟨1, 96, fits_96_96, ![1344, 0], inb_S1920x11776_S96x256_1344_0⟩] m fun m =>
  drain ⟨0, 120, fits_120_96, ![480, 0], inb_S1920x256_S96x256_480_0⟩ m fun h10 m =>
  drain ⟨1, 120, fits_120_96, ![1440, 0], inb_S1920x256_S96x256_1440_0⟩ m fun h11 m =>
  accLs [
    ⟨0, 120, fits_120_96, ![480, 0], inb_S1920x11776_S96x256_480_0⟩,
    ⟨1, 120, fits_120_96, ![1440, 0], inb_S1920x11776_S96x256_1440_0⟩] m fun m =>
  drain ⟨0, 144, fits_144_96, ![576, 0], inb_S1920x256_S96x256_576_0⟩ m fun h12 m =>
  drain ⟨1, 144, fits_144_96, ![1536, 0], inb_S1920x256_S96x256_1536_0⟩ m fun h13 m =>
  accLs [
    ⟨0, 144, fits_144_96, ![576, 0], inb_S1920x11776_S96x256_576_0⟩,
    ⟨1, 144, fits_144_96, ![1536, 0], inb_S1920x11776_S96x256_1536_0⟩] m fun m =>
  drain ⟨0, 168, fits_168_96, ![672, 0], inb_S1920x256_S96x256_672_0⟩ m fun h14 m =>
  drain ⟨1, 168, fits_168_96, ![1632, 0], inb_S1920x256_S96x256_1632_0⟩ m fun h15 m =>
  accLs [
    ⟨0, 168, fits_168_96, ![672, 0], inb_S1920x11776_S96x256_672_0⟩,
    ⟨1, 168, fits_168_96, ![1632, 0], inb_S1920x11776_S96x256_1632_0⟩] m fun m =>
  drain ⟨0, 192, fits_192_96, ![768, 0], inb_S1920x256_S96x256_768_0⟩ m fun h16 m =>
  drain ⟨1, 192, fits_192_96, ![1728, 0], inb_S1920x256_S96x256_1728_0⟩ m fun h17 m =>
  accLs [
    ⟨0, 192, fits_192_96, ![768, 0], inb_S1920x11776_S96x256_768_0⟩,
    ⟨1, 192, fits_192_96, ![1728, 0], inb_S1920x11776_S96x256_1728_0⟩] m fun m =>
  drain ⟨0, 216, fits_216_96, ![864, 0], inb_S1920x256_S96x256_864_0⟩ m fun h18 m =>
  drain ⟨1, 216, fits_216_96, ![1824, 0], inb_S1920x256_S96x256_1824_0⟩ m fun h19 m =>
  accLs [
    ⟨0, 216, fits_216_96, ![864, 0], inb_S1920x11776_S96x256_864_0⟩,
    ⟨1, 216, fits_216_96, ![1824, 0], inb_S1920x11776_S96x256_1824_0⟩] m fun m =>
  push ⟨![1, 0, 0], inb_S2x256x128_S1x256x128_1_0_0, (2#32), ![1, 0, 256], inb_S2x256x11776_S1x256x128_1_0_256, (3#32), ![1, 0, 384], inb_S2x256x11776_S1x256x128_1_0_384⟩ m fun m =>
  storeMax (maximumf (maximumf (maximumf (maximumf (maximumf (maximumf (maximumf (maximumf (maximumf (maximumf (maximumf (maximumf (maximumf (maximumf (maximumf (maximumf (maximumf (maximumf (maximumf (top h0) (top h1)) (top h2)) (top h3)) (top h4)) (top h5)) (top h6)) (top h7)) (top h8)) (top h9)) (top h10)) (top h11)) (top h12)) (top h13)) (top h14)) (top h15)) (top h16)) (top h17)) (top h18)) (top h19)) <|
  K m

/-- After the tiles. -/
def post (K : PP F α) : PP F α :=
  yWait ⟨![1], inb_S2_S1_1, ![2304, 0], inb_S3072x1920_S256x1920_2304_0, wordsfp8e4m3_S3072x1920_S256x1920_2304_0, ![1, 0, 0], inb_S2x256x1920_S1x256x1920_1_0_0, wordsfp8e4m3_S2x256x1920_S1x256x1920_1_0_0⟩ <|
  findScale ⟨k0_off154, k0_off154_inb, 1#32⟩ <|
  quantise ⟨![0, 0], inb_S1920x256_S128x256_0_0, ![1, 0, 0], inb_S2x256x1920_S1x256x128_1_0_0, packedfp8e4m3_S2x256x1920_S1x256x128_1_0_0⟩ <|
  quantise ⟨![128, 0], inb_S1920x256_S128x256_128_0, ![1, 0, 128], inb_S2x256x1920_S1x256x128_1_0_128, packedfp8e4m3_S2x256x1920_S1x256x128_1_0_128⟩ <|
  quantise ⟨![256, 0], inb_S1920x256_S128x256_256_0, ![1, 0, 256], inb_S2x256x1920_S1x256x128_1_0_256, packedfp8e4m3_S2x256x1920_S1x256x128_1_0_256⟩ <|
  quantise ⟨![384, 0], inb_S1920x256_S128x256_384_0, ![1, 0, 384], inb_S2x256x1920_S1x256x128_1_0_384, packedfp8e4m3_S2x256x1920_S1x256x128_1_0_384⟩ <|
  quantise ⟨![512, 0], inb_S1920x256_S128x256_512_0, ![1, 0, 512], inb_S2x256x1920_S1x256x128_1_0_512, packedfp8e4m3_S2x256x1920_S1x256x128_1_0_512⟩ <|
  quantise ⟨![640, 0], inb_S1920x256_S128x256_640_0, ![1, 0, 640], inb_S2x256x1920_S1x256x128_1_0_640, packedfp8e4m3_S2x256x1920_S1x256x128_1_0_640⟩ <|
  quantise ⟨![768, 0], inb_S1920x256_S128x256_768_0, ![1, 0, 768], inb_S2x256x1920_S1x256x128_1_0_768, packedfp8e4m3_S2x256x1920_S1x256x128_1_0_768⟩ <|
  quantise ⟨![896, 0], inb_S1920x256_S128x256_896_0, ![1, 0, 896], inb_S2x256x1920_S1x256x128_1_0_896, packedfp8e4m3_S2x256x1920_S1x256x128_1_0_896⟩ <|
  quantise ⟨![1024, 0], inb_S1920x256_S128x256_1024_0, ![1, 0, 1024], inb_S2x256x1920_S1x256x128_1_0_1024, packedfp8e4m3_S2x256x1920_S1x256x128_1_0_1024⟩ <|
  quantise ⟨![1152, 0], inb_S1920x256_S128x256_1152_0, ![1, 0, 1152], inb_S2x256x1920_S1x256x128_1_0_1152, packedfp8e4m3_S2x256x1920_S1x256x128_1_0_1152⟩ <|
  quantise ⟨![1280, 0], inb_S1920x256_S128x256_1280_0, ![1, 0, 1280], inb_S2x256x1920_S1x256x128_1_0_1280, packedfp8e4m3_S2x256x1920_S1x256x128_1_0_1280⟩ <|
  quantise ⟨![1408, 0], inb_S1920x256_S128x256_1408_0, ![1, 0, 1408], inb_S2x256x1920_S1x256x128_1_0_1408, packedfp8e4m3_S2x256x1920_S1x256x128_1_0_1408⟩ <|
  quantise ⟨![1536, 0], inb_S1920x256_S128x256_1536_0, ![1, 0, 1536], inb_S2x256x1920_S1x256x128_1_0_1536, packedfp8e4m3_S2x256x1920_S1x256x128_1_0_1536⟩ <|
  quantise ⟨![1664, 0], inb_S1920x256_S128x256_1664_0, ![1, 0, 1664], inb_S2x256x1920_S1x256x128_1_0_1664, packedfp8e4m3_S2x256x1920_S1x256x128_1_0_1664⟩ <|
  quantise ⟨![1792, 0], inb_S1920x256_S128x256_1792_0, ![1, 0, 1792], inb_S2x256x1920_S1x256x128_1_0_1792, packedfp8e4m3_S2x256x1920_S1x256x128_1_0_1792⟩ <|
  yStart ⟨![1], inb_S2_S1_1, ![2816, 0], inb_S3072x1920_S256x1920_2816_0, wordsfp8e4m3_S3072x1920_S256x1920_2816_0, ![1, 0, 0], inb_S2x256x1920_S1x256x1920_1_0_0, wordsfp8e4m3_S2x256x1920_S1x256x1920_1_0_0⟩ <|
  ysStart <|
  yWait ⟨![0], inb_S2_S1_0, ![2560, 0], inb_S3072x1920_S256x1920_2560_0, wordsfp8e4m3_S3072x1920_S256x1920_2560_0, ![0, 0, 0], inb_S2x256x1920_S1x256x1920_0_0_0, wordsfp8e4m3_S2x256x1920_S1x256x1920_0_0_0⟩ <|
  yWait ⟨![1], inb_S2_S1_1, ![2816, 0], inb_S3072x1920_S256x1920_2816_0, wordsfp8e4m3_S3072x1920_S256x1920_2816_0, ![1, 0, 0], inb_S2x256x1920_S1x256x1920_1_0_0, wordsfp8e4m3_S2x256x1920_S1x256x1920_1_0_0⟩ <|
  ysWait <|
  K

/-- The whole. -/
def prog : PP F PUnit :=
  pre mxu0 fun m =>
  Scf.Loop.for k0_t1_loop k0_t1_ok m (fun k0_t1 m => body1 k0_t1 m .ret) >>= fun m =>
  mid m fun m =>
  Scf.Loop.for k0_t2_loop k0_t2_ok m (fun k0_t2 m => body2 k0_t2 m .ret) >>= fun m =>
  post <| m.exit >>= fun _ => .ret ⟨⟩

end Cert.Kernel.V
-- ==== Proof.Canon.lean ====
/- The steps' records in closed form: where each pass reads the weights, where each block is prepared, where each
   tile is pushed, what each transfer moves. -/
module

public import proofs.«01_k».proof.Proof.Prog

@[expose] public section

set_option synthInstance.maxSize 4096
set_option maxRecDepth 4096

noncomputable section

namespace Cert.Kernel.V

open Idealize.ShloMosaic Idealize.SL.Sem Cert.Kernel.Gen

deriving instance DecidableEq for AccO, PushO, PrepO, WO, XsO, XO, YO, DrO, TrO, QO, FsO

/-- Piece `e / 2` of unit `e % 2` of pass `k`. -/
def accO (k : Fin 46) (e : Fin 20) : AccO :=
  ⟨⟨e.val % 2, by omega⟩, 24 * (e.val / 2), by unfold Mxu.Fits; omega, ![960 * (e.val % 2) + 96 * (e.val / 2), 256 * k.val], by
    intro a
    match a with
    | 0 => show 960 * (e.val % 2) + 96 * (e.val / 2) + 96 ≤ 1920; omega
    | 1 => show 256 * k.val + 256 ≤ 11776; omega⟩

/-- The last `n` pieces of pass `k`. -/
def accTail (k : Fin 46) : Nat → List AccO
  | 0 => []
  | n + 1 => if h : n < 20 then accO k ⟨19 - n, by omega⟩ :: accTail k n else []

/-- Block `b` of chunk `c` of the weights, staged in `s`. -/
def prepO (s : Fin 6) (c : Fin 46) (b : Fin 15) : PrepO :=
  ⟨![s.val, 0, 128 * b.val], by
    intro a
    match a with
    | 0 => show s.val + 1 ≤ 6; omega
    | 1 => show 0 + 128 ≤ 256; omega
    | 2 => show 128 * b.val + 128 ≤ 1920; omega,
   ![b.val, 2 * c.val], by
    intro a
    match a with
    | 0 => show b.val + 1 ≤ 15; omega
    | 1 => show 2 * c.val + 1 ≤ 92; omega,
   ![s.val, 128, 128 * b.val], by
    intro a
    match a with
    | 0 => show s.val + 1 ≤ 6; omega
    | 1 => show 128 + 128 ≤ 256; omega
    | 2 => show 128 * b.val + 128 ≤ 1920; omega,
   ![b.val, 2 * c.val + 1], by
    intro a
    match a with
    | 0 => show b.val + 1 ≤ 15; omega
    | 1 => show 2 * c.val + 1 + 1 ≤ 92; omega,
   ![128 * b.val, 256 * c.val], by
    intro a
    match a with
    | 0 => show 128 * b.val + 128 ≤ 1920; omega
    | 1 => show 256 * c.val + 256 ≤ 11776; omega,
   by revert b c; decide +kernel⟩

/-- The last `n` blocks. -/
def prepTail (s : Fin 6) (c : Fin 46) : Nat → List PrepO
  | 0 => []
  | n + 1 => if h : n < 15 then prepO s c ⟨14 - n, by omega⟩ :: prepTail s c n else []

/-- Tile `k` of the activations in slot `s`. -/
def pushO (s : Fin 2) (k : Fin 46) : PushO :=
  ⟨![s.val, 0, 0], by
    intro a
    match a with
    | 0 => show s.val + 1 ≤ 2; omega
    | 1 => show 0 + 256 ≤ 256; omega
    | 2 => show 0 + 128 ≤ 128; omega,
   BitVec.ofNat 32 (2 * k.val),
   ![s.val, 0, 256 * k.val], by
    intro a
    match a with
    | 0 => show s.val + 1 ≤ 2; omega
    | 1 => show 0 + 256 ≤ 256; omega
    | 2 => show 256 * k.val + 128 ≤ 11776; omega,
   BitVec.ofNat 32 (2 * k.val + 1),
   ![s.val, 0, 256 * k.val + 128], by
    intro a
    match a with
    | 0 => show s.val + 1 ≤ 2; omega
    | 1 => show 0 + 256 ≤ 256; omega
    | 2 => show 256 * k.val + 128 + 128 ≤ 11776; omega⟩

/-- Chunk `c` of the weights into slot `s`. -/
def wO (s : Fin 6) (c : Fin 46) : WO :=
  ⟨![s.val], by intro a; match a with | 0 => show s.val + 1 ≤ 6; omega,
   ![s.val, 0, 0], by
    intro a
    match a with
    | 0 => show s.val + 1 ≤ 6; omega
    | 1 => show 0 + 256 ≤ 256; omega
    | 2 => show 0 + 1920 ≤ 1920; omega,
   by revert s; decide +kernel,
   ![256 * c.val, 0], by
    intro a
    match a with
    | 0 => show 256 * c.val + 256 ≤ 11776; omega
    | 1 => show 0 + 1920 ≤ 1920; omega,
   by revert c; decide +kernel⟩

/-- The token scales of tile `i`. -/
def xsO (i : Fin 12) : XsO :=
  ⟨![0, i.val / 6, 256 * (i.val % 6)], by
    intro a
    match a with
    | 0 => show 0 + 92 ≤ 92; omega
    | 1 => show i.val / 6 + 1 ≤ 2; omega
    | 2 => show 256 * (i.val % 6) + 256 ≤ 1536; omega⟩

/-- The codes of tile `i` into slot `s`. -/
def xO (s : Fin 2) (i : Fin 12) : XO :=
  ⟨![s.val], by intro a; match a with | 0 => show s.val + 1 ≤ 2; omega,
   ![s.val, 0, 0], by
    intro a
    match a with
    | 0 => show s.val + 1 ≤ 2; omega
    | 1 => show 0 + 256 ≤ 256; omega
    | 2 => show 0 + 11776 ≤ 11776; omega,
   by revert s; decide +kernel,
   ![256 * i.val, 0], by
    intro a
    match a with
    | 0 => show 256 * i.val + 256 ≤ 3072; omega
    | 1 => show 0 + 11776 ≤ 11776; omega,
   by revert i; decide +kernel⟩

/-- The result's codes of tile `i` out of slot `s`. -/
def yO (s : Fin 2) (i : Fin 12) : YO :=
  ⟨![s.val], by intro a; match a with | 0 => show s.val + 1 ≤ 2; omega,
   ![256 * i.val, 0], by
    intro a
    match a with
    | 0 => show 256 * i.val + 256 ≤ 3072; omega
    | 1 => show 0 + 1920 ≤ 1920; omega,
   by revert i; decide +kernel,
   ![s.val, 0, 0], by
    intro a
    match a with
    | 0 => show s.val + 1 ≤ 2; omega
    | 1 => show 0 + 256 ≤ 256; omega
    | 2 => show 0 + 1920 ≤ 1920; omega,
   by revert s; decide +kernel⟩

/-- Piece `e / 2` of unit `e % 2` drained. -/
def drO (e : Fin 20) : DrO :=
  ⟨⟨e.val % 2, by omega⟩, 24 * (e.val / 2), by unfold Mxu.Fits; omega, ![960 * (e.val % 2) + 96 * (e.val / 2), 0], by
    intro a
    match a with
    | 0 => show 960 * (e.val % 2) + 96 * (e.val / 2) + 96 ≤ 1920; omega
    | 1 => show 0 + 256 ≤ 256; omega⟩

def trO (s : Fin 2) : TrO :=
  ⟨![s.val, 0, 0], by
    intro a
    match a with
    | 0 => show s.val + 1 ≤ 2; omega
    | 1 => show 0 + 256 ≤ 256; omega
    | 2 => show 0 + 128 ≤ 128; omega⟩

/-- Block `b` quantised into slot `s`. -/
def qO (s : Fin 2) (b : Fin 15) : QO :=
  ⟨![128 * b.val, 0], by
    intro a
    match a with
    | 0 => show 128 * b.val + 128 ≤ 1920; omega
    | 1 => show 0 + 256 ≤ 256; omega,
   ![s.val, 0, 128 * b.val], by
    intro a
    match a with
    | 0 => show s.val + 1 ≤ 2; omega
    | 1 => show 0 + 256 ≤ 256; omega
    | 2 => show 128 * b.val + 128 ≤ 1920; omega,
   by revert s b; decide +kernel⟩

/-- Where the scale of tile `i` goes. -/
def fsO (i : Fin 12) : FsO :=
  ⟨![0, 256 * (i.val % 6)], by
    intro a
    match a with
    | 0 => show 0 + 2 ≤ 2; omega
    | 1 => show 256 * (i.val % 6) + 256 ≤ 1536; omega,
   BitVec.ofNat 32 (i.val / 6)⟩

/-! ## The program in closed form -/

variable {F : FTy → Type} [FloatOps F] {α : Type}

/-- Pass `k`. -/
def passC (k : Fin 46) (m : Mxu F) (K : Mxu F → PP F α) : PP F α :=
  accF (accO k 0) m fun m => accF (accO k 1) m fun m => accLs (accTail k 18) m K

/-- The last `n` pairs of pieces drained, each followed by the next tile's first pass; `v` is the largest so far. -/
def overTail : ℕ → FVec F S8x256 .f32 → Mxu F → (FVec F S8x256 .f32 → Mxu F → PP F α) → PP F α
  | 0, v, m, K => K v m
  | n + 1, v, m, K => if h : n < 10 then
      drain (drO ⟨18 - 2 * n, by omega⟩) m fun h1 m => drain (drO ⟨18 - 2 * n + 1, by omega⟩) m fun h2 m =>
      accLs [accO 0 ⟨18 - 2 * n, by omega⟩, accO 0 ⟨18 - 2 * n + 1, by omega⟩] m fun m =>
      overTail n (maximumf (maximumf v (top h1)) (top h2)) m K
    else K v m

/-- The pieces drained while the next tile's first pass is accumulated. -/
def overC (m : Mxu F) (K : FVec F S8x256 .f32 → Mxu F → PP F α) : PP F α :=
  drain (drO 0) m fun h1 m => drain (drO 1) m fun h2 m =>
  accF (accO 0 0) m fun m => accF (accO 0 1) m fun m => overTail 9 (maximumf (top h1) (top h2)) m K

/-- The last `n` pairs of pieces drained. -/
def lastTail : ℕ → FVec F S8x256 .f32 → Mxu F → (FVec F S8x256 .f32 → Mxu F → PP F α) → PP F α
  | 0, v, m, K => K v m
  | n + 1, v, m, K => if h : n < 10 then
      drain (drO ⟨18 - 2 * n, by omega⟩) m fun h1 m => drain (drO ⟨18 - 2 * n + 1, by omega⟩) m fun h2 m =>
      lastTail n (maximumf (maximumf v (top h1)) (top h2)) m K
    else K v m

/-- The pieces drained. -/
def lastC (m : Mxu F) (K : FVec F S8x256 .f32 → Mxu F → PP F α) : PP F α :=
  drain (drO 0) m fun h1 m => drain (drO 1) m fun h2 m => lastTail 9 (maximumf (top h1) (top h2)) m K

/-- The last `n` blocks quantised into slot `s`. -/
def quantTail (s : Fin 2) : ℕ → PP F α → PP F α
  | 0, K => K
  | n + 1, K => if h : n < 15 then quantise (qO s ⟨14 - n, by omega⟩) (quantTail s n K) else K

/-- The slot of tile `i`. -/
def par (i : Fin 12) : Fin 2 := ⟨i.val % 2, by omega⟩
def nxt (i : Fin 12) : Fin 12 := ⟨(i.val + 1) % 12, by omega⟩
def prv (i : Fin 12) (n : ℕ) : Fin 12 := ⟨(i.val - n) % 12, by omega⟩

/-- Chunk `c` prepared out of slot `s`, pass `k` accumulated, tile `k'` pushed. -/
def step1C (s : Fin 6) (c k k' : Fin 46) (m : Mxu F) (K : Mxu F → PP F α) : PP F α :=
  preps (prepTail s c 15) <| passC k m fun m => push (pushO 0 k') m K

/-- Passes 41 to 45, the tiles between out of slot `s`. -/
def finC (s : Fin 2) (m : Mxu F) (K : Mxu F → PP F α) : PP F α :=
  passC 41 m fun m => push (pushO s 42) m fun m => passC 42 m fun m => push (pushO s 43) m fun m =>
  passC 43 m fun m => push (pushO s 44) m fun m => passC 44 m fun m => push (pushO s 45) m fun m => passC 45 m K

def midC (m : Mxu F) (K : Mxu F → PP F α) : PP F α :=
  xsWait (xsO 1) <| xWait (xO 1 1) <| turn (trO 1) <| passC 45 m fun m =>
  push (pushO 1 0) m fun m => overC m fun v m => push (pushO 1 1) m fun m => storeMax v (K m)

def br2C (i : Fin 12) (K : PP F α) : PP F α := xsStart (xsO (nxt i)) <| xStart (xO (par (nxt i)) (nxt i)) K
def br3C (i : Fin 12) (K : PP F α) : PP F α := yStart (yO (par i) (prv i 2)) K
def br4C (i : Fin 12) (K : PP F α) : PP F α := yWait (yO (par (nxt i)) (prv i 3)) K
def br5C (i : Fin 12) (m : Mxu F) (K : Mxu F → PP F α) : PP F α :=
  xsWait (xsO (nxt i)) <| xWait (xO (par (nxt i)) (nxt i)) <| turn (trO (par (nxt i))) <| finC (par i) m fun m =>
  push (pushO (par (nxt i)) 0) m fun m => overC m fun v m => push (pushO (par (nxt i)) 1) m fun m => storeMax v (K m)
def br6C (m : Mxu F) (K : Mxu F → PP F α) : PP F α :=
  yStart (yO 0 10) <| finC 1 m fun m => lastC m fun v m => storeMax v (K m)

def preC (m : Mxu F) (K : Mxu F → PP F α) : PP F α :=
  wsStart <| xsStart (xsO 0) <| xhStart <| wStart (wO 5 0) <| xrStart <| wStart (wO 0 1) <| wStart (wO 1 2) <| wStart (wO 2 3) <|
  zeroOsc <| wsWait <| xsWait (xsO 0) <| turn (trO 0) <| xsStart (xsO 1) <| xhWait <| wWait (wO 5 0) <|
  preps (prepTail 5 0 15) <| push (pushO 0 0) m fun m => xrWait <| xStart (xO 1 1) <| K m

def postC (K : PP F α) : PP F α :=
  yWait (yO 1 9) <| findScale (fsO 11) <| quantTail 1 15 <| yStart (yO 1 11) <| ysStart <| yWait (yO 0 10) <| yWait (yO 1 11) <| ysWait K

/-- Slot and chunk of transfer `j` of trip `t` of the prepared passes. -/
def sl1 (t : Fin 15) (j : Fin 3) : Fin 6 := ⟨3 * (t.val % 2) + j.val, by omega⟩
def ch1 (t : Fin 15) (j : Fin 3) : Fin 46 := ⟨3 * t.val + 1 + j.val, by omega⟩
def ps1 (t : Fin 15) (j : Fin 3) : Fin 46 := ⟨3 * t.val + j.val, by omega⟩
def nx15 (t : Fin 15) : Fin 15 := ⟨(t.val + 1) % 15, by omega⟩

def start1C (t : Fin 15) (K : PP F α) : PP F α :=
  wStart (wO (sl1 t 0) (ch1 t 0)) <| wStart (wO (sl1 t 1) (ch1 t 1)) <| wStart (wO (sl1 t 2) (ch1 t 2)) K

def body1C (t : Fin 15) (m : Mxu F) (K : Mxu F → PP F α) : PP F α :=
  (if t.val < 14 then start1C (nx15 t) else id) <|
  wWait (wO (sl1 t 0) (ch1 t 0)) <| wWait (wO (sl1 t 1) (ch1 t 1)) <| wWait (wO (sl1 t 2) (ch1 t 2)) <|
  step1C (sl1 t 0) (ch1 t 0) (ps1 t 0) (ch1 t 0) m fun m => step1C (sl1 t 1) (ch1 t 1) (ps1 t 1) (ch1 t 1) m fun m =>
  step1C (sl1 t 2) (ch1 t 2) (ps1 t 2) (ch1 t 2) m K

/-- The pass of step `j` of trip `t` over a tile. -/
def ps3 (t : Fin 5) (j : Fin 8) : Fin 46 := ⟨8 * t.val + 1 + j.val, by omega⟩
def nx3 (t : Fin 5) (j : Fin 8) : Fin 46 := ⟨8 * t.val + 2 + j.val, by omega⟩
def bl3 (t : Fin 5) (j : Fin 3) : Fin 15 := ⟨3 * t.val + j.val, by omega⟩

def step3C (s : Fin 2) (t : Fin 5) (j : Fin 8) (m : Mxu F) (K : Mxu F → PP F α) : PP F α :=
  passC (ps3 t j) m fun m => push (pushO s (nx3 t j)) m K

def body3C (i : Fin 12) (t : Fin 5) (m : Mxu F) (K : Mxu F → PP F α) : PP F α :=
  step3C (par i) t 0 m fun m => quantise (qO (par (nxt i)) (bl3 t 0)) <|
  step3C (par i) t 1 m fun m => quantise (qO (par (nxt i)) (bl3 t 1)) <|
  step3C (par i) t 2 m fun m => quantise (qO (par (nxt i)) (bl3 t 2)) <|
  step3C (par i) t 3 m fun m => step3C (par i) t 4 m fun m => step3C (par i) t 5 m fun m =>
  step3C (par i) t 6 m fun m => step3C (par i) t 7 m K

def bodyPre (i : Fin 12) (K : PP F α) : PP F α :=
  (if i.val < 11 then br2C i else id) <| (if 2 ≤ i.val then br3C i else id) <| (if 3 ≤ i.val then br4C i else id) <|
  findScale (fsO (prv i 1)) K

def bodyPost (i : Fin 12) (m : Mxu F) (K : Mxu F → PP F α) : PP F α :=
  if i.val < 11 then br5C i m K else br6C m K

theorem trips1 : k0_t1_loop.trips = 15 := by decide +kernel
theorem trips2 : k0_t2_loop.trips = 11 := by decide +kernel
theorem trips3 : k0_t3_loop.trips = 5 := by decide +kernel
def f15 (t : Fin k0_t1_loop.trips) : Fin 15 := ⟨t.val, trips1 ▸ t.isLt⟩
def f12 (t : Fin k0_t2_loop.trips) : Fin 12 := ⟨t.val + 1, by have := t.isLt; have := trips2; omega⟩
def f5 (t : Fin k0_t3_loop.trips) : Fin 5 := ⟨t.val, trips3 ▸ t.isLt⟩

/-- A trip over tile `i`. -/
def body2C (i : Fin 12) (m : Mxu F) (K : Mxu F → PP F α) : PP F α :=
  bodyPre i <| Scf.Loop.for k0_t3_loop k0_t3_ok m (fun t m => body3C i (f5 t) m .ret) >>= fun m => bodyPost i m K

/-- The program in closed form. -/
def progC : PP F PUnit :=
  preC mxu0 fun m => Scf.Loop.for k0_t1_loop k0_t1_ok m (fun t m => body1C (f15 t) m .ret) >>= fun m =>
  midC m fun m => Scf.Loop.for k0_t2_loop k0_t2_ok m (fun t m => body2C (f12 t) m .ret) >>= fun m =>
  postC <| m.exit >>= fun _ => .ret ⟨⟩

end Cert.Kernel.V
-- ==== Proof.Unit.lean ====
/- What the matrix units hold between the steps, piece by piece: which products each piece has summed,
   which tile waits in register 0 and which is loaded. -/
module

public import proofs.«01_k».proof.Proof.Steps

@[expose] public section

noncomputable section

namespace Cert.Kernel.V

open Idealize.ShloMosaic Idealize.SL.Sem Cert.Kernel.Gen

variable {F : FTy → Type} [FloatOps F]

/-- A pushed tile, as it waits in a register. -/
abbrev stg (v : FVec F S256x256 .bf16) : Mxu.Staged F := ⟨.bf16, true, v⟩

/-- The product of a piece of weights and a tile. -/
abbrev passOf (v : FVec F S256x256 .bf16) (w : Vec F S96x256 .bf16) : FVec F S96x256 .f32 := (stg v).pass (M := 96) (φ := .bf16) w

/-- A product added to what a piece holds, or kept as it is by a piece that holds nothing. -/
def dep (o : Option (FVec F S96x256 .f32)) (x : FVec F S96x256 .f32) : FVec F S96x256 .f32 :=
  match o with
  | none => x
  | some u => addf u x

/-- The pieces' contents. -/
abbrev Tb (F : FTy → Type) [FloatOps F] := Fin 2 → Fin 10 → Option (FVec F S96x256 .f32)
/-- The units' tiles. -/
abbrev Rg (F : FTy → Type) [FloatOps F] := Fin 2 → Option (FVec F S256x256 .bf16)

/-- `T` with piece `p` of unit `q` at `x`. -/
def upd (T : Tb F) (q : Fin 2) (p : Fin 10) (x : Option (FVec F S96x256 .f32)) : Tb F :=
  fun q' p' => if q' = q ∧ p' = p then x else T q' p'

/-- What one piece holds. -/
def Piece (m : Mxu F) (q : Fin 2) (p : Fin 10) : Option (FVec F S96x256 .f32) → Prop
  | none => ∀ R : Fin 1024, 96 * p.val ≤ R.val → R.val < 96 * p.val + 96 → m.live q R = false
  | some v => (∀ R : Fin 1024, 96 * p.val ≤ R.val → R.val < 96 * p.val + 96 → m.live q R = true)
      ∧ ∀ h : Mxu.Fits (24 * p.val) 96, m.read q (24 * p.val) h = v

/-- The units' state: pieces `T`, register 0 at `R`, loaded tiles `G`. -/
structure MS (m : Mxu F) (T : Tb F) (R G : Rg F) : Prop where
  piece : ∀ q p, Piece m q p (T q p)
  rest : ∀ q (r : Fin 1024), 960 ≤ r.val → m.live q r = false
  reg0 : ∀ q, m.reg q 0 = (R q).map stg
  reg1 : ∀ q, m.reg q 1 = none
  gmr : ∀ q v, G q = some v → m.gmr q = some (stg v)

theorem fits24 (p : Fin 10) : Mxu.Fits (24 * p.val) 96 := by
  have := p.isLt; unfold Mxu.Fits; omega

variable {m : Mxu F} {T : Tb F} {R G : Rg F}

theorem piece_of_same {m m' : Mxu F} {q : Fin 2} {p : Fin 10} {o : Option (FVec F S96x256 .f32)}
    (hl : ∀ R : Fin 1024, 96 * p.val ≤ R.val → R.val < 96 * p.val + 96 → m'.live q R = m.live q R)
    (hr : ∀ h : Mxu.Fits (24 * p.val) 96, m'.read q (24 * p.val) (M := 96) h = m.read q (24 * p.val) h)
    (h : Piece m q p o) : Piece m' q p o := by
  cases o with
  | none => exact fun R h1 h2 => (hl R h1 h2).trans (h R h1 h2)
  | some v => exact ⟨fun R h1 h2 => (hl R h1 h2).trans (h.1 R h1 h2), fun hf => (hr hf).trans (h.2 hf)⟩

theorem apart {q q' : Fin 2} {p p' : Fin 10} (hne : ¬ (q' = q ∧ p' = p)) :
    q' ≠ q ∨ 4 * (24 * p'.val) + 96 ≤ 4 * (24 * p.val) ∨ 4 * (24 * p.val) + 96 ≤ 4 * (24 * p'.val) := by
  by_cases h : q' = q
  · have : p'.val ≠ p.val := fun e => hne ⟨h, Fin.ext e⟩
    right; omega
  · exact .inl h

theorem live_apart {q q' : Fin 2} {p p' : Fin 10} (hne : ¬ (q' = q ∧ p' = p)) (R : Fin 1024)
    (h1 : 96 * p'.val ≤ R.val) (h2 : R.val < 96 * p'.val + 96) :
    ¬ (q' = q ∧ 4 * (24 * p.val) ≤ R.val ∧ R.val < 4 * (24 * p.val) + 96) := by
  rintro ⟨h, h3, h4⟩
  exact hne ⟨h, Fin.ext (by omega)⟩

theorem MS.accBy (h : MS m T R G) (q : Fin 2) (p : Fin 10) (v : FVec F S256x256 .bf16) (w : Vec F S96x256 .bf16)
    {A : Nat} (hA : A = 24 * p.val) (hf : Mxu.Fits A 96) :
    MS (m.accBy q (stg v) A (M := 96) (φ := .bf16) w hf) (upd T q p (some (dep (T q p) (passOf v w)))) R G := by
  subst hA
  refine ⟨fun q' p' => ?_, fun q' r hr => ?_, h.reg0, h.reg1, h.gmr⟩
  · by_cases hq : q' = q ∧ p' = p
    · obtain ⟨rfl, rfl⟩ := hq
      rw [show upd T q' p' (some (dep (T q' p') (passOf v w))) q' p' = some (dep (T q' p') (passOf v w)) from if_pos ⟨rfl, rfl⟩]
      refine ⟨fun R h1 h2 => ?_, fun hf' => ?_⟩
      · rw [Mxu.live_accBy]; exact if_pos ⟨rfl, by omega, by omega⟩
      · have hp := h.piece q' p'
        cases hT : T q' p' with
        | none =>
          rw [hT] at hp
          exact Mxu.read_accBy_of_not_live _ _ _ _ _ _ fun r => hp _ (by simp only [Mxu.row]; omega) (by simp only [Mxu.row]; omega)
        | some u =>
          rw [hT] at hp
          refine (Mxu.read_accBy_of_live _ _ _ _ _ _ fun r => hp.1 _ (by simp only [Mxu.row]; omega) (by simp only [Mxu.row]; omega)).trans ?_
          rw [hp.2]; rfl
    · rw [show upd T q p (some (dep (T q p) (passOf v w))) q' p' = T q' p' from if_neg hq]
      refine piece_of_same (fun R h1 h2 => ?_) (fun hf' => ?_) (h.piece q' p')
      · rw [Mxu.live_accBy]; exact if_neg (live_apart hq R h1 h2)
      · exact Mxu.read_accBy_ne _ _ _ _ _ _ _ _ _ (apart hq)
  · rw [Mxu.live_accBy, if_neg (by rintro ⟨-, h1, h2⟩; have := p.isLt; omega)]; exact h.rest q' r hr

theorem MS.accLhs (h : MS m T R G) (q : Fin 2) (p : Fin 10) (v : FVec F S256x256 .bf16) (w : Vec F S96x256 .bf16)
    (hR : R q = some v) {A : Nat} (hA : A = 24 * p.val) (hf : Mxu.Fits A 96) :
    MS (m.accLhs q 0 A (M := 96) (φ := .bf16) w hf) (upd T q p (some (dep (T q p) (passOf v w))))
      (Function.update R q none) (Function.update G q (some v)) := by
  have hs : m.staged q 0 = stg v := by rw [Mxu.staged_eq, h.reg0, hR]; rfl
  have h' := h.accBy q p v w hA hf
  refine ⟨fun q' p' => piece_of_same (fun R _ _ => ?_) (fun hf' => ?_) (h'.piece q' p'), fun q' r hr => ?_, fun q' => ?_, fun q' => ?_, fun q' u hu => ?_⟩
  · rw [Mxu.live_accLhs, Mxu.live_accBy]
  · rw [Mxu.read_accLhs_eq_accBy, hs]
  · rw [Mxu.live_accLhs]; exact (Mxu.live_accBy _ _ _ _ _ _ _ _).symm.trans (h'.rest q' r hr)
  · by_cases hq : q' = q
    · subst hq; rw [Mxu.reg_accLhs, Function.update_self]; rfl
    · rw [Mxu.reg_accLhs_ne _ _ _ _ _ _ _ _ (fun hh => hq hh.1), Function.update_of_ne hq]; exact h.reg0 q'
  · rw [Mxu.reg_accLhs_ne _ _ _ _ _ _ _ _ (fun hh => absurd hh.2 (by decide))]; exact h.reg1 q'
  · by_cases hq : q' = q
    · subst hq; rw [Function.update_self] at hu; cases hu; rw [Mxu.gmr_accLhs, hs]
    · rw [Function.update_of_ne hq] at hu; rw [Mxu.gmr_accLhs_ne _ _ _ _ _ _ _ hq]; exact h.gmr q' u hu

theorem MS.push (h : MS m T (fun _ => none) G) (v : FVec F S256x256 .bf16) :
    MS ((m.pushed 0 0 true v).pushed 1 0 true v) T (fun _ => some v) G := by
  have h0 : m.reg 0 0 = none := h.reg0 0
  have h1 : (m.pushed 0 0 true v).reg 1 0 = none := by
    rw [Mxu.reg_pushed_ne _ _ _ _ _ _ _ (by decide)]; exact h.reg0 1
  refine ⟨fun q p => piece_of_same (fun _ _ _ => by rw [Mxu.live_pushed, Mxu.live_pushed]) (fun hf => by rw [Mxu.read_pushed, Mxu.read_pushed]) (h.piece q p),
    fun q r hr => by rw [Mxu.live_pushed, Mxu.live_pushed]; exact h.rest q r hr, fun q => ?_, fun q => ?_, fun q u hu => by rw [Mxu.gmr_pushed, Mxu.gmr_pushed]; exact h.gmr q u hu⟩
  · match q with
    | 0 => rw [Mxu.reg_pushed_ne _ _ _ _ _ _ _ (by decide), Mxu.reg_pushed_of_none _ _ _ _ _ h0]; rfl
    | 1 => rw [Mxu.reg_pushed_of_none _ _ _ _ _ h1]; rfl
  · rw [Mxu.reg_pushed_ne _ _ _ _ _ _ _ (by simp), Mxu.reg_pushed_ne _ _ _ _ _ _ _ (by simp)]; exact h.reg1 q

theorem MS.pop (h : MS m T R G) (q : Fin 2) (p : Fin 10) {A : Nat} (hA : A = 24 * p.val) (hf : Mxu.Fits A 96) :
    MS (m.pop q A 96 hf) (upd T q p none) R G := by
  subst hA
  refine ⟨fun q' p' => ?_, fun q' r hr => ?_, h.reg0, h.reg1, h.gmr⟩
  · by_cases hq : q' = q ∧ p' = p
    · obtain ⟨rfl, rfl⟩ := hq
      rw [show upd T q' p' none q' p' = none from if_pos ⟨rfl, rfl⟩]
      intro R h1 h2
      rw [Mxu.live_pop]; exact if_pos ⟨rfl, by omega, by omega⟩
    · rw [show upd T q p none q' p' = T q' p' from if_neg hq]
      refine piece_of_same (fun R h1 h2 => ?_) (fun hf' => ?_) (h.piece q' p')
      · rw [Mxu.live_pop]; exact if_neg (live_apart hq R h1 h2)
      · exact Mxu.read_pop_ne _ _ _ _ _ _ _ (apart hq)
  · rw [Mxu.live_pop, if_neg (by rintro ⟨-, h1, h2⟩; have := p.isLt; omega)]; exact h.rest q' r hr

theorem MS.read (h : MS m T R G) (q : Fin 2) (p : Fin 10) {v : FVec F S96x256 .f32} (hT : T q p = some v)
    {A : Nat} (hA : A = 24 * p.val) (hf : Mxu.Fits A 96) : m.read q A (M := 96) hf = v := by
  subst hA
  have := h.piece q p
  rw [hT] at this
  exact this.2 hf

theorem MS.drained (h : MS m (fun _ _ => none) (fun _ => none) G) : m.Drained := by
  refine ⟨fun q r => ?_, fun q R => ?_⟩
  · match r with
    | 0 => rw [h.reg0 q]; rfl
    | 1 => rw [h.reg1 q]; rfl
  · by_cases hR : 960 ≤ R.val
    · exact h.rest q R hR
    · exact h.piece q ⟨R.val / 96, by omega⟩ R (by simp only; omega) (by simp only; omega)

theorem MS.init : MS (Mxu.init : Mxu F) (fun _ _ => none) (fun _ => none) (fun _ => none) :=
  ⟨fun _ _ _ _ _ => rfl, fun _ _ _ => rfl, fun _ => Mxu.reg_init _ _, fun _ => Mxu.reg_init _ _, fun _ _ h => nomatch h⟩

end Cert.Kernel.V
-- ==== Proof.Mem.lean ====
/- Whole buffers read and written through unit rectangles, index by index, and the two ends of a local transfer. -/
module

public import proofs.«01_k».proof.Proof.Canon
public import proofs.«01_k».proof.Proof.Unit
public import Idealize.ShloMosaic.Lib.Tactic
public import Idealize.ShloMosaic.Lib.Pipeline.Kit
public import Idealize.ShloMosaic.Lib.Transfers

@[expose] public section

set_option synthInstance.maxSize 4096

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocal)

variable {F : FTy → Type} [FloatOps F]

/-- The resource algebra: the rounds library's beside the counters of the transfers' invariants. -/
abbrev UU (nD : Nat) (τ : Topo) : Type := UR sig nD τ × Counters

local notation "𝕄" => MT nD τ sig Unit (Elt F) ℕ (UU nD τ) ℕ

/-- The contents of memref `M`'s buffer on core `c`. -/
abbrev Bf (F : FTy → Type) (c : Dev nD) {sp : Space} {S : Shape} {e : EltTy} (M : Memref sig .tc sp S e) : Type :=
  Buf (Elt F) (M.view.loc (c : Thread nD τ))

/-- The elements `I` of memref `M`'s buffer held at share `q` at `f`. -/
abbrev pts (c : Dev nD) {sp : Space} {S : Shape} {e : EltTy} (M : Memref sig .tc sp S e) (I : Finset (Idx (M.view.loc (c : Thread nD τ))))
    (q : PosShare TreeShare) (f : Bf F c M) : sProp 𝕄 :=
  M.view.loc (c : Thread nD τ) ↦[I]{q} f

/-- A program of core `c` run to the postcondition `Q`. -/
abbrev WP (c : Dev nD) {α : Type} (p : PP F α) (Q : α → sProp 𝕄) : sProp 𝕄 :=
  wp frame (wpE (defs₀ (F := F)) Variants.none (c : Thread nD τ) none) Set.univ p Q

/-- A transfer in flight delivering `D`. -/
abbrev Fl (c : Dev nD) (s : DmaSem sig) (N : ℕ) (D : sProp 𝕄) : sProp 𝕄 := Flight countersEmb (c : Thread nD τ) (.dma s) () N D

/-- A counter at zero. -/
abbrev sv (c : Dev nD) (s : DmaSem sig) : sProp 𝕄 := semVal ((c : Thread nD τ), .dma s) 0

/-- The core's waits, whatever they are. -/
abbrev ow (c : Dev nD) : sProp 𝕄 := iprop(∃ W, owes (c : Thread nD τ) 0 W)

variable {c : Dev nD} {α : Type} {Q : α → sProp (MT nD τ sig Unit (Elt F) ℕ (UU nD τ) ℕ)}

/-- A local transfer started: in flight, it delivers the destination at `g`, when `g` read through the destination is
    the source read, and the source back. -/
theorem dma_start {sp sp' : Space} {s : Shape} {e : EltTy} {src : Memref sig .tc sp s e} {dst : Memref sig .tc sp' s e}
    {sm : DmaSem sig} {h1 : src.view.WordExact} {h2 : dst.view.WordExact} {h3 : DmaTarget.Typed (nD := nD) (τ := τ) (p := .tc) sp (.dma sm) (DmaTarget.here (p := .tc) dst)}
    {k : PUnit → PP F α} {q : PosShare TreeShare} {fs : Bf F c src} {fd : Bf F c dst} (g : Bf F c dst)
    (hg : ∀ x, dst.view.read (Elt F) g x = src.view.read (Elt F) fs x) (hn : 0 < s.numel) :
    iprop(pts c src src.view.set q fs ∗ pts c dst dst.view.set fullShare fd ∗ sv c sm)
      ⊢ iprop((Fl c sm dst.view.dmaCredit iprop(pts c dst dst.view.set fullShare g ∗ pts c src src.view.set q fs) -∗ WP c (k ⟨⟩) Q)
        -∗ WP c (.op (.enqueueDma src (.here dst) (.dma sm) h1 h2 h3) k) Q) := by
  have hc : (pts c dst dst.view.set fullShare (dst.view.write (Elt F) fd (src.view.read (Elt F) fs) Finset.univ) : sProp 𝕄)
      = pts c dst dst.view.set fullShare g := by
    refine pointsTo_congr fun i hi => ?_
    obtain ⟨x, -, rfl⟩ := Finset.mem_map.1 hi
    rw [View.write_emb_of_mem _ _ (Finset.mem_univ x), ← hg x, View.read_apply]
    simp
  rw [← hc]
  have h := wp_dmaLocal (defs := defs₀ (F := F)) (Q := Q) (countersEmb : UEmb Counters 𝕄) Variants.none (c : Thread nD τ) none (src := src) (via := .same) (dst := dst) (sm := .dma sm) (hsrc := h1) (hdst := h2) (hsem := h3)
    (k := k) (q := q) (fs := fs) (Sd := dst.view.set) (fd := fd) () _ rfl (dst.view.dmaCredit_pos hn) (Finset.Subset.refl _)
  exact h

theorem dma_wait {sp sp' : Space} {s : Shape} {e : EltTy} {src : Memref sig .tc sp s e} {dst : Memref sig .tc sp' s e}
    {sm : DmaSem sig} {h1 : src.view.WordExact} {h2 : dst.view.WordExact} {k : PUnit → PP F α} {D : sProp 𝕄} :
    iprop(Fl c sm dst.view.dmaCredit D ∗ ow c)
      ⊢ iprop((iprop(D ∗ sv c sm ∗ ow c) -∗ WP c (k ⟨⟩) Q) -∗ WP c (.op (.waitDma2 sm src dst h1 h2) k) Q) := by
  iintro ⟨HF, ⟨%W, HO⟩⟩ Hk
  iapply (wp_waitLocal countersEmb Variants.none (c : Thread nD τ) none () rfl) $$ [HF HO]
  · isplitl [HF] <;> iassumption
  iintro ⟨HD, Hs, HO⟩
  iapply Hk
  isplitl [HD]; · iexact HD
  isplitl [Hs]; · iexact Hs
  iexists _; iexact HO

theorem ld {cs : CoreSpace} {s : Shape} {e : EltTy} {m : Memref sig .tc cs s e} {r : Rect s} {hl : m.view.LoadsAt r.toLoadRect}
    {k : (r.shape.Idx → Elt F e) → PP F α} {I : Finset (Idx (m.view.loc (c : Thread nD τ)))} {q : PosShare TreeShare} {f : Bf F c m}
    (hI : (m.access r).set ⊆ I) :
    pts c m I q f ⊢ iprop((pts c m I q f -∗ WP c (k ((m.access r).read (Elt F) f)) Q) -∗ WP c (.op (.load m r.toLoadRect hl) k) Q) :=
  wp_load_rect Variants.none (c : Thread nD τ) none Set.univ (m := m) (r := r) (hl := hl) (k := k) (S := I) (q := q) (f := f) hI

theorem stw {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → PP F α} {I : Finset (Idx (m.view.loc (c : Thread nD τ)))} {f : Bf F c m}
    (hI : (m.access r).set ⊆ I) :
    pts c m I fullShare f ⊢ iprop((pts c m I fullShare ((m.access r).write (Elt F) f w Finset.univ) -∗ WP c (k ⟨⟩) Q)
      -∗ WP c (.op (.store m r w Finset.univ hx hm) k) Q) :=
  wp_store Variants.none (c : Thread nD τ) none Set.univ (m := m) (r := r) (w := w) (Mk := Finset.univ) (hx := hx) (hm := hm) (k := k) (S := I) (f := f) hI

/-! ## Whole buffers, index by index -/

/-- A whole buffer read through a unit rectangle. -/
theorem rd_whole (b : Ref sig .tc) (o z : Fin b.ty.shape.rank → ℕ) (h : ∀ a, o a + z a ≤ b.ty.shape.size a)
    (f : b.ty.shape.Idx → Elt F b.ty.elt) (x : (Rect.unit o z h).shape.Idx) :
    ((Memref.whole b).access (Rect.unit o z h)).read (Elt F) f x
      = f fun a => ⟨o a + (x a).val, by have := h a; have := (x a).isLt; change (x a).val < z a at this; omega⟩ := by
  show f _ = f _
  congr 1
  funext a
  exact Fin.ext (show o a + 1 * (x a).val = o a + (x a).val by omega)

/-- A whole buffer written through a unit rectangle: inside the rectangle the values written, -/
theorem wr_whole_in (b : Ref sig .tc) (o z : Fin b.ty.shape.rank → ℕ) (h : ∀ a, o a + z a ≤ b.ty.shape.size a)
    (f : b.ty.shape.Idx → Elt F b.ty.elt) (w : (Rect.unit o z h).shape.Idx → Elt F b.ty.elt) (i : b.ty.shape.Idx)
    (hi : ∀ a, o a ≤ (i a).val ∧ (i a).val < o a + z a) :
    ((Memref.whole b).access (Rect.unit o z h)).write (Elt F) f w Finset.univ i
      = w fun a => ⟨(i a).val - o a, by have := hi a; show _ < z a; omega⟩ := by
  have e : i = ((Memref.whole b).access (Rect.unit o z h)).emb fun a => ⟨(i a).val - o a, by have := hi a; show _ < z a; omega⟩ :=
    funext fun a => Fin.ext (show (i a).val = o a + 1 * ((i a).val - o a) by have := hi a; omega)
  conv_lhs => rw [e]
  rw [View.write_emb_of_mem _ _ (Finset.mem_univ _)]
  rfl

/-- and outside what was there. -/
theorem wr_whole_out (b : Ref sig .tc) (o z : Fin b.ty.shape.rank → ℕ) (h : ∀ a, o a + z a ≤ b.ty.shape.size a)
    (f : b.ty.shape.Idx → Elt F b.ty.elt) (w : (Rect.unit o z h).shape.Idx → Elt F b.ty.elt) (i : b.ty.shape.Idx)
    (hi : ¬ ∀ a, o a ≤ (i a).val ∧ (i a).val < o a + z a) :
    ((Memref.whole b).access (Rect.unit o z h)).write (Elt F) f w Finset.univ i = f i := by
  refine View.write_of_not_mem _ _ _ fun hm => hi ?_
  rw [← Rect.mem_set_unit (inb := h)]
  have : ((Memref.whole b).access (Rect.unit o z h) : View sig _ _ _ _).set = (Rect.unit o z h).set := View.set_slice_whole _ _
  rw [← this]; exact hm

end Cert.Kernel.V
-- ==== Proof.State.lean ====
/- The kernel's state as a record of buffer contents, and what it owns in each. -/
module

public import proofs.«01_k».proof.Proof.Mem

@[expose] public section

set_option synthInstance.maxSize 4096

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight shareTok)

variable {F : FTy → Type} [FloatOps F]

local notation "𝕄" => MT nD τ sig Unit (Elt F) ℕ (UU nD τ) ℕ

/-- The multi-index of two coordinates, -/
def i2 {n m : ℕ} [NeZero n] [NeZero m] (a b : ℕ) : (⟨2, ![n, m]⟩ : Shape).Idx
  | 0 => Fin.ofNat n a
  | 1 => Fin.ofNat m b

/-- and of three. -/
def i3 {n m l : ℕ} [NeZero n] [NeZero m] [NeZero l] (a b d : ℕ) : (⟨3, ![n, m, l]⟩ : Shape).Idx
  | 0 => Fin.ofNat n a
  | 1 => Fin.ofNat m b
  | 2 => Fin.ofNat l d

/-- The arrays the kernel reads: activations, their scales, weights, their scales. -/
structure Inp (F : FTy → Type) [FloatOps F] where
  X : S3072x11776.Idx → Elt F .fp8e4m3
  XS : S92x2x1536.Idx → Elt F .f32
  W : S11776x1920.Idx → Elt F .fp8e4m3
  WS : S15x92.Idx → Elt F .f32

/-- A slot at rest with contents, or awaiting a transfer of item `i`. -/
inductive SC (α : Type) (n : ℕ)
  | at (f : α)
  | fly (i : Fin n)

/-- An activation slot: at rest; the first tile's head in flight; its head and its rest in flight; its rest in flight; a
    tile in flight. -/
inductive XC (α : Type)
  | at (f : α)
  | head (f : α)
  | both
  | rest
  | fly (i : Fin 12)

/-- A result slot at rest, or being copied out. -/
inductive OC (α : Type)
  | at (f : α)
  | fly (i : Fin 12) (f : α)

/-- The scales of the result: at rest, being copied out. -/
inductive GC (α β : Type)
  | at (f : α) (g : β)
  | fly (f : α)

/-- The kernel's state. -/
structure St (F : FTy → Type) [FloatOps F] (c : Dev nD) where
  wt : Bf F c wtM
  st : Fin 6 → SC (Bf F c stM) 46
  xb : Fin 2 → XC (Bf F c xbM)
  hd : Bool
  raw : SC (Bf F c rawM) 12
  sc : Bf F c scM
  sm : SC (Bf F c smM) 1
  act : Bf F c actM
  mx : Bf F c mxM
  inv : Bf F c invM
  osc : GC (Bf F c oscM) (Bf F c ysM)
  out : Fin 2 → OC (Bf F c outM)
  y : Fin 12 → Option (Bf F c yM)

/-- The parts of the state. -/
inductive CI
  | wt | st (k : Fin 6) | xb (k : Fin 2) | hd | raw | sc | sm | act | mx | inv | osc | out (k : Fin 2) | y (i : Fin 12) | ow
deriving DecidableEq

/-- Every part. -/
def CI.all : Finset CI :=
  ((Finset.univ : Finset (Fin 6)).image CI.st ∪ (Finset.univ : Finset (Fin 2)).image CI.xb ∪ (Finset.univ : Finset (Fin 2)).image CI.out
    ∪ (Finset.univ : Finset (Fin 12)).image CI.y) ∪ {.wt, .hd, .raw, .sc, .sm, .act, .mx, .inv, .osc, .ow}

instance : Fintype CI := ⟨CI.all, fun x => by cases x <;> simp [CI.all]⟩

variable (c : Dev nD) (D : Inp F)

/-- What arrives in a staging slot: rows `256 i` on of the weights, -/
def stT (i : Fin 46) : Bf F c stM := fun j => D.W (i2 (256 * i.val + (j 1).val) (j 2).val)
/-- in an activation slot: rows `256 i` on of the activations, -/
def xbT (i : Fin 12) : Bf F c xbM := fun j => D.X (i2 (256 * i.val + (j 1).val) (j 2).val)
/-- in the raw buffer: the token scales of tile `i`, -/
def rawT (i : Fin 12) : Bf F c rawM := fun j => D.XS (i3 (j 0).val (i.val / 6) (256 * (i.val % 6) + (j 1).val))
/-- in the weights' scales, -/
def smT : Bf F c smM := fun j => D.WS j
/-- in rows `256 i` on of the result, from slot `k` at `f`, -/
def yT (k : Fin 2) (i : Fin 12) (f : Bf F c outM) : Bf F c yM := fun j => f (i3 k.val ((j 0).val - 256 * i.val) (j 1).val)
/-- and in the result's scales. -/
def ysT (f : Bf F c oscM) : Bf F c ysM := fun j => f j

abbrev tok (i : Fin 6) : PosShare TreeShare := shareTok fullShare 6 i

/-- A staging slot. -/
def stR (k : Fin 6) : SC (Bf F c stM) 46 → sProp 𝕄
  | .at f => iprop(pts c stM (wO k 0).dst.view.set fullShare f ∗ pts c wM Finset.univ (tok k) (D.W : Bf F c wM) ∗ sv c (wO k 0).sem)
  | .fly i => iprop(Fl c (wO k 0).sem (wO k 0).dst.view.dmaCredit
        iprop(pts c stM (wO k 0).dst.view.set fullShare (stT c D i) ∗ pts c wM (wO k i).src.view.set (tok k) (D.W : Bf F c wM))
      ∗ pts c wM (Finset.univ \ (wO k i).src.view.set) (tok k) (D.W : Bf F c wM))

/-- The head's counter and its share of the activations. -/
def hdR : Bool → sProp 𝕄
  | true => iprop(pts c xM Finset.univ (tok 2) (D.X : Bf F c xM) ∗ sv c cc0_scratch12.sem)
  | false => iprop(emp)

abbrev hdSet : Finset (Idx (xbM.view.loc (c : Thread nD τ))) := xhDst.view.set
abbrev rsSet : Finset (Idx (xbM.view.loc (c : Thread nD τ))) := xrDst.view.set
abbrev xtok (k : Fin 2) : PosShare TreeShare := tok ⟨k.val, by omega⟩

/-- The head in flight, -/
def hdF : sProp 𝕄 := iprop(Fl c cc0_scratch12.sem xhDst.view.dmaCredit
    iprop(pts c xbM xhDst.view.set fullShare (xbT c D 0) ∗ pts c xM xhSrc.view.set (tok 2) (D.X : Bf F c xM))
  ∗ pts c xM (Finset.univ \ xhSrc.view.set) (tok 2) (D.X : Bf F c xM))
/-- the rest in flight. -/
def rsF : sProp 𝕄 := iprop(Fl c (xO 0 0).sem xrDst.view.dmaCredit
    iprop(pts c xbM xrDst.view.set fullShare (xbT c D 0) ∗ pts c xM xrSrc.view.set (xtok 0) (D.X : Bf F c xM))
  ∗ pts c xM (Finset.univ \ xrSrc.view.set) (xtok 0) (D.X : Bf F c xM))

/-- An activation slot. -/
def xbR (k : Fin 2) : XC (Bf F c xbM) → sProp 𝕄
  | .at f => iprop(pts c xbM (xO k 0).dst.view.set fullShare f ∗ pts c xM Finset.univ (xtok k) (D.X : Bf F c xM) ∗ sv c (xO k 0).sem)
  | .head f => iprop(pts c xbM xrDst.view.set fullShare f ∗ pts c xM Finset.univ (xtok 0) (D.X : Bf F c xM) ∗ sv c (xO 0 0).sem ∗ hdF c D)
  | .both => iprop(hdF c D ∗ rsF c D)
  | .rest => iprop(pts c xbM xhDst.view.set fullShare (xbT c D 0) ∗ rsF c D)
  | .fly i => iprop(Fl c (xO k 0).sem (xO k 0).dst.view.dmaCredit
        iprop(pts c xbM (xO k 0).dst.view.set fullShare (xbT c D i) ∗ pts c xM (xO k i).src.view.set (xtok k) (D.X : Bf F c xM))
      ∗ pts c xM (Finset.univ \ (xO k i).src.view.set) (xtok k) (D.X : Bf F c xM))

/-- The raw scales. -/
def rawR : SC (Bf F c rawM) 12 → sProp 𝕄
  | .at f => iprop(pts c rawM Finset.univ fullShare f ∗ pts c xsM Finset.univ fullShare (D.XS : Bf F c xsM) ∗ sv c cc0_scratch14.sem)
  | .fly i => iprop(Fl c cc0_scratch14.sem rawM.view.dmaCredit
        iprop(pts c rawM rawM.view.set fullShare (rawT c D i) ∗ pts c xsM (xsO i).src.view.set fullShare (D.XS : Bf F c xsM))
      ∗ pts c xsM (Finset.univ \ (xsO i).src.view.set) fullShare (D.XS : Bf F c xsM))

/-- The weights' scales. -/
def smR : SC (Bf F c smM) 1 → sProp 𝕄
  | .at f => iprop(pts c smM Finset.univ fullShare f ∗ pts c wsM Finset.univ fullShare (D.WS : Bf F c wsM) ∗ sv c cc0_scratch15.sem)
  | .fly _ => Fl c cc0_scratch15.sem smM.view.dmaCredit
        iprop(pts c smM smM.view.set fullShare (smT c D) ∗ pts c wsM wsM.view.set fullShare (D.WS : Bf F c wsM))

/-- The result's scales. -/
def oscR : GC (Bf F c oscM) (Bf F c ysM) → sProp 𝕄
  | .at f g => iprop(pts c oscM Finset.univ fullShare f ∗ pts c ysM Finset.univ fullShare g ∗ sv c cc0_scratch17.sem)
  | .fly f => Fl c cc0_scratch17.sem ysM.view.dmaCredit
        iprop(pts c ysM ysM.view.set fullShare (ysT c f) ∗ pts c oscM oscM.view.set fullShare f)

/-- A result slot. -/
def outR (k : Fin 2) : OC (Bf F c outM) → sProp 𝕄
  | .at f => iprop(pts c outM (yO k 0).src.view.set fullShare f ∗ sv c (yO k 0).sem)
  | .fly i f => Fl c (yO k 0).sem (yO k i).dst.view.dmaCredit
        iprop(pts c yM (yO k i).dst.view.set fullShare (yT c k i f) ∗ pts c outM (yO k 0).src.view.set fullShare f)

/-- A row block of the result. -/
def yR (i : Fin 12) : Option (Bf F c yM) → sProp 𝕄
  | some g => pts c yM (yO 0 i).dst.view.set fullShare g
  | none => iprop(emp)

variable {c}

/-- What the state owns of each part. -/
def comp (s : St F c) : CI → sProp 𝕄
  | .wt => pts c wtM Finset.univ fullShare s.wt
  | .st k => stR c D k (s.st k)
  | .xb k => xbR c D k (s.xb k)
  | .hd => hdR c D s.hd
  | .raw => rawR c D s.raw
  | .sc => pts c scM Finset.univ fullShare s.sc
  | .sm => smR c D s.sm
  | .act => pts c actM Finset.univ fullShare s.act
  | .mx => pts c mxM Finset.univ fullShare s.mx
  | .inv => pts c invM Finset.univ fullShare s.inv
  | .osc => oscR c s.osc
  | .out k => outR c k (s.out k)
  | .y i => yR c i (s.y i)
  | .ow => ow c

/-- What the state owns. -/
def own (s : St F c) : sProp 𝕄 := bigSep Finset.univ (comp D s)

/-- From state `s` the program `p` runs to the postcondition `Q`. -/
def Ok {α : Type} (Q : α → sProp 𝕄) (s : St F c) (p : PP F α) : Prop := own D s ⊢ WP c p Q

variable {D} {α : Type} {Q : α → sProp (MT nD τ sig Unit (Elt F) ℕ (UU nD τ) ℕ)}

theorem foc (i : CI) (s s' : St F c) (h : ∀ j, j ≠ i → comp D s' j = comp D s j) :
    own D s ⊢ iprop(comp D s i ∗ (comp D s' i -∗ own D s')) :=
  bigSep_univ_update i h

set_option maxRecDepth 4096 in
theorem foc2 (i j : CI) (hij : i ≠ j) (s s' : St F c) (h : ∀ l, l ≠ i → l ≠ j → comp D s' l = comp D s l) :
    own D s ⊢ iprop(comp D s i ∗ comp D s j ∗ (comp D s' i -∗ comp D s' j -∗ own D s')) := by
  have hj : j ∈ Finset.univ.erase i := Finset.mem_erase.2 ⟨hij.symm, Finset.mem_univ _⟩
  have e1 : own D s = iprop(comp D s i ∗ comp D s j ∗ bigSep ((Finset.univ.erase i).erase j) (comp D s)) := by
    unfold own; rw [bigSep_univ_split i, bigSep_erase hj]; rfl
  have e3 : bigSep ((Finset.univ.erase i).erase j) (comp D s') = bigSep ((Finset.univ.erase i).erase j) (comp D s) :=
    bigSep_congr fun l hl => h l (Finset.ne_of_mem_erase (Finset.mem_of_mem_erase hl)) (Finset.ne_of_mem_erase hl)
  have e2 : own D s' = iprop(comp D s' i ∗ comp D s' j ∗ bigSep ((Finset.univ.erase i).erase j) (comp D s)) := by
    unfold own; rw [bigSep_univ_split i, bigSep_erase hj, e3]; rfl
  rw [e1, e2]
  iintro ⟨Hi, Hj, Hr⟩
  isplitl [Hi]; · iexact Hi
  isplitl [Hj]; · iexact Hj
  iintro Hi Hj
  isplitl [Hi]; · iexact Hi
  isplitl [Hj]; · iexact Hj
  iexact Hr

theorem ok_ld {cs : CoreSpace} {z : Shape} {e : EltTy} {m : Memref sig .tc cs z e} {r : Rect z} {hl : m.view.LoadsAt r.toLoadRect}
    {k : (r.shape.Idx → Elt F e) → PP F α} (i : CI) {s : St F c} {I : Finset (Idx (m.view.loc (c : Thread nD τ)))} {q : PosShare TreeShare} {f : Bf F c m}
    (hc : comp D s i ⊢ iprop(pts c m I q f ∗ (pts c m I q f -∗ comp D s i))) (hI : (m.access r).set ⊆ I)
    (h : Ok D Q s (k ((m.access r).read (Elt F) f))) : Ok D Q s (.op (.load m r.toLoadRect hl) k) := by
  unfold Ok at h ⊢
  iintro H
  ihave H := (foc i s s fun _ _ => rfl) $$ H
  icases H with ⟨H, Hk⟩
  ihave H := hc $$ H
  icases H with ⟨H, Hc⟩
  iapply (ld (m := m) (r := r) (q := q) (f := f) hI) $$ H
  iintro H
  iapply h
  iapply Hk
  iapply Hc
  iexact H

theorem ok_st {cs : CoreSpace} {z : Shape} {e : EltTy} {m : Memref sig .tc cs z e} {r : Rect z} {w : r.shape.Idx → Elt F e}
    {hx : (m.access r).Stores Finset.univ} {hm : (Finset.univ : Finset r.shape.Idx) = Finset.univ ∨ ∀ a, r.stride a = 1}
    {k : PUnit → PP F α} (i : CI) {s : St F c} (s' : St F c) {I : Finset (Idx (m.view.loc (c : Thread nD τ)))} {f : Bf F c m}
    (hc : comp D s i ⊢ iprop(pts c m I fullShare f ∗ (pts c m I fullShare ((m.access r).write (Elt F) f w Finset.univ) -∗ comp D s' i)))
    (hs : ∀ j, j ≠ i → comp D s' j = comp D s j) (hI : (m.access r).set ⊆ I)
    (h : Ok D Q s' (k ⟨⟩)) : Ok D Q s (.op (.store m r w Finset.univ hx hm) k) := by
  unfold Ok at h ⊢
  iintro H
  ihave H := (foc i s s' hs) $$ H
  icases H with ⟨H, Hk⟩
  ihave H := hc $$ H
  icases H with ⟨H, Hc⟩
  iapply (stw (m := m) (r := r) (f := f) hI) $$ H
  iintro H
  iapply h
  iapply Hk
  iapply Hc
  iexact H

/-- A whole part given and taken back at something else. -/
theorem foc_all {P P' : sProp 𝕄} : P ⊢ iprop(P ∗ (P' -∗ P')) := by
  iintro H
  isplitl [H]; · iexact H
  iintro H; iexact H

/-- A part's first piece given and taken back at something else. -/
theorem foc_fst {P P' R : sProp 𝕄} : iprop(P ∗ R) ⊢ iprop(P ∗ (P' -∗ P' ∗ R)) := by
  iintro ⟨H, HR⟩
  isplitl [H]; · iexact H
  iintro H
  isplitl [H] <;> iassumption

end Cert.Kernel.V
-- ==== Proof.Spec.lean ====
/- What the kernel's buffers hold, as functions of the arrays it reads. -/
module

public import proofs.«01_k».proof.Proof.State

@[expose] public section

set_option synthInstance.maxSize 4096

noncomputable section

namespace Cert.Kernel.V

open Cert.Kernel.Gen
open Idealize.ShloMosaic

variable {F : FTy → Type} [FloatOps F] (D : Inp F)

/-- Block `b` of chunk `ch` of the weights, prepared. -/
def wblk (ch b : ℕ) : FVec F S128x256 .bf16 :=
  wblock (fun x => D.W (i2 (256 * ch + (x 1).val) (128 * b + (x 2).val))) (D.WS (i2 b (2 * ch)))
    (fun x => D.W (i2 (256 * ch + 128 + (x 1).val) (128 * b + (x 2).val))) (D.WS (i2 b (2 * ch + 1)))

/-- The prepared weights, outputs down the rows. -/
def wtAt (n m : ℕ) : F .bf16 := wblk D (m / 256) (n / 128) (i2 (n % 128) (m % 256))

/-- The prepared weights are there up to block `b` of chunk `c`. -/
def WtOk (f : S1920x11776.Idx → F .bf16) (c b : ℕ) : Prop :=
  ∀ j, ((j 1).val / 256 < c ∨ ((j 1).val / 256 = c ∧ (j 0).val / 128 < b)) → f j = wtAt D (j 0).val (j 1).val

theorem WtOk.next {f : S1920x11776.Idx → F .bf16} {c : ℕ} (h : WtOk D f c 15) : WtOk D f (c + 1) 0 := fun j hj =>
  h j (by have : (j 0).val < 1920 := (j 0).isLt; omega)

/-- The rows of piece `e` in chunk `k`. -/
def passW (k e : ℕ) : Vec F S96x256 .bf16 :=
  fun x => wtAt D (960 * (e % 2) + 96 * (e / 2) + (x 0).val) (256 * k + (x 1).val)

/-- The token scales of tile `i`, a token to a row. -/
def scT (i : ℕ) : FVec F S1x256x128 .f32 := turned fun x => D.XS (i3 (x 0).val (i / 6) (256 * (i % 6) + (x 1).val))

/-- Tile `i` of the activations, chunk `k`. -/
def tileT (i k : ℕ) : FVec F S256x256 .bf16 :=
  tile (scT D i) (BitVec.ofNat 32 (2 * k)) (fun x => D.X (i2 (256 * i + (x 1).val) (256 * k + (x 2).val)))
    (BitVec.ofNat 32 (2 * k + 1)) (fun x => D.X (i2 (256 * i + (x 1).val) (256 * k + 128 + (x 2).val)))

/-- Piece `e` of tile `i` after `n` passes. -/
def Hn (i e : ℕ) : ℕ → Option (FVec F S96x256 .f32)
  | 0 => none
  | n + 1 => some (dep (Hn i e n) (passOf (tileT D i n) (passW D n e)))

/-- Piece `e` of tile `i` when done. -/
def HT (i e : ℕ) : FVec F S96x256 .f32 := dep (Hn D i e 45) (passOf (tileT D i 45) (passW D 45 e))

theorem Hn_done (i e : ℕ) : Hn D i e 46 = some (HT D i e) := rfl

/-- The unit during pass `k` of tile `i`, `e` pieces done. -/
def TB (i k e : ℕ) : Tb F := fun q p => Hn D i (2 * p.val + q.val) (if 2 * p.val + q.val < e then k + 1 else k)

theorem TB_step (i k : ℕ) (e : Fin 20) :
    upd (TB D i k e.val) ⟨e.val % 2, by omega⟩ ⟨e.val / 2, by omega⟩
      (some (dep (TB D i k e.val ⟨e.val % 2, by omega⟩ ⟨e.val / 2, by omega⟩) (passOf (tileT D i k) (passW D k e.val)))) = TB D i k (e.val + 1) := by
  funext q p
  unfold upd TB
  by_cases hq : q = ⟨e.val % 2, by omega⟩ ∧ p = ⟨e.val / 2, by omega⟩
  · obtain ⟨rfl, rfl⟩ := hq
    have : 2 * (e.val / 2) + e.val % 2 = e.val := by omega
    rw [if_pos ⟨rfl, rfl⟩]
    simp only [this]
    rw [if_neg (by omega), if_pos (by omega)]
    rfl
  · rw [if_neg hq]
    have : 2 * p.val + q.val ≠ e.val := fun h => hq ⟨Fin.ext (by show q.val = e.val % 2; omega), Fin.ext (by show p.val = e.val / 2; omega)⟩
    split_ifs <;> first | rfl | (exfalso; omega)

theorem TB_last (i k : ℕ) : TB D i k 20 = TB D i (k + 1) 0 := by
  funext q p
  unfold TB
  rw [if_pos (by omega), if_neg (by omega)]

/-- The unit while tile `i` is drained and the next begun: `d` pieces drained, `a` of them begun. -/
def OV (i a d : ℕ) : Tb F := fun q p =>
  if 2 * p.val + q.val < a then Hn D (i + 1) (2 * p.val + q.val) 1 else if 2 * p.val + q.val < d then none else Hn D i (2 * p.val + q.val) 46

theorem OV_first (i : ℕ) : TB D i 46 0 = OV D i 0 0 := by
  funext q p
  unfold TB OV
  simp

theorem OV_last (i : ℕ) : OV D i 20 20 = TB D (i + 1) 1 0 := by
  funext q p
  unfold TB OV
  rw [if_pos (by omega), if_neg (by omega)]

theorem OV_none (i : ℕ) : OV D i 0 20 = fun _ _ => none := by
  funext q p
  unfold OV
  rw [if_neg (by omega), if_pos (by omega)]

theorem OV_pop (i a : ℕ) (d : Fin 20) (h : a ≤ d.val) :
    upd (OV D i a d.val) ⟨d.val % 2, by omega⟩ ⟨d.val / 2, by omega⟩ none = OV D i a (d.val + 1) := by
  funext q p
  unfold upd OV
  by_cases hq : q = ⟨d.val % 2, by omega⟩ ∧ p = ⟨d.val / 2, by omega⟩
  · obtain ⟨rfl, rfl⟩ := hq
    rw [if_pos ⟨rfl, rfl⟩, if_neg (by show ¬ 2 * (d.val / 2) + d.val % 2 < a; omega), if_pos (by show 2 * (d.val / 2) + d.val % 2 < d.val + 1; omega)]
  · rw [if_neg hq]
    have : 2 * p.val + q.val ≠ d.val := fun e => hq ⟨Fin.ext (by show q.val = d.val % 2; omega), Fin.ext (by show p.val = d.val / 2; omega)⟩
    split_ifs <;> first | rfl | (exfalso; omega)

theorem OV_acc (i : ℕ) (a : Fin 20) (d : ℕ) (h : a.val < d) :
    upd (OV D i a.val d) ⟨a.val % 2, by omega⟩ ⟨a.val / 2, by omega⟩
      (some (dep (OV D i a.val d ⟨a.val % 2, by omega⟩ ⟨a.val / 2, by omega⟩) (passOf (tileT D (i + 1) 0) (passW D 0 a.val)))) = OV D i (a.val + 1) d := by
  funext q p
  unfold upd OV
  by_cases hq : q = ⟨a.val % 2, by omega⟩ ∧ p = ⟨a.val / 2, by omega⟩
  · obtain ⟨rfl, rfl⟩ := hq
    have : 2 * (a.val / 2) + a.val % 2 = a.val := by omega
    rw [if_pos ⟨rfl, rfl⟩]
    simp only [this]
    rw [if_neg (by omega), if_pos h, if_pos (by omega)]
    rfl
  · rw [if_neg hq]
    have : 2 * p.val + q.val ≠ a.val := fun e => hq ⟨Fin.ext (by show q.val = a.val % 2; omega), Fin.ext (by show p.val = a.val / 2; omega)⟩
    split_ifs <;> first | rfl | (exfalso; omega)

theorem OV_at (i a : ℕ) (d : Fin 20) (h : a ≤ d.val) :
    OV D i a d.val ⟨d.val % 2, by omega⟩ ⟨d.val / 2, by omega⟩ = some (HT D i d.val) := by
  unfold OV
  have : 2 * (d.val / 2) + d.val % 2 = d.val := by omega
  simp only [this]
  rw [if_neg (by omega), if_neg (by omega)]
  rfl

/-- The piece row `r` of the activations belongs to. -/
def pieceOf (r : ℕ) : ℕ := 2 * (r % 960 / 96) + r / 960

/-- The squared activations of tile `i`, outputs down the rows. -/
def actAt (i r t : ℕ) : F .f32 := sq (HT D i (pieceOf r)) (i2 (r % 960 % 96) t)

/-- The activations of tile `i` are there in the first `n` pieces. -/
def ActOk (i n : ℕ) (f : S1920x256.Idx → F .f32) : Prop := ∀ j, pieceOf (j 0).val < n → f j = actAt D i (j 0).val (j 1).val

/-- The largest of the pieces up to the pair `n`. -/
def mxN (i : ℕ) : ℕ → FVec F S8x256 .f32
  | 0 => maximumf (top (HT D i 0)) (top (HT D i 1))
  | n + 1 => maximumf (maximumf (mxN i n) (top (HT D i (2 * n + 2)))) (top (HT D i (2 * n + 3)))

def mxT (i : ℕ) : FVec F S8x256 .f32 := mxN D i 9

/-- The result's code at token `r` of tile `i`, output `n`. -/
def outAt (i r n : ℕ) : F .fp8e4m3 :=
  quant (fun x => actAt D i (128 * (n / 128) + (x 0).val) (x 1).val) (invOf (mxT D i)) (i3 0 r (n % 128))

/-- Slot `k` holds the first `b` blocks of tile `i`. -/
def OutOk (k i b : ℕ) (f : S2x256x1920.Idx → F .fp8e4m3) : Prop :=
  ∀ j, (j 0).val = k → (j 2).val / 128 < b → f j = outAt D i (j 1).val (j 2).val

/-- The scales of the first `n` tiles are there. -/
def OscOk (n : ℕ) (f : S2x1536.Idx → F .f32) : Prop :=
  ∀ j, 6 * (j 0).val + (j 1).val / 256 < n → f j = scaleOf (mxT D (6 * (j 0).val + (j 1).val / 256)) (i2 0 ((j 1).val % 256))

/-- Slot `k` of the turned scales holds those of tile `i`. -/
def ScOk (k i : ℕ) (f : S2x256x128.Idx → F .f32) : Prop :=
  ∀ j, (j 0).val = k → f j = scT D i (i3 0 (j 1).val (j 2).val)

end Cert.Kernel.V
-- ==== Proof.Oks.lean ====
/- What each step of the program does to the state: the products, the tiles, the weights, the results. -/
module

public import proofs.«01_k».proof.Proof.Spec

@[expose] public section

set_option synthInstance.maxSize 4096

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s : St F c} {m : Mxu F} {T : Tb F} {R G : Rg F}

theorem comp_wt (f) : ∀ j, j ≠ .wt → comp D { s with wt := f } j = comp D s j := fun j hj => by
  cases j <;> first | exact absurd rfl hj | rfl

theorem access_set (b : Ref sig .tc) (r : Rect b.ty.shape) : ((Memref.whole b).access r).set = r.set := View.set_slice_whole _ _

theorem sub_unit {S : Shape} {o z o' z' : Fin S.rank → ℕ} {h : ∀ a, o a + z a ≤ S.size a} {h' : ∀ a, o' a + z' a ≤ S.size a}
    (hs : ∀ a, o' a ≤ o a ∧ o a + z a ≤ o' a + z' a) : (Rect.unit o z h).set ⊆ (Rect.unit o' z' h').set := fun x hx => by
  rw [Rect.mem_set_unit] at hx ⊢
  intro a
  have := hx a
  have := hs a
  omega

/-! ## The matrix unit -/

/-- What a piece's load reads. -/
theorem rd_wt {f : Bf F c wtM} {n : ℕ} (h : WtOk D f n 0) (k : Fin 46) (e : Fin 20) (hk : k.val < n) :
    (wtM.access (Rect.unit (s := S1920x11776) (accO k e).o S96x256.size (accO k e).h)).read (Elt F) f = passW D k.val e.val := by
  funext x
  refine (rd_whole (F := F) cc0_scratch0 (accO k e).o S96x256.size (accO k e).h f x).trans ((h _ (.inl ?_)).trans ?_)
  · have : (x 1).val < 256 := (x 1).isLt
    show (256 * k.val + (x 1).val) / 256 < n
    omega
  · rfl

theorem ok_accF (k : Fin 46) (e : Fin 20) {n : ℕ} (hw : WtOk D s.wt n 0) (hk : k.val < n) (hm : MS m T R G) {v : FVec F S256x256 .bf16}
    (hR : R (accO k e).q = some v) {K : Mxu F → PP F α}
    {T' : Tb F}
    (hT : upd T (accO k e).q ⟨e.val / 2, by omega⟩ (some (dep (T (accO k e).q ⟨e.val / 2, by omega⟩) (passOf v (passW D k.val e.val)))) = T')
    (h : ∀ m', MS m' T' (Function.update R (accO k e).q none) (Function.update G (accO k e).q (some v)) → Ok D Q s (K m')) :
    Ok D Q s (accF (accO k e) m K) := by
  subst hT
  refine ok_ld .wt (I := Finset.univ) (q := fullShare) (f := s.wt) foc_all (Finset.subset_univ _) ?_
  rw [rd_wt hw k e hk]
  exact h _ (hm.accLhs _ ⟨e.val / 2, by omega⟩ v (passW D k.val e.val) hR rfl _)

theorem ok_accL (k : Fin 46) (e : Fin 20) {n : ℕ} (hw : WtOk D s.wt n 0) (hk : k.val < n) (hm : MS m T R G) {v : FVec F S256x256 .bf16}
    (hG : G (accO k e).q = some v) {K : Mxu F → PP F α}
    {T' : Tb F}
    (hT : upd T (accO k e).q ⟨e.val / 2, by omega⟩ (some (dep (T (accO k e).q ⟨e.val / 2, by omega⟩) (passOf v (passW D k.val e.val)))) = T')
    (h : ∀ m', MS m' T' R G → Ok D Q s (K m')) :
    Ok D Q s (accL (accO k e) m K) := by
  subst hT
  refine ok_ld .wt (I := Finset.univ) (q := fullShare) (f := s.wt) foc_all (Finset.subset_univ _) ?_
  rw [rd_wt hw k e hk]
  exact (h _ (hm.accBy _ ⟨e.val / 2, by omega⟩ v (passW D k.val e.val) rfl _)).trans
    (Mxu.wp_accLhsLoaded (passW D k.val e.val) (accO k e).fits (hm.gmr _ _ hG))

/-- The remaining pieces of a pass. -/
theorem ok_accTail (i : ℕ) (k : Fin 46) {w : ℕ} (hw : WtOk D s.wt w 0) (hk : k.val < w) {K : Mxu F → PP F α}
    (hG : ∀ q, G q = some (tileT D i k.val))
    (h : ∀ m', MS m' (TB D i (k.val + 1) 0) R G → Ok D Q s (K m')) :
    ∀ (n : ℕ) (hn : n ≤ 20) (m : Mxu F), MS m (TB D i k.val (20 - n)) R G → Ok D Q s (accLs (accTail k n) m K)
  | 0, _, m, hm => h m (TB_last D i k.val ▸ hm)
  | n + 1, hn, m, hm => by
    unfold accTail
    rw [dif_pos (by omega)]
    rw [show 20 - (n + 1) = 19 - n by omega] at hm
    refine ok_accL k ⟨19 - n, by omega⟩ hw hk (v := tileT D i k.val) hm (hG _) (TB_step D i k.val ⟨19 - n, by omega⟩)
      fun m' hm' => ok_accTail i k hw hk hG h n (by omega) m' ?_
    rw [show 20 - n = 19 - n + 1 by omega]
    exact hm'

/-- A whole pass. -/
theorem ok_pass (i : ℕ) (k : Fin 46) {w : ℕ} (hw : WtOk D s.wt w 0) (hk : k.val < w) {K : Mxu F → PP F α}
    (hm : MS m (TB D i k.val 0) (fun _ => some (tileT D i k.val)) G)
    (h : ∀ m' G', MS m' (TB D i (k.val + 1) 0) (fun _ => none) G' → Ok D Q s (K m')) : Ok D Q s (passC k m K) := by
  refine ok_accF k 0 hw hk (v := tileT D i k.val) hm rfl (TB_step D i k.val 0) fun m1 hm1 => ?_
  refine ok_accF k 1 hw hk (v := tileT D i k.val) hm1 rfl (TB_step D i k.val 1) fun m2 hm2 => ?_
  have r : Function.update (Function.update (fun _ : Fin 2 => some (tileT D i k.val)) 0 none) 1 none = fun _ => none := by
    funext q; fin_cases q <;> rfl
  have g : Function.update (Function.update G 0 (some (tileT D i k.val))) 1 (some (tileT D i k.val)) = fun _ => some (tileT D i k.val) := by
    funext q; fin_cases q <;> rfl
  refine ok_accTail (R := fun _ => none) (G := fun _ => some (tileT D i k.val)) i k hw hk (fun _ => rfl) (fun m' hm' => h m' _ hm') 18 (by omega) m2 ?_
  rw [← r]
  show MS m2 (TB D i k.val 2) _ _
  refine Eq.mp ?_ hm2
  exact congrArg (MS m2 (TB D i k.val 2) _) g

/-! ## The weights -/

theorem wM_dst_set (k : Fin 6) : (wO k 0).dst.view.set = (Rect.unit (s := S6x256x1920) (wO k 0).o7 S1x256x1920.size (wO k 0).h7).set :=
  (View.set_reshape _ _).trans (View.set_slice_whole _ _)

theorem foc_st {k : Fin 6} {f : Bf F c stM} (h : s.st k = .at f) :
    comp D s (.st k) ⊢ iprop(pts c stM (wO k 0).dst.view.set fullShare f ∗ (pts c stM (wO k 0).dst.view.set fullShare f -∗ comp D s (.st k))) := by
  show stR c D k (s.st k) ⊢ _
  have e : comp D s (.st k) = stR c D k (.at f) := congrArg (stR c D k) h
  rw [e, h]
  exact foc_fst

theorem foc_sm {f : Bf F c smM} (h : s.sm = .at f) :
    comp D s .sm ⊢ iprop(pts c smM Finset.univ fullShare f ∗ (pts c smM Finset.univ fullShare f -∗ comp D s .sm)) := by
  show smR c D s.sm ⊢ _
  have e : comp D s .sm = smR c D (.at f) := congrArg (smR c D) h
  rw [e, h]
  exact foc_fst

/-- A block of weights stored. -/
theorem wt_store (k : Fin 6) (ch : Fin 46) (b : Fin 15) (f : S1920x11776.Idx → F .bf16) (w : FVec F S128x256 .bf16) (hw : WtOk D f ch.val b.val)
    (hv : w = wblk D ch.val b.val) :
    WtOk D (((Memref.whole cc0_scratch0).access (Rect.unit (s := S1920x11776) (prepO k ch b).o3 S128x256.size (prepO k ch b).h3)).write (Elt F) f w Finset.univ)
      ch.val (b.val + 1) := by
  subst hv
  intro j hj
  by_cases hin : (j 1).val / 256 = ch.val ∧ (j 0).val / 128 = b.val
  · refine (wr_whole_in (F := F) cc0_scratch0 (prepO k ch b).o3 S128x256.size (prepO k ch b).h3 f (wblk D ch.val b.val) j fun a => ?_).trans ?_
    · match a with
      | 0 => show 128 * b.val ≤ (j 0).val ∧ (j 0).val < 128 * b.val + 128; omega
      | 1 => show 256 * ch.val ≤ (j 1).val ∧ (j 1).val < 256 * ch.val + 256; omega
    · unfold wtAt
      rw [hin.1, hin.2]
      refine congrArg (wblk D ch.val b.val) (funext fun a => Fin.ext ?_)
      match a with
      | 0 => show (j 0).val - 128 * b.val = (j 0).val % 128 % 128; omega
      | 1 => show (j 1).val - 256 * ch.val = (j 1).val % 256 % 256; omega
  · have e := wr_whole_out (F := F) cc0_scratch0 (prepO k ch b).o3 S128x256.size (prepO k ch b).h3 f (wblk D ch.val b.val) j fun hc => hin (by
      have h0 : 128 * b.val ≤ (j 0).val ∧ (j 0).val < 128 * b.val + 128 := hc 0
      have h1 : 256 * ch.val ≤ (j 1).val ∧ (j 1).val < 256 * ch.val + 256 := hc 1
      omega)
    exact e.trans (hw j (by omega))

theorem i2_congr {n m : ℕ} [NeZero n] [NeZero m] {a a' b b' : ℕ} (h : a = a') (h' : b = b') : (i2 a b : (⟨2, ![n, m]⟩ : Shape).Idx) = i2 a' b' := by
  subst h h'; rfl

/-- What a block's loads read, put together. -/
theorem rd_prep (k : Fin 6) (ch : Fin 46) (b : Fin 15) (x : (Rect.unit (s := S15x92) (prepO k ch b).oa S1x1.size (prepO k ch b).ha).shape.Idx)
    (y : (Rect.unit (s := S15x92) (prepO k ch b).ob S1x1.size (prepO k ch b).hb).shape.Idx) :
    wblock ((stM.access (Rect.unit (s := S6x256x1920) (prepO k ch b).o1 S1x128x128.size (prepO k ch b).h1)).read (Elt F) (stT c D ch))
      ((smM.access (Rect.unit (s := S15x92) (prepO k ch b).oa S1x1.size (prepO k ch b).ha)).read (Elt F) (smT c D) x)
      ((stM.access (Rect.unit (s := S6x256x1920) (prepO k ch b).o2 S1x128x128.size (prepO k ch b).h2)).read (Elt F) (stT c D ch))
      ((smM.access (Rect.unit (s := S15x92) (prepO k ch b).ob S1x1.size (prepO k ch b).hb)).read (Elt F) (smT c D) y)
      = wblk D ch.val b.val := by
  have ha : ((stM.access (Rect.unit (s := S6x256x1920) (prepO k ch b).o1 S1x128x128.size (prepO k ch b).h1)).read (Elt F) (stT c D ch) : Vec F S1x128x128 .fp8e4m3)
      = fun x => D.W (i2 (256 * ch.val + (x 1).val) (128 * b.val + (x 2).val)) := funext fun x =>
    (rd_whole (F := F) cc0_scratch1 (prepO k ch b).o1 S1x128x128.size (prepO k ch b).h1 (stT c D ch) x).trans
      (congrArg D.W (i2_congr (by show 256 * ch.val + (0 + (x 1).val) = _; omega) rfl))
  have hb : ((stM.access (Rect.unit (s := S6x256x1920) (prepO k ch b).o2 S1x128x128.size (prepO k ch b).h2)).read (Elt F) (stT c D ch) : Vec F S1x128x128 .fp8e4m3)
      = fun x => D.W (i2 (256 * ch.val + 128 + (x 1).val) (128 * b.val + (x 2).val)) := funext fun x =>
    (rd_whole (F := F) cc0_scratch1 (prepO k ch b).o2 S1x128x128.size (prepO k ch b).h2 (stT c D ch) x).trans
      (congrArg D.W (i2_congr (by show 256 * ch.val + (128 + (x 1).val) = _; omega) rfl))
  have hs : (smM.access (Rect.unit (s := S15x92) (prepO k ch b).oa S1x1.size (prepO k ch b).ha)).read (Elt F) (smT c D) x = D.WS (i2 b.val (2 * ch.val)) :=
    (rd_whole (F := F) cc0_scratch5 (prepO k ch b).oa S1x1.size (prepO k ch b).ha (smT c D) x).trans (congrArg D.WS (funext fun a => Fin.ext (by
      match a with
      | 0 => have : (x 0).val < 1 := (x 0).isLt; show b.val + (x 0).val = b.val % 15; omega
      | 1 => have : (x 1).val < 1 := (x 1).isLt; show 2 * ch.val + (x 1).val = (2 * ch.val) % 92; omega)))
  have ht : (smM.access (Rect.unit (s := S15x92) (prepO k ch b).ob S1x1.size (prepO k ch b).hb)).read (Elt F) (smT c D) y = D.WS (i2 b.val (2 * ch.val + 1)) :=
    (rd_whole (F := F) cc0_scratch5 (prepO k ch b).ob S1x1.size (prepO k ch b).hb (smT c D) y).trans (congrArg D.WS (funext fun a => Fin.ext (by
      match a with
      | 0 => have : (y 0).val < 1 := (y 0).isLt; show b.val + (y 0).val = b.val % 15; omega
      | 1 => have : (y 1).val < 1 := (y 1).isLt; show 2 * ch.val + 1 + (y 1).val = (2 * ch.val + 1) % 92; omega)))
  exact congr (congr (congr (congrArg wblock ha) hs) hb) ht

theorem ok_prep (k : Fin 6) (ch : Fin 46) (b : Fin 15) (hst : s.st k = .at (stT c D ch)) (hsm : s.sm = .at (smT c D))
    (hw : WtOk D s.wt ch.val b.val) {K : PP F α}
    (h : ∀ f : Bf F c wtM, WtOk D f ch.val (b.val + 1) → Ok D Q { s with wt := f } K) : Ok D Q s (prep (prepO k ch b) K) := by
  have sub1 : (stM.access (Rect.unit (s := S6x256x1920) (prepO k ch b).o1 S1x128x128.size (prepO k ch b).h1)).set ⊆ (wO k 0).dst.view.set := by
    rw [wM_dst_set, access_set]
    refine sub_unit fun a => ?_
    match a with
    | 0 => exact ⟨le_refl k.val, le_refl (k.val + 1)⟩
    | 1 => exact ⟨Nat.zero_le _, (by decide : 0 + 128 ≤ 0 + 256)⟩
    | 2 => exact ⟨Nat.zero_le _, (by omega : 128 * b.val + 128 ≤ 0 + 1920)⟩
  have sub2 : (stM.access (Rect.unit (s := S6x256x1920) (prepO k ch b).o2 S1x128x128.size (prepO k ch b).h2)).set ⊆ (wO k 0).dst.view.set := by
    rw [wM_dst_set, access_set]
    refine sub_unit fun a => ?_
    match a with
    | 0 => exact ⟨le_refl k.val, le_refl (k.val + 1)⟩
    | 1 => exact ⟨Nat.zero_le _, (by decide : 128 + 128 ≤ 0 + 256)⟩
    | 2 => exact ⟨Nat.zero_le _, (by omega : 128 * b.val + 128 ≤ 0 + 1920)⟩
  refine ok_ld (.st k) (I := (wO k 0).dst.view.set) (q := fullShare) (f := stT c D ch) (foc_st hst) sub1 ?_
  refine ok_ld .sm (I := Finset.univ) (q := fullShare) (f := smT c D) (foc_sm hsm) (Finset.subset_univ _) ?_
  refine ok_ld (.st k) (I := (wO k 0).dst.view.set) (q := fullShare) (f := stT c D ch) (foc_st hst) sub2 ?_
  refine ok_ld .sm (I := Finset.univ) (q := fullShare) (f := smT c D) (foc_sm hsm) (Finset.subset_univ _) ?_
  refine ok_ld .wt (I := Finset.univ) (q := fullShare) (f := s.wt) foc_all (Finset.subset_univ _) ?_
  exact ok_st .wt { s with wt := _ } foc_all (comp_wt _) (Finset.subset_univ _) (h _ (wt_store k ch b s.wt _ hw (rd_prep k ch b _ _)))

theorem ok_prepTail (k : Fin 6) (ch : Fin 46) {K : PP F α} : ∀ (n : ℕ) (hn : n ≤ 15) (s : St F c), s.st k = .at (stT c D ch) → s.sm = .at (smT c D) →
    WtOk D s.wt ch.val (15 - n) → (∀ f : Bf F c wtM, WtOk D f (ch.val + 1) 0 → Ok D Q { s with wt := f } K) → Ok D Q s (preps (prepTail k ch n) K)
  | 0, _, s, _, _, hw, h => h s.wt hw.next
  | n + 1, hn, s, hst, hsm, hw, h => by
    unfold prepTail
    rw [dif_pos (by omega)]
    refine ok_prep k ch ⟨14 - n, by omega⟩ hst hsm ?_ fun f hf => ok_prepTail k ch n (by omega) { s with wt := f } hst hsm ?_ h
    · rw [show 15 - (n + 1) = 14 - n by omega] at hw; exact hw
    · rw [show 15 - n = 14 - n + 1 by omega]; exact hf

end Cert.Kernel.V
-- ==== Proof.Oks2.lean ====
/- What each step of the program does to the state, continued: tiles, drains, scales, results. -/
module

public import proofs.«01_k».proof.Proof.Oks
public import Idealize.ShloMosaic.Lib.Pipeline.Value

@[expose] public section

set_option synthInstance.maxSize 4096
set_option maxHeartbeats 200000
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s : St F c} {m : Mxu F} {T : Tb F} {R G : Rg F}

local notation "𝕄" => MT nD τ sig Unit (Elt F) ℕ (UU nD τ) ℕ

/-- A store, what it leaves named. -/
theorem ok_stf {cs : CoreSpace} {z : Shape} {e : EltTy} {m : Memref sig .tc cs z e} {r : Rect z} {w : r.shape.Idx → Elt F e}
    {hx : (m.access r).Stores Finset.univ} {hm : (Finset.univ : Finset r.shape.Idx) = Finset.univ ∨ ∀ a, r.stride a = 1}
    {k : PUnit → PP F α} (i : CI) {s : St F c} (S : Bf F c m → St F c) {I : Finset (Idx (m.view.loc (c : Thread nD τ)))} {f : Bf F c m}
    (hc : ∀ f', comp D s i ⊢ iprop(pts c m I fullShare f ∗ (pts c m I fullShare f' -∗ comp D (S f') i)))
    (hs : ∀ f' j, j ≠ i → comp D (S f') j = comp D s j) (hI : (m.access r).set ⊆ I)
    (h : ∀ f', f' = (m.access r).write (Elt F) f w Finset.univ → Ok D Q (S f') (k ⟨⟩)) : Ok D Q s (.op (.store m r w Finset.univ hx hm) k) :=
  ok_st i (S _) (hc _) (hs _) hI (h _ rfl)

/-! ## The tiles -/

theorem comp_sc (f) : ∀ j, j ≠ .sc → comp D { s with sc := f } j = comp D s j := fun j hj => by
  cases j <;> first | exact absurd rfl hj | rfl
theorem comp_act (f) : ∀ j, j ≠ .act → comp D { s with act := f } j = comp D s j := fun j hj => by
  cases j <;> first | exact absurd rfl hj | rfl
theorem comp_mx (f) : ∀ j, j ≠ .mx → comp D { s with mx := f } j = comp D s j := fun j hj => by
  cases j <;> first | exact absurd rfl hj | rfl
theorem comp_inv (f) : ∀ j, j ≠ .inv → comp D { s with inv := f } j = comp D s j := fun j hj => by
  cases j <;> first | exact absurd rfl hj | rfl
theorem comp_osc (f) : ∀ j, j ≠ .osc → comp D { s with osc := f } j = comp D s j := fun j hj => by
  cases j <;> first | exact absurd rfl hj | rfl
theorem comp_out (k : Fin 2) (v) : ∀ j, j ≠ .out k → comp D { s with out := Function.update s.out k v } j = comp D s j := fun j hj => by
  cases j with
  | out k' => exact congrArg (outR c k') (Function.update_of_ne (fun e => hj (congrArg CI.out e)) _ _)
  | _ => rfl

theorem xM_dst_set (k : Fin 2) : (xO k 0).dst.view.set = (Rect.unit (s := S2x256x11776) (xO k 0).o8 S1x256x11776.size (xO k 0).h8).set :=
  (View.set_reshape _ _).trans (View.set_slice_whole _ _)

theorem xh_dst_set : (xhDst.view.set) = (Rect.unit (s := S2x256x11776) ![0, 0, 0] S1x256x512.size inb_S2x256x11776_S1x256x512_0_0_0).set :=
  (View.set_reshape _ _).trans (View.set_slice_whole _ _)

theorem foc_xb {k : Fin 2} {f : Bf F c xbM} (h : s.xb k = .at f) :
    comp D s (.xb k) ⊢ iprop(pts c xbM (xO k 0).dst.view.set fullShare f ∗ (pts c xbM (xO k 0).dst.view.set fullShare f -∗ comp D s (.xb k))) := by
  have e : comp D s (.xb k) = xbR c D k (.at f) := congrArg (xbR c D k) h
  rw [e]
  exact foc_fst

theorem foc_rest (h : s.xb 0 = .rest) :
    comp D s (.xb 0) ⊢ iprop(pts c xbM xhDst.view.set fullShare (xbT c D 0) ∗ (pts c xbM xhDst.view.set fullShare (xbT c D 0) -∗ comp D s (.xb 0))) := by
  have e : comp D s (.xb 0) = xbR c D 0 .rest := congrArg (xbR c D 0) h
  rw [e]
  exact foc_fst

/-- What a tile's loads read, put together. -/
theorem rd_push (k : Fin 2) (i : Fin 12) (n : Fin 46) {f : Bf F c scM} (hs : ScOk D k.val i.val f) :
    tile ((scM.access (Rect.unit (s := S2x256x128) (pushO k n).o10 S1x256x128.size (pushO k n).h10)).read (Elt F) f) (pushO k n).g0
      ((xbM.access (Rect.unit (s := S2x256x11776) (pushO k n).oa S1x256x128.size (pushO k n).ha)).read (Elt F) (xbT c D i)) (pushO k n).g1
      ((xbM.access (Rect.unit (s := S2x256x11776) (pushO k n).ob S1x256x128.size (pushO k n).hb)).read (Elt F) (xbT c D i))
      = tileT D i.val n.val := by
  have h1 : ((scM.access (Rect.unit (s := S2x256x128) (pushO k n).o10 S1x256x128.size (pushO k n).h10)).read (Elt F) f : Vec F S1x256x128 .f32) = scT D i.val :=
    funext fun x => by
      have h0 : (x 0).val < 1 := (x 0).isLt
      have h1 : (x 1).val < 256 := (x 1).isLt
      have h2 : (x 2).val < 128 := (x 2).isLt
      refine (rd_whole (F := F) cc0_scratch4 (pushO k n).o10 S1x256x128.size (pushO k n).h10 f x).trans ((hs _ ?_).trans ?_)
      · show k.val + (x 0).val = k.val; omega
      · refine congrArg (scT D i.val) (funext fun a => Fin.ext ?_)
        match a with
        | 0 => show 0 % 1 = (x 0).val; omega
        | 1 => show (0 + (x 1).val) % 256 = (x 1).val; omega
        | 2 => show (0 + (x 2).val) % 128 = (x 2).val; omega
  have ha : ((xbM.access (Rect.unit (s := S2x256x11776) (pushO k n).oa S1x256x128.size (pushO k n).ha)).read (Elt F) (xbT c D i) : Vec F S1x256x128 .fp8e4m3)
      = fun x => D.X (i2 (256 * i.val + (x 1).val) (256 * n.val + (x 2).val)) := funext fun x =>
    (rd_whole (F := F) cc0_scratch2 (pushO k n).oa S1x256x128.size (pushO k n).ha (xbT c D i) x).trans
      (congrArg D.X (i2_congr (by show 256 * i.val + (0 + (x 1).val) = _; omega) rfl))
  have hb : ((xbM.access (Rect.unit (s := S2x256x11776) (pushO k n).ob S1x256x128.size (pushO k n).hb)).read (Elt F) (xbT c D i) : Vec F S1x256x128 .fp8e4m3)
      = fun x => D.X (i2 (256 * i.val + (x 1).val) (256 * n.val + 128 + (x 2).val)) := funext fun x =>
    (rd_whole (F := F) cc0_scratch2 (pushO k n).ob S1x256x128.size (pushO k n).hb (xbT c D i) x).trans
      (congrArg D.X (i2_congr (by show 256 * i.val + (0 + (x 1).val) = _; omega) rfl))
  exact congr (congrFun (congr (congrFun (congrArg tile h1) (BitVec.ofNat 32 (2 * n.val))) ha) (BitVec.ofNat 32 (2 * n.val + 1))) hb

theorem pushOk0 (hm : MS m T (fun _ => none) G) : m.PushOk 0 0 true := fun t ht => by
  have e : m.reg 0 0 = none := hm.reg0 0
  rw [e] at ht
  cases ht

theorem pushOk1 (hm : MS m T (fun _ => none) G) (v : FVec F S256x256 .bf16) : (m.pushed 0 0 true v).PushOk 1 0 true := fun t ht => by
  have e : (m.pushed 0 0 true v).reg 1 0 = none := by
    rw [Mxu.reg_pushed_ne _ _ _ _ _ _ _ (by decide)]; exact hm.reg0 1
  rw [e] at ht
  cases ht

/-- Both registers pushed. -/
theorem ok_push2 (v : FVec F S256x256 .bf16) (hm : MS m T (fun _ => none) G) {K : Mxu F → PP F α}
    (h : Ok D Q s (K ((m.pushed 0 0 true v).pushed 1 0 true v))) : Ok D Q s (m.pushRhs 0 0 true v >>= fun m => m.pushRhs 1 0 true v >>= K) := by
  have h2 : Ok D Q s ((m.pushed 0 0 true v).pushRhs 1 0 true v >>= K) :=
    h.trans (Mxu.wp_pushRhs (defs := defs₀ (F := F)) (𝒱 := Variants.none) (c := (c : Thread nD τ)) (bd := none) (E := Set.univ) (Q := Q) (φ := .bf16) (k := K) v (pushOk1 hm v))
  exact h2.trans (Mxu.wp_pushRhs (defs := defs₀ (F := F)) (𝒱 := Variants.none) (c := (c : Thread nD τ)) (bd := none) (E := Set.univ) (Q := Q) (φ := .bf16) (k := fun m => m.pushRhs 1 0 true v >>= K) v (pushOk0 hm))

theorem ok_pushG (k : Fin 2) (i : Fin 12) (n : Fin 46) (I : Finset (Idx (xbM.view.loc (c : Thread nD τ))))
    (hx : comp D s (.xb k) ⊢ iprop(pts c xbM I fullShare (xbT c D i) ∗ (pts c xbM I fullShare (xbT c D i) -∗ comp D s (.xb k))))
    (ha : (xbM.access (Rect.unit (s := S2x256x11776) (pushO k n).oa S1x256x128.size (pushO k n).ha)).set ⊆ I)
    (hb : (xbM.access (Rect.unit (s := S2x256x11776) (pushO k n).ob S1x256x128.size (pushO k n).hb)).set ⊆ I)
    (hs : ScOk D k.val i.val s.sc) (hm : MS m T (fun _ => none) G) {K : Mxu F → PP F α}
    (h : ∀ m', MS m' T (fun _ => some (tileT D i.val n.val)) G → Ok D Q s (K m')) : Ok D Q s (push (pushO k n) m K) := by
  refine ok_ld .sc (I := Finset.univ) (q := fullShare) (f := s.sc) foc_all (Finset.subset_univ _) ?_
  refine ok_ld (.xb k) (I := I) (q := fullShare) (f := xbT c D i) hx ha ?_
  refine ok_ld (.xb k) (I := I) (q := fullShare) (f := xbT c D i) hx hb ?_
  rw [rd_push k i n hs]
  exact ok_push2 (tileT D i.val n.val) hm (h _ (hm.push (tileT D i.val n.val)))

theorem ok_push (k : Fin 2) (i : Fin 12) (n : Fin 46) (hx : s.xb k = .at (xbT c D i))
    (hs : ScOk D k.val i.val s.sc) (hm : MS m T (fun _ => none) G) {K : Mxu F → PP F α}
    (h : ∀ m', MS m' T (fun _ => some (tileT D i.val n.val)) G → Ok D Q s (K m')) : Ok D Q s (push (pushO k n) m K) := by
  refine ok_pushG k i n _ (foc_xb hx) ?_ ?_ hs hm h
  · rw [xM_dst_set, access_set]
    refine sub_unit fun a => ?_
    match a with
    | 0 => exact ⟨le_refl k.val, le_refl (k.val + 1)⟩
    | 1 => exact ⟨le_refl 0, le_refl (0 + 256)⟩
    | 2 => exact ⟨Nat.zero_le _, (by omega : 256 * n.val + 128 ≤ 0 + 11776)⟩
  · rw [xM_dst_set, access_set]
    refine sub_unit fun a => ?_
    match a with
    | 0 => exact ⟨le_refl k.val, le_refl (k.val + 1)⟩
    | 1 => exact ⟨le_refl 0, le_refl (0 + 256)⟩
    | 2 => exact ⟨Nat.zero_le _, (by omega : 256 * n.val + 128 + 128 ≤ 0 + 11776)⟩

/-- The first tile, its head there, its rest still in flight. -/
theorem ok_push_head (hx : s.xb 0 = .rest)
    (hs : ScOk D 0 0 s.sc) (hm : MS m T (fun _ => none) G) {K : Mxu F → PP F α}
    (h : ∀ m', MS m' T (fun _ => some (tileT D 0 0)) G → Ok D Q s (K m')) : Ok D Q s (push (pushO 0 0) m K) := by
  refine ok_pushG 0 0 0 _ (foc_rest hx) ?_ ?_ hs hm h
  · rw [xh_dst_set, access_set]
    exact sub_unit (by decide)
  · rw [xh_dst_set, access_set]
    exact sub_unit (by decide)

theorem ok_turn (k : Fin 2) (i : Fin 12) (hr : s.raw = .at (rawT c D i)) {K : PP F α}
    (h : ∀ f : Bf F c scM, ScOk D k.val i.val f → (∀ (k' : Fin 2) (i' : ℕ), k' ≠ k → ScOk D k'.val i' s.sc → ScOk D k'.val i' f) → Ok D Q { s with sc := f } K) :
    Ok D Q s (turn (trO k) K) := by
  have e : comp D s .raw = rawR c D (.at (rawT c D i)) := congrArg (rawR c D) hr
  refine ok_ld .raw (I := Finset.univ) (q := fullShare) (f := rawT c D i) (by rw [e]; exact foc_fst) (Finset.subset_univ _) ?_
  refine ok_ld .sc (I := Finset.univ) (q := fullShare) (f := s.sc) foc_all (Finset.subset_univ _) ?_
  have hv : turned ((rawM.access (Rect.unit (s := S92x256) ![0, 0] S92x256.size inb_S92x256_S92x256_0_0)).read (Elt F) (rawT c D i)) = scT D i.val :=
    congrArg turned (funext fun x =>
      (rd_whole (F := F) cc0_scratch3 ![0, 0] S92x256.size inb_S92x256_S92x256_0_0 (rawT c D i) x).trans (congrArg D.XS (funext fun a => Fin.ext (by
        match a with
        | 0 => show (0 + (x 0).val) % 92 = (x 0).val % 92; omega
        | 1 => rfl
        | 2 => show (256 * (i.val % 6) + (0 + (x 1).val)) % 1536 = (256 * (i.val % 6) + (x 1).val) % 1536; omega))))
  rw [hv]
  refine ok_stf .sc (fun f => { s with sc := f }) (fun _ => foc_all) comp_sc (Finset.subset_univ _) fun f' hf' => h f' ?_ ?_ <;> subst hf'
  · intro j hj
    have h1 : (j 1).val < 256 := (j 1).isLt
    have h2 : (j 2).val < 128 := (j 2).isLt
    refine (wr_whole_in (F := F) cc0_scratch4 (trO k).o S1x256x128.size (trO k).h s.sc (scT D i.val) j fun a => ?_).trans (congrArg (scT D i.val) (funext fun a => Fin.ext ?_))
    · match a with
      | 0 => show k.val ≤ (j 0).val ∧ (j 0).val < k.val + 1; omega
      | 1 => show 0 ≤ (j 1).val ∧ (j 1).val < 0 + 256; omega
      | 2 => show 0 ≤ (j 2).val ∧ (j 2).val < 0 + 128; omega
    · match a with
      | 0 => show (j 0).val - k.val = 0 % 1; omega
      | 1 => show (j 1).val - 0 = (j 1).val % 256; omega
      | 2 => show (j 2).val - 0 = (j 2).val % 128; omega
  · intro k' i' hk hf j hj
    refine (wr_whole_out (F := F) cc0_scratch4 (trO k).o S1x256x128.size (trO k).h s.sc (scT D i.val) j fun hc => hk ?_).trans (hf j hj)
    have := (show k.val ≤ (j 0).val ∧ (j 0).val < k.val + 1 from hc 0)
    exact Fin.ext (by omega)

/-! ## The drains -/

theorem ok_drain (i : ℕ) (e : Fin 20) (hm : MS m T R G) (hT : T ⟨e.val % 2, by omega⟩ ⟨e.val / 2, by omega⟩ = some (HT D i e.val))
    (ha : ActOk D i e.val s.act) {T' : Tb F} (hT' : upd T ⟨e.val % 2, by omega⟩ ⟨e.val / 2, by omega⟩ none = T') {K : FVec F S96x256 .f32 → Mxu F → PP F α}
    (h : ∀ (f : Bf F c actM) m', ActOk D i (e.val + 1) f → MS m' T' R G → Ok D Q { s with act := f } (K (HT D i e.val) m')) :
    Ok D Q s (drain (drO e) m K) := by
  subst hT'
  refine ok_ld .act (I := Finset.univ) (q := fullShare) (f := s.act) foc_all (Finset.subset_univ _) ?_
  have hr : m.read (drO e).q (drO e).A (M := 96) (drO e).fits = HT D i e.val := hm.read _ ⟨e.val / 2, by omega⟩ hT rfl _
  rw [hr]
  refine ok_stf .act (fun f => { s with act := f }) (fun _ => foc_all) comp_act (Finset.subset_univ _) fun f' hf' => h f' _ ?_ (hm.pop _ ⟨e.val / 2, by omega⟩ rfl _)
  subst hf'
  rw [shapeCast_self]
  intro j hj
  have h0 : (j 0).val < 1920 := (j 0).isLt
  have h1 : (j 1).val < 256 := (j 1).isLt
  unfold pieceOf at hj
  by_cases hin : pieceOf (j 0).val = e.val
  · refine (wr_whole_in (F := F) cc0_scratch6 (drO e).o S96x256.size (drO e).h s.act (sq (HT D i e.val)) j fun a => ?_).trans ?_
    · unfold pieceOf at hin
      match a with
      | 0 => show 960 * (e.val % 2) + 96 * (e.val / 2) ≤ (j 0).val ∧ (j 0).val < 960 * (e.val % 2) + 96 * (e.val / 2) + 96; omega
      | 1 => show 0 ≤ (j 1).val ∧ (j 1).val < 0 + 256; omega
    · unfold actAt
      rw [hin]
      unfold pieceOf at hin
      refine congrArg (sq (HT D i e.val)) (funext fun a => Fin.ext ?_)
      match a with
      | 0 => show (j 0).val - (960 * (e.val % 2) + 96 * (e.val / 2)) = ((j 0).val % 960 % 96) % 96; omega
      | 1 => show (j 1).val - 0 = (j 1).val % 256; omega
  · refine (wr_whole_out (F := F) cc0_scratch6 (drO e).o S96x256.size (drO e).h s.act (sq (HT D i e.val)) j fun hc => hin ?_).trans (ha j (by unfold pieceOf at hin ⊢; omega))
    have := (show 960 * (e.val % 2) + 96 * (e.val / 2) ≤ (j 0).val ∧ (j 0).val < 960 * (e.val % 2) + 96 * (e.val / 2) + 96 from hc 0)
    unfold pieceOf
    omega

/-! ## The results -/

theorem wr_all2 (b : Ref sig .tc) (z : Fin b.ty.shape.rank → ℕ) (o : Fin b.ty.shape.rank → ℕ) (ho : ∀ a, o a = 0) (hz : z = b.ty.shape.size)
    (h : ∀ a, o a + z a ≤ b.ty.shape.size a) (f w : b.ty.shape.Idx → Elt F b.ty.elt) (w' : (Rect.unit o z h).shape.Idx → Elt F b.ty.elt)
    (hw : ∀ (i : b.ty.shape.Idx) (x : (Rect.unit o z h).shape.Idx), (∀ a, (x a).val = (i a).val) → w' x = w i) :
    ((Memref.whole b).access (Rect.unit o z h)).write (Elt F) f w' Finset.univ = w := by
  funext i
  refine (wr_whole_in (F := F) b o z h f w' i fun a => ?_).trans (hw i _ fun a => ?_)
  · have := (i a).isLt
    have e1 := congrFun hz a
    have e2 := ho a
    change (i a).val < b.ty.shape.size a at this
    rw [e1, e2]
    exact ⟨Nat.zero_le _, by rw [Nat.zero_add]; exact this⟩
  · show (i a).val - o a = (i a).val
    have := ho a
    omega

theorem ok_storeMax (v : FVec F S8x256 .f32) {K : PP F α} (h : Ok D Q { s with mx := (v : Bf F c mxM) } K) : Ok D Q s (storeMax v K) := by
  refine ok_ld .mx (I := Finset.univ) (q := fullShare) (f := s.mx) foc_all (Finset.subset_univ _) ?_
  have e : (mxM.access (Rect.unit (s := S8x256) ![0, 0] S8x256.size inb_S8x256_S8x256_0_0)).write (Elt F) s.mx (shapeCast S8x256 v shapeCasts_S8x256_S8x256) Finset.univ = v :=
    wr_all2 (F := F) cc0_scratch7 S8x256.size ![0, 0] (by decide) rfl inb_S8x256_S8x256_0_0 s.mx v _ fun i x hx => by
      rw [shapeCast_self]; exact congrArg v (funext fun a => Fin.ext (hx a))
  refine ok_stf .mx (fun f => { s with mx := f }) (fun _ => foc_all) comp_mx (Finset.subset_univ _) fun f' hf' => ?_
  rw [hf'.trans e]
  exact h

theorem ok_zeroOsc {f : Bf F c oscM} {g : Bf F c ysM} (ho : s.osc = .at f g) {K : PP F α} (h : ∀ f', Ok D Q { s with osc := .at f' g } K) : Ok D Q s (zeroOsc K) := by
  have e : comp D s .osc = oscR c (.at f g) := congrArg (oscR c) ho
  refine ok_ld .osc (I := Finset.univ) (q := fullShare) (f := f) (by rw [e]; exact foc_fst) (Finset.subset_univ _) ?_
  exact ok_stf .osc (fun f' => { s with osc := .at f' g }) (f := f) (fun f' => by rw [e]; exact foc_fst) (fun f' => comp_osc _) (Finset.subset_univ _) fun f' _ => h f'

theorem rd_all (b : Ref sig .tc) (z : Fin b.ty.shape.rank → ℕ) (o : Fin b.ty.shape.rank → ℕ) (ho : ∀ a, o a = 0)
    (h : ∀ a, o a + z a ≤ b.ty.shape.size a) (f : b.ty.shape.Idx → Elt F b.ty.elt) (x : (Rect.unit o z h).shape.Idx) (i : b.ty.shape.Idx) (hi : ∀ a, (x a).val = (i a).val) :
    ((Memref.whole b).access (Rect.unit o z h)).read (Elt F) f x = f i :=
  (rd_whole (F := F) b o z h f x).trans (congrArg f (funext fun a => Fin.ext (by show o a + (x a).val = _; rw [ho a, hi a, Nat.zero_add])))

theorem yM_src_set (k : Fin 2) : (yO k 0).src.view.set = (Rect.unit (s := S2x256x1920) (yO k 0).oo S1x256x1920.size (yO k 0).ho).set :=
  (View.set_reshape _ _).trans (View.set_slice_whole _ _)

theorem ok_quantise (k : Fin 2) (i : ℕ) (b : Fin 15) {f : Bf F c outM} (ho : s.out k = .at f) (ha : ActOk D i 20 s.act) (hi : s.inv = invOf (mxT D i))
    (hf : OutOk D k.val i b.val f) {K : PP F α}
    (h : ∀ f' : Bf F c outM, OutOk D k.val i (b.val + 1) f' → Ok D Q { s with out := Function.update s.out k (.at f') } K) :
    Ok D Q s (quantise (qO k b) K) := by
  have e : comp D s (.out k) = outR c k (.at f) := congrArg (outR c k) ho
  have sub : (outM.access (Rect.unit (s := S2x256x1920) (qO k b).oo S1x256x128.size (qO k b).ho)).set ⊆ (yO k 0).src.view.set := by
    rw [yM_src_set, access_set]
    refine sub_unit fun a => ?_
    match a with
    | 0 => exact ⟨le_refl k.val, le_refl (k.val + 1)⟩
    | 1 => exact ⟨le_refl 0, le_refl (0 + 256)⟩
    | 2 => exact ⟨Nat.zero_le _, (by omega : 128 * b.val + 128 ≤ 0 + 1920)⟩
  refine ok_ld .act (I := Finset.univ) (q := fullShare) (f := s.act) foc_all (Finset.subset_univ _) ?_
  refine ok_ld .inv (I := Finset.univ) (q := fullShare) (f := s.inv) foc_all (Finset.subset_univ _) ?_
  refine ok_ld (.out k) (I := (yO k 0).src.view.set) (q := fullShare) (f := f) (by rw [e]; exact foc_fst) sub ?_
  have e' : ∀ f', comp D { s with out := Function.update s.out k (.at f') } (.out k) = outR c k (.at f') := fun f' => congrArg (outR c k) (Function.update_self ..)
  refine ok_stf (.out k) (fun f' => { s with out := Function.update s.out k (.at f') }) (f := f) (fun f' => by rw [e, e']; exact foc_fst) (fun f' => comp_out k _) sub fun f' hf' => h f' ?_
  subst hf'
  have hv : ((actM.access (Rect.unit (s := S1920x256) (qO k b).o S128x256.size (qO k b).h)).read (Elt F) s.act : Vec F S128x256 .f32)
      = fun x => actAt D i (128 * b.val + (x 0).val) (x 1).val := funext fun x => by
    have h0 : (x 0).val < 128 := (x 0).isLt
    refine (rd_whole (F := F) cc0_scratch6 (qO k b).o S128x256.size (qO k b).h s.act x).trans ((ha _ ?_).trans ?_)
    · show pieceOf (128 * b.val + (x 0).val) < 20
      unfold pieceOf; omega
    · show actAt D i (128 * b.val + (x 0).val) (0 + (x 1).val) = _
      rw [Nat.zero_add]
  have hw : ((invM.access (Rect.unit (s := S8x256) ![0, 0] S8x256.size inb_S8x256_S8x256_0_0)).read (Elt F) s.inv : Vec F S8x256 .f32) = invOf (mxT D i) := funext fun x =>
    (rd_all (F := F) cc0_scratch8 S8x256.size ![0, 0] (by decide) inb_S8x256_S8x256_0_0 s.inv x x fun _ => rfl).trans (congrFun hi x)
  rw [hv, hw]
  intro j hj hb
  have h1 : (j 1).val < 256 := (j 1).isLt
  by_cases hin : (j 2).val / 128 = b.val
  · refine (wr_whole_in (F := F) cc0_scratch9 (qO k b).oo S1x256x128.size (qO k b).ho f _ j fun a => ?_).trans ?_
    · match a with
      | 0 => show k.val ≤ (j 0).val ∧ (j 0).val < k.val + 1; omega
      | 1 => show 0 ≤ (j 1).val ∧ (j 1).val < 0 + 256; omega
      | 2 => show 128 * b.val ≤ (j 2).val ∧ (j 2).val < 128 * b.val + 128; omega
    · unfold outAt
      rw [hin]
      refine congrArg (quant (fun x => actAt D i (128 * b.val + (x 0).val) (x 1).val) (invOf (mxT D i))) (funext fun a => Fin.ext ?_)
      match a with
      | 0 => show (j 0).val - k.val = 0 % 1; omega
      | 1 => show (j 1).val - 0 = (j 1).val % 256; omega
      | 2 => show (j 2).val - 128 * b.val = (j 2).val % 128 % 128; omega
  · refine (wr_whole_out (F := F) cc0_scratch9 (qO k b).oo S1x256x128.size (qO k b).ho f _ j fun hc => hin ?_).trans (hf j hj (by omega))
    have := (show 128 * b.val ≤ (j 2).val ∧ (j 2).val < 128 * b.val + 128 from hc 2)
    omega

end Cert.Kernel.V
-- ==== Proof.Oks3.lean ====
/- What each step of the program does to the state, the runs of pieces and blocks. -/
module

public import proofs.«01_k».proof.Proof.Oks2
public import Idealize.ShloMosaic.Lib.Pipeline.Value

@[expose] public section

set_option synthInstance.maxSize 4096
set_option maxHeartbeats 400000
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s : St F c} {m : Mxu F} {T : Tb F} {R G : Rg F}

local notation "𝕄" => MT nD τ sig Unit (Elt F) ℕ (UU nD τ) ℕ

theorem ok_drainOV (i a : ℕ) (e : Fin 20) (d : ℕ) (hd : d = e.val) (hm : MS m (OV D i a d) R G) (had : a ≤ d) (ha : ActOk D i d s.act)
    {K : FVec F S96x256 .f32 → Mxu F → PP F α}
    (h : ∀ (f : Bf F c actM) m', ActOk D i (d + 1) f → MS m' (OV D i a (d + 1)) R G → Ok D Q { s with act := f } (K (HT D i d) m')) :
    Ok D Q s (drain (drO e) m K) := by
  subst hd
  exact ok_drain i e hm (OV_at D i a e had) ha (OV_pop D i a e had) h

theorem ok_accFOV (i : ℕ) (e : Fin 20) (a d : ℕ) (hd : a = e.val) (had : a < d) {w : ℕ} (hw : WtOk D s.wt w 0) (hw0 : 0 < w)
    (hm : MS m (OV D i a d) R G) (hR : R (accO 0 e).q = some (tileT D (i + 1) 0)) {K : Mxu F → PP F α}
    (h : ∀ m', MS m' (OV D i (a + 1) d) (Function.update R (accO 0 e).q none) (Function.update G (accO 0 e).q (some (tileT D (i + 1) 0))) → Ok D Q s (K m')) :
    Ok D Q s (accF (accO 0 e) m K) := by
  subst hd
  exact ok_accF 0 e hw hw0 hm hR (OV_acc D i e d had) h

theorem ok_accLOV (i : ℕ) (e : Fin 20) (a d : ℕ) (hd : a = e.val) (had : a < d) {w : ℕ} (hw : WtOk D s.wt w 0) (hw0 : 0 < w)
    (hm : MS m (OV D i a d) R G) (hG : ∀ q, G q = some (tileT D (i + 1) 0)) {K : Mxu F → PP F α}
    (h : ∀ m', MS m' (OV D i (a + 1) d) R G → Ok D Q s (K m')) :
    Ok D Q s (accL (accO 0 e) m K) := by
  subst hd
  exact ok_accL 0 e hw hw0 hm (hG _) (OV_acc D i e d had) h

theorem mxN_step (i n : ℕ) (hn : n < 9) : maximumf (maximumf (mxN D i (9 - (n + 1))) (top (HT D i (18 - 2 * n)))) (top (HT D i (18 - 2 * n + 1))) = mxN D i (9 - n) := by
  obtain ⟨k, hk⟩ : ∃ k, k = 9 - (n + 1) := ⟨_, rfl⟩
  have e1 : 9 - n = k + 1 := by omega
  have e2 : 18 - 2 * n = 2 * k + 2 := by omega
  rw [← hk, e1, e2]
  rfl

theorem ok_overTail (i : ℕ) {w : ℕ} (hw0 : 0 < w) {K : FVec F S8x256 .f32 → Mxu F → PP F α}
    (hG : ∀ q, G q = some (tileT D (i + 1) 0)) : ∀ (n : ℕ) (hn : n ≤ 9) (s : St F c) (v : FVec F S8x256 .f32) (m : Mxu F), WtOk D s.wt w 0 →
    MS m (OV D i (20 - 2 * n) (20 - 2 * n)) R G → v = mxN D i (9 - n) → ActOk D i (20 - 2 * n) s.act →
    (∀ (f : Bf F c actM) m', ActOk D i 20 f → MS m' (TB D (i + 1) 1 0) R G → Ok D Q { s with act := f } (K (mxT D i) m')) →
    Ok D Q s (overTail n v m K) := by
  intro n
  induction n with
  | zero =>
    intro _ s v m hw hm hv ha h
    have e : v = mxT D i := hv
    have hm' : MS m (OV D i 20 20) R G := hm
    rw [OV_last] at hm'
    rw [e]
    exact h s.act m ha hm'
  | succ n ih =>
    intro hn s v m hw hm hv ha h
    unfold overTail
    rw [dif_pos (by omega)]
    obtain ⟨d, hd⟩ : ∃ d, d = 18 - 2 * n := ⟨_, rfl⟩
    rw [show 20 - 2 * (n + 1) = d by omega] at hm ha
    refine ok_drainOV i d ⟨18 - 2 * n, by omega⟩ d hd hm (le_refl _) ha fun f1 m1 ha1 hm1 => ?_
    refine ok_drainOV (s := { s with act := f1 }) i d ⟨18 - 2 * n + 1, by omega⟩ (d + 1) (congrArg (· + 1) hd) hm1 (Nat.le_succ _) ha1 fun f2 m2 ha2 hm2 => ?_
    refine ok_accLOV (s := { s with act := f2 }) i ⟨18 - 2 * n, by omega⟩ d (d + 1 + 1) hd (by omega) hw hw0 hm2 hG fun m3 hm3 => ?_
    refine ok_accLOV (s := { s with act := f2 }) i ⟨18 - 2 * n + 1, by omega⟩ (d + 1) (d + 1 + 1) (congrArg (· + 1) hd) (by omega) hw hw0 hm3 hG fun m4 hm4 => ?_
    have e2 : 20 - 2 * n = d + 1 + 1 := by omega
    refine ih (by omega) { s with act := f2 } _ m4 hw (e2.symm ▸ hm4) ?_ (e2.symm ▸ ha2) h
    rw [hv, hd]
    exact mxN_step i n (by omega)

theorem ok_over (i : ℕ) {w : ℕ} (hw0 : 0 < w) (hw : WtOk D s.wt w 0) (hm : MS m (TB D i 46 0) (fun _ => some (tileT D (i + 1) 0)) G)
    {K : FVec F S8x256 .f32 → Mxu F → PP F α}
    (h : ∀ (f : Bf F c actM) m' G', ActOk D i 20 f → MS m' (TB D (i + 1) 1 0) (fun _ => none) G' → Ok D Q { s with act := f } (K (mxT D i) m')) :
    Ok D Q s (overC m K) := by
  rw [OV_first] at hm
  refine ok_drainOV i 0 0 0 rfl hm (le_refl _) (fun j hj => absurd hj (Nat.not_lt_zero _)) fun f1 m1 ha1 hm1 => ?_
  refine ok_drainOV (s := { s with act := f1 }) i 0 1 (0 + 1) rfl hm1 (Nat.le_succ _) ha1 fun f2 m2 ha2 hm2 => ?_
  refine ok_accFOV (s := { s with act := f2 }) i 0 0 (0 + 1 + 1) rfl (by omega) hw hw0 hm2 rfl fun m3 hm3 => ?_
  refine ok_accFOV (s := { s with act := f2 }) i 1 (0 + 1) (0 + 1 + 1) rfl (by omega) hw hw0 hm3 rfl fun m4 hm4 => ?_
  have r : Function.update (Function.update (fun _ : Fin 2 => some (tileT D (i + 1) 0)) (accO 0 0).q none) (accO 0 1).q none = fun _ => none := by
    funext q; fin_cases q <;> rfl
  have g : Function.update (Function.update G (accO 0 0).q (some (tileT D (i + 1) 0))) (accO 0 1).q (some (tileT D (i + 1) 0)) = fun _ => some (tileT D (i + 1) 0) := by
    funext q; fin_cases q <;> rfl
  rw [r, g] at hm4
  exact ok_overTail (R := fun _ => none) (G := fun _ => some (tileT D (i + 1) 0)) i hw0 (fun _ => rfl) 9 (le_refl _) { s with act := f2 } _ m4 hw hm4 rfl ha2
    fun f m' hf hm' => h f m' _ hf hm'

theorem ok_lastTail (i : ℕ) {K : FVec F S8x256 .f32 → Mxu F → PP F α} : ∀ (n : ℕ) (hn : n ≤ 9) (s : St F c) (v : FVec F S8x256 .f32) (m : Mxu F),
    MS m (OV D i 0 (20 - 2 * n)) R G → v = mxN D i (9 - n) → ActOk D i (20 - 2 * n) s.act →
    (∀ (f : Bf F c actM) m', ActOk D i 20 f → MS m' (fun _ _ => none) R G → Ok D Q { s with act := f } (K (mxT D i) m')) →
    Ok D Q s (lastTail n v m K) := by
  intro n
  induction n with
  | zero =>
    intro _ s v m hm hv ha h
    have e : v = mxT D i := hv
    have hm' : MS m (OV D i 0 20) R G := hm
    rw [OV_none] at hm'
    rw [e]
    exact h s.act m ha hm'
  | succ n ih =>
    intro hn s v m hm hv ha h
    unfold lastTail
    rw [dif_pos (by omega)]
    obtain ⟨d, hd⟩ : ∃ d, d = 18 - 2 * n := ⟨_, rfl⟩
    rw [show 20 - 2 * (n + 1) = d by omega] at hm ha
    refine ok_drainOV i 0 ⟨18 - 2 * n, by omega⟩ d hd hm (Nat.zero_le _) ha fun f1 m1 ha1 hm1 => ?_
    refine ok_drainOV (s := { s with act := f1 }) i 0 ⟨18 - 2 * n + 1, by omega⟩ (d + 1) (congrArg (· + 1) hd) hm1 (Nat.zero_le _) ha1 fun f2 m2 ha2 hm2 => ?_
    have e2 : 20 - 2 * n = d + 1 + 1 := by omega
    refine ih (by omega) { s with act := f2 } _ m2 (e2.symm ▸ hm2) ?_ (e2.symm ▸ ha2) h
    rw [hv, hd]
    exact mxN_step i n (by omega)

theorem ok_last (i : ℕ) (hm : MS m (TB D i 46 0) R G) {K : FVec F S8x256 .f32 → Mxu F → PP F α}
    (h : ∀ (f : Bf F c actM) m', ActOk D i 20 f → MS m' (fun _ _ => none) R G → Ok D Q { s with act := f } (K (mxT D i) m')) :
    Ok D Q s (lastC m K) := by
  rw [OV_first] at hm
  refine ok_drainOV i 0 0 0 rfl hm (le_refl _) (fun j hj => absurd hj (Nat.not_lt_zero _)) fun f1 m1 ha1 hm1 => ?_
  refine ok_drainOV (s := { s with act := f1 }) i 0 1 (0 + 1) rfl hm1 (Nat.le_succ _) ha1 fun f2 m2 ha2 hm2 => ?_
  exact ok_lastTail i 9 (le_refl _) { s with act := f2 } _ m2 hm2 rfl ha2 h

theorem ok_quantTail (k : Fin 2) (i : ℕ) {K : PP F α} : ∀ (n : ℕ) (hn : n ≤ 15) (s : St F c) (f : Bf F c outM), s.out k = .at f → ActOk D i 20 s.act →
    s.inv = invOf (mxT D i) → OutOk D k.val i (15 - n) f →
    (∀ f' : Bf F c outM, OutOk D k.val i 15 f' → Ok D Q { s with out := Function.update s.out k (.at f') } K) → Ok D Q s (quantTail k n K) := by
  intro n
  induction n with
  | zero =>
    intro _ s f ho ha hi hf h
    have := h f hf
    rw [← ho, Function.update_eq_self] at this
    exact this
  | succ n ih =>
    intro hn s f ho ha hi hf h
    unfold quantTail
    rw [dif_pos (by omega)]
    obtain ⟨b, hb⟩ : ∃ b : Fin 15, b = ⟨14 - n, by omega⟩ := ⟨_, rfl⟩
    have hb' : b.val = 14 - n := congrArg Fin.val hb
    rw [← hb]
    rw [show 15 - (n + 1) = b.val by omega] at hf
    refine ok_quantise k i b ho ha hi hf fun f1 hf1 => ?_
    refine ih (by omega) { s with out := Function.update s.out k (.at f1) } f1 (Function.update_self ..) ha hi ?_ fun f2 hf2 => ?_
    · rw [show 15 - n = b.val + 1 by omega]; exact hf1
    · have := h f2 hf2
      show Ok D Q { s with out := Function.update (Function.update s.out k (.at f1)) k (.at f2) } K
      rw [Function.update_idem]
      exact this

end Cert.Kernel.V
-- ==== Proof.Dma.lean ====
/- What each transfer's start and wait does to the state. -/
module

public import proofs.«01_k».proof.Proof.Oks2

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c}

local notation "𝕄" => MT nD τ sig Unit (Elt F) ℕ (UU nD τ) ℕ

theorem ok_startG {sp sp' : Space} {S : Shape} {e : EltTy} {src : Memref sig .tc sp S e} {dst : Memref sig .tc sp' S e}
    {sm : DmaSem sig} {h1 : src.view.WordExact} {h2 : dst.view.WordExact} {h3 : DmaTarget.Typed (nD := nD) (τ := τ) (p := .tc) sp (.dma sm) (DmaTarget.here (p := .tc) dst)}
    {k : PUnit → PP F α} {q : PosShare TreeShare} {fs : Bf F c src} {fd : Bf F c dst} (g : Bf F c dst)
    (hg : ∀ x, dst.view.read (Elt F) g x = src.view.read (Elt F) fs x) (hn : 0 < S.numel)
    (ho : own D s ⊢ iprop((pts c src src.view.set q fs ∗ pts c dst dst.view.set fullShare fd ∗ sv c sm)
      ∗ (Fl c sm dst.view.dmaCredit iprop(pts c dst dst.view.set fullShare g ∗ pts c src src.view.set q fs) -∗ own D s')))
    (h : Ok D Q s' (k ⟨⟩)) : Ok D Q s (.op (.enqueueDma src (.here dst) (.dma sm) h1 h2 h3) k) := by
  unfold Ok at h ⊢
  iintro H
  ihave H := ho $$ H
  icases H with ⟨HA, HB⟩
  iapply (dma_start (src := src) (dst := dst) (sm := sm) (fd := fd) g hg hn) $$ HA
  iintro HF
  iapply h
  iapply HB
  iexact HF

theorem ok_waitG {sp sp' : Space} {S : Shape} {e : EltTy} {src : Memref sig .tc sp S e} {dst : Memref sig .tc sp' S e}
    {sm : DmaSem sig} {h1 : src.view.WordExact} {h2 : dst.view.WordExact} {k : PUnit → PP F α} (Dl : sProp 𝕄)
    (ho : own D s ⊢ iprop((Fl c sm dst.view.dmaCredit Dl ∗ ow c) ∗ (iprop(Dl ∗ sv c sm ∗ ow c) -∗ own D s')))
    (h : Ok D Q s' (k ⟨⟩)) : Ok D Q s (.op (.waitDma2 sm src dst h1 h2) k) := by
  unfold Ok at h ⊢
  iintro H
  ihave H := ho $$ H
  icases H with ⟨HA, HB⟩
  iapply (dma_wait (src := src) (dst := dst) (sm := sm) (D := Dl)) $$ HA
  iintro HF
  iapply h
  iapply HB
  iexact HF

variable {A B : sProp (MT nD τ sig Unit (Elt F) ℕ (UU nD τ) ℕ)}

theorem ho1 (i : CI) (hs : ∀ j, j ≠ i → comp D s' j = comp D s j) (hc : comp D s i ⊢ iprop(A ∗ (B -∗ comp D s' i))) :
    own D s ⊢ iprop(A ∗ (B -∗ own D s')) := by
  iintro H
  ihave H := (foc i s s' hs) $$ H
  icases H with ⟨H, Hk⟩
  ihave H := hc $$ H
  icases H with ⟨H, Hc⟩
  isplitl [H]; · iexact H
  iintro HB
  iapply Hk
  iapply Hc
  iexact HB

theorem ho2 (i j : CI) (hij : i ≠ j) (hs : ∀ l, l ≠ i → l ≠ j → comp D s' l = comp D s l)
    (hc : iprop(comp D s i ∗ comp D s j) ⊢ iprop(A ∗ (B -∗ comp D s' i ∗ comp D s' j))) :
    own D s ⊢ iprop(A ∗ (B -∗ own D s')) := by
  iintro H
  ihave H := (foc2 i j hij s s' hs) $$ H
  icases H with ⟨Hi, Hj, Hk⟩
  ihave H := hc $$ [Hi Hj]
  · isplitl [Hi] <;> iassumption
  icases H with ⟨H, Hc⟩
  isplitl [H]; · iexact H
  iintro HB
  ihave HB := Hc $$ HB
  icases HB with ⟨Hi, Hj⟩
  iapply Hk $$ Hi Hj

theorem foc3 (i j k : CI) (hij : i ≠ j) (hik : i ≠ k) (hjk : j ≠ k) (s s' : St F c) (h : ∀ l, l ≠ i → l ≠ j → l ≠ k → comp D s' l = comp D s l) :
    own D s ⊢ iprop(comp D s i ∗ comp D s j ∗ comp D s k ∗ (comp D s' i -∗ comp D s' j -∗ comp D s' k -∗ own D s')) := by
  have hj : j ∈ Finset.univ.erase i := Finset.mem_erase.2 ⟨hij.symm, Finset.mem_univ _⟩
  have hk : k ∈ (Finset.univ.erase i).erase j := Finset.mem_erase.2 ⟨hjk.symm, Finset.mem_erase.2 ⟨hik.symm, Finset.mem_univ _⟩⟩
  have e1 : own D s = iprop(comp D s i ∗ comp D s j ∗ comp D s k ∗ bigSep (((Finset.univ.erase i).erase j).erase k) (comp D s)) := by
    unfold own; rw [bigSep_univ_split i, bigSep_erase hj, bigSep_erase hk]; rfl
  have e3 : bigSep (((Finset.univ.erase i).erase j).erase k) (comp D s') = bigSep (((Finset.univ.erase i).erase j).erase k) (comp D s) :=
    bigSep_congr fun l hl => h l (Finset.ne_of_mem_erase (Finset.mem_of_mem_erase (Finset.mem_of_mem_erase hl)))
      (Finset.ne_of_mem_erase (Finset.mem_of_mem_erase hl)) (Finset.ne_of_mem_erase hl)
  have e2 : own D s' = iprop(comp D s' i ∗ comp D s' j ∗ comp D s' k ∗ bigSep (((Finset.univ.erase i).erase j).erase k) (comp D s)) := by
    unfold own; rw [bigSep_univ_split i, bigSep_erase hj, bigSep_erase hk, e3]; rfl
  rw [e1, e2]
  iintro ⟨Hi, Hj, Hk, Hr⟩
  isplitl [Hi]; · iexact Hi
  isplitl [Hj]; · iexact Hj
  isplitl [Hk]; · iexact Hk
  iintro Hi Hj Hk
  isplitl [Hi]; · iexact Hi
  isplitl [Hj]; · iexact Hj
  isplitl [Hk]; · iexact Hk
  iexact Hr

theorem ho3 (i j k : CI) (hij : i ≠ j) (hik : i ≠ k) (hjk : j ≠ k) (hs : ∀ l, l ≠ i → l ≠ j → l ≠ k → comp D s' l = comp D s l)
    (hc : iprop(comp D s i ∗ comp D s j ∗ comp D s k) ⊢ iprop(A ∗ (B -∗ comp D s' i ∗ comp D s' j ∗ comp D s' k))) :
    own D s ⊢ iprop(A ∗ (B -∗ own D s')) := by
  iintro H
  ihave H := (foc3 i j k hij hik hjk s s' hs) $$ H
  icases H with ⟨Hi, Hj, Hl, Hk⟩
  ihave H := hc $$ [Hi Hj Hl]
  · isplitl [Hi]; · iexact Hi
    isplitl [Hj] <;> iassumption
  icases H with ⟨H, Hc⟩
  isplitl [H]; · iexact H
  iintro HB
  ihave HB := Hc $$ HB
  icases HB with ⟨Hi, Hj, Hl⟩
  iapply Hk $$ Hi Hj Hl

theorem eq_ent {P P' : sProp 𝕄} (h : P = P') : P ⊢ P' := h ▸ .rfl

/-- A source split at the rows a transfer reads, -/
theorem start_ent {P S X : sProp 𝕄} {ℓ : Loc nD τ sig} {I : Finset (Idx ℓ)} {q : PosShare TreeShare} {f : Buf (Elt F) ℓ} :
    iprop(P ∗ (ℓ ↦[Finset.univ]{q} f) ∗ S) ⊢ iprop(((ℓ ↦[I]{q} f) ∗ P ∗ S) ∗ (X -∗ X ∗ (ℓ ↦[Finset.univ \ I]{q} f))) := by
  iintro ⟨HP, HI, HS⟩
  ihave HI := (pointsTo_split_subset (Finset.subset_univ I)).1 $$ HI
  icases HI with ⟨HI, HR⟩
  isplitl [HP HI HS]
  · isplitl [HI]; · iexact HI
    isplitl [HP] <;> iassumption
  iintro HX
  isplitl [HX] <;> iassumption

/-- and joined again. -/
theorem wait_ent {P S O X : sProp 𝕄} {ℓ : Loc nD τ sig} {I : Finset (Idx ℓ)} {q : PosShare TreeShare} {f : Buf (Elt F) ℓ} :
    iprop((X ∗ (ℓ ↦[Finset.univ \ I]{q} f)) ∗ O) ⊢ iprop((X ∗ O) ∗ (iprop((P ∗ (ℓ ↦[I]{q} f)) ∗ S ∗ O) -∗ iprop((P ∗ (ℓ ↦[Finset.univ]{q} f) ∗ S) ∗ O))) := by
  iintro ⟨⟨HX, HR⟩, HO⟩
  isplitl [HX HO]
  · isplitl [HX] <;> iassumption
  iintro ⟨⟨HP, HI⟩, HS, HO⟩
  isplitl [HP HI HR HS]
  · isplitl [HP]; · iexact HP
    isplitl [HI HR]
    · iapply (pointsTo_split_subset (Finset.subset_univ I)).2
      isplitl [HI] <;> iassumption
    iexact HS
  iexact HO

/-! ## The weights -/

theorem comp_st (k : Fin 6) (v) : ∀ j, j ≠ .st k → comp D { s with st := Function.update s.st k v } j = comp D s j := fun j hj => by
  cases j with
  | st k' => exact congrArg (stR c D k') (Function.update_of_ne (fun e => hj (congrArg CI.st e)) _ _)
  | _ => rfl

theorem rd_st (k : Fin 6) (i : Fin 46) (x : S256x1920.Idx) :
    (wO k i).dst.view.read (Elt F) (stT c D i) x = (wO k i).src.view.read (Elt F) (D.W : Bf F c wM) x := by
  refine (congrArg (fun y => stT c D i ((stM.slice (Rect.unit (s := S6x256x1920) (wO k i).o7 S1x256x1920.size (wO k i).h7) (fun _ => rfl)).view.emb y))
    (Shape.reshapeEquiv_cons_one _ x)).trans (congrArg D.W (funext fun a => Fin.ext ?_))
  have h0 : (x 0).val < 256 := (x 0).isLt
  have h1 : (x 1).val < 1920 := (x 1).isLt
  match a with
  | 0 => show (256 * i.val + (0 + 1 * (x 0).val)) % 11776 = 256 * i.val + 1 * (x 0).val; omega
  | 1 => show (0 + 1 * (x 1).val) % 1920 = 0 + 1 * (x 1).val; omega

theorem ok_wStart (k : Fin 6) (i : Fin 46) {f : Bf F c stM} (hs : s.st k = .at f) {K : PP F α}
    (h : Ok D Q { s with st := Function.update s.st k (.fly i) } K) : Ok D Q s (wStart (wO k i) K) := by
  have e : comp D s (.st k) = stR c D k (.at f) := congrArg (stR c D k) hs
  have e' : comp D { s with st := Function.update s.st k (.fly i) } (.st k) = stR c D k (.fly i) := congrArg (stR c D k) (Function.update_self ..)
  refine ok_startG (src := (wO k i).src) (dst := (wO k i).dst) (sm := (wO k i).sem) (q := tok k) (fs := (D.W : Bf F c wM)) (fd := f)
    (s' := { s with st := Function.update s.st k (.fly i) }) (stT c D i) (rd_st k i) (by decide) (ho1 (.st k) (comp_st k _) ?_) h
  rw [e, e']
  exact start_ent

theorem ok_wWait (k : Fin 6) (i : Fin 46) (hs : s.st k = .fly i) {K : PP F α}
    (h : Ok D Q { s with st := Function.update s.st k (.at (stT c D i)) } K) : Ok D Q s (wWait (wO k i) K) := by
  have e : comp D s (.st k) = stR c D k (.fly i) := congrArg (stR c D k) hs
  have e' : comp D { s with st := Function.update s.st k (.at (stT c D i)) } (.st k) = stR c D k (.at (stT c D i)) := congrArg (stR c D k) (Function.update_self ..)
  refine ok_waitG (src := (wO k i).src) (dst := (wO k i).dst) (sm := (wO k i).sem) (s' := { s with st := Function.update s.st k (.at (stT c D i)) })
    iprop(pts c stM (wO k 0).dst.view.set fullShare (stT c D i) ∗ pts c wM (wO k i).src.view.set (tok k) (D.W : Bf F c wM))
    (ho2 (.st k) .ow (by simp) (fun l h1 _ => comp_st k _ l h1) ?_) h
  rw [e, e']
  exact wait_ent

/-! ## The raw scales -/

theorem comp_raw (v) : ∀ j, j ≠ .raw → comp D { s with raw := v } j = comp D s j := fun j hj => by
  cases j <;> first | exact absurd rfl hj | rfl

theorem squeeze_mid (h : S92x256.numel = S92x1x256.numel) (x : S92x256.Idx) : Shape.reshapeEquiv h x = (i3 (x 0).val 0 (x 1).val : S92x1x256.Idx) := by
  refine Shape.reshapeEquiv_eq_of_rowMajor h ?_
  have h0 : (x 0).val < 92 := (x 0).isLt
  have h1 : (x 1).val < 256 := (x 1).isLt
  refine (Shape.rowMajorPi_succ_val S92x1x256.size (i3 (x 0).val 0 (x 1).val)).trans (.trans ?_ (Shape.rowMajorPi_succ_val S92x256.size x).symm)
  rw [Shape.rowMajorPi_succ_val (n := 1), Shape.rowMajorPi_succ_val (n := 0), Shape.rowMajorPi_succ_val (n := 0)]
  show (x 0).val % 92 * 256 + (0 * 256 + ((x 1).val % 256 * 1 + 0)) = (x 0).val * 256 + ((x 1).val * 1 + 0)
  omega

theorem rd_xs (i : Fin 12) (x : S92x256.Idx) :
    rawM.view.read (Elt F) (rawT c D i) x = (xsO i).src.view.read (Elt F) (D.XS : Bf F c xsM) x := by
  refine Eq.symm ((congrArg (fun y => D.XS ((xsM.slice (Rect.unit (s := S92x2x1536) (xsO i).o S92x1x256.size (xsO i).h) (fun _ => rfl)).view.emb y))
    (squeeze_mid _ x)).trans (congrArg D.XS (funext fun a => Fin.ext ?_)))
  have h0 : (x 0).val < 92 := (x 0).isLt
  have h1 : (x 1).val < 256 := (x 1).isLt
  have hi := i.isLt
  match a with
  | 0 => show 0 + 1 * ((x 0).val % 92) = (x 0).val % 92; omega
  | 1 => show i.val / 6 + 1 * (0 % 1) = (i.val / 6) % 2; omega
  | 2 => show 256 * (i.val % 6) + 1 * ((x 1).val % 256) = (256 * (i.val % 6) + (x 1).val) % 1536; omega

theorem rawR_at (f : Bf F c rawM) : rawR c D (.at f) = iprop(pts c rawM rawM.view.set fullShare f ∗ pts c xsM Finset.univ fullShare (D.XS : Bf F c xsM)
    ∗ sv c cc0_scratch14.sem) := by
  rw [View.set_whole]; rfl

theorem ok_xsStart (i : Fin 12) {f : Bf F c rawM} (hs : s.raw = .at f) {K : PP F α}
    (h : Ok D Q { s with raw := .fly i } K) : Ok D Q s (xsStart (xsO i) K) := by
  have e : comp D s .raw = rawR c D (.at f) := congrArg (rawR c D) hs
  refine ok_startG (src := (xsO i).src) (dst := rawM) (sm := cc0_scratch14.sem) (q := fullShare) (fs := (D.XS : Bf F c xsM)) (fd := f)
    (s' := { s with raw := .fly i }) (rawT c D i) (rd_xs i) (by decide) (ho1 .raw (comp_raw _) ?_) h
  rw [e, rawR_at]
  exact start_ent

theorem ok_xsWait (i : Fin 12) (hs : s.raw = .fly i) {K : PP F α}
    (h : Ok D Q { s with raw := .at (rawT c D i) } K) : Ok D Q s (xsWait (xsO i) K) := by
  have e : comp D s .raw = rawR c D (.fly i) := congrArg (rawR c D) hs
  have e' : comp D { s with raw := .at (rawT c D i) } .raw = rawR c D (.at (rawT c D i)) := rfl
  refine ok_waitG (src := (xsO i).src) (dst := rawM) (sm := cc0_scratch14.sem) (s' := { s with raw := .at (rawT c D i) })
    iprop(pts c rawM rawM.view.set fullShare (rawT c D i) ∗ pts c xsM (xsO i).src.view.set fullShare (D.XS : Bf F c xsM))
    (ho2 .raw .ow (by simp) (fun l h1 _ => comp_raw _ l h1) ?_) h
  rw [e, e', rawR_at]
  exact wait_ent

/-! ## The weights' scales -/

theorem comp_sm (v) : ∀ j, j ≠ .sm → comp D { s with sm := v } j = comp D s j := fun j hj => by
  cases j <;> first | exact absurd rfl hj | rfl

theorem ok_wsStart {f : Bf F c smM} (hs : s.sm = .at f) {K : PP F α}
    (h : Ok D Q { s with sm := .fly 0 } K) : Ok D Q s (wsStart K) := by
  have e : comp D s .sm = smR c D (.at f) := congrArg (smR c D) hs
  refine ok_startG (src := wsM) (dst := smM) (sm := cc0_scratch15.sem) (q := fullShare) (fs := (D.WS : Bf F c wsM)) (fd := f)
    (s' := { s with sm := .fly 0 }) (smT c D) (fun _ => rfl) (by decide) (ho1 .sm (comp_sm _) ?_) h
  rw [e]
  show iprop(pts c smM Finset.univ fullShare f ∗ pts c wsM Finset.univ fullShare (D.WS : Bf F c wsM) ∗ sv c cc0_scratch15.sem) ⊢ iprop(_ ∗ (_ -∗ Fl c cc0_scratch15.sem smM.view.dmaCredit
        iprop(pts c smM smM.view.set fullShare (smT c D) ∗ pts c wsM wsM.view.set fullShare (D.WS : Bf F c wsM))))
  rw [View.set_whole, View.set_whole]
  iintro ⟨H1, H2, H3⟩
  isplitl [H1 H2 H3]
  · isplitl [H2]; · iexact H2
    isplitl [H1] <;> iassumption
  iintro H
  iexact H

theorem ok_wsWait (hs : s.sm = .fly 0) {K : PP F α}
    (h : Ok D Q { s with sm := .at (smT c D) } K) : Ok D Q s (wsWait K) := by
  have e : comp D s .sm = smR c D (.fly 0) := congrArg (smR c D) hs
  refine ok_waitG (src := wsM) (dst := smM) (sm := cc0_scratch15.sem) (s' := { s with sm := .at (smT c D) })
    iprop(pts c smM smM.view.set fullShare (smT c D) ∗ pts c wsM wsM.view.set fullShare (D.WS : Bf F c wsM))
    (ho2 .sm .ow (by simp) (fun l h1 _ => comp_sm _ l h1) ?_) h
  rw [e]
  show _ ⊢ iprop(_ ∗ (_ -∗ iprop((pts c smM Finset.univ fullShare (smT c D) ∗ pts c wsM Finset.univ fullShare (D.WS : Bf F c wsM) ∗ sv c cc0_scratch15.sem) ∗ ow c)))
  show iprop(Fl c cc0_scratch15.sem smM.view.dmaCredit
        iprop(pts c smM smM.view.set fullShare (smT c D) ∗ pts c wsM wsM.view.set fullShare (D.WS : Bf F c wsM)) ∗ ow c) ⊢ _
  rw [View.set_whole, View.set_whole]
  iintro ⟨H1, H2⟩
  isplitl [H1 H2]
  · isplitl [H1] <;> iassumption
  iintro ⟨⟨H1, H2⟩, H3, H4⟩
  isplitl [H1 H2 H3]
  · isplitl [H1]; · iexact H1
    isplitl [H2] <;> iassumption
  iexact H4

/-! ## The result's scales -/

theorem comp_oscc (v) : ∀ j, j ≠ .osc → comp D { s with osc := v } j = comp D s j := fun j hj => by
  cases j <;> first | exact absurd rfl hj | rfl

theorem ok_ysStart {f : Bf F c oscM} {g : Bf F c ysM} (hs : s.osc = .at f g) {K : PP F α}
    (h : Ok D Q { s with osc := .fly f } K) : Ok D Q s (ysStart K) := by
  have e : comp D s .osc = oscR c (.at f g) := congrArg (oscR c) hs
  refine ok_startG (src := oscM) (dst := ysM) (sm := cc0_scratch17.sem) (q := fullShare) (fs := f) (fd := g)
    (s' := { s with osc := .fly f }) (ysT c f) (fun _ => rfl) (by decide) (ho1 .osc (comp_oscc _) ?_) h
  rw [e]
  show iprop(pts c oscM Finset.univ fullShare f ∗ pts c ysM Finset.univ fullShare g ∗ sv c cc0_scratch17.sem) ⊢ iprop(_ ∗ (_ -∗ Fl c cc0_scratch17.sem ysM.view.dmaCredit
        iprop(pts c ysM ysM.view.set fullShare (ysT c f) ∗ pts c oscM oscM.view.set fullShare f)))
  rw [View.set_whole, View.set_whole]
  iintro ⟨H1, H2, H3⟩
  isplitl [H1 H2 H3]
  · isplitl [H1]; · iexact H1
    isplitl [H2] <;> iassumption
  iintro H
  iexact H

theorem ok_ysWait {f : Bf F c oscM} (hs : s.osc = .fly f) {K : PP F α}
    (h : Ok D Q { s with osc := .at f (ysT c f) } K) : Ok D Q s (ysWait K) := by
  have e : comp D s .osc = oscR c (.fly f) := congrArg (oscR c) hs
  refine ok_waitG (src := oscM) (dst := ysM) (sm := cc0_scratch17.sem) (s' := { s with osc := .at f (ysT c f) })
    iprop(pts c ysM ysM.view.set fullShare (ysT c f) ∗ pts c oscM oscM.view.set fullShare f)
    (ho2 .osc .ow (by simp) (fun l h1 _ => comp_oscc _ l h1) ?_) h
  rw [e]
  show _ ⊢ iprop(_ ∗ (_ -∗ iprop((pts c oscM Finset.univ fullShare f ∗ pts c ysM Finset.univ fullShare (ysT c f) ∗ sv c cc0_scratch17.sem) ∗ ow c)))
  show iprop(Fl c cc0_scratch17.sem ysM.view.dmaCredit
        iprop(pts c ysM ysM.view.set fullShare (ysT c f) ∗ pts c oscM oscM.view.set fullShare f) ∗ ow c) ⊢ _
  rw [View.set_whole, View.set_whole]
  iintro ⟨H1, H2⟩
  isplitl [H1 H2]
  · isplitl [H1] <;> iassumption
  iintro ⟨⟨H1, H2⟩, H3, H4⟩
  isplitl [H1 H2 H3]
  · isplitl [H2]; · iexact H2
    isplitl [H1] <;> iassumption
  iexact H4

/-! ## The activations -/

theorem comp_xb (k : Fin 2) (v) : ∀ j, j ≠ .xb k → comp D { s with xb := Function.update s.xb k v } j = comp D s j := fun j hj => by
  cases j with
  | xb k' => exact congrArg (xbR c D k') (Function.update_of_ne (fun e => hj (congrArg CI.xb e)) _ _)
  | _ => rfl

theorem rd_x (k : Fin 2) (i : Fin 12) (x : S256x11776.Idx) :
    (xO k i).dst.view.read (Elt F) (xbT c D i) x = (xO k i).src.view.read (Elt F) (D.X : Bf F c xM) x := by
  refine (congrArg (fun y => xbT c D i ((xbM.slice (Rect.unit (s := S2x256x11776) ![k.val, 0, 0] S1x256x11776.size (xO k i).h8) (fun _ => rfl)).view.emb y))
    (Shape.reshapeEquiv_cons_one _ x)).trans (congrArg D.X (funext fun a => Fin.ext ?_))
  have h0 : (x 0).val < 256 := (x 0).isLt
  have h1 : (x 1).val < 11776 := (x 1).isLt
  match a with
  | 0 => show (256 * i.val + (0 + 1 * (x 0).val)) % 3072 = 256 * i.val + 1 * (x 0).val; omega
  | 1 => show (0 + 1 * (x 1).val) % 11776 = 0 + 1 * (x 1).val; omega

theorem ok_xStart (k : Fin 2) (i : Fin 12) {f : Bf F c xbM} (hs : s.xb k = .at f) {K : PP F α}
    (h : Ok D Q { s with xb := Function.update s.xb k (.fly i) } K) : Ok D Q s (xStart (xO k i) K) := by
  have e : comp D s (.xb k) = xbR c D k (.at f) := congrArg (xbR c D k) hs
  have e' : comp D { s with xb := Function.update s.xb k (.fly i) } (.xb k) = xbR c D k (.fly i) := congrArg (xbR c D k) (Function.update_self ..)
  refine ok_startG (src := (xO k i).src) (dst := (xO k i).dst) (sm := (xO k i).sem) (q := xtok k) (fs := (D.X : Bf F c xM)) (fd := f)
    (s' := { s with xb := Function.update s.xb k (.fly i) }) (xbT c D i) (rd_x k i) (by decide) (ho1 (.xb k) (comp_xb k _) ?_) h
  rw [e, e']
  exact start_ent

theorem ok_xWait (k : Fin 2) (i : Fin 12) (hs : s.xb k = .fly i) {K : PP F α}
    (h : Ok D Q { s with xb := Function.update s.xb k (.at (xbT c D i)) } K) : Ok D Q s (xWait (xO k i) K) := by
  have e : comp D s (.xb k) = xbR c D k (.fly i) := congrArg (xbR c D k) hs
  have e' : comp D { s with xb := Function.update s.xb k (.at (xbT c D i)) } (.xb k) = xbR c D k (.at (xbT c D i)) := congrArg (xbR c D k) (Function.update_self ..)
  refine ok_waitG (src := (xO k i).src) (dst := (xO k i).dst) (sm := (xO k i).sem) (s' := { s with xb := Function.update s.xb k (.at (xbT c D i)) })
    iprop(pts c xbM (xO k 0).dst.view.set fullShare (xbT c D i) ∗ pts c xM (xO k i).src.view.set (xtok k) (D.X : Bf F c xM))
    (ho2 (.xb k) .ow (by simp) (fun l h1 _ => comp_xb k _ l h1) ?_) h
  rw [e, e']
  exact wait_ent

/-! ## The result -/

theorem comp_outy (k : Fin 2) (i : Fin 12) (v w) : ∀ j, j ≠ .out k → j ≠ .y i →
    comp D { s with out := Function.update s.out k v, y := Function.update s.y i w } j = comp D s j := fun j hj hk => by
  cases j with
  | out k' => exact congrArg (outR c k') (Function.update_of_ne (fun e => hj (congrArg CI.out e)) _ _)
  | y k' => exact congrArg (yR c k') (Function.update_of_ne (fun e => hk (congrArg CI.y e)) _ _)
  | _ => rfl

theorem rd_y (k : Fin 2) (i : Fin 12) (f : Bf F c outM) (x : S256x1920.Idx) :
    (yO k i).dst.view.read (Elt F) (yT c k i f) x = (yO k i).src.view.read (Elt F) f x := by
  refine Eq.symm ((congrArg (fun y => f ((outM.slice (Rect.unit (s := S2x256x1920) ![k.val, 0, 0] S1x256x1920.size (yO k i).ho) (fun _ => rfl)).view.emb y))
    (Shape.reshapeEquiv_cons_one _ x)).trans (congrArg f (funext fun a => Fin.ext ?_)))
  have h0 : (x 0).val < 256 := (x 0).isLt
  have h1 : (x 1).val < 1920 := (x 1).isLt
  have hk := k.isLt
  match a with
  | 0 => show k.val + 1 * 0 = k.val % 2; omega
  | 1 => show 0 + 1 * (x 0).val = (256 * i.val + 1 * (x 0).val - 256 * i.val) % 256; omega
  | 2 => show 0 + 1 * (x 1).val = (0 + 1 * (x 1).val) % 1920; omega

theorem ok_yStart (k : Fin 2) (i : Fin 12) {f : Bf F c outM} {g : Bf F c yM} (hs : s.out k = .at f) (hy : s.y i = some g) {K : PP F α}
    (h : Ok D Q { s with out := Function.update s.out k (.fly i f), y := Function.update s.y i none } K) : Ok D Q s (yStart (yO k i) K) := by
  have e : comp D s (.out k) = outR c k (.at f) := congrArg (outR c k) hs
  have e2 : comp D s (.y i) = yR c i (some g) := congrArg (yR c i) hy
  have e' : comp D { s with out := Function.update s.out k (.fly i f), y := Function.update s.y i none } (.out k) = outR c k (.fly i f) := congrArg (outR c k) (Function.update_self ..)
  have e2' : comp D { s with out := Function.update s.out k (.fly i f), y := Function.update s.y i none } (.y i) = yR c i none := congrArg (yR c i) (Function.update_self ..)
  refine ok_startG (src := (yO k i).src) (dst := (yO k i).dst) (sm := (yO k i).sem) (q := fullShare) (fs := f) (fd := g)
    (s' := { s with out := Function.update s.out k (.fly i f), y := Function.update s.y i none }) (yT c k i f) (rd_y k i f) (by decide)
    (ho2 (.out k) (.y i) (by simp) (comp_outy k i _ _) ?_) h
  rw [e, e', e2, e2']
  show iprop((pts c outM (yO k 0).src.view.set fullShare f ∗ sv c (yO k 0).sem) ∗ pts c yM (yO 0 i).dst.view.set fullShare g) ⊢
    iprop(_ ∗ (_ -∗ Fl c (yO k 0).sem (yO k i).dst.view.dmaCredit
        iprop(pts c yM (yO k i).dst.view.set fullShare (yT c k i f) ∗ pts c outM (yO k 0).src.view.set fullShare f) ∗ emp))
  iintro ⟨⟨H1, H2⟩, H3⟩
  isplitl [H1 H2 H3]
  · isplitl [H1]; · iexact H1
    isplitl [H3]; · iexact H3
    iexact H2
  iintro H
  isplitl [H]; · iexact H
  iempintro

theorem ok_yWait (k : Fin 2) (i : Fin 12) {f : Bf F c outM} (hs : s.out k = .fly i f) (hy : s.y i = none) {K : PP F α}
    (h : Ok D Q { s with out := Function.update s.out k (.at f), y := Function.update s.y i (some (yT c k i f)) } K) : Ok D Q s (yWait (yO k i) K) := by
  have e : comp D s (.out k) = outR c k (.fly i f) := congrArg (outR c k) hs
  have e2 : comp D s (.y i) = yR c i none := congrArg (yR c i) hy
  have e' : comp D { s with out := Function.update s.out k (.at f), y := Function.update s.y i (some (yT c k i f)) } (.out k) = outR c k (.at f) := congrArg (outR c k) (Function.update_self ..)
  have e2' : comp D { s with out := Function.update s.out k (.at f), y := Function.update s.y i (some (yT c k i f)) } (.y i) = yR c i (some (yT c k i f)) := congrArg (yR c i) (Function.update_self ..)
  refine ok_waitG (src := (yO k i).src) (dst := (yO k i).dst) (sm := (yO k i).sem)
    (s' := { s with out := Function.update s.out k (.at f), y := Function.update s.y i (some (yT c k i f)) })
    iprop(pts c yM (yO k i).dst.view.set fullShare (yT c k i f) ∗ pts c outM (yO k 0).src.view.set fullShare f)
    (ho3 (.out k) (.y i) .ow (by simp) (by simp) (by simp) (fun l h1 h2 _ => comp_outy k i _ _ l h1 h2) ?_) h
  rw [e, e', e2, e2']
  show iprop(Fl c (yO k i).sem (yO k i).dst.view.dmaCredit
        iprop(pts c yM (yO k i).dst.view.set fullShare (yT c k i f) ∗ pts c outM (yO k 0).src.view.set fullShare f) ∗ emp ∗ ow c) ⊢ iprop(_ ∗ (_ -∗ (pts c outM (yO k 0).src.view.set fullShare f ∗ sv c (yO k 0).sem)
    ∗ pts c yM (yO 0 i).dst.view.set fullShare (yT c k i f) ∗ ow c))
  iintro ⟨H1, H2, H3⟩
  isplitl [H1 H3]
  · isplitl [H1]; · iexact H1
    iexact H3
  iintro ⟨⟨H1, H2⟩, H3, H4⟩
  isplitl [H2 H3]
  · isplitl [H2]; · iexact H2
    iexact H3
  isplitl [H1]; · iexact H1
  iexact H4

/-! ## The first tile in two parts -/

theorem comp_xb_self (v) (w) : comp D { s with xb := Function.update s.xb 0 v, hd := w } (.xb 0) = xbR c D 0 v :=
  congrArg (xbR c D 0) (Function.update_self (f := s.xb) 0 v)

theorem comp_xbhd (k : Fin 2) (v w) : ∀ j, j ≠ .xb k → j ≠ .hd →
    comp D { s with xb := Function.update s.xb k v, hd := w } j = comp D s j := fun j hj hk => by
  cases j with
  | xb k' => exact congrArg (xbR c D k') (Function.update_of_ne (fun e => hj (congrArg CI.xb e)) _ _)
  | hd => exact absurd rfl hk
  | _ => rfl

theorem xr_dst_set : (xrDst.view.set) = (Rect.unit (s := S2x256x11776) ![0, 0, 512] S1x256x11264.size inb_S2x256x11776_S1x256x11264_0_0_512).set :=
  (View.set_reshape _ _).trans (View.set_slice_whole _ _)

theorem part_set : (xO 0 0).dst.view.set = hdSet c ∪ rsSet c := by
  have e1 := xM_dst_set 0
  have e2 := xh_dst_set
  have e3 := xr_dst_set
  ext j
  rw [Finset.mem_union, hdSet, rsSet, e1, e2, e3, Rect.mem_set_unit, Rect.mem_set_unit, Rect.mem_set_unit]
  have h0 : (j 0).val < 2 := (j 0).isLt
  have h1 : (j 1).val < 256 := (j 1).isLt
  have h2 : (j 2).val < 11776 := (j 2).isLt
  constructor
  · intro h
    have h3 : 0 ≤ (j 0).val ∧ (j 0).val < 0 + 1 := h 0
    by_cases h4 : (j 2).val < 512
    · refine .inl fun a => ?_
      match a with
      | 0 => exact h3
      | 1 => exact ⟨Nat.zero_le _, (by omega : (j 1).val < 0 + 256)⟩
      | 2 => exact ⟨Nat.zero_le _, (by omega : (j 2).val < 0 + 512)⟩
    · refine .inr fun a => ?_
      match a with
      | 0 => exact h3
      | 1 => exact ⟨Nat.zero_le _, (by omega : (j 1).val < 0 + 256)⟩
      | 2 => exact ⟨(by omega : 512 ≤ (j 2).val), (by omega : (j 2).val < 512 + 11264)⟩
  · intro h a
    have h3 : 0 ≤ (j 0).val ∧ (j 0).val < 0 + 1 := h.elim (fun h => h 0) (fun h => h 0)
    match a with
    | 0 => exact h3
    | 1 => exact ⟨Nat.zero_le _, (by omega : (j 1).val < 0 + 256)⟩
    | 2 => exact ⟨Nat.zero_le _, (by omega : (j 2).val < 0 + 11776)⟩
theorem part_disj : Disjoint (hdSet c) (rsSet c) := by
  have e2 := xh_dst_set
  have e3 := xr_dst_set
  rw [hdSet, rsSet, e2, e3, Finset.disjoint_left]
  intro j h1 h2
  have h3 : 0 ≤ (j 2).val ∧ (j 2).val < 0 + 512 := Rect.mem_set_unit.1 h1 2
  have h4 : 512 ≤ (j 2).val ∧ (j 2).val < 512 + 11264 := Rect.mem_set_unit.1 h2 2
  omega

theorem rd_xh (x : S256x512.Idx) :
    xhDst.view.read (Elt F) (xbT c D 0) x = xhSrc.view.read (Elt F) (D.X : Bf F c xM) x := by
  refine (congrArg (fun y => xbT c D 0 ((xbM.slice (Rect.unit (s := S2x256x11776) ![0, 0, 0] S1x256x512.size inb_S2x256x11776_S1x256x512_0_0_0) (fun _ => rfl)).view.emb y))
    (Shape.reshapeEquiv_cons_one _ x)).trans (congrArg D.X (funext fun a => Fin.ext ?_))
  have h0 : (x 0).val < 256 := (x 0).isLt
  have h1 : (x 1).val < 512 := (x 1).isLt
  match a with
  | 0 => show (256 * 0 + (0 + 1 * (x 0).val)) % 3072 = 0 + 1 * (x 0).val; omega
  | 1 => show (0 + 1 * (x 1).val) % 11776 = 0 + 1 * (x 1).val; omega

theorem rd_xr (x : S256x11264.Idx) :
    xrDst.view.read (Elt F) (xbT c D 0) x = xrSrc.view.read (Elt F) (D.X : Bf F c xM) x := by
  refine (congrArg (fun y => xbT c D 0 ((xbM.slice (Rect.unit (s := S2x256x11776) ![0, 0, 512] S1x256x11264.size inb_S2x256x11776_S1x256x11264_0_0_512) (fun _ => rfl)).view.emb y))
    (Shape.reshapeEquiv_cons_one _ x)).trans (congrArg D.X (funext fun a => Fin.ext ?_))
  have h0 : (x 0).val < 256 := (x 0).isLt
  have h1 : (x 1).val < 11264 := (x 1).isLt
  match a with
  | 0 => show (256 * 0 + (0 + 1 * (x 0).val)) % 3072 = 0 + 1 * (x 0).val; omega
  | 1 => show (512 + 1 * (x 1).val) % 11776 = 512 + 1 * (x 1).val; omega

theorem ok_xhStart {f : Bf F c xbM} (hs : s.xb 0 = .at f) (hh : s.hd = true) {K : PP F α}
    (h : Ok D Q { s with xb := Function.update s.xb 0 (.head f), hd := false } K) : Ok D Q s (xhStart K) := by
  have e : comp D s (.xb 0) = xbR c D 0 (.at f) := congrArg (xbR c D 0) hs
  have e2 : comp D s .hd = hdR c D true := congrArg (hdR c D) hh
  have e' : comp D { s with xb := Function.update s.xb 0 (.head f), hd := false } (.xb 0) = xbR c D 0 (.head f) := comp_xb_self _ _
  refine ok_startG (src := xhSrc) (dst := xhDst) (sm := cc0_scratch12.sem) (q := tok 2) (fs := (D.X : Bf F c xM)) (fd := f)
    (s' := { s with xb := Function.update s.xb 0 (.head f), hd := false }) (xbT c D 0) rd_xh (by decide)
    (ho2 (.xb 0) .hd (by simp) (comp_xbhd 0 _ _) ?_) h
  rw [e, e', e2]
  show iprop((pts c xbM (xO 0 0).dst.view.set fullShare f ∗ pts c xM Finset.univ (xtok 0) (D.X : Bf F c xM) ∗ sv c (xO 0 0).sem)
      ∗ pts c xM Finset.univ (tok 2) (D.X : Bf F c xM) ∗ sv c cc0_scratch12.sem) ⊢
    iprop(_ ∗ (_ -∗ (pts c xbM xrDst.view.set fullShare f ∗ pts c xM Finset.univ (xtok 0) (D.X : Bf F c xM) ∗ sv c (xO 0 0).sem ∗ hdF c D) ∗ emp))
  unfold hdF
  iintro ⟨⟨H1, H2, H3⟩, H4, H5⟩
  ihave H1 := ((eq_ent (congrArg (fun S : Finset (Idx (xbM.view.loc (c : Thread nD τ))) => pts c xbM S fullShare f) part_set)).trans (pointsTo_union part_disj).1) $$ H1
  icases H1 with ⟨H1, H6⟩
  ihave H := (start_ent (P := pts c xbM xhDst.view.set fullShare f) (S := sv c cc0_scratch12.sem) (X := Fl c cc0_scratch12.sem xhDst.view.dmaCredit
    iprop(pts c xbM xhDst.view.set fullShare (xbT c D 0) ∗ pts c xM xhSrc.view.set (tok 2) (D.X : Bf F c xM))) (q := tok 2) (f := (D.X : Bf F c xM)) (ℓ := xM.view.loc (c : Thread nD τ)) (I := xhSrc.view.set)) $$ [H1 H4 H5]
  · isplitl [H1]; · iexact H1
    isplitl [H4] <;> iassumption
  icases H with ⟨H1, H⟩
  isplitl [H1]; · iexact H1
  iintro HX
  isplitl [H H2 H3 H6 HX]
  · isplitl [H6]; · iexact H6
    isplitl [H2]; · iexact H2
    isplitl [H3]; · iexact H3
    iapply H
    iexact HX
  iempintro

theorem ok_xrStart {f : Bf F c xbM} (hs : s.xb 0 = .head f) {K : PP F α}
    (h : Ok D Q { s with xb := Function.update s.xb 0 .both } K) : Ok D Q s (xrStart K) := by
  have e : comp D s (.xb 0) = xbR c D 0 (.head f) := congrArg (xbR c D 0) hs
  have e' : comp D { s with xb := Function.update s.xb 0 .both } (.xb 0) = xbR c D 0 .both := comp_xb_self _ _
  refine ok_startG (src := xrSrc) (dst := xrDst) (sm := (xO 0 0).sem) (q := xtok 0) (fs := (D.X : Bf F c xM)) (fd := f)
    (s' := { s with xb := Function.update s.xb 0 .both }) (xbT c D 0) rd_xr (by decide)
    (ho1 (.xb 0) (comp_xb 0 _) ?_) h
  rw [e, e']
  show iprop(pts c xbM xrDst.view.set fullShare f ∗ pts c xM Finset.univ (xtok 0) (D.X : Bf F c xM) ∗ sv c (xO 0 0).sem ∗ hdF c D) ⊢
    iprop(_ ∗ (_ -∗ hdF c D ∗ rsF c D))
  unfold rsF
  iintro ⟨H1, H4, H5, H6⟩
  ihave H := (start_ent (P := pts c xbM xrDst.view.set fullShare f) (S := sv c (xO 0 0).sem) (X := Fl c (xO 0 0).sem xrDst.view.dmaCredit
    iprop(pts c xbM xrDst.view.set fullShare (xbT c D 0) ∗ pts c xM xrSrc.view.set (xtok 0) (D.X : Bf F c xM))) (q := xtok 0) (f := (D.X : Bf F c xM)) (ℓ := xM.view.loc (c : Thread nD τ)) (I := xrSrc.view.set)) $$ [H1 H4 H5]
  · isplitl [H1]; · iexact H1
    isplitl [H4] <;> iassumption
  icases H with ⟨H1, H⟩
  isplitl [H1]; · iexact H1
  iintro HX
  isplitl [H6]; · iexact H6
  iapply H
  iexact HX

theorem ok_xhWait (hs : s.xb 0 = .both) (hh : s.hd = false) {K : PP F α}
    (h : Ok D Q { s with xb := Function.update s.xb 0 .rest, hd := true } K) : Ok D Q s (xhWait K) := by
  have e : comp D s (.xb 0) = xbR c D 0 .both := congrArg (xbR c D 0) hs
  have e2 : comp D s .hd = hdR c D false := congrArg (hdR c D) hh
  have e' : comp D { s with xb := Function.update s.xb 0 .rest, hd := true } (.xb 0) = xbR c D 0 .rest := comp_xb_self _ _
  refine ok_waitG (src := xhSrc) (dst := xhDst) (sm := cc0_scratch12.sem)
    (s' := { s with xb := Function.update s.xb 0 .rest, hd := true })
    iprop(pts c xbM xhDst.view.set fullShare (xbT c D 0) ∗ pts c xM xhSrc.view.set (tok 2) (D.X : Bf F c xM))
    (ho3 (.xb 0) .hd .ow (by simp) (by simp) (by simp) (fun l h1 h2 _ => comp_xbhd 0 _ _ l h1 h2) ?_) h
  rw [e, e', e2]
  show iprop((hdF c D ∗ rsF c D) ∗ emp ∗ ow c) ⊢ iprop(_ ∗ (_ -∗ (pts c xbM xhDst.view.set fullShare (xbT c D 0) ∗ rsF c D)
    ∗ (pts c xM Finset.univ (tok 2) (D.X : Bf F c xM) ∗ sv c cc0_scratch12.sem) ∗ ow c))
  unfold hdF
  iintro ⟨⟨H1, H2⟩, H3, H4⟩
  ihave H := (wait_ent (P := pts c xbM xhDst.view.set fullShare (xbT c D 0)) (S := sv c cc0_scratch12.sem) (q := tok 2) (f := (D.X : Bf F c xM)) (ℓ := xM.view.loc (c : Thread nD τ)) (I := xhSrc.view.set)) $$ [H1 H4]
  · isplitl [H1]; · iexact H1
    iexact H4
  icases H with ⟨H1, H⟩
  isplitl [H1]; · iexact H1
  iintro HX
  ihave H := H $$ HX
  icases H with ⟨⟨H1, H3, H4⟩, H5⟩
  isplitl [H1 H2]
  · isplitl [H1] <;> iassumption
  isplitl [H3 H4]
  · isplitl [H3] <;> iassumption
  iexact H5

theorem ok_xrWait (hs : s.xb 0 = .rest) {K : PP F α}
    (h : Ok D Q { s with xb := Function.update s.xb 0 (.at (xbT c D 0)) } K) : Ok D Q s (xrWait K) := by
  have e : comp D s (.xb 0) = xbR c D 0 .rest := congrArg (xbR c D 0) hs
  have e' : comp D { s with xb := Function.update s.xb 0 (.at (xbT c D 0)) } (.xb 0) = xbR c D 0 (.at (xbT c D 0)) := comp_xb_self _ _
  refine ok_waitG (src := xrSrc) (dst := xrDst) (sm := (xO 0 0).sem)
    (s' := { s with xb := Function.update s.xb 0 (.at (xbT c D 0)) })
    iprop(pts c xbM xrDst.view.set fullShare (xbT c D 0) ∗ pts c xM xrSrc.view.set (xtok 0) (D.X : Bf F c xM))
    (ho2 (.xb 0) .ow (by simp) (fun l h1 _ => comp_xb 0 _ l h1) ?_) h
  rw [e, e']
  show iprop((pts c xbM xhDst.view.set fullShare (xbT c D 0) ∗ rsF c D) ∗ ow c) ⊢ iprop(_ ∗ (_ -∗
    (pts c xbM (xO 0 0).dst.view.set fullShare (xbT c D 0) ∗ pts c xM Finset.univ (xtok 0) (D.X : Bf F c xM) ∗ sv c (xO 0 0).sem) ∗ ow c))
  unfold rsF
  iintro ⟨⟨H1, H2⟩, H4⟩
  ihave H := (wait_ent (P := pts c xbM xrDst.view.set fullShare (xbT c D 0)) (S := sv c (xO 0 0).sem) (q := xtok 0) (f := (D.X : Bf F c xM)) (ℓ := xM.view.loc (c : Thread nD τ)) (I := xrSrc.view.set)) $$ [H2 H4]
  · isplitl [H2]; · iexact H2
    iexact H4
  icases H with ⟨H2, H⟩
  isplitl [H2]; · iexact H2
  iintro HX
  ihave H := H $$ HX
  icases H with ⟨⟨H2, H3, H4⟩, H5⟩
  isplitl [H1 H2 H3 H4]
  · isplitl [H1 H2]
    · iapply ((pointsTo_union part_disj).2.trans (eq_ent (congrArg (fun S : Finset (Idx (xbM.view.loc (c : Thread nD τ))) => pts c xbM S fullShare (xbT c D 0)) part_set.symm)))
      isplitl [H1] <;> iassumption
    isplitl [H3] <;> iassumption
  iexact H5

end Cert.Kernel.V
-- ==== Proof.Oks4.lean ====
/- The scale found, the loops, and the first tile. -/
module

public import proofs.«01_k».proof.Proof.Oks3
public import proofs.«01_k».proof.Proof.Dma
public import Idealize.ShloMosaic.Lib.Scf
public import Mathlib.Tactic.IntervalCases

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

/-! ## The scale -/

theorem osc_mask {r : ℕ} (hr : r < 2) (x : S2x256.Idx) :
    cmpi .eq (iota .tc S2x256 32 [0] iota_S2x256_d0_w32) (broadcast S2x256 (BitVec.ofNat 32 r)) x = BitVec.ofBool (decide ((x 0).val = r)) := by
  show BitVec.ofBool (BitVec.ofNat 32 (0 * 2 + (x 0).val) == BitVec.ofNat 32 r) = _
  have h0 : (x 0).val < 2 := (x 0).isLt
  generalize (x 0).val = a at h0 ⊢
  interval_cases a <;> interval_cases r <;> decide

theorem oscOf_in {r : ℕ} (hr : r < 2) (v : Vec F S8x256 .f32) (w : Vec F S2x256 .f32) (x : S2x256.Idx) (hx : (x 0).val = r) :
    oscOf (BitVec.ofNat 32 r) v w x = scaleOf v (i2 0 (x 1).val) := by
  unfold oscOf
  rw [shapeCast_self, shapeCast_self]
  show Scalar.select (cmpi .eq (iota .tc S2x256 32 [0] iota_S2x256_d0_w32) (broadcast S2x256 (BitVec.ofNat 32 r)) x) _ _ = _
  rw [osc_mask hr, decide_eq_true hx]
  refine (if_pos rfl).trans (broadcastTo_apply _ _ _ _ fun a => ?_)
  have h1 : (x 1).val < 256 := (x 1).isLt
  match a with
  | 0 => rfl
  | 1 => exact (Nat.mod_eq_of_lt h1).trans (if_neg (by decide)).symm

theorem oscOf_out {r : ℕ} (hr : r < 2) (v : Vec F S8x256 .f32) (w : Vec F S2x256 .f32) (x : S2x256.Idx) (hx : (x 0).val ≠ r) :
    oscOf (BitVec.ofNat 32 r) v w x = w x := by
  unfold oscOf
  rw [shapeCast_self]
  show Scalar.select (cmpi .eq (iota .tc S2x256 32 [0] iota_S2x256_d0_w32) (broadcast S2x256 (BitVec.ofNat 32 r)) x) _ _ = _
  rw [osc_mask hr, decide_eq_false hx]
  exact if_neg (by decide)

theorem osc_store (i : Fin 12) (f : Bf F c oscM) (hf : OscOk D i.val f) (v : FVec F S8x256 .f32) (hv : v = mxT D i.val) :
    OscOk D (i.val + 1) ((oscM.access (Rect.unit (s := S2x1536) (fsO i).o S2x256.size (fsO i).h)).write (Elt F) f
      (oscOf (fsO i).r v ((oscM.access (Rect.unit (s := S2x1536) (fsO i).o S2x256.size (fsO i).h)).read (Elt F) f)) Finset.univ) := by
  subst hv
  intro j hj
  have h0 : (j 0).val < 2 := (j 0).isLt
  have h1 : (j 1).val < 1536 := (j 1).isLt
  have hi := i.isLt
  by_cases hin : ∀ a, (fsO i).o a ≤ (j a).val ∧ (j a).val < (fsO i).o a + S2x256.size a
  · refine (wr_whole_in (F := F) cc0_scratch10 (fsO i).o S2x256.size (fsO i).h f _ j hin).trans ?_
    have hin1 : 256 * (i.val % 6) ≤ (j 1).val ∧ (j 1).val < 256 * (i.val % 6) + 256 := hin 1
    by_cases hr : (j 0).val = i.val / 6
    · refine (oscOf_in (r := i.val / 6) (by omega) _ _ _ (show (j 0).val - 0 = _ by omega)).trans ?_
      have e1 : 6 * (j 0).val + (j 1).val / 256 = i.val := by omega
      rw [e1]
      refine congrArg (scaleOf (mxT D i.val)) (congrArg (i2 0) ?_)
      show (j 1).val - 256 * (i.val % 6) = (j 1).val % 256
      omega
    · refine (oscOf_out (r := i.val / 6) (by omega) _ _ _ (show (j 0).val - 0 ≠ _ by omega)).trans ?_
      refine (rd_whole (F := F) cc0_scratch10 (fsO i).o S2x256.size (fsO i).h f _).trans ?_
      refine Eq.trans (congrArg f (funext fun a => Fin.ext ?_)) (hf j (by omega))
      have := hin a
      show (fsO i).o a + ((j a).val - (fsO i).o a) = (j a).val
      omega
  · refine (wr_whole_out (F := F) cc0_scratch10 (fsO i).o S2x256.size (fsO i).h f _ j hin).trans (hf j ?_)
    have : ¬ (256 * (i.val % 6) ≤ (j 1).val ∧ (j 1).val < 256 * (i.val % 6) + 256) := fun h => hin fun a => by
      match a with
      | 0 => exact ⟨Nat.zero_le _, (by omega : (j 0).val < 0 + 2)⟩
      | 1 => exact h
    omega

theorem ok_fs2 (i : Fin 12) {f : Bf F c oscM} {g : Bf F c ysM} (ho : s.osc = .at f g) {v : FVec F S8x256 .f32} (hv : v = mxT D i.val)
    (hf : OscOk D i.val f) {w : Bf F c invM} {K : PP F α}
    (h : ∀ f' : Bf F c oscM, OscOk D (i.val + 1) f' → Ok D Q { s with inv := w, osc := .at f' g } K) :
    Ok D Q { s with inv := w } (
  .op (.load oscM (Rect.unit (s := S2x1536) (fsO i).o S2x256.size (fsO i).h).toLoadRect (View.loadsAt_vmem h_S2x256)) fun w =>
  .op (.load oscM (Rect.unit (s := S2x1536) (fsO i).o S2x256.size (fsO i).h).toLoadRect (View.loadsAt_vmem h_S2x256)) fun _ =>
  .op (.store oscM (Rect.unit (s := S2x1536) (fsO i).o S2x256.size (fsO i).h) (oscOf (fsO i).r v w)
    Finset.univ (View.stores_vmem_bits_univ h_S2x256 rfl) (.inl rfl)) fun _ => K) := by
  have e : comp D { s with inv := w } .osc = oscR c (.at f g) := congrArg (oscR c) ho
  refine ok_ld (s := { s with inv := w }) .osc (I := Finset.univ) (q := fullShare) (f := f) (by rw [e]; exact foc_fst) (Finset.subset_univ _) ?_
  refine ok_ld (s := { s with inv := w }) .osc (I := Finset.univ) (q := fullShare) (f := f) (by rw [e]; exact foc_fst) (Finset.subset_univ _) ?_
  refine ok_stf (s := { s with inv := w }) .osc (fun f' => { s with inv := w, osc := .at f' g }) (f := f)
    (fun f' => by rw [e]; exact foc_fst) (fun f' => comp_osc (s := { s with inv := w }) _) (Finset.subset_univ _) fun f' hf' => ?_
  refine h f' ?_
  rw [hf']
  exact osc_store i f hf v hv

theorem ok_findScale (i : Fin 12) {f : Bf F c oscM} {g : Bf F c ysM} (ho : s.osc = .at f g) (hm : s.mx = mxT D i.val) (hf : OscOk D i.val f) {K : PP F α}
    (h : ∀ f' : Bf F c oscM, OscOk D (i.val + 1) f' → Ok D Q { s with inv := (invOf (mxT D i.val) : Bf F c invM), osc := .at f' g } K) :
    Ok D Q s (findScale (fsO i) K) := by
  refine ok_ld .mx (I := Finset.univ) (q := fullShare) (f := s.mx) foc_all (Finset.subset_univ _) ?_
  have hv : (mxM.access (Rect.unit (s := S8x256) ![0, 0] S8x256.size inb_S8x256_S8x256_0_0)).read (Elt F) s.mx = mxT D i.val := by
    rw [hm]
    exact funext fun x => rd_all (F := F) cc0_scratch7 S8x256.size ![0, 0] (by decide) inb_S8x256_S8x256_0_0 (mxT D i.val) x x fun a => rfl
  generalize (mxM.access (Rect.unit (s := S8x256) ![0, 0] S8x256.size inb_S8x256_S8x256_0_0)).read (Elt F) s.mx = v at hv ⊢
  refine ok_ld .inv (I := Finset.univ) (q := fullShare) (f := s.inv) foc_all (Finset.subset_univ _) ?_
  have e1 : (invM.access (Rect.unit (s := S8x256) ![0, 0] S8x256.size inb_S8x256_S8x256_0_0)).write (Elt F) s.inv (invOf v) Finset.univ = invOf (mxT D i.val) := by
    rw [hv]
    exact wr_all2 (F := F) cc0_scratch8 S8x256.size ![0, 0] (by decide) rfl inb_S8x256_S8x256_0_0 s.inv (invOf (mxT D i.val)) _ fun i x hx =>
      congrArg (invOf _) (funext fun a => Fin.ext (hx a))
  refine ok_stf .inv (fun f => { s with inv := f }) (fun _ => foc_all) comp_inv (Finset.subset_univ _) fun f' hf' => ?_
  rw [hf'.trans e1]
  exact ok_fs2 i ho hv hf h

/-! ## Loops -/

theorem ok_ret {β : Type} {I : β → St F c → Prop} {b : β} (h : I b s) :
    Ok D (fun b => iprop(∃ s', ⌜I b s'⌝ ∗ own D s')) s (.ret b) := by
  unfold Ok WP
  rw [wp_ret]
  iintro H
  imodintro
  iexists s
  isplitr [H]
  · ipureintro; exact h
  iexact H

theorem ok_for {l : Scf.Loop 32} {ok : l.OK} {m : Mxu F} {body : Fin l.trips → Mxu F → PP F (Mxu F)} {K : Mxu F → PP F α}
    (I : ℕ → Mxu F → St F c → Prop) (h0 : I 0 m s)
    (hb : ∀ (t : Fin l.trips) m s, I t.val m s → Ok D (fun m' => iprop(∃ s', ⌜I (t.val + 1) m' s'⌝ ∗ own D s')) s (body t m))
    (hk : ∀ m s, I l.trips m s → Ok D Q s (K m)) : Ok D Q s (Scf.Loop.for l ok m body >>= K) := by
  unfold Ok WP at hb hk ⊢
  iintro H
  iapply (Scf.wp_for_bind frame (wpE (defs₀ (F := F)) Variants.none (c : Thread nD τ) none) Set.univ l.lb l.ub l.st ok m body
    (fun k m => iprop(∃ s', ⌜I k m s'⌝ ∗ own D s')) ?_) $$ [H]
  · intro k m
    iintro ⟨%s', %hs, H⟩
    iapply (hb k m s' hs)
    iexact H
  · iexists s
    isplitr [H]
    · ipureintro; exact h0
    iexact H
  iintro %m' ⟨%s', %hs, H⟩
  iapply (hk m' s' hs)
  iexact H

/-! ## The first tile -/

theorem sl1_ne (t : Fin 15) {j j' : Fin 3} (h : j ≠ j') : sl1 t j ≠ sl1 t j' := fun e => h (Fin.ext (by have := congrArg Fin.val e; simp only [sl1] at this; omega))

theorem ok_start1 (t : Fin 15) (h : ∀ j, ∃ f, s.st (sl1 t j) = .at f) {K : PP F α}
    (hK : ∀ st' : Fin 6 → SC (Bf F c stM) 46, (∀ j, st' (sl1 t j) = .fly (ch1 t j)) → (∀ k : Fin 6, k.val / 3 ≠ t.val % 2 → st' k = s.st k) → Ok D Q { s with st := st' } K) :
    Ok D Q s (start1C t K) := by
  obtain ⟨f0, h0⟩ := h 0
  obtain ⟨f1, h1⟩ := h 1
  obtain ⟨f2, h2⟩ := h 2
  have n01 : sl1 t 0 ≠ sl1 t 1 := sl1_ne t (by decide)
  have n02 : sl1 t 0 ≠ sl1 t 2 := sl1_ne t (by decide)
  have n12 : sl1 t 1 ≠ sl1 t 2 := sl1_ne t (by decide)
  refine ok_wStart _ _ h0 ?_
  refine ok_wStart (s := { s with st := _ }) _ _ (f := f1) ((Function.update_of_ne n01.symm _ _).trans h1) ?_
  refine ok_wStart (s := { s with st := _ }) _ _ (f := f2) ((Function.update_of_ne n12.symm _ _).trans ((Function.update_of_ne n02.symm _ _).trans h2)) ?_
  refine hK _ (fun j => ?_) fun k hk => ?_
  · match j with
    | 0 => exact (Function.update_of_ne n02 _ _).trans ((Function.update_of_ne n01 _ _).trans (Function.update_self ..))
    | 1 => exact (Function.update_of_ne n12 _ _).trans (Function.update_self ..)
    | 2 => exact Function.update_self ..
  · have : ∀ j, k ≠ sl1 t j := fun j e => hk (by rw [e]; show (3 * (t.val % 2) + j.val) / 3 = _; omega)
    exact (Function.update_of_ne (this 2) _ _).trans ((Function.update_of_ne (this 1) _ _).trans (Function.update_of_ne (this 0) _ _))

theorem ok_wait1 (t : Fin 15) (h : ∀ j, s.st (sl1 t j) = .fly (ch1 t j)) {K : PP F α}
    (hK : ∀ st' : Fin 6 → SC (Bf F c stM) 46, (∀ j, st' (sl1 t j) = .at (stT c D (ch1 t j))) → (∀ k : Fin 6, k.val / 3 ≠ t.val % 2 → st' k = s.st k) → Ok D Q { s with st := st' } K) :
    Ok D Q s (wWait (wO (sl1 t 0) (ch1 t 0)) <| wWait (wO (sl1 t 1) (ch1 t 1)) <| wWait (wO (sl1 t 2) (ch1 t 2)) K) := by
  have n01 : sl1 t 0 ≠ sl1 t 1 := sl1_ne t (by decide)
  have n02 : sl1 t 0 ≠ sl1 t 2 := sl1_ne t (by decide)
  have n12 : sl1 t 1 ≠ sl1 t 2 := sl1_ne t (by decide)
  refine ok_wWait _ _ (h 0) ?_
  refine ok_wWait (s := { s with st := _ }) _ _ ((Function.update_of_ne n01.symm _ _).trans (h 1)) ?_
  refine ok_wWait (s := { s with st := _ }) _ _ ((Function.update_of_ne n12.symm _ _).trans ((Function.update_of_ne n02.symm _ _).trans (h 2))) ?_
  refine hK _ (fun j => ?_) fun k hk => ?_
  · match j with
    | 0 => exact (Function.update_of_ne n02 _ _).trans ((Function.update_of_ne n01 _ _).trans (Function.update_self ..))
    | 1 => exact (Function.update_of_ne n12 _ _).trans (Function.update_self ..)
    | 2 => exact Function.update_self ..
  · have : ∀ j, k ≠ sl1 t j := fun j e => hk (by rw [e]; show (3 * (t.val % 2) + j.val) / 3 = _; omega)
    exact (Function.update_of_ne (this 2) _ _).trans ((Function.update_of_ne (this 1) _ _).trans (Function.update_of_ne (this 0) _ _))

theorem ok_step1 (sl : Fin 6) (p e : Fin 46) (he : e.val = p.val + 1) (hst : s.st sl = .at (stT c D e)) (hsm : s.sm = .at (smT c D))
    (hw : WtOk D s.wt e.val 0) (hx : s.xb 0 = .at (xbT c D 0)) (hs : ScOk D 0 0 s.sc)
    (hm : MS m (TB D 0 p.val 0) (fun _ => some (tileT D 0 p.val)) G) {K : Mxu F → PP F α}
    (h : ∀ f m' G', WtOk D f (e.val + 1) 0 → MS m' (TB D 0 e.val 0) (fun _ => some (tileT D 0 e.val)) G' → Ok D Q { s with wt := f } (K m')) :
    Ok D Q s (step1C sl e p e m K) := by
  refine ok_prepTail sl e 15 (le_refl _) s hst hsm hw fun f hf => ?_
  refine ok_pass (s := { s with wt := f }) 0 p hf (by omega) hm fun m1 G1 hm1 => ?_
  refine ok_push (s := { s with wt := f }) 0 0 e hx hs hm1 fun m2 hm2 => ?_
  exact h f m2 G1 hf (he ▸ hm2)

end Cert.Kernel.V
-- ==== Proof.Oks5.lean ====
/- The first tile from start to end. -/
module

public import proofs.«01_k».proof.Proof.Oks4

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

/-! ## The first tile -/

variable (D) in
/-- What does not change while the weights are prepared. -/
structure Fr1 (s : St F c) : Prop where
  hd : s.hd = true
  sm : s.sm = .at (smT c D)
  x0 : s.xb 0 = .at (xbT c D 0)
  x1 : s.xb 1 = .fly 1
  raw : s.raw = .fly 1
  sc : ScOk D 0 0 s.sc
  out : ∀ k, ∃ f, s.out k = .at f
  y : ∀ i, ∃ g, s.y i = some g
  osc : ∃ f g, s.osc = .at f g

variable (D) in
/-- The state when trip `t` starts: chunks up to `3 t` prepared, passes before it done, the next three chunks under way. -/
structure J1 (t : ℕ) (m : Mxu F) (s : St F c) : Prop where
  fr : Fr1 D s
  wt : WtOk D s.wt (3 * t + 1) 0
  ms : ∃ G, MS m (TB D 0 (3 * t) 0) (fun _ => some (tileT D 0 (3 * t))) G
  fly : ∀ (h : t < 15) j, s.st (sl1 ⟨t, h⟩ j) = .fly (ch1 ⟨t, h⟩ j)
  rest : ∀ k : Fin 6, (t = 15 ∨ k.val / 3 ≠ t % 2) → ∃ f, s.st k = .at f

theorem ok_tail1 (t : Fin 15) (hf : ∀ j, s.st (sl1 t j) = .fly (ch1 t j)) (fr : Fr1 D s) (hw : WtOk D s.wt (3 * t.val + 1) 0)
    (hm : MS m (TB D 0 (3 * t.val) 0) (fun _ => some (tileT D 0 (3 * t.val))) G) {K : Mxu F → PP F α}
    (hK : ∀ m' st' f G', (∀ j, ∃ f, st' (sl1 t j) = .at f) → (∀ k : Fin 6, k.val / 3 ≠ t.val % 2 → st' k = s.st k) →
      WtOk D f (3 * (t.val + 1) + 1) 0 → MS m' (TB D 0 (3 * (t.val + 1)) 0) (fun _ => some (tileT D 0 (3 * (t.val + 1)))) G' →
      Ok D Q { s with wt := f, st := st' } (K m')) :
    Ok D Q s (wWait (wO (sl1 t 0) (ch1 t 0)) <| wWait (wO (sl1 t 1) (ch1 t 1)) <| wWait (wO (sl1 t 2) (ch1 t 2)) <|
      step1C (sl1 t 0) (ch1 t 0) (ps1 t 0) (ch1 t 0) m fun m => step1C (sl1 t 1) (ch1 t 1) (ps1 t 1) (ch1 t 1) m fun m =>
      step1C (sl1 t 2) (ch1 t 2) (ps1 t 2) (ch1 t 2) m K) := by
  have e0 : (ch1 t 0).val = (ps1 t 0).val + 1 := show 3 * t.val + 1 + 0 = 3 * t.val + 0 + 1 by omega
  have e1 : (ch1 t 1).val = (ps1 t 1).val + 1 := show 3 * t.val + 1 + 1 = 3 * t.val + 1 + 1 by omega
  have e2 : (ch1 t 2).val = (ps1 t 2).val + 1 := show 3 * t.val + 1 + 2 = 3 * t.val + 2 + 1 by omega
  refine ok_wait1 t hf fun st' h1 h2 => ?_
  refine ok_step1 (s := { s with st := st' }) _ _ _ e0 (h1 0) fr.sm hw fr.x0 fr.sc (G := G) hm fun f1 m1 G1 hw1 hm1 => ?_
  refine ok_step1 (s := { s with wt := f1, st := st' }) _ _ _ e1 (h1 1) fr.sm hw1 fr.x0 fr.sc (G := G1) hm1 fun f2 m2 G2 hw2 hm2 => ?_
  refine ok_step1 (s := { s with wt := f2, st := st' }) _ _ _ e2 (h1 2) fr.sm hw2 fr.x0 fr.sc (G := G2) hm2 fun f3 m3 G3 hw3 hm3 => ?_
  have e3 : (ch1 t 2).val = 3 * (t.val + 1) := show 3 * t.val + 1 + 2 = _ by omega
  rw [e3] at hw3 hm3
  exact hK m3 st' f3 G3 (fun j => ⟨_, h1 j⟩) h2 hw3 hm3

theorem ok_body1 (t : Fin 15) (h : J1 D t.val m s) {K : Mxu F → PP F α} (hK : ∀ m' (s' : St F c), J1 D (t.val + 1) m' s' → Ok D Q s' (K m')) :
    Ok D Q s (body1C t m K) := by
  obtain ⟨G, hm⟩ := h.ms
  unfold body1C
  by_cases ht : t.val < 14
  · rw [if_pos ht]
    have en : (nx15 t).val = t.val + 1 := Nat.mod_eq_of_lt (by omega)
    refine ok_start1 (nx15 t) (fun j => h.rest _ (.inr ?_)) fun st1 h1 h2 => ?_
    · show (3 * ((nx15 t).val % 2) + j.val) / 3 ≠ _
      rw [en]; omega
    refine ok_tail1 (s := { s with st := st1 }) t (fun j => (h2 _ ?_).trans (h.fly t.isLt j)) ⟨h.fr.1, h.fr.2, h.fr.3, h.fr.4, h.fr.5, h.fr.6, h.fr.7, h.fr.8, h.fr.9⟩ h.wt hm
      fun m' st' f G' h3 h4 hw hm' => hK m' _ ⟨⟨h.fr.1, h.fr.2, h.fr.3, h.fr.4, h.fr.5, h.fr.6, h.fr.7, h.fr.8, h.fr.9⟩, hw, ⟨G', hm'⟩, fun hl j => ?_, fun k hk => ?_⟩
    · show (3 * (t.val % 2) + j.val) / 3 ≠ _
      rw [en]; omega
    · have e : (⟨t.val + 1, hl⟩ : Fin 15) = nx15 t := Fin.ext en.symm
      rw [e]
      refine (h4 _ ?_).trans (h1 j)
      show (3 * ((nx15 t).val % 2) + j.val) / 3 ≠ _
      rw [en]; omega
    · have hk : k.val / 3 = t.val % 2 := by have := k.isLt; omega
      have e : k = sl1 t ⟨k.val % 3, by omega⟩ := Fin.ext (show k.val = 3 * (t.val % 2) + k.val % 3 by omega)
      rw [e]
      exact h3 _
  · rw [if_neg ht]
    refine ok_tail1 (s := s) t (fun j => h.fly t.isLt j) h.fr h.wt hm
      fun m' st' f G' h3 h4 hw hm' => hK m' _ ⟨⟨h.fr.1, h.fr.2, h.fr.3, h.fr.4, h.fr.5, h.fr.6, h.fr.7, h.fr.8, h.fr.9⟩, hw, ⟨G', hm'⟩, fun hl j => absurd hl (by omega), fun k hk => ?_⟩
    by_cases hk : k.val / 3 = t.val % 2
    · have e : k = sl1 t ⟨k.val % 3, by omega⟩ := Fin.ext (show k.val = 3 * (t.val % 2) + k.val % 3 by omega)
      rw [e]
      exact h3 _
    · obtain ⟨f', hf'⟩ := h.rest k (.inr hk)
      exact ⟨f', (h4 k hk).trans hf'⟩

/-- The state at the start: everything at rest. -/
structure J0 (s : St F c) : Prop where
  hd : s.hd = true
  sm : ∃ f, s.sm = .at f
  x : ∀ k, ∃ f, s.xb k = .at f
  raw : ∃ f, s.raw = .at f
  st : ∀ k, ∃ f, s.st k = .at f
  out : ∀ k, ∃ f, s.out k = .at f
  y : ∀ i, ∃ g, s.y i = some g
  osc : ∃ f g, s.osc = .at f g

theorem TB_zero (i : ℕ) : TB D i 0 0 = fun _ _ => none := by
  funext q p
  show Hn D i _ (if _ < 0 then 1 else 0) = none
  rw [if_neg (Nat.not_lt_zero _)]; rfl

theorem ok_pre (h : J0 s) (hm : MS m (fun _ _ => none) (fun _ => none) G) {K : Mxu F → PP F α} (hK : ∀ m' (s' : St F c), J1 D 0 m' s' → Ok D Q s' (K m')) :
    Ok D Q s (preC m K) := by
  obtain ⟨hd, ⟨fsm, sm⟩, hx, ⟨fr, raw⟩, hst, out, y, ⟨fo, go, osc⟩⟩ := h
  obtain ⟨fx0, x0⟩ := hx 0
  obtain ⟨fx1, x1⟩ := hx 1
  obtain ⟨f0, st0⟩ := hst 0
  obtain ⟨f1, st1⟩ := hst 1
  obtain ⟨f2, st2⟩ := hst 2
  obtain ⟨f3, st3⟩ := hst 3
  obtain ⟨f4, st4⟩ := hst 4
  obtain ⟨f5, st5⟩ := hst 5
  unfold preC
  refine ok_wsStart sm ?_
  refine ok_xsStart (s := { s with sm := .fly 0 }) 0 raw ?_
  refine ok_xhStart (s := { s with sm := .fly 0, raw := .fly 0 }) x0 hd ?_
  refine ok_wStart (s := { s with sm := .fly 0, raw := .fly 0, xb := _, hd := false }) 5 0 st5 ?_
  refine ok_xrStart (f := fx0) ?_ ?_
  · rfl
  refine ok_wStart (f := f0) 0 1 ?_ ?_
  · exact st0
  refine ok_wStart (f := f1) 1 2 ?_ ?_
  · exact st1
  refine ok_wStart (f := f2) 2 3 ?_ ?_
  · exact st2
  refine ok_zeroOsc (f := fo) (g := go) ?_ fun fo' => ?_
  · exact osc
  refine ok_wsWait ?_ ?_
  · rfl
  refine ok_xsWait 0 ?_ ?_
  · rfl
  refine ok_turn 0 0 ?_ fun fsc hsc _ => ?_
  · rfl
  refine ok_xsStart 1 (f := rawT c D 0) ?_ ?_
  · rfl
  refine ok_xhWait ?_ ?_ ?_
  · rfl
  · rfl
  refine ok_wWait 5 0 ?_ ?_
  · rfl
  refine ok_prepTail 5 0 15 (le_refl _) _ ?_ ?_ ?_ fun fw hw => ?_
  · rfl
  · rfl
  · intro j hj
    exfalso
    have : (0 : Fin 46).val = 0 := rfl
    omega
  rw [← TB_zero (D := D) 0] at hm
  refine ok_push_head (T := TB D 0 0 0) (G := G) ?_ ?_ hm fun m1 hm1 => ?_
  · rfl
  · exact hsc
  refine ok_xrWait ?_ ?_
  · rfl
  refine ok_xStart 1 1 (f := fx1) ?_ ?_
  · exact x1
  refine hK m1 _ ⟨⟨?_, ?_, ?_, ?_, ?_, ?_, ?_, ?_, ?_⟩, hw, ⟨G, hm1⟩, fun _ j => ?_, fun k hk => ?_⟩
  · rfl
  · rfl
  · rfl
  · rfl
  · rfl
  · exact hsc
  · exact out
  · exact y
  · exact ⟨_, _, rfl⟩
  · match j with
    | 0 => rfl
    | 1 => rfl
    | 2 => rfl
  · match k with
    | 0 => exact absurd hk (by decide)
    | 1 => exact absurd hk (by decide)
    | 2 => exact absurd hk (by decide)
    | 3 => exact ⟨f3, st3⟩
    | 4 => exact ⟨f4, st4⟩
    | 5 => exact ⟨_, rfl⟩

end Cert.Kernel.V
-- ==== Proof.Oks6.lean ====
/- The other tiles. -/
module

public import proofs.«01_k».proof.Proof.Oks5

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

variable (D) in
/-- What does not change once the weights are prepared. -/
structure Fr2 (s : St F c) : Prop where
  hd : s.hd = true
  sm : ∃ f, s.sm = .at f
  st : ∀ k, ∃ f, s.st k = .at f
  wt : WtOk D s.wt 46 0

variable (D) in
/-- Slot `k` holds what tile `i - 2` sends, -/
def OQ (k : Fin 2) (i : ℕ) (o : Fin 2 → OC (Bf F c outM)) : Prop := ∃ f : Bf F c outM, o k = .at f ∧ (2 ≤ i → OutOk D k.val (i - 2) 15 f)

variable (D) in
/-- and what tile `i - 3` sends is on its way out of slot `k`. -/
def OP (k : Fin 2) (i : ℕ) (o : Fin 2 → OC (Bf F c outM)) : Prop :=
  (3 ≤ i → ∃ (l : Fin 12) (f : Bf F c outM), l.val = i - 3 ∧ o k = .fly l f ∧ OutOk D k.val (i - 3) 15 f) ∧ (i < 3 → ∃ f, o k = .at f)

variable (D) in
/-- Row block `i` of the result is there. -/
def YOk (i : ℕ) (g : Bf F c yM) : Prop := ∀ j, (j 0).val / 256 = i → g j = outAt D i ((j 0).val - 256 * i) (j 1).val

variable (D) in
/-- Row blocks up to `i - 4` of the result are there, and block `i - 3` is on its way. -/
def YP (i : ℕ) (y : Fin 12 → Option (Bf F c yM)) : Prop :=
  ∀ j : Fin 12, (j.val + 3 < i → ∃ g, y j = some g ∧ YOk D j.val g) ∧ (j.val + 3 = i → y j = none) ∧ (i < j.val + 3 → ∃ g, y j = some g)

theorem yT_ok (k : Fin 2) (i : Fin 12) {f : Bf F c outM} (hf : OutOk D k.val i.val 15 f) : YOk D i.val (yT c k i f) := by
  intro j hj
  have h0 : (j 0).val < 3072 := (j 0).isLt
  have h1 : (j 1).val < 1920 := (j 1).isLt
  have hk := k.isLt
  refine (hf (i3 k.val ((j 0).val - 256 * i.val) (j 1).val) ?_ ?_).trans ?_
  · show k.val % 2 = k.val; omega
  · show (j 1).val % 1920 / 128 < 15; omega
  · refine congr (congrArg (outAt D i.val) ?_) ?_
    · show ((j 0).val - 256 * i.val) % 256 = _; omega
    · show (j 1).val % 1920 = _; omega

variable (D) in
/-- The state when the trip over tile `i` starts. -/
structure J2 (i : Fin 12) (m : Mxu F) (s : St F c) : Prop where
  fr : Fr2 D s
  x : s.xb (par i) = .at (xbT c D i)
  x' : ∃ f, s.xb (par (nxt i)) = .at f
  raw : ∃ f, s.raw = .at f
  sc : ScOk D (par i).val i.val s.sc
  act : ActOk D (i.val - 1) 20 s.act
  mx : s.mx = mxT D (i.val - 1)
  osc : ∃ f g, s.osc = .at f g ∧ OscOk D (i.val - 1) f
  ms : ∃ G, MS m (TB D i.val 1 0) (fun _ => some (tileT D i.val 1)) G
  oq : OQ D (par i) i.val s.out
  op : OP D (par (nxt i)) i.val s.out
  y : YP D i.val s.y

variable (D) in
/-- The state after the last trip. -/
structure JE (m : Mxu F) (s : St F c) : Prop where
  fr : Fr2 D s
  x : ∀ k, ∃ f, s.xb k = .at f
  raw : ∃ f, s.raw = .at f
  act : ActOk D 11 20 s.act
  mx : s.mx = mxT D 11
  osc : ∃ f g, s.osc = .at f g ∧ OscOk D 11 f
  ms : ∃ G, MS m (fun _ _ => none) (fun _ => none) G
  o0 : ∃ f : Bf F c outM, s.out 0 = .fly 10 f ∧ OutOk D 0 10 15 f
  o1 : ∃ f : Bf F c outM, s.out 1 = .fly 9 f ∧ OutOk D 1 9 15 f
  y : ∀ j : Fin 12, (j.val < 9 → ∃ g, s.y j = some g ∧ YOk D j.val g) ∧ (j.val = 9 ∨ j.val = 10 → s.y j = none) ∧ (j.val = 11 → ∃ g, s.y j = some g)

theorem ok_mid (h : J1 D 15 m s) {K : Mxu F → PP F α} (hK : ∀ m' (s' : St F c), J2 D 1 m' s' → Ok D Q s' (K m')) : Ok D Q s (midC m K) := by
  obtain ⟨G, hm⟩ := h.ms
  have fr := h.fr
  obtain ⟨fo, go, ho⟩ := fr.osc
  unfold midC
  refine ok_xsWait 1 fr.raw ?_
  refine ok_xWait 1 1 ?_ ?_
  · exact fr.x1
  refine ok_turn 1 1 ?_ fun fs hs1 hs0 => ?_
  · rfl
  refine ok_pass 0 45 (w := 46) (G := G) ?_ ?_ hm fun m1 G1 hm1 => ?_
  · exact h.wt
  · decide
  refine ok_push 1 1 0 (T := TB D 0 46 0) (G := G1) ?_ ?_ hm1 fun m2 hm2 => ?_
  · rfl
  · exact hs1
  refine ok_over 0 (w := 46) (G := G1) ?_ ?_ hm2 fun fa m3 G3 ha hm3 => ?_
  · decide
  · exact h.wt
  refine ok_push 1 1 1 (T := TB D 1 1 0) (G := G3) ?_ ?_ hm3 fun m4 hm4 => ?_
  · rfl
  · exact hs1
  refine ok_storeMax _ ?_
  refine hK m4 _ ⟨⟨?_, ?_, ?_, ?_⟩, ?_, ?_, ?_, ?_, ?_, ?_, ?_, ⟨G3, hm4⟩, ?_, ?_, ?_⟩
  · exact fr.hd
  · exact ⟨_, fr.sm⟩
  · exact fun k => h.rest k (.inl rfl)
  · exact h.wt
  · rfl
  · exact ⟨xbT c D 0, fr.x0⟩
  · exact ⟨_, rfl⟩
  · exact hs1
  · exact ha
  · rfl
  · exact ⟨fo, go, ho, fun j hj => absurd hj (Nat.not_lt_zero _)⟩
  · obtain ⟨f, hf⟩ := fr.out 1
    exact ⟨f, hf, fun h => absurd h (by decide)⟩
  · exact ⟨fun h => absurd h (by decide), fun _ => fr.out _⟩
  · exact fun j => ⟨fun h => absurd h (by have : (1 : Fin 12).val = 1 := rfl; omega), fun h => absurd h (by have : (1 : Fin 12).val = 1 := rfl; omega), fun _ => fr.y j⟩

theorem par_ne (i : Fin 12) : par i ≠ par (nxt i) := by revert i; decide

theorem ok_br2 (i : Fin 12) (hx : ∃ f, s.xb (par (nxt i)) = .at f) (hr : ∃ f, s.raw = .at f) {K : PP F α}
    (hK : ∀ xb' raw', xb' (par i) = s.xb (par i) → (i.val < 11 → xb' (par (nxt i)) = .fly (nxt i) ∧ raw' = .fly (nxt i)) →
      (¬ i.val < 11 → (∃ f, xb' (par (nxt i)) = .at f) ∧ ∃ f, raw' = .at f) → Ok D Q { s with xb := xb', raw := raw' } K) :
    Ok D Q s ((if i.val < 11 then br2C i else id) K) := by
  obtain ⟨f, hf⟩ := hx
  obtain ⟨f', hf'⟩ := hr
  by_cases hi : i.val < 11
  · rw [if_pos hi]
    refine ok_xsStart (nxt i) hf' ?_
    refine ok_xStart (par (nxt i)) (nxt i) (f := f) ?_ ?_
    · exact hf
    exact hK _ _ (Function.update_of_ne (par_ne i) _ _) (fun _ => ⟨Function.update_self .., rfl⟩) (fun h => absurd hi h)
  · rw [if_neg hi]
    exact hK s.xb s.raw rfl (fun h => absurd h hi) fun _ => ⟨⟨f, hf⟩, ⟨f', hf'⟩⟩

theorem prv_val (i : Fin 12) (n : ℕ) : (prv i n).val = i.val - n := Nat.mod_eq_of_lt (by omega)

theorem ok_br3 (i : Fin 12) (hq : OQ D (par i) i.val s.out) (hy : YP D i.val s.y) {K : PP F α}
    (hK : ∀ out' y', out' (par (nxt i)) = s.out (par (nxt i)) → OP D (par i) (i.val + 1) out' →
      (∀ j : Fin 12, j.val + 2 ≠ i.val → y' j = s.y j) → (∀ j : Fin 12, j.val + 2 = i.val → y' j = none) → Ok D Q { s with out := out', y := y' } K) :
    Ok D Q s ((if 2 ≤ i.val then br3C i else id) K) := by
  obtain ⟨f, hf, hfo⟩ := hq
  by_cases hi : 2 ≤ i.val
  · rw [if_pos hi]
    have hp := prv_val i 2
    obtain ⟨g, hg⟩ := (hy (prv i 2)).2.2 (by omega)
    refine ok_yStart (par i) (prv i 2) hf hg ?_
    refine hK _ _ (Function.update_of_ne (par_ne i).symm _ _) ⟨fun _ => ⟨prv i 2, f, by omega, Function.update_self .., ?_⟩, fun h => absurd h (by omega)⟩
      (fun j hj => Function.update_of_ne (fun e => hj (by rw [e]; omega)) _ _) (fun j hj => ?_)
    · exact hfo hi
    · have : j = prv i 2 := Fin.ext (by omega)
      rw [this]
      exact Function.update_self ..
  · rw [if_neg hi]
    exact hK s.out s.y rfl ⟨fun h => absurd h (by omega), fun _ => ⟨f, hf⟩⟩ (fun j _ => rfl) (fun j hj => absurd hj (by omega))

theorem ok_br4 (i : Fin 12) {o' : Fin 2 → OC (Bf F c outM)} {y' : Fin 12 → Option (Bf F c yM)} (ho : o' (par (nxt i)) = s.out (par (nxt i)))
    (hp : OP D (par (nxt i)) i.val s.out) (hn : OP D (par i) (i.val + 1) o') (hy : YP D i.val s.y)
    (hy1 : ∀ j : Fin 12, j.val + 2 ≠ i.val → y' j = s.y j) (hy2 : ∀ j : Fin 12, j.val + 2 = i.val → y' j = none) {K : PP F α}
    (hK : ∀ out'' y'', (∃ f, out'' (par (nxt i)) = .at f) → OP D (par i) (i.val + 1) out'' → YP D (i.val + 1) y'' → Ok D Q { s with out := out'', y := y'' } K) :
    Ok D Q { s with out := o', y := y' } ((if 3 ≤ i.val then br4C i else id) K) := by
  by_cases hi : 3 ≤ i.val
  · rw [if_pos hi]
    have hv := prv_val i 3
    obtain ⟨l, f, hl, hf, hfo⟩ := hp.1 hi
    have el : l = prv i 3 := Fin.ext (by omega)
    subst el
    have hno : y' (prv i 3) = none := (hy1 _ (by omega)).trans ((hy (prv i 3)).2.1 (by omega))
    refine ok_yWait (s := { s with out := o', y := y' }) (par (nxt i)) (prv i 3) (f := f) (ho.trans hf) hno ?_
    refine hK _ _ ⟨f, Function.update_self ..⟩ ⟨fun h => ?_, fun h => absurd h (by omega)⟩ fun j => ⟨fun hj => ?_, fun hj => ?_, fun hj => ?_⟩
    · obtain ⟨l', f', h1, h2, h3⟩ := hn.1 h
      exact ⟨l', f', h1, (Function.update_of_ne (par_ne i) _ _).trans h2, h3⟩
    · by_cases hj3 : j = prv i 3
      · subst hj3
        refine ⟨_, Function.update_self .., yT_ok (D := D) _ _ ?_⟩
        rw [hv]; exact hfo
      · have : j.val ≠ i.val - 3 := fun e => hj3 (Fin.ext (by omega))
        obtain ⟨g, h1, h2⟩ := (hy j).1 (by omega)
        exact ⟨g, (Function.update_of_ne hj3 _ _).trans ((hy1 j (by omega)).trans h1), h2⟩
    · exact (Function.update_of_ne (fun e => by have := congrArg Fin.val e; omega) _ _).trans (hy2 j (by omega))
    · obtain ⟨g, h1⟩ := (hy j).2.2 (by omega)
      exact ⟨g, (Function.update_of_ne (fun e => by have := congrArg Fin.val e; omega) _ _).trans ((hy1 j (by omega)).trans h1)⟩
  · rw [if_neg hi]
    obtain ⟨f, hf⟩ := hp.2 (by omega)
    refine hK o' y' ⟨f, ho.trans hf⟩ hn fun j => ⟨fun hj => ?_, fun hj => hy2 j (by omega), fun hj => ?_⟩
    · exact absurd hj (by omega)
    · obtain ⟨g, h1⟩ := (hy j).2.2 (by omega)
      exact ⟨g, (hy1 j (by omega)).trans h1⟩

end Cert.Kernel.V
-- ==== Proof.Oks7.lean ====
/- A trip over a tile. -/
module

public import proofs.«01_k».proof.Proof.Oks6

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

theorem ok_stepN (k : Fin 2) (i : Fin 12) (p e : Fin 46) (he : e.val = p.val + 1) (hw : WtOk D s.wt 46 0) (hx : s.xb k = .at (xbT c D i))
    (hs : ScOk D k.val i.val s.sc) (hm : MS m (TB D i.val p.val 0) (fun _ => some (tileT D i.val p.val)) G) {K : Mxu F → PP F α}
    (h : ∀ m' G', MS m' (TB D i.val e.val 0) (fun _ => some (tileT D i.val e.val)) G' → Ok D Q s (K m')) :
    Ok D Q s (passC p m fun m => push (pushO k e) m K) := by
  refine ok_pass i.val p hw p.isLt hm fun m1 G1 hm1 => ?_
  refine ok_push k i e hx hs hm1 fun m2 hm2 => ?_
  exact h m2 G1 (he ▸ hm2)

theorem ok_fin (k : Fin 2) (i : Fin 12) (hw : WtOk D s.wt 46 0) (hx : s.xb k = .at (xbT c D i))
    (hs : ScOk D k.val i.val s.sc) (hm : MS m (TB D i.val 41 0) (fun _ => some (tileT D i.val 41)) G) {K : Mxu F → PP F α}
    (h : ∀ m' G', MS m' (TB D i.val 46 0) (fun _ => none) G' → Ok D Q s (K m')) : Ok D Q s (finC k m K) := by
  unfold finC
  refine ok_stepN k i 41 42 rfl hw hx hs hm fun m1 G1 hm1 => ?_
  refine ok_stepN k i 42 43 rfl hw hx hs hm1 fun m1 G1 hm1 => ?_
  refine ok_stepN k i 43 44 rfl hw hx hs hm1 fun m1 G1 hm1 => ?_
  refine ok_stepN k i 44 45 rfl hw hx hs hm1 fun m1 G1 hm1 => ?_
  exact ok_pass i.val 45 hw (by decide) hm1 h

variable (D) in
/-- What the inner loop reads. -/
structure FrI (i : Fin 12) (s : St F c) : Prop where
  wt : WtOk D s.wt 46 0
  x : s.xb (par i) = .at (xbT c D i)
  sc : ScOk D (par i).val i.val s.sc
  act : ActOk D (i.val - 1) 20 s.act
  inv : s.inv = invOf (mxT D (i.val - 1))

theorem ok_step3 (i : Fin 12) (t : Fin 5) (j : Fin 8) (hI : FrI D i s)
    (hm : MS m (TB D i.val (8 * t.val + 1 + j.val) 0) (fun _ => some (tileT D i.val (8 * t.val + 1 + j.val))) G) {K : Mxu F → PP F α}
    (h : ∀ m' G', MS m' (TB D i.val (8 * t.val + 1 + (j.val + 1)) 0) (fun _ => some (tileT D i.val (8 * t.val + 1 + (j.val + 1)))) G' → Ok D Q s (K m')) :
    Ok D Q s (step3C (par i) t j m K) := by
  have e : (nx3 t j).val = 8 * t.val + 1 + (j.val + 1) := show 8 * t.val + 2 + j.val = _ by omega
  refine ok_stepN (par i) i (ps3 t j) (nx3 t j) e hI.wt hI.x hI.sc (G := G) hm fun m' G' hm' => h m' G' ?_
  rw [← e]; exact hm'

theorem ok_q3 (i : Fin 12) (t : Fin 5) (j : Fin 3) (hI : FrI D i s) {f : Bf F c outM} (ho : s.out (par (nxt i)) = .at f)
    (hf : OutOk D (par (nxt i)).val (i.val - 1) (3 * t.val + j.val) f) {K : PP F α}
    (h : ∀ f' : Bf F c outM, OutOk D (par (nxt i)).val (i.val - 1) (3 * t.val + (j.val + 1)) f' →
      Ok D Q { s with out := Function.update s.out (par (nxt i)) (.at f') } K) :
    Ok D Q s (quantise (qO (par (nxt i)) (bl3 t j)) K) :=
  ok_quantise (par (nxt i)) (i.val - 1) (bl3 t j) ho hI.act hI.inv hf h

theorem FrI.out {i : Fin 12} (h : FrI D i s) (o) : FrI D i { s with out := o } := ⟨h.1, h.2, h.3, h.4, h.5⟩

theorem ok_body3 (i : Fin 12) (t : Fin 5) (hI : FrI D i s) {f : Bf F c outM} (ho : s.out (par (nxt i)) = .at f)
    (hf : OutOk D (par (nxt i)).val (i.val - 1) (3 * t.val) f)
    (hm : MS m (TB D i.val (8 * t.val + 1) 0) (fun _ => some (tileT D i.val (8 * t.val + 1))) G) {K : Mxu F → PP F α}
    (h : ∀ m' (f' : Bf F c outM) G', OutOk D (par (nxt i)).val (i.val - 1) (3 * (t.val + 1)) f' →
      MS m' (TB D i.val (8 * (t.val + 1) + 1) 0) (fun _ => some (tileT D i.val (8 * (t.val + 1) + 1))) G' →
      Ok D Q { s with out := Function.update s.out (par (nxt i)) (.at f') } (K m')) :
    Ok D Q s (body3C i t m K) := by
  unfold body3C
  refine ok_step3 i t 0 hI (G := G) hm fun m1 G1 hm1 => ?_
  refine ok_q3 i t 0 hI ho hf fun f1 hf1 => ?_
  refine ok_step3 i t 1 (hI.out _) (G := G1) hm1 fun m2 G2 hm2 => ?_
  refine ok_q3 i t 1 (f := f1) (hI.out _) ?_ hf1 fun f2 hf2 => ?_
  · exact Function.update_self ..
  refine ok_step3 i t 2 (hI.out _) (G := G2) hm2 fun m3 G3 hm3 => ?_
  refine ok_q3 i t 2 (f := f2) (hI.out _) ?_ hf2 fun f3 hf3 => ?_
  · exact Function.update_self ..
  refine ok_step3 i t 3 (hI.out _) (G := G3) hm3 fun m4 G4 hm4 => ?_
  refine ok_step3 i t 4 (hI.out _) (G := G4) hm4 fun m5 G5 hm5 => ?_
  refine ok_step3 i t 5 (hI.out _) (G := G5) hm5 fun m6 G6 hm6 => ?_
  refine ok_step3 i t 6 (hI.out _) (G := G6) hm6 fun m7 G7 hm7 => ?_
  refine ok_step3 i t 7 (hI.out _) (G := G7) hm7 fun m8 G8 hm8 => ?_
  have e1 : 8 * t.val + 1 + ((7 : Fin 8).val + 1) = 8 * (t.val + 1) + 1 := show 8 * t.val + 1 + (7 + 1) = _ by omega
  have e2 : 3 * t.val + ((2 : Fin 3).val + 1) = 3 * (t.val + 1) := show 3 * t.val + (2 + 1) = _ by omega
  rw [e1] at hm8
  rw [e2] at hf3
  have := h m8 f3 G8 hf3 hm8
  simp only [Function.update_idem]
  exact this

theorem ok_loop3 (i : Fin 12) (hI : FrI D i s) (ho : ∃ f, s.out (par (nxt i)) = .at f)
    (hm : MS m (TB D i.val 1 0) (fun _ => some (tileT D i.val 1)) G) {K : Mxu F → PP F α}
    (h : ∀ m' (f' : Bf F c outM) G', OutOk D (par (nxt i)).val (i.val - 1) 15 f' → MS m' (TB D i.val 41 0) (fun _ => some (tileT D i.val 41)) G' →
      Ok D Q { s with out := Function.update s.out (par (nxt i)) (.at f') } (K m')) :
    Ok D Q s (Scf.Loop.for k0_t3_loop k0_t3_ok m (fun t m => body3C i (f5 t) m .ret) >>= K) := by
  obtain ⟨f, ho⟩ := ho
  refine ok_for (fun t m s' => ∃ (f' : Bf F c outM) (G' : Rg F), s' = { s with out := Function.update s.out (par (nxt i)) (.at f') } ∧
      OutOk D (par (nxt i)).val (i.val - 1) (3 * t) f' ∧ MS m (TB D i.val (8 * t + 1) 0) (fun _ => some (tileT D i.val (8 * t + 1))) G') ?_ ?_ ?_
  · refine ⟨f, G, ?_, fun j _ hj => absurd hj (Nat.not_lt_zero _), hm⟩
    rw [← ho, Function.update_eq_self]
  · rintro t m s' ⟨f', G', rfl, hf, hm⟩
    refine ok_body3 i (f5 t) (f := f') (G := G') (hI.out _) ?_ hf hm fun m'' f'' G'' hf'' hm'' => ok_ret ⟨f'', G'', ?_, hf'', hm''⟩
    · exact Function.update_self ..
    · simp only [Function.update_idem]
  · rintro m s' ⟨f', G', rfl, hf, hm⟩
    rw [trips3] at hf hm
    exact h m f' G' hf hm

theorem ok_br5 (i : Fin 12) (hi : i.val < 11) (fr : Fr2 D s) (hI : FrI D i s) (hx : s.xb (par (nxt i)) = .fly (nxt i)) (hr : s.raw = .fly (nxt i))
    (hosc : ∃ f g, s.osc = .at f g ∧ OscOk D i.val f) (oq : OQ D (par (nxt i)) (i.val + 1) s.out) (op : OP D (par i) (i.val + 1) s.out)
    (hy : YP D (i.val + 1) s.y)
    (hm : MS m (TB D i.val 41 0) (fun _ => some (tileT D i.val 41)) G) {K : Mxu F → PP F α}
    (hK : ∀ m' (s' : St F c), J2 D (nxt i) m' s' → Ok D Q s' (K m')) : Ok D Q s (br5C i m K) := by
  have en : (nxt i).val = i.val + 1 := Nat.mod_eq_of_lt (by omega)
  have ep : par (nxt (nxt i)) = par i := Fin.ext (by show (nxt (nxt i)).val % 2 = i.val % 2; show ((nxt i).val + 1) % 12 % 2 = _; omega)
  unfold br5C
  refine ok_xsWait (nxt i) hr ?_
  refine ok_xWait (par (nxt i)) (nxt i) ?_ ?_
  · exact hx
  refine ok_turn (par (nxt i)) (nxt i) ?_ fun fs hs1 hs0 => ?_
  · rfl
  refine ok_fin (par i) i (G := G) ?_ ?_ ?_ hm fun m1 G1 hm1 => ?_
  · exact fr.wt
  · exact (Function.update_of_ne (par_ne i) _ _).trans hI.x
  · exact hs0 _ _ (par_ne i) hI.sc
  refine ok_push (par (nxt i)) (nxt i) 0 (T := TB D i.val 46 0) (G := G1) ?_ ?_ hm1 fun m2 hm2 => ?_
  · exact Function.update_self ..
  · exact hs1
  rw [en] at hm2
  refine ok_over i.val (w := 46) (G := G1) ?_ ?_ hm2 fun fa m3 G3 ha hm3 => ?_
  · decide
  · exact fr.wt
  refine ok_push (par (nxt i)) (nxt i) 1 (T := TB D (i.val + 1) 1 0) (G := G3) ?_ ?_ hm3 fun m4 hm4 => ?_
  · exact Function.update_self ..
  · exact hs1
  refine ok_storeMax _ ?_
  refine hK m4 _ ⟨⟨fr.1, fr.2, fr.3, fr.4⟩, ?_, ?_, ?_, ?_, ?_, ?_, ?_, ⟨G3, ?_⟩, ?_, ?_, ?_⟩
  · exact Function.update_self ..
  · rw [ep]
    exact ⟨_, (Function.update_of_ne (par_ne i) _ _).trans hI.x⟩
  · exact ⟨_, rfl⟩
  · exact hs1
  · rw [en]; exact ha
  · rw [en]; rfl
  · rw [en]; exact hosc
  · rw [en] at hm4 ⊢; exact hm4
  · rw [en]; exact oq
  · rw [en, ep]; exact op
  · rw [en]; exact hy

theorem ok_br6 (fr : Fr2 D s) (hI : FrI D 11 s) (hx : ∃ f, s.xb 0 = .at f) (hr : ∃ f, s.raw = .at f)
    (hosc : ∃ f g, s.osc = .at f g ∧ OscOk D 11 f) {f : Bf F c outM} (ho : s.out 0 = .at f) (hf : OutOk D 0 10 15 f) (op : OP D 1 12 s.out)
    (hy : YP D 12 s.y)
    (hm : MS m (TB D 11 41 0) (fun _ => some (tileT D 11 41)) G) {K : Mxu F → PP F α}
    (hK : ∀ m' (s' : St F c), JE D m' s' → Ok D Q s' (K m')) : Ok D Q s (br6C m K) := by
  obtain ⟨g, hg⟩ := (hy 10).2.2 (by decide)
  obtain ⟨l, f9, hl, ho9, hf9⟩ := op.1 (by decide)
  have el : l = 9 := Fin.ext hl
  subst el
  unfold br6C
  refine ok_yStart 0 10 ho hg ?_
  refine ok_fin 1 11 (G := G) ?_ ?_ ?_ hm fun m1 G1 hm1 => ?_
  · exact fr.wt
  · exact hI.x
  · exact hI.sc
  refine ok_last 11 hm1 fun fa m2 ha hm2 => ?_
  refine ok_storeMax _ ?_
  refine hK m2 _ ⟨⟨fr.1, fr.2, fr.3, fr.4⟩, ?_, ?_, ?_, ?_, ?_, ⟨G1, hm2⟩, ?_, ?_, ?_⟩
  · intro k
    match k with
    | 0 => exact hx
    | 1 => exact ⟨_, hI.x⟩
  · exact hr
  · exact ha
  · rfl
  · exact hosc
  · exact ⟨f, rfl, hf⟩
  · exact ⟨f9, ho9, hf9⟩
  · intro j
    refine ⟨fun hj => ?_, fun hj => ?_, fun hj => ?_⟩
    · obtain ⟨g', h1, h2⟩ := (hy j).1 (by omega)
      exact ⟨g', (Function.update_of_ne (fun e => by rw [e] at hj; exact absurd hj (by decide)) _ _).trans h1, h2⟩
    · by_cases h10 : j = 10
      · rw [h10]; rfl
      · have : j.val = 9 := hj.elim id fun h => absurd (Fin.ext h) h10
        exact (Function.update_of_ne h10 _ _).trans ((hy j).2.1 (by omega))
    · obtain ⟨g', h1⟩ := (hy j).2.2 (by omega)
      exact ⟨g', (Function.update_of_ne (fun e => by rw [e] at hj; exact absurd hj (by decide)) _ _).trans h1⟩

variable (D) in
/-- The state when the inner loop over tile `i` starts. -/
structure M2 (i : Fin 12) (s : St F c) : Prop where
  fr : Fr2 D s
  fi : FrI D i s
  xn : i.val < 11 → s.xb (par (nxt i)) = .fly (nxt i) ∧ s.raw = .fly (nxt i)
  xe : ¬ i.val < 11 → (∃ f, s.xb (par (nxt i)) = .at f) ∧ ∃ f, s.raw = .at f
  osc : ∃ f g, s.osc = .at f g ∧ OscOk D i.val f
  out : ∃ f, s.out (par (nxt i)) = .at f
  op : OP D (par i) (i.val + 1) s.out
  y : YP D (i.val + 1) s.y

theorem ok_bodyPre (i : Fin 12) (hi : 1 ≤ i.val) (h : J2 D i m s) {K : PP F α}
    (hK : ∀ s' : St F c, M2 D i s' → Ok D Q s' K) : Ok D Q s (bodyPre i K) := by
  obtain ⟨fo, go, ho, hoo⟩ := h.osc
  have hv := prv_val i 1
  unfold bodyPre
  refine ok_br2 i h.x' h.raw fun xb' raw' hx0 hx1 hx2 => ?_
  have oq : OQ D (par i) i.val ({ s with xb := xb', raw := raw' } : St F c).out := h.oq
  have op : OP D (par (nxt i)) i.val ({ s with xb := xb', raw := raw' } : St F c).out := h.op
  have hy : YP D i.val ({ s with xb := xb', raw := raw' } : St F c).y := h.y
  have fr : Fr2 D ({ s with xb := xb', raw := raw' } : St F c) := ⟨h.fr.1, h.fr.2, h.fr.3, h.fr.4⟩
  have hx : ({ s with xb := xb', raw := raw' } : St F c).xb (par i) = .at (xbT c D i) := hx0.trans h.x
  have hx1 : i.val < 11 → ({ s with xb := xb', raw := raw' } : St F c).xb (par (nxt i)) = .fly (nxt i) ∧ ({ s with xb := xb', raw := raw' } : St F c).raw = .fly (nxt i) := hx1
  have hx2 : ¬ i.val < 11 → (∃ f, ({ s with xb := xb', raw := raw' } : St F c).xb (par (nxt i)) = .at f) ∧ ∃ f, ({ s with xb := xb', raw := raw' } : St F c).raw = .at f := hx2
  have ho : ({ s with xb := xb', raw := raw' } : St F c).osc = .at fo go := ho
  have hm : ({ s with xb := xb', raw := raw' } : St F c).mx = mxT D (i.val - 1) := h.mx
  have hs : ScOk D (par i).val i.val ({ s with xb := xb', raw := raw' } : St F c).sc := h.sc
  have ha : ActOk D (i.val - 1) 20 ({ s with xb := xb', raw := raw' } : St F c).act := h.act
  generalize ({ s with xb := xb', raw := raw' } : St F c) = u at oq op hy fr hx hx1 hx2 ho hm hs ha ⊢
  refine ok_br3 i oq hy fun o1 y1 ho1 hop hy1 hy2 => ?_
  refine ok_br4 i ho1 op hop hy hy1 hy2 fun o2 y2 hat hop2 hy3 => ?_
  refine ok_findScale (s := { u with out := o2, y := y2 }) (prv i 1) (f := fo) (g := go) ho (by rw [hv]; exact hm) (by rw [hv]; exact hoo) fun fo' hfo' => ?_
  have hfo2 : OscOk D i.val fo' := by
    have e : (prv i 1).val + 1 = i.val := by omega
    rw [← e]; exact hfo'
  exact hK _ ⟨⟨fr.1, fr.2, fr.3, fr.4⟩, ⟨fr.4, hx, hs, ha, by rw [← hv]⟩, hx1, hx2, ⟨fo', go, rfl, hfo2⟩, hat, hop2, hy3⟩

theorem ok_bodyPost (i : Fin 12) (hi : 1 ≤ i.val) (h : M2 D i s) {f1 : Bf F c outM} (hf1 : OutOk D (par (nxt i)).val (i.val - 1) 15 f1)
    (ho : s.out (par (nxt i)) = .at f1)
    (hm : MS m (TB D i.val 41 0) (fun _ => some (tileT D i.val 41)) G) {K : Mxu F → PP F α}
    (hK : ∀ m' (s' : St F c), (i.val < 11 → J2 D (nxt i) m' s') → (i.val = 11 → JE D m' s') → Ok D Q s' (K m')) : Ok D Q s (bodyPost i m K) := by
  unfold bodyPost
  by_cases h11 : i.val < 11
  · rw [if_pos h11]
    exact ok_br5 i h11 h.fr h.fi (h.xn h11).1 (h.xn h11).2 h.osc ⟨f1, ho, fun _ => hf1⟩ h.op h.y hm
      fun m' s' hj => hK m' s' (fun _ => hj) fun e => absurd e (by omega)
  · rw [if_neg h11]
    have e11 : i = 11 := Fin.ext (show i.val = 11 by omega)
    subst e11
    exact ok_br6 h.fr h.fi (h.xe h11).1 (h.xe h11).2 h.osc ho hf1 h.op h.y hm fun m' s' hj => hK m' s' (fun e => absurd e h11) fun _ => hj

theorem ok_body2 (i : Fin 12) (hi : 1 ≤ i.val) (h : J2 D i m s) {K : Mxu F → PP F α}
    (hK : ∀ m' (s' : St F c), (i.val < 11 → J2 D (nxt i) m' s') → (i.val = 11 → JE D m' s') → Ok D Q s' (K m')) : Ok D Q s (body2C i m K) := by
  obtain ⟨G, hm⟩ := h.ms
  unfold body2C
  refine ok_bodyPre i hi h fun u hu => ?_
  refine ok_loop3 i hu.fi hu.out hm fun m1 f1 G1 hf1 hm1 => ?_
  have hself : Function.update u.out (par (nxt i)) (OC.at f1) (par (nxt i)) = OC.at f1 := Function.update_self (f := u.out) (par (nxt i)) _
  have hop : OP D (par i) (i.val + 1) (Function.update u.out (par (nxt i)) (.at f1)) :=
    ⟨fun h => by
      obtain ⟨l, f, h1, h2, h3⟩ := hu.op.1 h
      exact ⟨l, f, h1, (Function.update_of_ne (par_ne i) _ _).trans h2, h3⟩,
     fun h => by
      obtain ⟨f, h1⟩ := hu.op.2 h
      exact ⟨f, (Function.update_of_ne (par_ne i) _ _).trans h1⟩⟩
  exact ok_bodyPost i hi (s := { u with out := Function.update u.out (par (nxt i)) (.at f1) })
    ⟨⟨hu.fr.1, hu.fr.2, hu.fr.3, hu.fr.4⟩, hu.fi.out _, hu.xn, hu.xe, hu.osc, ⟨f1, hself⟩, hop, hu.y⟩ hf1 hself hm1 hK

end Cert.Kernel.V
-- ==== Proof.Eqs.lean ====
/- The program's steps are their closed forms. -/
module

public import proofs.«01_k».proof.Proof.Canon
public import Idealize.ShloMosaic.Lib.Tactic
public import Mathlib.Tactic.IntervalCases

@[expose] public section

set_option synthInstance.maxSize 4096
set_option maxRecDepth 8192

noncomputable section

namespace Cert.Kernel.V

open Idealize.ShloMosaic Idealize.SL.Sem Cert.Kernel.Gen Idealize.ShloMosaic.Tactic

variable {F : FTy → Type} [FloatOps F] {α : Type}

theorem mid_eq (m : Mxu F) (K : Mxu F → PP F α) : mid m K = midC m K := by sl_kernel_rfl
theorem pre_eq (m : Mxu F) (K : Mxu F → PP F α) : pre m K = preC m K := by sl_kernel_rfl
theorem post_eq (K : PP F α) : post K = postC K := by sl_kernel_rfl

theorem body1_eqC (t : Fin k0_t1_loop.trips) (m : Mxu F) (K : Mxu F → PP F α) : body1 t m K = body1C (f15 t) m K := by
  obtain ⟨n, hn⟩ := t
  have h : n < 15 := trips1 ▸ hn
  interval_cases n <;> sl_kernel_rfl

theorem body3_eqC (t : Fin k0_t2_loop.trips) (t' : Fin k0_t3_loop.trips) (m : Mxu F) (K : Mxu F → PP F α) :
    body3 t t' m K = body3C (f12 t) (f5 t') m K := by
  obtain ⟨n, hn⟩ := t
  obtain ⟨n', hn'⟩ := t'
  have h : n < 11 := trips2 ▸ hn
  have h' : n' < 5 := trips3 ▸ hn'
  interval_cases n <;> interval_cases n' <;> sl_kernel_rfl

theorem body2_eqC (t : Fin k0_t2_loop.trips) (m : Mxu F) (K : Mxu F → PP F α) : body2 t m K = body2C (f12 t) m K := by
  unfold body2 body2C
  simp only [body3_eqC]
  generalize (fun (t' : Fin k0_t3_loop.trips) (m : Mxu F) => body3C (F := F) (f12 t) (f5 t') m Prog.ret) = B
  obtain ⟨n, hn⟩ := t
  have h : n < 11 := trips2 ▸ hn
  interval_cases n <;> sl_kernel_rfl

theorem prog_eqC : (prog : PP F PUnit) = progC := by
  unfold prog progC
  simp only [body1_eqC, body2_eqC, pre_eq, mid_eq, post_eq]

end Cert.Kernel.V
-- ==== Proof.Oks8.lean ====
/- The whole body. -/
module

public import proofs.«01_k».proof.Proof.Oks7

public import proofs.«01_k».proof.Proof.Eqs

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

variable (D) in
/-- The state at the end. -/
structure JF (s : St F c) : Prop where
  hd : s.hd = true
  sm : ∃ f, s.sm = .at f
  x : ∀ k, ∃ f, s.xb k = .at f
  raw : ∃ f, s.raw = .at f
  st : ∀ k, ∃ f, s.st k = .at f
  out : ∀ k, ∃ f, s.out k = .at f
  y : ∀ i : Fin 12, ∃ g, s.y i = some g ∧ YOk D i.val g
  osc : ∃ f : Bf F c oscM, s.osc = .at f (ysT c f) ∧ OscOk D 12 f

variable (D) in
/-- The state before the last copies are awaited. -/
structure JP (f0 f1 : Bf F c outM) (fo : Bf F c oscM) (s : St F c) : Prop where
  hd : s.hd = true
  sm : ∃ f, s.sm = .at f
  x : ∀ k, ∃ f, s.xb k = .at f
  raw : ∃ f, s.raw = .at f
  st : ∀ k, ∃ f, s.st k = .at f
  osc : s.osc = .fly fo
  o0 : s.out 0 = .fly 10 f0
  o1 : s.out 1 = .fly 11 f1
  y : ∀ j : Fin 12, (j.val < 10 → ∃ g, s.y j = some g ∧ YOk D j.val g) ∧ (10 ≤ j.val → s.y j = none)

theorem ok_postTail {f0 f1 : Bf F c outM} {fo : Bf F c oscM} (h : JP D f0 f1 fo s) (h0 : OutOk D 0 10 15 f0) (h1 : OutOk D 1 11 15 f1) (ho : OscOk D 12 fo)
    {K : PP F α} (hK : ∀ s' : St F c, JF D s' → Ok D Q s' K) : Ok D Q s (yWait (yO 0 10) <| yWait (yO 1 11) <| ysWait K) := by
  refine ok_yWait 0 10 h.o0 ((h.y 10).2 (by decide)) ?_
  refine ok_yWait 1 11 (f := f1) ?_ ?_ ?_
  · exact h.o1
  · exact (h.y 11).2 (by decide)
  refine ok_ysWait (f := fo) ?_ ?_
  · exact h.osc
  refine hK _ ⟨?_, ?_, ?_, ?_, ?_, ?_, ?_, ?_⟩
  · exact h.hd
  · exact h.sm
  · exact h.x
  · exact h.raw
  · exact h.st
  · intro k
    match k with
    | 0 => exact ⟨f0, rfl⟩
    | 1 => exact ⟨f1, rfl⟩
  · intro j
    by_cases e11 : j = 11
    · subst e11
      exact ⟨_, rfl, yT_ok 1 11 h1⟩
    by_cases e10 : j = 10
    · subst e10
      exact ⟨_, rfl, yT_ok 0 10 h0⟩
    have hj : j.val < 10 := by
      have := j.isLt
      have a1 : j.val ≠ 11 := fun e => e11 (Fin.ext e)
      have a2 : j.val ≠ 10 := fun e => e10 (Fin.ext e)
      omega
    obtain ⟨g, hg, hy⟩ := (h.y j).1 hj
    exact ⟨g, (Function.update_of_ne e11 _ _).trans ((Function.update_of_ne e10 _ _).trans hg), hy⟩
  · exact ⟨fo, rfl, ho⟩

theorem ok_post (h : JE D m s) {K : PP F α} (hK : ∀ s' : St F c, JF D s' → Ok D Q s' K) : Ok D Q s (postC K) := by
  obtain ⟨f0, ho0, hf0⟩ := h.o0
  obtain ⟨f9, ho1, hf9⟩ := h.o1
  obtain ⟨fo, go, ho, hfo⟩ := h.osc
  obtain ⟨g11, hg11⟩ := (h.y 11).2.2 rfl
  unfold postC
  refine ok_yWait 1 9 ho1 ((h.y 9).2.1 (.inl rfl)) ?_
  refine ok_findScale 11 (f := fo) (g := go) ?_ ?_ hfo fun fo' hfo' => ?_
  · exact ho
  · exact h.mx
  refine ok_quantTail 1 11 15 (le_refl _) _ f9 ?_ ?_ ?_ ?_ fun f1 hf1 => ?_
  · rfl
  · exact h.act
  · rfl
  · intro j h1 h2
    exact absurd h2 (by omega)
  refine ok_yStart 1 11 (f := f1) (g := g11) ?_ ?_ ?_
  · rfl
  · exact hg11
  refine ok_ysStart (f := fo') (g := go) ?_ ?_
  · rfl
  refine ok_postTail (f0 := f0) (f1 := f1) (fo := fo') ⟨?_, ?_, ?_, ?_, ?_, ?_, ?_, ?_, ?_⟩ hf0 hf1 hfo' hK
  · exact h.fr.hd
  · exact h.fr.sm
  · exact h.x
  · exact h.raw
  · exact h.fr.st
  · rfl
  · exact ho0
  · rfl
  · intro j
    refine ⟨fun hj => ?_, fun hj => ?_⟩
    · by_cases e9 : j = 9
      · subst e9
        exact ⟨_, rfl, yT_ok 1 9 hf9⟩
      have a1 : j.val ≠ 9 := fun e => e9 (Fin.ext e)
      have e11 : j ≠ 11 := fun e => by rw [e] at hj; exact absurd hj (by decide)
      obtain ⟨g, hg, hy⟩ := (h.y j).1 (by omega)
      exact ⟨g, (Function.update_of_ne e11 _ _).trans ((Function.update_of_ne e9 _ _).trans hg), hy⟩
    · by_cases e11 : j = 11
      · subst e11; rfl
      have a1 : j.val ≠ 11 := fun e => e11 (Fin.ext e)
      have e10 : j = 10 := Fin.ext (show j.val = 10 by omega)
      subst e10
      exact (h.y 10).2.1 (.inr rfl)

theorem upd_none (q : Fin 2) (p : Fin 10) : upd (fun _ _ => none : Tb F) q p none = fun _ _ => none := by
  funext a b
  unfold upd
  split <;> rfl

theorem MS.pop0 (h : MS m (fun _ _ => none) R G) (q : Fin 2) (p : Fin 10) {A : Nat} (hA : A = 24 * p.val) (hf : Mxu.Fits A 96) :
    MS (m.pop q A 96 hf) (fun _ _ => none) R G := by
  have := h.pop q p hA hf
  rwa [upd_none] at this

theorem mxu0_ms : MS (mxu0 : Mxu F) (fun _ _ => none) (fun _ => none) (fun _ => none) :=
  (((((((((((((((((((MS.init.pop0 0 0 rfl _).pop0 0 1 rfl _).pop0 0 2 rfl _).pop0 0 3 rfl _).pop0 0 4 rfl _).pop0 0 5 rfl _).pop0 0 6 rfl _).pop0 0 7 rfl _).pop0 0 8 rfl _).pop0 0 9 rfl _).pop0 1 0 rfl _).pop0 1 1 rfl _).pop0 1 2 rfl _).pop0 1 3 rfl _).pop0 1 4 rfl _).pop0 1 5 rfl _).pop0 1 6 rfl _).pop0 1 7 rfl _).pop0 1 8 rfl _).pop0 1 9 rfl _

theorem ok_exit (hm : m.Drained) {K : PP F α} (h : Ok D Q s K) : Ok D Q s (m.exit >>= fun _ => K) := by
  unfold Ok at h ⊢
  exact h.trans (Mxu.wp_exit (defs := defs₀ (F := F)) (𝒱 := Variants.none) (c := (c : Thread nD τ)) (bd := none) (E := Set.univ) (Q := Q) hm (k := fun _ => K))

theorem ok_loop2 (h : J2 D 1 m s) {K : Mxu F → PP F α} (hK : ∀ m' (s' : St F c), JE D m' s' → Ok D Q s' (K m')) :
    Ok D Q s (Scf.Loop.for k0_t2_loop k0_t2_ok m (fun t m => body2C (f12 t) m .ret) >>= K) := by
  refine ok_for (fun k m s => (∀ h : k < 11, J2 D ⟨k + 1, by omega⟩ m s) ∧ (k = 11 → JE D m s)) ⟨fun _ => h, fun e => absurd e (by decide)⟩ ?_ ?_
  · intro t m s hI
    have ht : t.val < 11 := trips2 ▸ t.isLt
    refine ok_body2 (f12 t) (Nat.le_add_left _ _) (hI.1 ht) fun m' s' h1 h2 => ?_
    refine ok_ret (s := s') ⟨fun hk => ?_, fun e => h2 (show t.val + 1 = 11 from e)⟩
    have := h1 (show t.val + 1 < 11 from hk)
    rwa [show nxt (f12 t) = ⟨t.val + 1 + 1, by omega⟩ from Fin.ext (by show (t.val + 1 + 1) % 12 = _; exact Nat.mod_eq_of_lt (by omega))] at this
  · intro m s hI
    exact hK m s (hI.2 trips2)

theorem ok_loop1 (h : J1 D 0 m s) {K : Mxu F → PP F α} (hK : ∀ m' (s' : St F c), J1 D 15 m' s' → Ok D Q s' (K m')) :
    Ok D Q s (Scf.Loop.for k0_t1_loop k0_t1_ok m (fun t m => body1C (f15 t) m .ret) >>= K) := by
  refine ok_for (fun k m s => J1 D k m s) h ?_ ?_
  · intro t m s hI
    exact ok_body1 (f15 t) hI fun m' s' h1 => ok_ret (s := s') h1
  · intro m s hI
    exact hK m s (trips1 ▸ hI)

/-- The body runs from rest to rest, and leaves the result. -/
theorem ok_prog (h : J0 s) : Ok D (fun _ : PUnit => iprop(∃ s' : St F c, ⌜JF D s'⌝ ∗ own D s')) s (prog : PP F PUnit) := by
  rw [prog_eqC]
  unfold progC
  refine ok_pre h mxu0_ms fun m s h => ?_
  refine ok_loop1 h fun m s h => ?_
  refine ok_mid h fun m s h => ?_
  refine ok_loop2 h fun m s h => ?_
  obtain ⟨G, hm⟩ := h.ms
  refine ok_post h fun s h => ?_
  exact ok_exit hm.drained (ok_ret (I := fun _ s => JF D s) h)

end Cert.Kernel.V
-- ==== Proof.Own.lean ====
/- The state taken from whole buffers and given back. -/
module

public import proofs.«01_k».proof.Proof.Oks8

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

/-! ## The slots tile their buffers -/

theorem mem_st (k : Fin 6) (j : S6x256x1920.Idx) : j ∈ (wO k 0).dst.view.set ↔ (j 0).val = k.val := by
  have e := wM_dst_set k
  rw [e, Rect.mem_set_unit]
  have h1 : (j 1).val < 256 := (j 1).isLt
  have h2 : (j 2).val < 1920 := (j 2).isLt
  constructor
  · intro h
    have h3 : k.val ≤ (j 0).val ∧ (j 0).val < k.val + 1 := h 0
    omega
  · intro h a
    match a with
    | 0 => exact (by omega : k.val ≤ (j 0).val ∧ (j 0).val < k.val + 1)
    | 1 => exact ⟨Nat.zero_le _, (by omega : (j 1).val < 0 + 256)⟩
    | 2 => exact ⟨Nat.zero_le _, (by omega : (j 2).val < 0 + 1920)⟩

theorem mem_xb (k : Fin 2) (j : S2x256x11776.Idx) : j ∈ (xO k 0).dst.view.set ↔ (j 0).val = k.val := by
  have e := xM_dst_set k
  rw [e, Rect.mem_set_unit]
  have h1 : (j 1).val < 256 := (j 1).isLt
  have h2 : (j 2).val < 11776 := (j 2).isLt
  constructor
  · intro h
    have h3 : k.val ≤ (j 0).val ∧ (j 0).val < k.val + 1 := h 0
    omega
  · intro h a
    match a with
    | 0 => exact (by omega : k.val ≤ (j 0).val ∧ (j 0).val < k.val + 1)
    | 1 => exact ⟨Nat.zero_le _, (by omega : (j 1).val < 0 + 256)⟩
    | 2 => exact ⟨Nat.zero_le _, (by omega : (j 2).val < 0 + 11776)⟩

theorem mem_out (k : Fin 2) (j : S2x256x1920.Idx) : j ∈ (yO k 0).src.view.set ↔ (j 0).val = k.val := by
  have e := yM_src_set k
  rw [e, Rect.mem_set_unit]
  have h1 : (j 1).val < 256 := (j 1).isLt
  have h2 : (j 2).val < 1920 := (j 2).isLt
  constructor
  · intro h
    have h3 : k.val ≤ (j 0).val ∧ (j 0).val < k.val + 1 := h 0
    omega
  · intro h a
    match a with
    | 0 => exact (by omega : k.val ≤ (j 0).val ∧ (j 0).val < k.val + 1)
    | 1 => exact ⟨Nat.zero_le _, (by omega : (j 1).val < 0 + 256)⟩
    | 2 => exact ⟨Nat.zero_le _, (by omega : (j 2).val < 0 + 1920)⟩

theorem y_dst_set (i : Fin 12) : (yO 0 i).dst.view.set = (Rect.unit (s := S3072x1920) (yO 0 i).o4 S256x1920.size (yO 0 i).h4).set :=
  View.set_slice_whole _ _

theorem mem_y (i : Fin 12) (j : S3072x1920.Idx) : j ∈ (yO 0 i).dst.view.set ↔ (j 0).val / 256 = i.val := by
  have e := y_dst_set i
  rw [e, Rect.mem_set_unit]
  have h2 : (j 1).val < 1920 := (j 1).isLt
  constructor
  · intro h
    have h3 : 256 * i.val ≤ (j 0).val ∧ (j 0).val < 256 * i.val + 256 := h 0
    omega
  · intro h a
    match a with
    | 0 => exact (by omega : 256 * i.val ≤ (j 0).val ∧ (j 0).val < 256 * i.val + 256)
    | 1 => exact ⟨Nat.zero_le _, (by omega : (j 1).val < 0 + 1920)⟩

section tile

variable {ℓ : Loc nD τ sig} {n : ℕ} (K : Fin n → Finset (Idx ℓ)) (b : Idx ℓ → Fin n) (hK : ∀ k j, j ∈ K k ↔ b j = k)
include hK

theorem tile_disj : ∀ t ∈ (Finset.univ : Finset (Fin n)), ∀ t' ∈ (Finset.univ : Finset (Fin n)), t ≠ t' → Disjoint (K t) (K t') := by
  intro t _ t' _ h
  refine Finset.disjoint_left.2 fun j h1 h2 => h ?_
  exact ((hK _ _).1 h1).symm.trans ((hK _ _).1 h2)

theorem tile_univ : (Finset.univ : Finset (Fin n)).biUnion K = Finset.univ := by
  ext j
  simp only [Finset.mem_biUnion, Finset.mem_univ, true_and, iff_true]
  exact ⟨b j, (hK _ _).2 rfl⟩

/-- A whole buffer is its tiles, -/
theorem tile_split (f : Buf (Elt F) ℓ) : (ℓ ↦[Finset.univ]{fullShare} f : sProp 𝕄) = bigSep Finset.univ fun k => ℓ ↦[K k]{fullShare} f := by
  rw [← pointsTo_biUnion Finset.univ K (tile_disj K b hK), tile_univ K b hK]

/-- and tiles at contents of their own join. -/
theorem tile_join (fs : Fin n → Buf (Elt F) ℓ) (f₀ : Buf (Elt F) ℓ) :
    bigSep Finset.univ (fun k => ℓ ↦[K k]{fullShare} fs k) ⊢ (iprop(∃ g, ⌜∀ j, g j = fs (b j) j⌝ ∗ ℓ ↦[Finset.univ]{fullShare} g) : sProp 𝕄) := by
  have h := pointsTo_biUnion_join (Val := Elt F) (Ix := Unit) (Name := ℕ) (U := UU nD τ) (Lvl := ℕ) (q := fullShare) Finset.univ K fs f₀ (tile_disj K b hK)
  rw [tile_univ K b hK] at h
  refine h.trans ?_
  iintro ⟨%g, %hg, H⟩
  iexists g
  isplitr
  · ipureintro
    exact fun j => hg (b j) (Finset.mem_univ _) j ((hK _ _).2 rfl)
  iexact H

end tile

/-! ## The parts sorted by kind -/

/-- The parts that come once. -/
def singles (D : Inp F) (s : St F c) : sProp 𝕄 :=
  iprop(pts c wtM Finset.univ fullShare s.wt ∗ hdR c D s.hd ∗ rawR c D s.raw ∗ pts c scM Finset.univ fullShare s.sc ∗ smR c D s.sm ∗ pts c actM Finset.univ fullShare s.act
    ∗ pts c mxM Finset.univ fullShare s.mx ∗ pts c invM Finset.univ fullShare s.inv ∗ oscR c s.osc ∗ ow c)

def stE : Fin 6 ↪ CI := ⟨CI.st, fun _ _ h => by cases h; rfl⟩
def xbE : Fin 2 ↪ CI := ⟨CI.xb, fun _ _ h => by cases h; rfl⟩
def outE : Fin 2 ↪ CI := ⟨CI.out, fun _ _ h => by cases h; rfl⟩
def yE : Fin 12 ↪ CI := ⟨CI.y, fun _ _ h => by cases h; rfl⟩

theorem own_eq (s : St F c) : own D s = iprop(singles D s ∗ bigSep Finset.univ (fun k => stR c D k (s.st k)) ∗ bigSep Finset.univ (fun k => xbR c D k (s.xb k))
    ∗ bigSep Finset.univ (fun k => outR c k (s.out k)) ∗ bigSep Finset.univ (fun i => yR c i (s.y i))) := by
  have hu : (Finset.univ : Finset CI) = ({.wt, .hd, .raw, .sc, .sm, .act, .mx, .inv, .osc, .ow} : Finset CI) ∪ (Finset.univ.map stE ∪ (Finset.univ.map xbE ∪ (Finset.univ.map outE ∪ Finset.univ.map yE))) := by
    decide +kernel
  have hs : bigSep ({.wt, .hd, .raw, .sc, .sm, .act, .mx, .inv, .osc, .ow} : Finset CI) (comp D s) = singles D s := by
    rw [bigSep_eq_bigSepL_of_eq [CI.wt, .hd, .raw, .sc, .sm, .act, .mx, .inv, .osc, .ow] (by decide +kernel) (by decide +kernel)]
    rfl
  unfold own
  rw [hu, bigSep_union (by decide +kernel), bigSep_union (by decide +kernel), bigSep_union (by decide +kernel), bigSep_union (by decide +kernel), hs,
    bigSep_map, bigSep_map, bigSep_map, bigSep_map]
  rfl

/-! ## The counters -/

abbrev osem : Fin 14 → SemLoc sig := fun i => .dma i

/-- The kernel's counters at zero. -/
def sems0 (c : Dev nD) : sProp 𝕄 := bigSepL [0, 1, 2, 3, 4, 5, 6, 7, 8, 9, 10, 11, 12, 13] fun i : Fin 14 => semVal ((c : Thread nD τ), osem i) 0

theorem wsem (k : Fin 6) : (wO k 0).sem = (⟨k.val, by omega⟩ : Fin 14) := by revert k; decide +kernel
theorem xsem (k : Fin 2) : (xO k 0).sem = (⟨7 + k.val, by omega⟩ : Fin 14) := by revert k; decide +kernel
theorem ysem (k : Fin 2) : (yO k 0).sem = (⟨11 + k.val, by omega⟩ : Fin 14) := by revert k; decide +kernel

theorem sems_eq (c : Dev nD) : (sems0 c : sProp 𝕄) = iprop(bigSep Finset.univ (fun k => sv c (wO k 0).sem) ∗ bigSep Finset.univ (fun k => sv c (xO k 0).sem)
    ∗ bigSep Finset.univ (fun k => sv c (yO k 0).sem) ∗ sv c cc0_scratch12.sem ∗ sv c cc0_scratch14.sem ∗ sv c cc0_scratch15.sem ∗ sv c cc0_scratch17.sem) := by
  have e12 : cc0_scratch12.sem = (6 : Fin 14) := by decide +kernel
  have e14 : cc0_scratch14.sem = (9 : Fin 14) := by decide +kernel
  have e15 : cc0_scratch15.sem = (10 : Fin 14) := by decide +kernel
  have e17 : cc0_scratch17.sem = (13 : Fin 14) := by decide +kernel
  rw [e12, e14, e15, e17]
  simp only [wsem, xsem, ysem]
  rw [bigSep_univ_eq_bigSepL [(0 : Fin 6), 1, 2, 3, 4, 5] (by decide) (by decide), bigSep_univ_eq_bigSepL [(0 : Fin 2), 1] (by decide) (by decide),
    bigSep_univ_eq_bigSepL [(0 : Fin 2), 1] (by decide) (by decide)]
  have key : ∀ P : Fin 14 → sProp 𝕄, bigSepL [0, 1, 2, 3, 4, 5, 6, 7, 8, 9, 10, 11, 12, 13] P
      = iprop((P 0 ∗ P 1 ∗ P 2 ∗ P 3 ∗ P 4 ∗ P 5) ∗ (P 7 ∗ P 8) ∗ (P 11 ∗ P 12) ∗ P 6 ∗ P 9 ∗ P 10 ∗ P 13) := by
    intro P
    simp only [bigSepL_cons_cons, bigSepL_singleton]
    show iprop(P 0 ∗ P 1 ∗ P 2 ∗ P 3 ∗ P 4 ∗ P 5 ∗ P 6 ∗ P 7 ∗ P 8 ∗ P 9 ∗ P 10 ∗ P 11 ∗ P 12 ∗ P 13) = iprop((P 0 ∗ P 1 ∗ P 2 ∗ P 3 ∗ P 4 ∗ P 5) ∗ (P 7 ∗ P 8) ∗ (P 11 ∗ P 12) ∗ P 6 ∗ P 9 ∗ P 10 ∗ P 13)
    have h1 : iprop(P 0 ∗ P 1 ∗ P 2 ∗ P 3 ∗ P 4 ∗ P 5 ∗ P 6 ∗ P 7 ∗ P 8 ∗ P 9 ∗ P 10 ∗ P 11 ∗ P 12 ∗ P 13) ⊢ iprop((P 0 ∗ P 1 ∗ P 2 ∗ P 3 ∗ P 4 ∗ P 5) ∗ (P 7 ∗ P 8) ∗ (P 11 ∗ P 12) ∗ P 6 ∗ P 9 ∗ P 10 ∗ P 13) := by
      iintro ⟨H0, H1, H2, H3, H4, H5, H6, H7, H8, H9, H10, H11, H12, H13⟩
      isplitl [H0 H1 H2 H3 H4 H5]
      · isplitl [H0]
        · iexact H0
        isplitl [H1]
        · iexact H1
        isplitl [H2]
        · iexact H2
        isplitl [H3]
        · iexact H3
        isplitl [H4]
        · iexact H4
        iexact H5
      isplitl [H7 H8]
      · isplitl [H7]
        · iexact H7
        iexact H8
      isplitl [H11 H12]
      · isplitl [H11]
        · iexact H11
        iexact H12
      isplitl [H6]
      · iexact H6
      isplitl [H9]
      · iexact H9
      isplitl [H10]
      · iexact H10
      iexact H13
    have h2 : iprop((P 0 ∗ P 1 ∗ P 2 ∗ P 3 ∗ P 4 ∗ P 5) ∗ (P 7 ∗ P 8) ∗ (P 11 ∗ P 12) ∗ P 6 ∗ P 9 ∗ P 10 ∗ P 13) ⊢ iprop(P 0 ∗ P 1 ∗ P 2 ∗ P 3 ∗ P 4 ∗ P 5 ∗ P 6 ∗ P 7 ∗ P 8 ∗ P 9 ∗ P 10 ∗ P 11 ∗ P 12 ∗ P 13) := by
      iintro ⟨⟨H0, H1, H2, H3, H4, H5⟩, ⟨H7, H8⟩, ⟨H11, H12⟩, H6, H9, H10, H13⟩
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      iexact H13
    exact equiv_iff.mp ⟨h1, h2⟩
  exact key fun i => semVal ((c : Thread nD τ), osem i) 0

end Cert.Kernel.V
-- ==== Proof.Own2.lean ====
/- Whole buffers in, whole buffers out. -/
module

public import proofs.«01_k».proof.Proof.Own

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {D : Inp F} {α : Type}
  {Q : α → sProp (MT nD τ sig Unit (Elt F) ℕ (UU nD τ) ℕ)} {s s' : St F c} {m : Mxu F} {T : Tb F} {R G : Rg F}

local notation "𝕄" => MT nD τ sig Unit (Elt F) ℕ (UU nD τ) ℕ

open Idealize.ShloMosaic.Transfers (shareDrop)

/-- The arrays read, -/
def ins (c : Dev nD) (D : Inp F) : sProp 𝕄 :=
  iprop(pts c xM Finset.univ fullShare (D.X : Bf F c xM) ∗ pts c xsM Finset.univ fullShare (D.XS : Bf F c xsM)
    ∗ pts c wM Finset.univ fullShare (D.W : Bf F c wM) ∗ pts c wsM Finset.univ fullShare (D.WS : Bf F c wsM))

/-- the scratch buffers, -/
def scr (c : Dev nD) : sProp 𝕄 :=
  iprop((∃ f : Bf F c wtM, pts c wtM Finset.univ fullShare f) ∗ (∃ f : Bf F c stM, pts c stM Finset.univ fullShare f) ∗ (∃ f : Bf F c xbM, pts c xbM Finset.univ fullShare f)
    ∗ (∃ f : Bf F c rawM, pts c rawM Finset.univ fullShare f) ∗ (∃ f : Bf F c scM, pts c scM Finset.univ fullShare f) ∗ (∃ f : Bf F c actM, pts c actM Finset.univ fullShare f)
    ∗ (∃ f : Bf F c mxM, pts c mxM Finset.univ fullShare f) ∗ (∃ f : Bf F c invM, pts c invM Finset.univ fullShare f) ∗ (∃ f : Bf F c outM, pts c outM Finset.univ fullShare f)
    ∗ (∃ f : Bf F c oscM, pts c oscM Finset.univ fullShare f) ∗ (∃ f : Bf F c smM, pts c smM Finset.univ fullShare f))

/-- and the shares of the arrays read that no transfer takes. -/
def keep (c : Dev nD) (D : Inp F) : sProp 𝕄 :=
  iprop(pts c xM Finset.univ (shareDrop fullShare 6) (D.X : Bf F c xM) ∗ pts c xM Finset.univ (tok 3) (D.X : Bf F c xM) ∗ pts c xM Finset.univ (tok 4) (D.X : Bf F c xM)
    ∗ pts c xM Finset.univ (tok 5) (D.X : Bf F c xM) ∗ pts c wM Finset.univ (shareDrop fullShare 6) (D.W : Bf F c wM))

theorem bs2 {n : ℕ} (A B : Fin n → sProp (MT nD τ sig Unit (Elt F) ℕ (UU nD τ) ℕ)) :
    bigSep Finset.univ (fun k => iprop(A k ∗ B k)) = iprop(bigSep Finset.univ A ∗ bigSep Finset.univ B) := bigSep_sep _ A B

theorem bs3 {n : ℕ} (A B C : Fin n → sProp (MT nD τ sig Unit (Elt F) ℕ (UU nD τ) ℕ)) :
    bigSep Finset.univ (fun k => iprop(A k ∗ B k ∗ C k)) = iprop(bigSep Finset.univ A ∗ bigSep Finset.univ B ∗ bigSep Finset.univ C) :=
  (bigSep_sep _ A _).trans (congrArg (fun x => iprop(bigSep Finset.univ A ∗ x)) (bigSep_sep _ B C))

theorem st_at (fs : Fin 6 → Bf F c stM) : bigSep Finset.univ (fun k => stR c D k (.at (fs k)))
    = iprop(bigSep Finset.univ (fun k => pts c stM (wO k 0).dst.view.set fullShare (fs k)) ∗ bigSep Finset.univ (fun k => pts c wM Finset.univ (tok k) (D.W : Bf F c wM))
      ∗ bigSep Finset.univ (fun k => sv c (wO k 0).sem)) := bs3 _ _ _

theorem xb_at (fs : Fin 2 → Bf F c xbM) : bigSep Finset.univ (fun k => xbR c D k (.at (fs k)))
    = iprop(bigSep Finset.univ (fun k => pts c xbM (xO k 0).dst.view.set fullShare (fs k)) ∗ bigSep Finset.univ (fun k => pts c xM Finset.univ (xtok k) (D.X : Bf F c xM))
      ∗ bigSep Finset.univ (fun k => sv c (xO k 0).sem)) := bs3 _ _ _

theorem out_at (fs : Fin 2 → Bf F c outM) : bigSep Finset.univ (fun k => outR c k (.at (fs k)))
    = iprop(bigSep Finset.univ (fun k => pts c outM (yO k 0).src.view.set fullShare (fs k)) ∗ bigSep Finset.univ (fun k => sv c (yO k 0).sem)) := bs2 _ _

/-- The activations' shares: those kept, the head's, the slots'. -/
theorem x_toks : (pts c xM Finset.univ fullShare (D.X : Bf F c xM) : sProp 𝕄)
    ⊣⊢ iprop(pts c xM Finset.univ (shareDrop fullShare 6) (D.X : Bf F c xM) ∗ bigSep Finset.univ (fun k => pts c xM Finset.univ (xtok k) (D.X : Bf F c xM))
      ∗ pts c xM Finset.univ (tok 2) (D.X : Bf F c xM) ∗ pts c xM Finset.univ (tok 3) (D.X : Bf F c xM) ∗ pts c xM Finset.univ (tok 4) (D.X : Bf F c xM)
      ∗ pts c xM Finset.univ (tok 5) (D.X : Bf F c xM)) := by
  have h := Transfers.pointsTo_toks (Val := Elt F) (Ix := Unit) (Name := ℕ) (U := UU nD τ) (Lvl := ℕ) (ℓ := xM.view.loc (c : Thread nD τ)) (S := Finset.univ) (f := (D.X : Bf F c xM)) fullShare 6
  have key : ∀ P : Fin 6 → sProp 𝕄, bigSep Finset.univ P
      = iprop(bigSep Finset.univ (fun k : Fin 2 => P ⟨k.val, by omega⟩) ∗ P 2 ∗ P 3 ∗ P 4 ∗ P 5) := by
    intro P
    rw [bigSep_univ_eq_bigSepL [(0 : Fin 6), 1, 2, 3, 4, 5] (by decide) (by decide), bigSep_univ_eq_bigSepL [(0 : Fin 2), 1] (by decide) (by decide)]
    simp only [bigSepL_cons_cons, bigSepL_singleton]
    show iprop(P 0 ∗ P 1 ∗ P 2 ∗ P 3 ∗ P 4 ∗ P 5) = iprop((P 0 ∗ P 1) ∗ P 2 ∗ P 3 ∗ P 4 ∗ P 5)
    have h1 : iprop(P 0 ∗ P 1 ∗ P 2 ∗ P 3 ∗ P 4 ∗ P 5) ⊢ iprop((P 0 ∗ P 1) ∗ P 2 ∗ P 3 ∗ P 4 ∗ P 5) := by
      iintro ⟨H0, H1, H2⟩
      isplitl [H0 H1]
      · isplitl [H0]; · iexact H0
        iexact H1
      iexact H2
    have h2 : iprop((P 0 ∗ P 1) ∗ P 2 ∗ P 3 ∗ P 4 ∗ P 5) ⊢ iprop(P 0 ∗ P 1 ∗ P 2 ∗ P 3 ∗ P 4 ∗ P 5) := by
      iintro ⟨⟨H0, H1⟩, H2⟩
      isplitl [H0]; · iexact H0
      isplitl [H1]; · iexact H1
      iexact H2
    exact equiv_iff.mp ⟨h1, h2⟩
  rw [key] at h
  exact h

/-- The weights' shares. -/
theorem w_toks : (pts c wM Finset.univ fullShare (D.W : Bf F c wM) : sProp 𝕄)
    ⊣⊢ iprop(pts c wM Finset.univ (shareDrop fullShare 6) (D.W : Bf F c wM) ∗ bigSep Finset.univ (fun k => pts c wM Finset.univ (tok k) (D.W : Bf F c wM))) :=
  Transfers.pointsTo_toks (Val := Elt F) (Ix := Unit) (Name := ℕ) (U := UU nD τ) (Lvl := ℕ) (ℓ := wM.view.loc (c : Thread nD τ)) (S := Finset.univ) (f := (D.W : Bf F c wM)) fullShare 6

def bSt (j : S6x256x1920.Idx) : Fin 6 := j 0
def bXb (j : S2x256x11776.Idx) : Fin 2 := j 0
def bOut (j : S2x256x1920.Idx) : Fin 2 := j 0
def bY (j : S3072x1920.Idx) : Fin 12 := ⟨(j 0).val / 256, by have : (j 0).val < 3072 := (j 0).isLt; omega⟩

theorem hbSt (k : Fin 6) (j : Idx (stM.view.loc (c : Thread nD τ))) : j ∈ (wO k 0).dst.view.set ↔ bSt j = k := (mem_st k j).trans (Fin.ext_iff (a := bSt j)).symm
theorem hbXb (k : Fin 2) (j : Idx (xbM.view.loc (c : Thread nD τ))) : j ∈ (xO k 0).dst.view.set ↔ bXb j = k := (mem_xb k j).trans (Fin.ext_iff (a := bXb j)).symm
theorem hbOut (k : Fin 2) (j : Idx (outM.view.loc (c : Thread nD τ))) : j ∈ (yO k 0).src.view.set ↔ bOut j = k := (mem_out k j).trans (Fin.ext_iff (a := bOut j)).symm
theorem hbY (k : Fin 12) (j : Idx (yM.view.loc (c : Thread nD τ))) : j ∈ (yO 0 k).dst.view.set ↔ bY j = k := (mem_y k j).trans (Fin.ext_iff (a := bY j)).symm

set_option maxHeartbeats 400000 in
theorem own_in : iprop(ins c D ∗ (∃ f : Bf F c yM, pts c yM Finset.univ fullShare f) ∗ (∃ f : Bf F c ysM, pts c ysM Finset.univ fullShare f) ∗ scr c ∗ sems0 c ∗ ow c)
    ⊢ (iprop((∃ s : St F c, ⌜J0 s⌝ ∗ own D s) ∗ keep c D) : sProp 𝕄) := by
  rw [sems_eq]
  unfold ins scr keep
  iintro ⟨⟨HX, HXS, HW, HWS⟩, ⟨%y, HY⟩, ⟨%ys, HYS⟩, ⟨⟨%f0, H0⟩, ⟨%f1, H1⟩, ⟨%f2, H2⟩, ⟨%f3, H3⟩, ⟨%f4, H4⟩, ⟨%f6, H6⟩, ⟨%f7, H7⟩, ⟨%f8, H8⟩, ⟨%f9, H9⟩, ⟨%f10, H10⟩, ⟨%f5, H5⟩⟩, ⟨S1, S2, S3, S4, S5, S6, S7⟩, HO⟩
  ihave HX := x_toks.1 $$ HX
  icases HX with ⟨HX, HXk, HX2, HX3, HX4, HX5⟩
  ihave HW := w_toks.1 $$ HW
  icases HW with ⟨HW, HWk⟩
  isplitr [HX HX3 HX4 HX5 HW]
  · iexists ({ wt := f0, st := fun _ => .at f1, xb := fun _ => .at f2, hd := true, raw := .at f3, sc := f4, sm := .at f5, act := f6, mx := f7, inv := f8, osc := .at f10 ys, out := fun _ => .at f9, y := fun _ => some y } : St F c)
    isplitr
    · ipureintro
      exact ⟨rfl, ⟨_, rfl⟩, fun _ => ⟨_, rfl⟩, ⟨_, rfl⟩, fun _ => ⟨_, rfl⟩, fun _ => ⟨_, rfl⟩, fun _ => ⟨_, rfl⟩, ⟨_, _, rfl⟩⟩
    rw [own_eq]
    dsimp only
    rw [st_at (fun _ => f1), xb_at (fun _ => f2), out_at (fun _ => f9), ← tile_split (ℓ := stM.view.loc (c : Thread nD τ)) _ bSt hbSt f1, ← tile_split (ℓ := xbM.view.loc (c : Thread nD τ)) _ bXb hbXb f2, ← tile_split (ℓ := outM.view.loc (c : Thread nD τ)) _ bOut hbOut f9]
    rw [show bigSep Finset.univ (fun i : Fin 12 => yR c i (some y)) = pts c yM Finset.univ fullShare y from (tile_split (ℓ := yM.view.loc (c : Thread nD τ)) _ bY hbY y).symm]
    unfold singles hdR rawR smR oscR
    dsimp only
    isplitl [H0 HX2 S4 H3 HXS S5 H4 H5 HWS S6 H6 H7 H8 H10 HYS S7 HO]
    · isplitl [H0]; · iexact H0
      isplitl [HX2 S4]
      · isplitl [HX2]; · iexact HX2
        iexact S4
      isplitl [H3 HXS S5]
      · isplitl [H3]; · iexact H3
        isplitl [HXS]; · iexact HXS
        iexact S5
      isplitl [H4]; · iexact H4
      isplitl [H5 HWS S6]
      · isplitl [H5]; · iexact H5
        isplitl [HWS]; · iexact HWS
        iexact S6
      isplitl [H6]; · iexact H6
      isplitl [H7]; · iexact H7
      isplitl [H8]; · iexact H8
      isplitl [H10 HYS S7]
      · isplitl [H10]; · iexact H10
        isplitl [HYS]; · iexact HYS
        iexact S7
      iexact HO
    isplitl [H1 HWk S1]
    · isplitl [H1]; · iexact H1
      isplitl [HWk]; · iexact HWk
      iexact S1
    isplitl [H2 HXk S2]
    · isplitl [H2]; · iexact H2
      isplitl [HXk]; · iexact HXk
      iexact S2
    isplitl [H9 S3]
    · isplitl [H9]; · iexact H9
      iexact S3
    iexact HY
  isplitl [HX]; · iexact HX
  isplitl [HX3]; · iexact HX3
  isplitl [HX4]; · iexact HX4
  isplitl [HX5]; · iexact HX5
  iexact HW

variable (D) in
/-- What the result holds at the end, -/
def YV (g : Bf F c yM) : Prop := ∀ j : S3072x1920.Idx, g j = outAt D ((j 0).val / 256) ((j 0).val - 256 * ((j 0).val / 256)) (j 1).val

variable (D) in
/-- and its scales. -/
def YSV (g : Bf F c ysM) : Prop := ∃ f : Bf F c oscM, OscOk D 12 f ∧ g = ysT c f

set_option maxHeartbeats 400000 in
theorem own_out (h : JF D s) : iprop(own D s ∗ keep c D)
    ⊢ (iprop(ins c D ∗ (∃ f : Bf F c yM, ⌜YV D f⌝ ∗ pts c yM Finset.univ fullShare f) ∗ (∃ f : Bf F c ysM, ⌜YSV D f⌝ ∗ pts c ysM Finset.univ fullShare f) ∗ scr c ∗ sems0 c ∗ ow c) : sProp 𝕄) := by
  obtain ⟨hhd, ⟨f5, h5⟩, hx, ⟨f3, h3⟩, hst, hout, hy, ⟨f10, h10, ho⟩⟩ := h
  choose xs hxs using hx
  choose ss hss using hst
  choose os hos using hout
  choose gs hgs hgv using hy
  rw [sems_eq, own_eq]
  unfold ins scr keep singles
  rw [hhd, h3, h5, h10, show s.st = fun k => .at (ss k) from funext hss, show s.xb = fun k => .at (xs k) from funext hxs,
    show s.out = fun k => .at (os k) from funext hos, show s.y = fun i => some (gs i) from funext hgs, st_at ss, xb_at xs, out_at os]
  rw [show bigSep Finset.univ (fun i : Fin 12 => yR c i (some (gs i))) = bigSep Finset.univ (fun i : Fin 12 => pts c yM (yO 0 i).dst.view.set fullShare (gs i)) from rfl]
  unfold hdR rawR smR oscR
  dsimp only
  iintro ⟨⟨⟨H0, Hhd, Hraw, H4, Hsm, H6, H7, H8, Hosc, HO⟩, ⟨H1, HWk, S1⟩, ⟨H2, HXk, S2⟩, ⟨H9, S3⟩, HY⟩, ⟨HX, HX3, HX4, HX5, HW⟩⟩
  icases Hhd with ⟨HX2, S4⟩
  icases Hraw with ⟨H3, HXS, S5⟩
  icases Hsm with ⟨H5, HWS, S6⟩
  icases Hosc with ⟨H10, HYS, S7⟩
  ihave H1 := (tile_join (ℓ := stM.view.loc (c : Thread nD τ)) _ bSt hbSt ss (ss 0)) $$ H1
  icases H1 with ⟨%g1, -, H1⟩
  ihave H2 := (tile_join (ℓ := xbM.view.loc (c : Thread nD τ)) _ bXb hbXb xs (xs 0)) $$ H2
  icases H2 with ⟨%g2, -, H2⟩
  ihave H9 := (tile_join (ℓ := outM.view.loc (c : Thread nD τ)) _ bOut hbOut os (os 0)) $$ H9
  icases H9 with ⟨%g9, -, H9⟩
  ihave HY := (tile_join (ℓ := yM.view.loc (c : Thread nD τ)) _ bY hbY gs (gs 0)) $$ HY
  icases HY with ⟨%gy, %hgy, HY⟩
  isplitl [HX HXk HX2 HX3 HX4 HX5 HW HWk HXS HWS]
  · isplitl [HX HXk HX2 HX3 HX4 HX5]
    · iapply x_toks.2
      isplitl [HX]; · iexact HX
      isplitl [HXk]; · iexact HXk
      isplitl [HX2]; · iexact HX2
      isplitl [HX3]; · iexact HX3
      isplitl [HX4]; · iexact HX4
      iexact HX5
    isplitl [HXS]; · iexact HXS
    isplitl [HW HWk]
    · iapply w_toks.2
      isplitl [HW]; · iexact HW
      iexact HWk
    iexact HWS
  isplitl [HY]
  · iexists gy
    isplitr
    · ipureintro
      intro j
      exact (hgy j).trans (hgv (bY j) j rfl)
    iexact HY
  isplitl [HYS]
  · iexists (ysT c f10)
    isplitr
    · ipureintro
      exact ⟨f10, ho, rfl⟩
    iexact HYS
  isplitl [H0 H1 H2 H3 H4 H5 H6 H7 H8 H9 H10]
  · isplitl [H0]; · iexists _; iexact H0
    isplitl [H1]; · iexists _; iexact H1
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    iexists _; iexact H5
  isplitr [HO]
  · isplitl [S1]; · iexact S1
    isplitl [S2]; · iexact S2
    isplitl [S3]; · iexact S3
    isplitl [S4]; · iexact S4
    isplitl [S5]; · iexact S5
    isplitl [S6]; · iexact S6
    iexact S7
  iexact HO

/-- The body over whole buffers: the arrays read come back as they were, the result holds what it should. -/
theorem body_run : iprop(ins c D ∗ (∃ f : Bf F c yM, pts c yM Finset.univ fullShare f) ∗ (∃ f : Bf F c ysM, pts c ysM Finset.univ fullShare f) ∗ scr c ∗ sems0 c ∗ ow c)
    ⊢ WP c (prog : PP F PUnit) (fun _ => iprop(ins c D ∗ (∃ f : Bf F c yM, ⌜YV D f⌝ ∗ pts c yM Finset.univ fullShare f) ∗ (∃ f : Bf F c ysM, ⌜YSV D f⌝ ∗ pts c ysM Finset.univ fullShare f) ∗ scr c ∗ sems0 c ∗ ow c)) := by
  refine own_in.trans ?_
  iintro ⟨⟨%s, %hs, H⟩, HK⟩
  have hp := ok_prog (D := D) hs
  unfold Ok at hp
  ihave H := hp $$ H
  iapply (wp_wand_r frame (wpE (defs₀ (F := F)) Variants.none (c : Thread nD τ) none) Set.univ)
  isplitl [H]; · iexact H
  iintro %a ⟨%s', %hs', H⟩
  iapply (own_out hs')
  isplitl [H]; · iexact H
  iexact HK

end Cert.Kernel.V
-- ==== Proof.Run.lean ====
/- The run of the whole program: what it leaves in every result, and every counter at zero. -/
module

public import proofs.«01_k».proof.Proof.Own2
public import proofs.«01_k».proof.Proof.Gen.Kernel.Frame
public import Idealize.ShloMosaic.Lib.Pipeline.Regions

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

/-- The codes the kernel leaves, -/
def yFin (D : Inp F) : S3072x1920.Idx → F .fp8e4m3 := fun j =>
  outAt D ((j 0).val / 256) ((j 0).val - 256 * ((j 0).val / 256)) (j 1).val
/-- and the scales. -/
def ysFin (D : Inp F) : S2x1536.Idx → F .f32 := fun j =>
  scaleOf (mxT D (6 * (j 0).val + (j 1).val / 256)) (i2 0 ((j 1).val % 256))

theorem yFin_of {c : Dev nD} {D : Inp F} {g : Bf F c yM} (h : YV D g) : g = (yFin D : Bf F c yM) := funext h

theorem ysFin_of {c : Dev nD} {D : Inp F} {g : Bf F c ysM} (h : YSV D g) : g = (ysFin D : Bf F c ysM) := by
  obtain ⟨f, hf, rfl⟩ := h
  funext j
  have h0 : (j 0).val < 2 := (j 0).isLt
  have h1 : (j 1).val < 1536 := (j 1).isLt
  exact hf j (by omega)

variable (m : (ℓ : Loc nD τ sig) → Buf (Elt F) ℓ) (ρ : Dev nD → PrngReg)

/-- The launch state. -/
abbrev s₀ : MemSt nD τ sig (Elt F) := ⟨m, fun _ => 0, ρ⟩

/-- Core `c`'s buffers at launch, when the region is entered, -/
abbrev V₀ (c : Dev nD) : Valuation τ sig (Elt F) := fun b => (s₀ m ρ).mem ((c : Dev nD), b)
abbrev VA (c : Dev nD) : Valuation τ sig (Elt F) := StableHlo.after hostOps0 (V₀ m ρ c)
abbrev VR (c : Dev nD) (b : Ref sig .tc) : Buf (Elt F) ((c : Thread nD τ).loc b) := VA m ρ c b
/-- what the kernel reads, -/
def inp (c : Dev nD) : Inp F := ⟨VR m ρ c main_v0, VR m ρ c main_v1, VR m ρ c main_arg2, VR m ρ c main_v2⟩
/-- when the region is left, and at the end. -/
def VB (c : Dev nD) : Valuation τ sig (Elt F) :=
  Function.update (Function.update (VA m ρ c) (Proc.devRef .tc main_v3_0) (yFin (inp m ρ c))) (Proc.devRef .tc main_v3_1) (ysFin (inp m ρ c))
abbrev VE (c : Dev nD) : Valuation τ sig (Elt F) := StableHlo.after hostOps1 (VB m ρ c)

theorem VB_v3_1 (c : Dev nD) : VB m ρ c (Proc.devRef .tc main_v3_1) = ysFin (inp m ρ c) := by
  unfold VB; exact Function.update_self ..
theorem VB_v3_0 (c : Dev nD) : VB m ρ c (Proc.devRef .tc main_v3_0) = yFin (inp m ρ c) := by
  unfold VB
  rw [Function.update_of_ne (StableHlo.devRef_ne_of_ne (by decide))]; exact Function.update_self ..
theorem VB_ne (c : Dev nD) (b : Ref sig .tc) (h : b ≠ main_v3_0 ∧ b ≠ main_v3_1) :
    VB m ρ c (Proc.devRef .tc b) = VA m ρ c (Proc.devRef .tc b) := by
  unfold VB
  rw [Function.update_of_ne (StableHlo.devRef_ne_of_ne h.2), Function.update_of_ne (StableHlo.devRef_ne_of_ne h.1)]

theorem nw0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

theorem nw1 (b : Ref sig .tc) (hb : b ≠ main_v4) : ∀ op ∈ (hostOps1 (F := F)), Proc.devRef .tc b ∉ op.writes := by
  intro op hop
  simp only [List.mem_cons, List.mem_nil_iff, or_false] at hop
  subst hop
  simp only [StableHlo.reshape_writes, Finset.mem_singleton]
  exact StableHlo.devRef_ne_of_ne hb

theorem VE_ne (c : Dev nD) (b : Ref sig .tc) (h : b ≠ main_v4) : VE m ρ c (Proc.devRef .tc b) = VB m ρ c (Proc.devRef .tc b) :=
  StableHlo.after_of_forall_not_mem (b := Proc.devRef .tc b) hostOps1 (VB m ρ c) (nw1 b h)
theorem VA_ne (c : Dev nD) (b : Ref sig .tc) (h : b ≠ main_v0 ∧ b ≠ main_v1 ∧ b ≠ main_v2) :
    VA m ρ c (Proc.devRef .tc b) = m ((c : Thread nD τ).loc b) :=
  StableHlo.after_of_forall_not_mem (b := Proc.devRef .tc b) hostOps0 (V₀ m ρ c) (nw0 b h)

/-- The final codes, in the shape of the result. -/
def yOut (D : Inp F) : S2x1536x1920.Idx → F .fp8e4m3 := fun i => yFin D (i2 (1536 * (i 0).val + (i 1).val) (i 2).val)

/-- An argument ends as launched. -/
theorem VE_arg (c : Dev nD) (b : Ref sig .tc) (h : b ≠ main_v0 ∧ b ≠ main_v1 ∧ b ≠ main_v2) (h' : b ≠ main_v3_0 ∧ b ≠ main_v3_1) (h4 : b ≠ main_v4) :
    VE m ρ c (Proc.devRef .tc b) = m ((c : Thread nD τ).loc b) := by
  rw [VE_ne m ρ c b h4, VB_ne m ρ c b h', VA_ne m ρ c b h]

/-! ## The unscoped buffers -/

def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers held at a valuation, one by one. -/
theorem held_eq (c : Dev nD) (W : Valuation τ sig (Elt F)) : (StableHlo.held (c : Thread nD τ) ucRefs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_arg3 ↦{fullShare} W (Proc.devRef .tc main_arg3))
      ∗ ((c : Thread nD τ).loc main_v0 ↦{fullShare} W (Proc.devRef .tc main_v0)) ∗ ((c : Thread nD τ).loc main_v1 ↦{fullShare} W (Proc.devRef .tc main_v1))
      ∗ ((c : Thread nD τ).loc main_v2 ↦{fullShare} W (Proc.devRef .tc main_v2)) ∗ ((c : Thread nD τ).loc main_v3_0 ↦{fullShare} W (Proc.devRef .tc main_v3_0))
      ∗ ((c : Thread nD τ).loc main_v3_1 ↦{fullShare} W (Proc.devRef .tc main_v3_1)) ∗ ((c : Thread nD τ).loc main_v4 ↦{fullShare} W (Proc.devRef .tc main_v4))) := by
  rw [← unscopedBufs_held]; unfold unscopedBufs
  rw [bigSep_eq_bigSepL_of_eq [main_arg0, main_arg1, main_arg2, main_arg3, main_v0, main_v1, main_v2, main_v3_0, main_v3_1, main_v4] (by decide) (by decide)]
  rfl

end Cert.Kernel.V
-- ==== Proof.Bridge.lean ====
module

public import proofs.«01_k».proof.Proof.Prog
public import Idealize.ShloMosaic.Lib.Tactic

@[expose] public section

set_option synthInstance.maxSize 4096
set_option maxRecDepth 100000

noncomputable section

namespace Cert.Kernel.V

open Idealize.ShloMosaic Idealize.SL.Sem Cert.Kernel.Gen
open Cert.Kernel

variable {F : FTy → Type} [FloatOps F]

/-- The printed trip over a tile is `body3`. -/
theorem body3_eq (k0_t2 : Fin k0_t2_loop.trips) (a : Mxu F) (b c d : BitVec 32) (e f g) (k0_t3 : Fin k0_t3_loop.trips) (m : Mxu F) :
    k0_t3_body xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 k0_t2 a (Scf.iv 1#32 1#32 k0_t2) (Scalar.remsi (Scf.iv 1#32 1#32 k0_t2) 2#32) d e f g k0_t3 m = body3 k0_t2 k0_t3 m .ret := by
  sl_kernel_rfl

/-- The printed trip of the prepared passes is `body1`. -/
theorem body1_eq (a : Mxu F) (b c d e) (k0_t1 : Fin k0_t1_loop.trips) (m : Mxu F) :
    k0_t1_body xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 a b c d e k0_t1 m = body1 k0_t1 m .ret := by
  unfold k0_t1_body
  rw [k0_part46_eq_skeleton]; unfold k0_part46_skel
  rw [k0_part2_eq_skeleton]; unfold k0_part2_skel
  unfold body1 iff
  by_cases h : k0_cond1 k0_t1 = 1#1
  · simp only [dif_pos h]; sl_kernel_rfl
  · simp only [dif_neg h]; sl_kernel_rfl

/-- The printed tile is `body2`. -/
theorem body2_eq (a b c) (k0_t2 : Fin k0_t2_loop.trips) (m : Mxu F) :
    k0_t2_body xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 a b c k0_t2 m = body2 k0_t2 m .ret := by
  unfold k0_t2_body
  rw [k0_part111_eq_skeleton]; unfold k0_part111_skel
  rw [k0_part113_eq_skeleton]; unfold k0_part113_skel
  unfold body2 iff iffm
  have assoc : ∀ {α β γ : Type} (x : PP F α) (f : α → PP F β) (g : β → PP F γ), (x >>= f) >>= g = x >>= fun a => f a >>= g :=
    fun x f g => Prog.bind_assoc x f g
  by_cases h2 : k0_cond2 k0_t2 = 1#1 <;> by_cases h3 : k0_cond3 k0_t2 = 1#1 <;> by_cases h4 : k0_cond4 k0_t2 = 1#1 <;>
    by_cases h5 : k0_cond5 k0_t2 = 1#1 <;> by_cases h6 : k0_cond6 k0_t2 = 1#1 <;>
    (simp only [dif_pos, dif_neg, h2, h3, h4, h5, h6, assoc, not_false_eq_true]; sl_kernel_rfl)

/-- The printed kernel, on its buffers, is `prog`. -/
theorem prog_eq :
    cc0_sqrelu_fp8_linear xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 = (prog : PP F PUnit) := by
  rw [cc0_sqrelu_fp8_linear_eq_skeleton]; unfold cc0_sqrelu_fp8_linear_skel
  rw [k0_part147_eq_skeleton]; unfold k0_part147_skel
  rw [k0_part126_eq_skeleton]; unfold k0_part126_skel
  rw [k0_part137_eq_skeleton]; unfold k0_part137_skel
  have assoc : ∀ {α β γ : Type} (x : PP F α) (f : α → PP F β) (g : β → PP F γ), (x >>= f) >>= g = x >>= fun a => f a >>= g :=
    fun x f g => Prog.bind_assoc x f g
  have e1 : ∀ (a : Mxu F) (b c d e), k0_t1_body xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 a b c d e = fun t m => body1 t m .ret :=
    fun a b c d e => funext fun t => funext fun m => body1_eq a b c d e t m
  have e2 : ∀ (a : FVec F S8x256 .f32) (b c), k0_t2_body xM (Memref.isWhole_whole _) xsM (Memref.isWhole_whole _) wM (Memref.isWhole_whole _) wsM (Memref.isWhole_whole _) yM (Memref.isWhole_whole _) ysM (Memref.isWhole_whole _) wtM (Memref.isWhole_whole _) stM (Memref.isWhole_whole _) xbM (Memref.isWhole_whole _) rawM (Memref.isWhole_whole _) scM (Memref.isWhole_whole _) smM (Memref.isWhole_whole _) actM (Memref.isWhole_whole _) mxM (Memref.isWhole_whole _) invM (Memref.isWhole_whole _) outM (Memref.isWhole_whole _) oscM (Memref.isWhole_whole _) cc0_scratch11 cc0_scratch12 cc0_scratch13 cc0_scratch14 cc0_scratch15 cc0_scratch16 cc0_scratch17 a b c = fun t m => body2 t m .ret :=
    fun a b c => funext fun t => funext fun m => body2_eq a b c t m
  simp only [e1, e2, assoc]
  sl_kernel_rfl

end Cert.Kernel.V
-- ==== Proof.Run2.lean ====
/- The run of the whole program. -/
module

public import proofs.«01_k».proof.Proof.Run
public import proofs.«01_k».proof.Proof.Bridge

@[expose] public section

set_option synthInstance.maxSize 4096
set_option maxRecDepth 8192

noncomputable section

namespace Cert.Kernel.V

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- What the body starts from, -/
def Φi (c : Dev nD) : sProp 𝕄 :=
  iprop(ins c (inp m ρ c) ∗ (∃ f : Bf F c yM, pts c yM Finset.univ fullShare f) ∗ (∃ f : Bf F c ysM, pts c ysM Finset.univ fullShare f) ∗ scr c ∗ sems0 c)
/-- and what it leaves. -/
def Φo (c : Dev nD) : sProp 𝕄 :=
  iprop(ins c (inp m ρ c) ∗ pts c yM Finset.univ fullShare (yFin (inp m ρ c) : Bf F c yM) ∗ pts c ysM Finset.univ fullShare (ysFin (inp m ρ c) : Bf F c ysM) ∗ scr c ∗ sems0 c)

theorem body_run' (c : Dev nD) : iprop(Φi m ρ c ∗ ow c) ⊢ WP c (prog : PP F PUnit) (fun _ => iprop(Φo m ρ c ∗ ow c)) := by
  unfold Φi Φo
  iintro ⟨⟨H1, H2, H3, H4, H5⟩, H6⟩
  ihave H := (body_run (c := c) (D := inp m ρ c)) $$ [H1 H2 H3 H4 H5 H6]
  · isplitl [H1]; · iexact H1
    isplitl [H2]; · iexact H2
    isplitl [H3]; · iexact H3
    isplitl [H4]; · iexact H4
    isplitl [H5]; · iexact H5
    iexact H6
  iapply (wp_wand_r frame (wpE (defs₀ (F := F)) Variants.none (c : Thread nD τ) none) Set.univ)
  isplitl [H]; · iexact H
  iintro %_
  iintro ⟨H1, ⟨%f, %hf, H2⟩, ⟨%g, %hg, H3⟩, H4, H5, H6⟩
  rw [yFin_of hf, ysFin_of hg]
  isplitr [H6]
  · isplitl [H1]; · iexact H1
    isplitl [H2]; · iexact H2
    isplitl [H3]; · iexact H3
    isplitl [H4]; · iexact H4
    iexact H5
  iexact H6

/-- The proof data: no window; the invariant before and after the one point. -/
def dats (_ : Fin 1) (c : Dev nD) : Dat τ (Elt F) Unit ℕ (UU nD τ) ℕ cfg0 c where
  A w := w.elim0
  after w _ := w.elim0
  Φ t := if t.val = 0 then Φi m ρ c else Φo m ρ c
  q _ := fullShare
  owed _ := 0

abbrev 𝒱₀ : Variants := Variants.none

theorem bigSepW (P : Fin cfg0.W → sProp (MT nD τ sig Unit (Elt F) ℕ (UU nD τ) ℕ)) : bigSep Finset.univ P = (BI.emp : sProp 𝕄) := by
  rw [show (Finset.univ : Finset (Fin cfg0.W)) = ∅ from rfl, BI.bigSep_empty]

theorem body_obligation (c : Dev nD) : BodyObligation (dats m ρ 0 c) (defs₀ (F := F)) 𝒱₀ () Set.univ := fun t => by
  obtain rfl := fin_N0 t
  rw [bigSepW, bigSepW]
  rw [show (dats m ρ 0 c).Φ t0_0.castSucc = Φi m ρ c from rfl, show (dats m ρ 0 c).Φ t0_0.succ = Φo m ρ c from rfl]
  unfold Dat.owesAt Pipeline.owesWithin
  rw [show (dats m ρ 0 c).owed t0_0.castSucc = 0 from rfl, show (dats m ρ 0 c).owed t0_0.succ = 0 from rfl]
  rw [show defs₀ (F := F) .tc cfg0.body (cfg0.bodyArgs t0_0 (cfg0.slots t0_0)) = (prog : PP F PUnit) from prog_eq]
  iintro ⟨HΦ, ⟨%W, %hW, HO⟩, -⟩
  ihave H := (body_run' m ρ c) $$ [HΦ HO]
  · isplitl [HΦ]; · iexact HΦ
    iexists W; iexact HO
  iapply (wp_wand_r frame (wpE (defs₀ (F := F)) Variants.none (c : Thread nD τ) none) Set.univ)
  isplitl [H]; · iexact H
  iintro %_
  iintro ⟨H, ⟨%W', HO⟩⟩
  isplitl [H]; · iexact H
  isplitl [HO]
  · iexists W'; isplitr; · ipureintro; exact fun _ _ => Or.inl trivial
    iexact HO
  iempintro

theorem ownSemFacts : Pipeline.OwnSemFacts (cfg0.spec) osem := by decide

/-- The launch element: the pipeline library's; no counter yet. -/
def u₀ : UU nD τ := (initOf (Pipeline.cells cfgs cellOf_inj) (Pipeline.launchToks cfgs cellOf_inj), 1)

omit [FloatOps F] in
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13] (by decide) (by decide)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The host operations before the region, -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R
/-- and after it. -/
def seg1 : Pipeline.HostSeg (Name := ℕ) (U := UU nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro _ h; (repeat (cases h with | head => rfl | tail _ h => ?_)); exact nomatch h) (VB m ρ) R

/-- The buffers the region does not touch. -/
def byp (c : Dev nD) : sProp 𝕄 :=
  iprop(((c : Thread nD τ).loc main_arg0 ↦{fullShare} VR m ρ c main_arg0) ∗ ((c : Thread nD τ).loc main_arg1 ↦{fullShare} VR m ρ c main_arg1)
    ∗ ((c : Thread nD τ).loc main_arg3 ↦{fullShare} VR m ρ c main_arg3) ∗ ((c : Thread nD τ).loc main_v4 ↦{fullShare} VR m ρ c main_v4))

theorem enter (c : Dev nD) : StableHlo.held (c : Thread nD τ) ucRefs (VA m ρ c)
    ⊢ iprop((ins c (inp m ρ c) ∗ (∃ f : Bf F c yM, pts c yM Finset.univ fullShare f) ∗ (∃ f : Bf F c ysM, pts c ysM Finset.univ fullShare f)) ∗ byp m ρ c) := by
  rw [held_eq]; unfold byp ins inp
  iintro ⟨H0, H1, H2, H3, H4, H5, H6, H7, H8, H9⟩
  isplitr [H0 H1 H3 H9]
  · isplitl [H4 H5 H2 H6]
    · isplitl [H4]; · iexact H4
      isplitl [H5]; · iexact H5
      isplitl [H2]; · iexact H2
      iexact H6
    isplitl [H7]; · iexists _; iexact H7
    iexists _; iexact H8
  isplitl [H0]; · iexact H0
  isplitl [H1]; · iexact H1
  isplitl [H3]; · iexact H3
  iexact H9

theorem leave (c : Dev nD) : iprop((ins c (inp m ρ c) ∗ pts c yM Finset.univ fullShare (yFin (inp m ρ c) : Bf F c yM) ∗ pts c ysM Finset.univ fullShare (ysFin (inp m ρ c) : Bf F c ysM)) ∗ byp m ρ c)
    ⊢ StableHlo.held (c : Thread nD τ) ucRefs (VB m ρ c) := by
  rw [held_eq, VB_v3_0, VB_v3_1, VB_ne m ρ c main_arg0 (by decide), VB_ne m ρ c main_arg1 (by decide), VB_ne m ρ c main_arg2 (by decide), VB_ne m ρ c main_arg3 (by decide),
    VB_ne m ρ c main_v0 (by decide), VB_ne m ρ c main_v1 (by decide), VB_ne m ρ c main_v2 (by decide), VB_ne m ρ c main_v4 (by decide)]
  unfold byp ins
  iintro ⟨⟨⟨H4, H5, H2, H6⟩, H7, H8⟩, H0, H1, H3, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem scr_eq (c : Dev nD) : (Pipeline.scopedRest (Ix := Unit) (Name := ℕ) (U := UU nD τ) (Lvl := ℕ) (Val := Elt F) (cfg0.spec) c : sProp 𝕄) = scr c :=
  scopedRest0_eq c

set_option backward.isDefEq.respectTransparency.types false in
/-- The region: everything it touches goes into the invariant, the rest goes round it. -/
def reg0 : Pipeline.RegionSeg (pcfgs (F := F)) adm (dats m ρ) () defs₀ 𝒱₀ L lv 0 where
  win := launch0.win.to₀
  block_pos := launch0.block_pos
  stage_whole := launch0.stage_whole
  K := Fin 14
  osem := osem
  ho := ownSemFacts
  hbody c := (body_obligation m ρ c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(StableHlo.held (c : Thread nD τ) ucRefs (VB m ρ c) ∗ R c)
  X c := iprop((ins c (inp m ρ c) ∗ (∃ f : Bf F c yM, pts c yM Finset.univ fullShare f) ∗ (∃ f : Bf F c ysM, pts c ysM Finset.univ fullShare f)) ∗ sems0 c)
  Y c := iprop(ins c (inp m ρ c) ∗ pts c yM Finset.univ fullShare (yFin (inp m ρ c) : Bf F c yM) ∗ pts c ysM Finset.univ fullShare (ysFin (inp m ρ c) : Bf F c ysM))
  Z c := byp m ρ c
  hentry c := by
    rw [ownSems0_eq]
    iintro ⟨⟨Hub, HO⟩, Hos, -⟩
    ihave H := (enter m ρ c) $$ Hub
    icases H with ⟨HX, HZ⟩
    imodintro
    isplitr; · unfold Pipeline.Dat.arrays; rw [bigSepW]; iempintro
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX Hos]
    · isplitl [HX]; · iexact HX
      iexact Hos
    iexact HZ
  hin c := by
    rw [show (dats m ρ 0 c).Φ 0 = Φi m ρ c from rfl]; unfold Φi
    iintro ⟨⟨⟨H1, H2, H3⟩, Hos⟩, -, Hr⟩
    isplitl [H1]; · iexact H1
    isplitl [H2]; · iexact H2
    isplitl [H3]; · iexact H3
    isplitl [Hr]; · iapply (Entails.of_eq (scr_eq c)) $$ Hr
    iexact Hos
  hout c := by
    rw [ownSems0_eq, show (dats m ρ 0 c).Φ (Fin.last cfg0.N) = Φo m ρ c from rfl]; unfold Φo
    iintro ⟨H1, H2, H3, H4, H5⟩
    isplitl [H1 H2 H3]
    · isplitl [H1]; · iexact H1
      isplitl [H2] <;> iassumption
    isplitl [H5]; · iexact H5
    iapply (Entails.of_eq (scr_eq c).symm) $$ H4
  hexit c := by
    iintro ⟨-, HO, HY, HZ⟩
    imodintro
    isplitr [HO]
    · iapply (leave m ρ c)
      isplitl [HY] <;> iassumption
    · unfold Pipeline.Dat.owesAt Pipeline.owesWithin
      icases HO with ⟨%W, -, HO⟩; iexists W; iexact HO

abbrev segs : List (Pipeline.Seg (pcfgs (F := F)) adm (dats m ρ) () defs₀ 𝒱₀ L lv) := [.host (seg0 m ρ), .region (reg0 m ρ), .host (seg1 m ρ)]

/-- What the run leaves on core `c`. -/
def QC (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v4) = VE m ρ c (Proc.devRef .tc main_v4) ∧ s.mem ((c : Thread nD τ).loc main_v3_1) = ysFin (inp m ρ c)

set_option backward.isDefEq.respectTransparency.types false in
/-- From any memory with zero counters, every weakly fair run ends, with the arguments as launched, the results at
    what the kernel computes, and every counter at zero. -/
theorem run_main : θ_run defs (onTc (τ := τ) (main (F := F))) (s₀ m ρ) (fun r => (∀ c, QC m ρ c r.2) ∧ r.2.sem = fun _ => 0) :=
  Pipeline.θ_run_regions_kit_sems (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c))
    (Tₙ := fun c => iprop(StableHlo.held (c : Thread nD τ) ucRefs (VE m ρ c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => QC m ρ c s)
    (hfin := fun c s' => by
      rw [held_eq, VE_ne m ρ c main_v3_1 (by decide), VB_v3_1, VE_arg m ρ c main_arg0 (by decide) (by decide) (by decide), VE_arg m ρ c main_arg1 (by decide) (by decide) (by decide),
        VE_arg m ρ c main_arg2 (by decide) (by decide) (by decide), VE_arg m ρ c main_arg3 (by decide) (by decide) (by decide)]
      iintro ⟨⟨H0, H1, H2, H3, -, -, -, -, H8, H9⟩, HSI⟩
      icombine HSI H0 gives %h0
      icombine HSI H1 gives %h1
      icombine HSI H2 gives %h2
      icombine HSI H3 gives %h3
      icombine HSI H8 gives %h8
      icombine HSI H9 gives %h9
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h9, Buf.eq_of_forall_mem_univ h8⟩
      iexact HSI)
    (hQ := fun _ h hz => ⟨h, funext fun g => hz g (.inr (by revert g; decide))⟩)

end Cert.Kernel.V
-- ==== Proof.Frames.lean ====
/- The frames of the kernel at each reading, from the one run proved for any float values. -/
module

public import proofs.«01_k».proof.Defs
public import proofs.«01_k».proof.Proof.Run2
public import proofs.«01_k».proof.Proof.Gen.KernelIdeal
public import Idealize.ShloMosaic.Lib.Tactic

@[expose] public section

noncomputable section

namespace Cert.Kernel.V

open Cert.Kernel.Gen
open Idealize.ShloMosaic
open Idealize.ShloMosaic.TcCoe
open Idealize.SL Idealize.SL.Sem

/-- The run with the arguments unchanged and the counters at zero, for any float values. -/
def Quiet (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem quiet (F : FTy → Type) [FloatOps F] : Quiet F := fun m g _ =>
  (θ_run _ _ _).mono (fun r h => ⟨fun c => ⟨(h.1 c).1, (h.1 c).2.1, (h.1 c).2.2.1, (h.1 c).2.2.2.1⟩, h.2⟩) (run_main m g)

theorem quiet_P : Cert.quiescent_Kernel (hKernel := Cert.Kernel.Gen.facts) := quiet Bits

theorem quiet_eq : Cert.quiescent_KernelIdeal (hKernelIdeal := Cert.KernelIdeal.Gen.facts) = Quiet Ideal := by
  sl_kernel_rfl

theorem quiet_PI : Cert.quiescent_KernelIdeal (hKernelIdeal := Cert.KernelIdeal.Gen.facts) := quiet_eq.mpr (quiet Ideal)

end Cert.Kernel.V

end
-- ==== Proof.Expo.lean ====
/- Powers of two as float words, and the search for the largest one under a value. -/
module

public import proofs.«01_k».proof.Proof.Steps
public import Idealize.ShloMosaic.PureOps.Ideal.Laws

@[expose] public section

set_option maxRecDepth 8192

noncomputable section

namespace Cert.Kernel.V

open Idealize.ShloMosaic

/-! ## Words with a zero fraction -/

theorem fields : ∀ n : Fin 256, (BitVec.ofNat 32 n <<< (23 : ℕ)).extractLsb' 31 1 = 0#1
    ∧ ((BitVec.ofNat 32 n <<< (23 : ℕ)).extractLsb' 23 8).toNat = n
    ∧ ((BitVec.ofNat 32 n <<< (23 : ℕ)).extractLsb' 0 23).toNat = 0 := by decide +kernel

/-- The value of the word whose exponent field is `n`. -/
def pw (n : ℕ) : EReal := Ideal.ofBits .f32 (BitVec.ofNat 32 n <<< (23 : ℕ))

theorem ofBits_eq (b : BitVec 32) : Ideal.ofBits .f32 b = Ideal.ieee 8 23 b := rfl

theorem scaled (z : ℤ) : (8388608 : ℝ) * (2 : ℝ) ^ (z - 23) = (2 : ℝ) ^ z := by
  have h := zpow_add₀ (two_ne_zero : (2 : ℝ) ≠ 0) (23 : ℤ) (z - 23)
  have e : (23 : ℤ) + (z - 23) = z := by ring
  rw [e] at h
  rw [h]
  norm_num

theorem pw_mid {n : ℕ} (h1 : 1 ≤ n) (h2 : n ≤ 254) : pw n = (((2 : ℝ) ^ ((n : ℤ) - 127) : ℝ) : EReal) := by
  obtain ⟨a, b, d⟩ := fields ⟨n, by omega⟩
  simp only at a b d
  rw [pw, ofBits_eq]
  unfold Ideal.ieee
  simp only [a, b, d]
  rw [if_neg (by omega), if_neg (by omega)]
  simp only [show (0#1 == 1#1) = false from rfl]
  rw [EReal.coe_eq_coe_iff]
  have e := scaled ((n : ℤ) - 127)
  norm_num at e ⊢
  linarith

theorem pw_zero : pw 0 = 0 := by
  obtain ⟨a, b, d⟩ := fields 0
  rw [pw, ofBits_eq]
  unfold Ideal.ieee
  simp only [Fin.val_zero] at a b d
  simp [a, b, d]

theorem pw_top : pw 255 = ⊤ := by
  obtain ⟨a, b, d⟩ := fields 255
  rw [pw, ofBits_eq]
  unfold Ideal.ieee
  simp only [show ((255 : Fin 256) : ℕ) = 255 from rfl] at a b d
  simp [a, b, d]

theorem pw_mono {a b : ℕ} (h : a ≤ b) (hb : b ≤ 255) : pw a ≤ pw b := by
  rcases Nat.eq_zero_or_pos a with rfl | ha
  · rw [pw_zero]
    rcases Nat.eq_zero_or_pos b with rfl | hb'
    · rw [pw_zero]
    · rcases Nat.lt_or_ge b 255 with h5 | h5
      · rw [pw_mid hb' (by omega)]; exact_mod_cast (by positivity : (0 : ℝ) ≤ 2 ^ ((b : ℤ) - 127))
      · rw [show b = 255 by omega, pw_top]; exact le_top
  · rcases Nat.lt_or_ge b 255 with h5 | h5
    · rw [pw_mid ha (by omega), pw_mid (by omega) (by omega)]
      exact_mod_cast zpow_le_zpow_right₀ (by norm_num : (1 : ℝ) ≤ 2) (by omega : (a : ℤ) - 127 ≤ b - 127)
    · rw [show b = 255 by omega, pw_top]; exact le_top

theorem pw_pos {n : ℕ} (h1 : 1 ≤ n) (h2 : n ≤ 254) : 0 < pw n := by
  rw [pw_mid h1 h2]; exact_mod_cast (by positivity : (0 : ℝ) < 2 ^ ((n : ℤ) - 127))

theorem ofBits_pw (b : BitVec 32) (h : b.toNat < 256) : Ideal.ofBits .f32 (b <<< (23 : ℕ)) = pw b.toNat := by
  unfold pw; rw [BitVec.ofNat_toNat, BitVec.setWidth_eq]

/-! ## The search -/

/-- One step: the trial field is kept if the test accepts it. -/
def try1 (p : BitVec 32 → BitVec 1) (f b : BitVec 32) : BitVec 32 := Scalar.select (p (f ||| b)) (f ||| b) f
/-- The eight bits from the top. -/
def search (p : BitVec 32 → BitVec 1) : BitVec 32 :=
  try1 p (try1 p (try1 p (try1 p (try1 p (try1 p (try1 p (try1 p 0#32 128#32) 64#32) 32#32) 16#32) 8#32) 4#32) 2#32) 1#32

theorem or_lt {f b : BitVec 32} (hf : f.toNat < 256) (hb : b.toNat < 256) : (f ||| b).toNat < 256 := by
  rw [BitVec.toNat_or]; exact Nat.or_lt_two_pow (n := 8) hf hb

theorem try1_lt {p : BitVec 32 → BitVec 1} {f b : BitVec 32} (hf : f.toNat < 256) (hb : b.toNat < 256) :
    (try1 p f b).toNat < 256 := by
  unfold try1 Scalar.select; split
  · exact or_lt hf hb
  · exact hf

theorem try1_congr {p q : BitVec 32 → BitVec 1} (h : ∀ b : BitVec 32, b.toNat < 256 → p b = q b) {f f' b : BitVec 32} (e : f = f')
    (hf : f'.toNat < 256) (hb : b.toNat < 256) : try1 p f b = try1 q f' b := by
  subst e; unfold try1; rw [h _ (or_lt hf hb)]

theorem search_congr {p q : BitVec 32 → BitVec 1} (h : ∀ b : BitVec 32, b.toNat < 256 → p b = q b) : search p = search q := by
  unfold search
  repeat' first
    | rfl
    | decide
    | apply try1_congr h
    | apply try1_lt

theorem search_le : ∀ n : Fin 256, search (fun b => BitVec.ofBool (decide (b.toNat ≤ n.val))) = BitVec.ofNat 32 n := by
  decide +kernel

/-- The largest field whose power is at most `m`. -/
theorem exists_field {m : EReal} (hm : 0 ≤ m) : ∃ n : ℕ, n < 256 ∧ pw n ≤ m ∧ (∀ k, k < 256 → (pw k ≤ m ↔ k ≤ n)) := by
  classical
  have h0 : pw 0 ≤ m := by rw [pw_zero]; exact hm
  refine ⟨Nat.findGreatest (fun k => pw k ≤ m) 255, ?_, Nat.findGreatest_spec (P := fun k => pw k ≤ m) (Nat.zero_le 255) h0, fun k hk => ⟨fun h => ?_, fun h => ?_⟩⟩
  · have := Nat.findGreatest_le (P := fun k => pw k ≤ m) 255; omega
  · exact Nat.le_findGreatest (by omega) h
  · exact (pw_mono h (Nat.findGreatest_le 255)).trans (Nat.findGreatest_spec (P := fun k => pw k ≤ m) (Nat.zero_le 255) h0)

theorem search_eq {m : EReal} {n : ℕ} (hn : n < 256) (h : ∀ k, k < 256 → (pw k ≤ m ↔ k ≤ n)) :
    search (fun b => Ideal.cmp .oge m (Ideal.ofBits .f32 (b <<< (23 : ℕ)))) = BitVec.ofNat 32 n := by
  rw [← search_le ⟨n, hn⟩]
  refine search_congr fun b hb => ?_
  unfold Ideal.cmp
  simp only
  congr 1
  rw [ofBits_pw b hb]
  exact decide_eq_decide.mpr (h _ hb)

/-! ## The scale -/

/-- The largest finite value and the reciprocal of 448, as their words. -/
def fmax : EReal := Ideal.ofBits .f32 0x7F7FFFFF#32
def r448 : EReal := Ideal.ofBits .f32 0x3B124925#32

theorem fmax_eq : fmax = (((2 ^ 23 + 8388607 : ℕ) * (2 : ℝ) ^ (104 : ℤ) : ℝ) : EReal) := by
  rw [fmax, ofBits_eq]
  unfold Ideal.ieee
  simp only [show (BitVec.extractLsb' (8+23) 1 (0x7F7FFFFF#32)) = 0#1 from by decide,
    show (BitVec.extractLsb' 23 8 (0x7F7FFFFF#32)).toNat = 254 from by decide,
    show (BitVec.extractLsb' 0 23 (0x7F7FFFFF#32)).toNat = 8388607 from by decide]
  norm_num

theorem r448_eq : r448 = (((2 ^ 23 + 1198373 : ℕ) * (2 : ℝ) ^ (-32 : ℤ) : ℝ) : EReal) := by
  rw [r448, ofBits_eq]
  unfold Ideal.ieee
  simp only [show (BitVec.extractLsb' (8+23) 1 (0x3B124925#32)) = 0#1 from by decide,
    show (BitVec.extractLsb' 23 8 (0x3B124925#32)).toNat = 118 from by decide,
    show (BitVec.extractLsb' 0 23 (0x3B124925#32)).toNat = 1198373 from by decide]
  norm_num

theorem r448_nonneg : 0 ≤ r448 := by
  rw [r448_eq]; exact_mod_cast (by positivity : (0 : ℝ) ≤ (2 ^ 23 + 1198373 : ℕ) * (2 : ℝ) ^ (-32 : ℤ))

/-- A finite maximum over 448 is below the 253rd power. -/
theorem small {a : EReal} (h : a ≤ fmax) : a * r448 < pw 252 := by
  refine lt_of_le_of_lt (mul_le_mul_of_nonneg_right h r448_nonneg) ?_
  rw [fmax_eq, r448_eq, pw_mid (by norm_num) (by norm_num), ← EReal.coe_mul]
  refine EReal.coe_lt_coe_iff.mpr ?_
  norm_num

theorem two_pw {n : ℕ} (h1 : 1 ≤ n) (h2 : n ≤ 253) : Ideal.ofBits .f32 0x40000000#32 * pw n = pw (n + 1) := by
  have e : Ideal.ofBits .f32 0x40000000#32 = pw 128 := by
    unfold pw; rfl
  rw [e, pw_mid h1 (by omega), pw_mid (by norm_num) (by norm_num), pw_mid (by omega) (by omega), ← EReal.coe_mul, ← zpow_add₀ (by norm_num : (2 : ℝ) ≠ 0)]
  congr 2
  push_cast; ring

theorem pw_one : pw 127 = 1 := by
  rw [pw_mid (by norm_num) (by norm_num)]; norm_num

theorem div_pw {n : ℕ} (h1 : 1 ≤ n) (h2 : n ≤ 253) : Ideal.div (pw 127) (pw n) = pw (254 - n) := by
  unfold Ideal.div
  rw [if_neg (pw_pos h1 (by omega)).ne', pw_one, one_mul, pw_mid h1 (by omega), pw_mid (by omega) (by omega), ← EReal.coe_inv, ← zpow_neg]
  congr 2
  push_cast [show n ≤ 254 by omega]; ring

end Cert.Kernel.V
-- ==== Proof.Scale.lean ====
/- The kernel's scale at the extended reals is twice the largest power of two under the maximum over 448. -/
module

public import proofs.«01_k».proof.Proof.Expo
public import Idealize.ShloMosaic.Lib.Pointwise

@[expose] public section

set_option maxRecDepth 8192

noncomputable section

namespace Cert.Kernel.V

open Idealize.ShloMosaic Cert.Kernel.Gen

/-- The reference's power: the largest of the 254 powers at most `m`, or zero. -/
def below (m : EReal) : EReal :=
  (Finset.univ : Finset (Fin 254)).fold max (Ideal.ofBits .f32 0xFF800000#32)
    fun k => Scalar.select (Ideal.cmp .ole (pw (k.val + 1)) m) (pw (k.val + 1)) 0

/-- The reference's scale of a row whose maximum is `a`. -/
def rscale (a : EReal) : EReal :=
  Scalar.select (Scalar.ori (Ideal.cmp .oeq (below (a * r448)) 0) (Ideal.cmp .ogt a fmax)) 1
    (Ideal.ofBits .f32 0x40000000#32 * below (a * r448))

/-- The kernel's field and exponent. -/
def fieldS (a : EReal) : BitVec 32 := search fun b => Ideal.cmp .oge (a * r448) (Ideal.ofBits .f32 (b <<< (23 : ℕ)))
def expS (a : EReal) : BitVec 32 :=
  Scalar.select (Scalar.ori (Scalar.cmpi .eq (fieldS a) 0#32) (Ideal.cmp .ogt a fmax)) 0#32 (fieldS a - 126#32)

theorem ofBits_ninf : Ideal.ofBits .f32 0xFF800000#32 = ⊥ := by
  rw [ofBits_eq]; unfold Ideal.ieee
  simp only [show (BitVec.extractLsb' (8+23) 1 (0xFF800000#32)) = 1#1 from by decide,
    show (BitVec.extractLsb' 23 8 (0xFF800000#32)).toNat = 255 from by decide,
    show (BitVec.extractLsb' 0 23 (0xFF800000#32)).toNat = 0 from by decide]
  simp

theorem sel_true {α : Type} {p : Prop} [Decidable p] (h : p) (x y : α) : Scalar.select (BitVec.ofBool (decide p)) x y = x := by
  simp [Scalar.select, h]
theorem sel_false {α : Type} {p : Prop} [Decidable p] (h : ¬p) (x y : α) : Scalar.select (BitVec.ofBool (decide p)) x y = y := by
  simp [Scalar.select, h]

theorem pw_nonneg {n : ℕ} (h : n ≤ 255) : 0 ≤ pw n := by
  have := pw_mono (Nat.zero_le n) h; rwa [pw_zero] at this

theorem below_eq {m : EReal} {n : ℕ} (hn : n ≤ 254) (h : ∀ k, k < 256 → (pw k ≤ m ↔ k ≤ n)) : below m = pw n := by
  unfold below
  refine le_antisymm ?_ ?_
  · rw [Finset.fold_max_le]
    refine ⟨by rw [ofBits_ninf]; exact bot_le, fun k _ => ?_⟩
    unfold Ideal.cmp; simp only
    by_cases hk : pw (k.val + 1) ≤ m
    · rw [sel_true hk]; exact pw_mono ((h _ (by omega)).mp hk) (by omega)
    · rw [sel_false hk]; exact pw_nonneg (by omega)
  · rw [Finset.le_fold_max]
    right
    rcases Nat.eq_zero_or_pos n with rfl | h0
    · refine ⟨0, Finset.mem_univ _, ?_⟩
      rw [pw_zero]
      unfold Ideal.cmp; simp only
      by_cases hk : pw ((0 : Fin 254).val + 1) ≤ m
      · rw [sel_true hk]; exact pw_nonneg (by decide)
      · rw [sel_false hk]
    · refine ⟨⟨n - 1, by omega⟩, Finset.mem_univ _, ?_⟩
      have e : n - 1 + 1 = n := by omega
      unfold Ideal.cmp; simp only [e]
      rw [sel_true ((h n (by omega)).mpr le_rfl)]

theorem exp_field : ∀ n : Fin 256, 1 ≤ n.val → n.val ≤ 252 → (BitVec.ofNat 32 n - 126#32 + 127#32 = BitVec.ofNat 32 (n + 1)
    ∧ 127#32 - (BitVec.ofNat 32 n - 126#32) = BitVec.ofNat 32 (253 - n) ∧ BitVec.ofNat 32 n ≠ 0#32) := by decide +kernel

/-- The kernel's two words, as powers, are the reference's scale and its reciprocal. -/
theorem scale_eq {a : EReal} (ha : 0 ≤ a) :
    Ideal.ofBits .f32 ((expS a + 127#32) <<< (23 : ℕ)) = rscale a
    ∧ Ideal.ofBits .f32 ((127#32 - expS a) <<< (23 : ℕ)) = Ideal.div 1 (rscale a) := by
  obtain ⟨n, hn, hle, h⟩ := exists_field (m := a * r448) (mul_nonneg ha r448_nonneg)
  have hf : fieldS a = BitVec.ofNat 32 n := search_eq hn h
  have one : Ideal.div 1 1 = (1 : EReal) := by unfold Ideal.div; rw [if_neg one_ne_zero, one_mul, inv_one]
  have w1 : Ideal.ofBits .f32 ((0#32 + 127#32) <<< (23 : ℕ)) = 1 := pw_one
  have w2 : Ideal.ofBits .f32 ((127#32 - 0#32) <<< (23 : ℕ)) = 1 := pw_one
  by_cases hbig : fmax < a
  · have e1 : expS a = 0#32 := by
      unfold expS Ideal.cmp; simp only [hbig, decide_true]
      unfold Scalar.select Scalar.ori IntOp.ori; rw [if_pos]; generalize Scalar.cmpi .eq (fieldS a) 0#32 = z; revert z; decide
    have e2 : rscale a = 1 := by
      unfold rscale Ideal.cmp; simp only [hbig, decide_true]
      unfold Scalar.select Scalar.ori IntOp.ori; rw [if_pos]; generalize BitVec.ofBool _ = z; revert z; decide
    rw [e1, e2, one]; exact ⟨w1, w2⟩
  · have hn2 : n < 252 := by
      by_contra hc
      exact absurd ((h 252 (by omega)).mpr (by omega)) (not_le.mpr (small (not_lt.mp hbig)))
    have hb := below_eq (by omega) h
    rcases Nat.eq_zero_or_pos n with h0 | h0
    · have e1 : expS a = 0#32 := by
        unfold expS; rw [hf, h0]; unfold Ideal.cmp; simp only [hbig, decide_false]; decide
      have e2 : rscale a = 1 := by
        unfold rscale; rw [hb, h0, pw_zero]; unfold Ideal.cmp; simp only [hbig, decide_false, decide_true]; rfl
      rw [e1, e2, one]; exact ⟨w1, w2⟩
    · obtain ⟨x1, x2, x3⟩ := exp_field ⟨n, hn⟩ h0 (by show n ≤ 252; omega)
      simp only at x1 x2 x3
      have hz : Scalar.cmpi .eq (BitVec.ofNat 32 n) 0#32 = 0#1 := by
        show BitVec.ofBool (BitVec.ofNat 32 n == 0#32) = 0#1
        rw [beq_eq_false_iff_ne.mpr x3]; rfl
      have e1 : expS a = BitVec.ofNat 32 n - 126#32 := by
        unfold expS; rw [hf, hz]; unfold Ideal.cmp; simp only [hbig, decide_false]; rfl
      have e2 : rscale a = pw (n + 1) := by
        unfold rscale; rw [hb]; unfold Ideal.cmp; simp only [hbig, (pw_pos h0 (show n ≤ 254 by omega)).ne', decide_false]
        rw [two_pw h0 (by omega)]; rfl
      rw [e1, e2, x1, x2, ← pw_one, div_pw (by omega) (by omega), show 254 - (n + 1) = 253 - n by omega]
      exact ⟨rfl, rfl⟩

/-! ## The kernel's vectors -/

/-- One step of the search on vectors. -/
def vtry (m : FVec Ideal S1x256 .f32) (f : IVec S1x256 32) (b : BitVec 32) : IVec S1x256 32 :=
  select (cmpf .oge m (bitcastToFloat .f32 (shli (ori f (broadcast S1x256 b)) (broadcast S1x256 23#32))))
    (ori f (broadcast S1x256 b)) f

theorem vtry_at (m : FVec Ideal S1x256 .f32) (f : IVec S1x256 32) (b : BitVec 32) (i : S1x256.Idx) :
    vtry m f b i = try1 (fun b => Ideal.cmp .oge (m i) (Ideal.ofBits .f32 (b <<< (23 : ℕ)))) (f i) b := rfl

theorem field_hi (v : FVec Ideal S8x256 .f32) :
    k0_pay266 (F := Ideal) v = vtry (mOf (F := Ideal) v) (vtry (mOf (F := Ideal) v) (broadcast S1x256 0#32) 128#32) 64#32 := rfl

theorem field_lo (m : FVec Ideal S1x256 .f32) (f : IVec S1x256 32) :
    k0_pay269 (F := Ideal) m f (ori f (broadcast S1x256 32#32)) (shli (ori f (broadcast S1x256 32#32)) (broadcast S1x256 23#32))
      = vtry m (vtry m (vtry m (vtry m (vtry m (vtry m f 32#32) 16#32) 8#32) 4#32) 2#32) 1#32 := rfl

theorem fieldOf_at (v : FVec Ideal S8x256 .f32) (i : S1x256.Idx) : fieldOf (F := Ideal) v i = fieldS (amaxOf (F := Ideal) v i) := by
  have e : fieldOf (F := Ideal) v = k0_pay269 (F := Ideal) (mOf (F := Ideal) v) (k0_pay266 (F := Ideal) v)
    (ori (k0_pay266 (F := Ideal) v) (broadcast S1x256 32#32))
    (shli (ori (k0_pay266 (F := Ideal) v) (broadcast S1x256 32#32)) (broadcast S1x256 23#32)) := rfl
  rw [e, field_lo, field_hi]
  simp only [vtry_at]
  have hp : mOf (F := Ideal) v i = (show EReal from amaxOf (F := Ideal) v i) * r448 := rfl
  rw [hp]
  rfl

theorem expOf_at (v : FVec Ideal S8x256 .f32) (i : S1x256.Idx) : expOf (F := Ideal) v i = expS (amaxOf (F := Ideal) v i) := by
  have e : expOf (F := Ideal) v i = Scalar.select (Scalar.ori (Scalar.cmpi .eq (fieldOf (F := Ideal) v i) 0#32)
      (Ideal.cmp .ogt (amaxOf (F := Ideal) v i) fmax)) 0#32 (fieldOf (F := Ideal) v i - 126#32) := by
    unfold expOf k0_pay273 k0_pay270 k0_pay271 k0_pay272 fieldOf
    generalize k0_pay269 (F := Ideal) _ _ _ _ = z
    rfl
  rw [e, fieldOf_at]; rfl

theorem scaleOf_at (v : FVec Ideal S8x256 .f32) (i : S1x256.Idx) :
    scaleOf (F := Ideal) v i = Ideal.ofBits .f32 ((expS (amaxOf (F := Ideal) v i) + 127#32) <<< (23 : ℕ)) := by
  rw [← expOf_at]
  unfold scaleOf
  generalize expOf (F := Ideal) v = z
  rfl

theorem invOf_at (v : FVec Ideal S8x256 .f32) (r : Fin 8) (t : Fin 256) :
    invOf (F := Ideal) v (ix2 r t) = Ideal.ofBits .f32 ((127#32 - expS (amaxOf (F := Ideal) v (ix2 0 t))) <<< (23 : ℕ)) := by
  rw [← expOf_at]
  unfold invOf
  generalize expOf (F := Ideal) v = z
  pointwise
  rfl

end Cert.Kernel.V
-- ==== Proof.Table.lean ====
/- The two results as functions of the four arguments, at the extended reals. -/
module

public import proofs.«01_k».proof.Proof.State
public import proofs.«01_k».proof.Proof.Scale
public import Idealize.ShloMosaic.Lib.Pointwise

@[expose] public section

set_option synthInstance.maxSize 4096
set_option maxRecDepth 16384

noncomputable section

namespace Cert.Kernel.V

open Idealize.ShloMosaic

theorem i2_eq {n m : ℕ} [NeZero n] [NeZero m] {a b : ℕ} (ha : a < n) (hb : b < m) : (i2 a b : (⟨2, ![n, m]⟩ : Shape).Idx) = ix2 ⟨a, ha⟩ ⟨b, hb⟩ := by
  funext x
  match x with
  | 0 => exact Fin.ext (Nat.mod_eq_of_lt ha)
  | 1 => exact Fin.ext (Nat.mod_eq_of_lt hb)

theorem i3_eq {n m l : ℕ} [NeZero n] [NeZero m] [NeZero l] {a b d : ℕ} (ha : a < n) (hb : b < m) (hd : d < l) :
    (i3 a b d : (⟨3, ![n, m, l]⟩ : Shape).Idx) = ix3 ⟨a, ha⟩ ⟨b, hb⟩ ⟨d, hd⟩ := by
  funext x
  match x with
  | 0 => exact Fin.ext (Nat.mod_eq_of_lt ha)
  | 1 => exact Fin.ext (Nat.mod_eq_of_lt hb)
  | 2 => exact Fin.ext (Nat.mod_eq_of_lt hd)

abbrev AX := (⟨3, ![2, 1536, 11776]⟩ : Shape).Idx → EReal
abbrev AXS := (⟨3, ![2, 1536, 92]⟩ : Shape).Idx → EReal
abbrev AW := (⟨2, ![11776, 1920]⟩ : Shape).Idx → EReal
abbrev AWS := (⟨2, ![92, 15]⟩ : Shape).Idx → EReal

variable (x : AX) (xs : AXS) (w : AW) (ws : AWS)

/-- The dequantised product of row `i` and column `n`, the rows of both batches in one sequence. -/
def hTab (i n : ℕ) : EReal := ∑ k ∈ Finset.range 11776,
  (x (i3 (i / 1536) (i % 1536) k) * xs (i3 (i / 1536) (i % 1536) (k / 128))) * (w (i2 k n) * ws (i2 (k / 128) (n / 128)))

/-- Its squared relu, -/
def aTab (i n : ℕ) : EReal := max (hTab x xs w ws i n) 0 * max (hTab x xs w ws i n) 0

/-- the largest of a row, -/
def mTab (i : ℕ) : EReal := (Finset.univ : Finset (Fin 1920)).fold max ⊥ fun n => aTab x xs w ws i n.val

/-- the codes -/
def yTab : (⟨3, ![2, 1536, 1920]⟩ : Shape).Idx → EReal := fun j =>
  min (Ideal.ofBits .f32 0x43E00000#32) (max (Ideal.ofBits .f32 0xC3E00000#32)
    (aTab x xs w ws ((j 0).val * 1536 + (j 1).val) (j 2).val * Ideal.div 1 (rscale (mTab x xs w ws ((j 0).val * 1536 + (j 1).val)))))

/-- and the scales. -/
def sTab : (⟨2, ![2, 1536]⟩ : Shape).Idx → EReal := fun j => rscale (mTab x xs w ws ((j 0).val * 1536 + (j 1).val))

/-- The largest of a row is the one value below exactly the bounds of the row. -/
theorem mTab_unique (i : ℕ) (a : EReal) (h : ∀ b : EReal, a ≤ b ↔ ∀ n : ℕ, n < 1920 → aTab x xs w ws i n ≤ b) : a = mTab x xs w ws i := by
  refine eq_of_forall_ge_iff fun b => (h b).trans ?_
  unfold mTab
  rw [Finset.fold_max_le]
  exact ⟨fun hb => ⟨bot_le, fun n _ => hb n.val n.isLt⟩, fun hb n hn => hb.2 ⟨n, hn⟩ (Finset.mem_univ _)⟩

end Cert.Kernel.V

end
-- ==== Proof.KVal.lean ====
/- The kernel's tiles, passes and pieces at the extended reals. -/
module

public import proofs.«01_k».proof.Proof.Spec
public import proofs.«01_k».proof.Proof.Table
public import Idealize.ShloMosaic.Lib.Pointwise
public import Idealize.ShloMosaic.Lib.MatmulPlain
public import Idealize.ShloMosaic.Lib.Pipeline.ValueKit.Acc

@[expose] public section

set_option synthInstance.maxSize 4096
set_option maxRecDepth 16384

noncomputable section

namespace Cert.Kernel.V

open Cert.Kernel.Gen
open Idealize.ShloMosaic

variable (D : Inp Ideal)

/-- The dequantised activation of token `i` at input `m`, and the dequantised weight of input `m` at output `n`. -/
def XR (i m : ℕ) : EReal := (show EReal from D.X (i2 i m)) * (show EReal from D.XS (i3 (m / 128) (i / 1536) (i % 1536)))
def WR (m n : ℕ) : EReal := (show EReal from D.W (i2 m n)) * (show EReal from D.WS (i2 (n / 128) (m / 128)))

theorem wblock_at (a b : S1x128x128.Idx → EReal) (s t : EReal) (r : Fin 128) (k : Fin 256) :
    wblock (F := Ideal) a s b t (ix2 r k)
      = if h : k.val < 128 then a (ix3 0 ⟨k.val, h⟩ r) * s else b (ix3 0 ⟨k.val - 128, by omega⟩ r) * t := by
  unfold wblock wblock.half
  pointwise

theorem lane_lit : ∀ g : Fin 128, (Scalar.select (IntOp.cmpi CmpIPredicate.slt (BitVec.ofNat 32 g) 0#32)
    (IntOp.addi (BitVec.ofNat 32 g) 128#32) (BitVec.ofNat 32 g)).toNat % 128 = g := by decide +kernel

theorem half_at (v : S1x256x128.Idx → EReal) (g : ℕ) (hg : g < 128) (a : S1x256x128.Idx → EReal) (r : Fin 256) (k : Fin 128) :
    tile.half (F := Ideal) v (BitVec.ofNat 32 g) a (ix2 r k) = a (ix3 0 r k) * v (ix3 0 r ⟨g, hg⟩) := by
  unfold tile.half tile.lane
  pointwise
  have := lane_lit ⟨g, hg⟩
  simp only at this
  simp only [this]

theorem tile_at (v : S1x256x128.Idx → EReal) (g0 g1 : BitVec 32) (a b : S1x256x128.Idx → EReal) (r : Fin 256) (k : Fin 256) :
    tile (F := Ideal) v g0 a g1 b (ix2 r k)
      = if h : k.val < 128 then tile.half (F := Ideal) v g0 a (ix2 r ⟨k.val, h⟩) else tile.half (F := Ideal) v g1 b (ix2 r ⟨k.val - 128, by omega⟩) := by
  unfold tile
  pointwise

theorem turned_at (v : S92x256.Idx → EReal) (r : Fin 256) (g : Fin 92) :
    turned (F := Ideal) v (ix3 0 r ⟨g.val, by omega⟩) = v (ix2 g r) := by
  unfold turned
  pointwise

theorem ix2_same {n m : ℕ} (a : Fin n) (b : Fin m) : ValueIdx.ix2 a b = ix2 a b := by
  funext x
  match x with
  | 0 => rfl
  | 1 => rfl

theorem passOf_at (v : S256x256.Idx → EReal) (w : S96x256.Idx → EReal) (r : Fin 96) (t : Fin 256) :
    passOf (F := Ideal) v w (ix2 r t) = ∑ c : Fin 256, w (ix2 r c) * v (ix2 t c) := by
  have := Ideal.matmul_transposedRhs_apply (M := 96) (K := 256) (N := 256) (φ₁ := .bf16) (φ₂ := .bf16) none w v (fun _ => (0 : EReal)) r t
  rw [zero_add] at this
  simp only [ix2_same] at this
  rw [← this]
  exact (zero_add _).symm

theorem sq_at (h : S96x256.Idx → EReal) (j : S96x256.Idx) : sq (F := Ideal) h j = max (h j) 0 * max (h j) 0 := by
  unfold sq
  pointwise

theorem quant_at (v : S128x256.Idx → EReal) (w : S8x256.Idx → EReal) (t : Fin 256) (n : Fin 128) :
    quant (F := Ideal) v w (ix3 0 t n) = min (Ideal.ofBits .f32 0x43E00000#32) (max (Ideal.ofBits .f32 0xC3E00000#32)
      (v (ix2 n t) * w (ix2 ⟨n.val % 8, by omega⟩ t))) := by
  unfold quant k0_pay104 k0_pay105
  pointwise

theorem top_at (h : S96x256.Idx → EReal) (s : Fin 8) (t : Fin 256) (b : EReal) :
    @LE.le EReal _ (top (F := Ideal) h (ix2 s t)) b ↔ ∀ q : Fin 12, @LE.le EReal _ (sq (F := Ideal) h (ix2 ⟨8 * q.val + s.val, by omega⟩ t)) b := by
  unfold top
  generalize sq (F := Ideal) h = z
  refine Iff.trans (iff_of_eq (congrArg (fun x : EReal => x ≤ b) (Ideal.multiReduction_maximumf_single _ _ _ _ _ _))) ?_
  rw [Finset.fold_max_le]
  have hl : ∀ x : Fin 12, reduces_S12x8x256_S8x256.lift (ix2 s t) x = ix3 x s t := by
    intro x
    funext a
    match a with
    | 0 => rfl
    | 1 => rfl
    | 2 => rfl
  have hs : ∀ x : Fin 12, shapeCast S12x8x256 z shapeCasts_S96x256_S12x8x256 (ix3 x s t) = z (ix2 ⟨8 * x.val + s.val, by omega⟩ t) := by
    intro x
    pointwise
    congr 2
    exact Fin.ext (by show x.val * 8 + s.val = 8 * x.val + s.val; omega)
  constructor
  · intro h q
    have h1 : @LE.le EReal _ (shapeCast S12x8x256 z shapeCasts_S96x256_S12x8x256 (reduces_S12x8x256_S8x256.lift (ix2 s t) q)) b :=
      h.2 q (Finset.mem_univ _)
    rw [hl, hs] at h1
    exact h1
  · intro h
    have hq : ∀ q : Fin 12, @LE.le EReal _ (shapeCast S12x8x256 z shapeCasts_S96x256_S12x8x256 (reduces_S12x8x256_S8x256.lift (ix2 s t) q)) b :=
      fun q => by rw [hl, hs]; exact h q
    refine ⟨?_, fun q _ => hq q⟩
    · rw [show (FloatOps.ofBits (F := Ideal) .f32 4286578688#32 : EReal) = Ideal.ofBits .f32 0xFF800000#32 from rfl, ofBits_ninf]; exact bot_le

end Cert.Kernel.V
-- ==== Proof.KVal2.lean ====
/- The kernel's results at the extended reals, as sums over the inputs. -/
module

public import proofs.«01_k».proof.Proof.KVal

@[expose] public section

set_option synthInstance.maxSize 4096
set_option maxRecDepth 16384

noncomputable section

namespace Cert.Kernel.V

open Cert.Kernel.Gen
open Idealize.ShloMosaic

variable (D : Inp Ideal)

theorem wtAt_eq {n m : ℕ} (hn : n < 1920) (hm : m < 11776) : wtAt D n m = WR D m n := by
  unfold wtAt wblk
  rw [i2_eq (show n % 128 < 128 by omega) (show m % 256 < 256 by omega)]
  refine (wblock_at _ _ _ _ _ _).trans ?_
  split
  · rename_i h
    have h' : m % 256 < 128 := h
    show (show EReal from D.W (i2 (256 * (m / 256) + m % 256) (128 * (n / 128) + n % 128))) * (show EReal from D.WS (i2 (n / 128) (2 * (m / 256)))) = _
    rw [show 256 * (m / 256) + m % 256 = m by omega, show 128 * (n / 128) + n % 128 = n by omega, show 2 * (m / 256) = m / 128 by omega]
    rfl
  · rename_i h
    have h' : ¬ m % 256 < 128 := h
    show (show EReal from D.W (i2 (256 * (m / 256) + 128 + (m % 256 - 128)) (128 * (n / 128) + n % 128))) * (show EReal from D.WS (i2 (n / 128) (2 * (m / 256) + 1))) = _
    rw [show 256 * (m / 256) + 128 + (m % 256 - 128) = m by omega, show 128 * (n / 128) + n % 128 = n by omega, show 2 * (m / 256) + 1 = m / 128 by omega]
    rfl

theorem scT_at (i g : ℕ) (hg : g < 92) (t : Fin 256) : scT D i (ix3 0 t ⟨g, by omega⟩) = D.XS (i3 g (i / 6) (256 * (i % 6) + t.val)) :=
  turned_at (fun x => D.XS (i3 (x 0).val (i / 6) (256 * (i % 6) + (x 1).val))) t ⟨g, hg⟩

theorem tileT_eq {i k : ℕ} (hi : i < 12) (hk : k < 46) (t c : Fin 256) : tileT D i k (ix2 t c) = XR D (256 * i + t.val) (256 * k + c.val) := by
  unfold tileT
  refine (tile_at _ _ _ _ _ _ _).trans ?_
  have e1 : (256 * i + t.val) / 1536 = i / 6 := by omega
  have e2 : (256 * i + t.val) % 1536 = 256 * (i % 6) + t.val := by omega
  split
  · rename_i h
    refine (half_at _ (2 * k) (by omega) _ _ _).trans ?_
    rw [scT_at D i (2 * k) (by omega) t]
    unfold XR
    rw [e1, e2, show (256 * k + c.val) / 128 = 2 * k by omega]
    rfl
  · rename_i h
    refine (half_at _ (2 * k + 1) (by omega) _ _ _).trans ?_
    rw [scT_at D i (2 * k + 1) (by omega) t]
    unfold XR
    rw [e1, e2, show (256 * k + c.val) / 128 = 2 * k + 1 by omega]
    show (show EReal from D.X (i2 (256 * i + t.val) (256 * k + 128 + (c.val - 128)))) * _ = _
    rw [show 256 * k + 128 + (c.val - 128) = 256 * k + c.val by omega]

/-- The contraction. -/
def hsum (i n : ℕ) : EReal := ∑ m ∈ Finset.range 11776, WR D m n * XR D i m

theorem pass_eq {i k e : ℕ} (hi : i < 12) (hk : k < 46) (he : e < 20) (r : Fin 96) (t : Fin 256) :
    passOf (tileT D i k) (passW D k e) (ix2 r t)
      = ∑ c ∈ Finset.range 256, WR D (k * 256 + c) (960 * (e % 2) + 96 * (e / 2) + r.val) * XR D (256 * i + t.val) (k * 256 + c) := by
  refine (passOf_at _ _ _ _).trans ?_
  rw [← Fin.sum_univ_eq_sum_range (fun c => WR D (k * 256 + c) (960 * (e % 2) + 96 * (e / 2) + r.val) * XR D (256 * i + t.val) (k * 256 + c))]
  refine Finset.sum_congr rfl fun c _ => ?_
  rw [tileT_eq D hi hk]
  show wtAt D (960 * (e % 2) + 96 * (e / 2) + r.val) (256 * k + c.val) * _ = _
  rw [wtAt_eq D (by omega) (by omega), Nat.mul_comm 256 k]

theorem Hn_at (i e n : ℕ) : ∃ H : S96x256.Idx → EReal, Hn D i e (n + 1) = some H
    ∧ ∀ j, H j = ∑ k ∈ Finset.range (n + 1), (show EReal from passOf (tileT D i k) (passW D k e) j) := by
  induction n with
  | zero => exact ⟨_, rfl, fun j => by rw [Finset.sum_range_one]; rfl⟩
  | succ n ih =>
    obtain ⟨H, h1, h2⟩ := ih
    refine ⟨fun j => H j + (show EReal from passOf (tileT D i (n + 1)) (passW D (n + 1) e) j), ?_, fun j => ?_⟩
    · show some (dep (Hn D i e (n + 1)) _) = _
      rw [h1]; rfl
    · rw [Finset.sum_range_succ, ← h2]

theorem HT_eq {i e : ℕ} (hi : i < 12) (he : e < 20) (r : Fin 96) (t : Fin 256) :
    HT D i e (ix2 r t) = hsum D (256 * i + t.val) (960 * (e % 2) + 96 * (e / 2) + r.val) := by
  obtain ⟨H, h1, h2⟩ := Hn_at D i e 45
  have h : HT D i e = H := Option.some.inj ((Hn_done D i e).symm.trans h1)
  rw [h, h2]
  unfold hsum
  rw [← Finset.sum_range_range_mul_add 46 256]
  refine Finset.sum_congr rfl fun k hk => ?_
  exact pass_eq D hi (Finset.mem_range.mp hk) he r t

/-- The squared activation. -/
def AR (i n : ℕ) : EReal := max (hsum D i n) 0 * max (hsum D i n) 0

theorem AR_nonneg (i n : ℕ) : 0 ≤ AR D i n := mul_nonneg (le_max_right _ _) (le_max_right _ _)

theorem sqHT {i e : ℕ} (hi : i < 12) (he : e < 20) (r : Fin 96) (t : Fin 256) :
    sq (HT D i e) (ix2 r t) = AR D (256 * i + t.val) (960 * (e % 2) + 96 * (e / 2) + r.val) := by
  refine (sq_at _ _).trans ?_
  rw [HT_eq D hi he]; rfl

theorem actAt_eq {i r t : ℕ} (hi : i < 12) (hr : r < 1920) (ht : t < 256) : actAt D i r t = AR D (256 * i + t) r := by
  unfold actAt pieceOf
  rw [i2_eq (show r % 960 % 96 < 96 by omega) ht]
  refine (sqHT D hi (by omega) _ _).trans ?_
  congr 1
  show 960 * ((2 * (r % 960 / 96) + r / 960) % 2) + 96 * ((2 * (r % 960 / 96) + r / 960) / 2) + r % 960 % 96 = r
  omega

theorem top_le {i e : ℕ} (hi : i < 12) (he : e < 20) (s : Fin 8) (t : Fin 256) (b : EReal) :
    @LE.le EReal _ (top (HT D i e) (ix2 s t)) b
      ↔ ∀ q : Fin 12, AR D (256 * i + t.val) (960 * (e % 2) + 96 * (e / 2) + (8 * q.val + s.val)) ≤ b := by
  refine (top_at _ s t b).trans (forall_congr' fun q => ?_)
  rw [sqHT D hi he]

theorem mxN_le {i : ℕ} (hi : i < 12) (n : ℕ) (hn : n < 10) (s : Fin 8) (t : Fin 256) (b : EReal) :
    @LE.le EReal _ (mxN D i n (ix2 s t)) b ↔ ∀ e < 2 * n + 2, @LE.le EReal _ (top (HT D i e) (ix2 s t)) b := by
  induction n with
  | zero =>
    refine (max_le_iff (α := EReal) (a := top (HT D i 0) (ix2 s t)) (b := top (HT D i 1) (ix2 s t))).trans ⟨fun h e he => ?_, fun h => ⟨h 0 (by omega), h 1 (by omega)⟩⟩
    have : e = 0 ∨ e = 1 := by omega
    rcases this with rfl | rfl
    · exact h.1
    · exact h.2
  | succ n ih =>
    refine (max_le_iff (α := EReal) (a := max (mxN D i n (ix2 s t) : EReal) (top (HT D i (2 * n + 2)) (ix2 s t))) (b := top (HT D i (2 * n + 3)) (ix2 s t))).trans ?_
    rw [max_le_iff, ih (by omega)]
    refine ⟨fun h e he => ?_, fun h => ⟨⟨fun e he => h e (by omega), h _ (by omega)⟩, h _ (by omega)⟩⟩
    rcases Nat.lt_or_ge e (2 * n + 2) with h0 | h0
    · exact h.1.1 e h0
    · have : e = 2 * n + 2 ∨ e = 2 * n + 3 := by omega
      rcases this with rfl | rfl
      · exact h.1.2
      · exact h.2

theorem amax_at (v : S8x256.Idx → EReal) (t : Fin 256) (b : EReal) :
    @LE.le EReal _ (amaxOf (F := Ideal) v (ix2 0 t)) b ↔ ∀ s : Fin 8, v (ix2 s t) ≤ b := by
  unfold amaxOf k0_pay264
  have hz : ∀ z : FVec Ideal S256 .f32, shapeCast S1x256 z shapeCasts_S256_S1x256 (ix2 0 t) = z (ix1 t) := by
    intro z; pointwise
  refine Iff.trans (iff_of_eq (congrArg (fun x : EReal => x ≤ b) (hz _))) ?_
  refine Iff.trans (iff_of_eq (congrArg (fun x : EReal => x ≤ b) (Ideal.multiReduction_maximumf_single _ _ _ _ _ _))) ?_
  rw [Finset.fold_max_le]
  have hl : ∀ x : Fin 8, reduces_S8x256_S256.lift (ix1 t) x = ix2 x t := by
    intro x
    funext a
    match a with
    | 0 => rfl
    | 1 => rfl
  constructor
  · intro h q
    have h1 : v (reduces_S8x256_S256.lift (ix1 t) q) ≤ b := h.2 q (Finset.mem_univ _)
    rw [hl] at h1
    exact h1
  · intro h
    have hq : ∀ q : Fin 8, v (reduces_S8x256_S256.lift (ix1 t) q) ≤ b := fun q => by rw [hl]; exact h q
    refine ⟨?_, fun q _ => hq q⟩
    · rw [show (FloatOps.ofBits (F := Ideal) .f32 4286578688#32 : EReal) = Ideal.ofBits .f32 0xFF800000#32 from rfl, ofBits_ninf]; exact bot_le

/-- The largest activation of a token. -/
def MR (i : ℕ) (t : Fin 256) : EReal := amaxOf (F := Ideal) (mxT D i) (ix2 0 t)

theorem MR_le {i : ℕ} (hi : i < 12) (t : Fin 256) (b : EReal) : MR D i t ≤ b ↔ ∀ n < 1920, AR D (256 * i + t.val) n ≤ b := by
  refine (amax_at _ t b).trans ⟨fun h n hn => ?_, fun h s => ?_⟩
  · have h1 := (top_le D hi (by omega) _ t b).mp ((mxN_le D hi 9 (by omega) ⟨n % 8, by omega⟩ t b).mp (h ⟨n % 8, by omega⟩) (2 * (n % 960 / 96) + n / 960) (by omega)) ⟨n % 960 % 96 / 8, by omega⟩
    rwa [show 960 * ((2 * (n % 960 / 96) + n / 960) % 2) + 96 * ((2 * (n % 960 / 96) + n / 960) / 2) + (8 * (n % 960 % 96 / 8) + n % 8) = n by omega] at h1
  · refine (mxN_le D hi 9 (by omega) s t b).mpr fun e he => (top_le D hi (by omega) s t b).mpr fun q => h _ (by omega)

theorem MR_nonneg {i : ℕ} (hi : i < 12) (t : Fin 256) : 0 ≤ MR D i t :=
  (AR_nonneg D _ 0).trans ((MR_le D hi t _).mp le_rfl 0 (by omega))

/-- The result's scale. -/
theorem scale_val {i : ℕ} (hi : i < 12) (t : Fin 256) : scaleOf (mxT D i) (ix2 0 t) = rscale (MR D i t) := by
  rw [scaleOf_at]; exact (scale_eq (MR_nonneg D hi t)).1

/-- The result's code. -/
theorem code_val {i r n : ℕ} (hi : i < 12) (hr : r < 256) (hn : n < 1920) :
    outAt D i r n = min (Ideal.ofBits .f32 0x43E00000#32) (max (Ideal.ofBits .f32 0xC3E00000#32)
      (AR D (256 * i + r) n * Ideal.div 1 (rscale (MR D i ⟨r, hr⟩)))) := by
  unfold outAt
  rw [i3_eq (show 0 < 1 by omega) hr (show n % 128 < 128 by omega)]
  refine (quant_at _ _ _ _).trans ?_
  rw [invOf_at]
  rw [show Ideal.ofBits .f32 ((127#32 - expS (amaxOf (F := Ideal) (mxT D i) (ix2 0 ⟨r, hr⟩))) <<< (23 : ℕ)) = Ideal.div 1 (rscale (MR D i ⟨r, hr⟩)) from
    (scale_eq (MR_nonneg D hi ⟨r, hr⟩)).2]
  rw [show actAt D i (128 * (n / 128) + (ix2 (⟨n % 128, by omega⟩ : Fin 128) (⟨r, hr⟩ : Fin 256) 0).val) (ix2 (⟨n % 128, by omega⟩ : Fin 128) (⟨r, hr⟩ : Fin 256) 1).val = AR D (256 * i + r) n from by
    refine (actAt_eq D hi (show 128 * (n / 128) + n % 128 < 1920 by omega) hr).trans ?_
    rw [show 128 * (n / 128) + n % 128 = n by omega]]

end Cert.Kernel.V
-- ==== Proof.KLink.lean ====
/- The kernel's results are the two functions of the arguments. -/
module

public import proofs.«01_k».proof.Proof.Table
public import proofs.«01_k».proof.Proof.KVal2
public import proofs.«01_k».proof.Proof.Run2

@[expose] public section

set_option synthInstance.maxSize 4096
set_option maxRecDepth 16384

noncomputable section

namespace Cert.Kernel.V

open Cert.Kernel.Gen
open Idealize.ShloMosaic Idealize.ShloMosaic.TcCoe Idealize.ShloMosaic.Tactic
open Idealize.SL.Sem

variable (m : (ℓ : Loc nD τ sig) → Buf (Elt Ideal) ℓ) (ρ : Dev nD → PrngReg)

abbrev m0 (c : Dev nD) : AX := m ((c : Thread nD τ).loc main_arg0)
abbrev m1 (c : Dev nD) : AXS := m ((c : Thread nD τ).loc main_arg1)
abbrev m2 (c : Dev nD) : AW := m ((c : Thread nD τ).loc main_arg2)
abbrev m3 (c : Dev nD) : AWS := m ((c : Thread nD τ).loc main_arg3)

theorem inp_X (c : Dev nD) (i : Fin 3072) (k : Fin 11776) : (inp m ρ c).X (ix2 i k)
    = m0 m c (ix3 ⟨i.val / 1536, by omega⟩ ⟨i.val % 1536, by omega⟩ k) := by
  show StableHlo.after hostOps0 (V₀ m ρ c) (Proc.devRef .tc main_v0) (ix2 i k) = _
  simp only [hostOps0]
  after_results
  pointwise

theorem inp_XS (c : Dev nD) (g : Fin 92) (b : Fin 2) (s : Fin 1536) : (inp m ρ c).XS (ix3 g b s) = m1 m c (ix3 b s g) := by
  show StableHlo.after hostOps0 (V₀ m ρ c) (Proc.devRef .tc main_v1) (ix3 g b s) = _
  simp only [hostOps0]
  after_results
  pointwise

theorem inp_W (c : Dev nD) (k : Fin 11776) (n : Fin 1920) : (inp m ρ c).W (ix2 k n) = m2 m c (ix2 k n) :=
  congrFun (VA_ne m ρ c main_arg2 (by decide)) _

theorem inp_WS (c : Dev nD) (u : Fin 15) (g : Fin 92) : (inp m ρ c).WS (ix2 u g) = m3 m c (ix2 g u) := by
  show StableHlo.after hostOps0 (V₀ m ρ c) (Proc.devRef .tc main_v2) (ix2 u g) = _
  simp only [hostOps0]
  after_results
  pointwise

theorem hsum_eq (c : Dev nD) (i n : ℕ) (hi : i < 3072) (hn : n < 1920) :
    hsum (inp m ρ c) i n = hTab (m0 m c) (m1 m c) (m2 m c) (m3 m c) i n := by
  unfold hsum hTab
  refine Finset.sum_congr rfl fun k hk => ?_
  have hk' := Finset.mem_range.mp hk
  rw [mul_comm]
  unfold XR WR
  rw [i2_eq hi hk', i2_eq hk' hn, i2_eq (show n / 128 < 15 by omega) (show k / 128 < 92 by omega),
    i3_eq (show k / 128 < 92 by omega) (show i / 1536 < 2 by omega) (show i % 1536 < 1536 by omega)]
  rw [i3_eq (n := 2) (m := 1536) (l := 11776) (show i / 1536 < 2 by omega) (show i % 1536 < 1536 by omega) hk',
    i3_eq (n := 2) (m := 1536) (l := 92) (show i / 1536 < 2 by omega) (show i % 1536 < 1536 by omega) (show k / 128 < 92 by omega),
    i2_eq (n := 92) (m := 15) (show k / 128 < 92 by omega) (show n / 128 < 15 by omega)]
  rw [inp_X, inp_XS, inp_W, inp_WS]

theorem AR_eq (c : Dev nD) (i n : ℕ) (hi : i < 3072) (hn : n < 1920) :
    AR (inp m ρ c) i n = aTab (m0 m c) (m1 m c) (m2 m c) (m3 m c) i n := by
  unfold AR aTab
  rw [hsum_eq m ρ c i n hi hn]

theorem MR_eq (c : Dev nD) (i : ℕ) (hi : i < 12) (t : Fin 256) :
    MR (inp m ρ c) i t = mTab (m0 m c) (m1 m c) (m2 m c) (m3 m c) (256 * i + t.val) := by
  refine mTab_unique _ _ _ _ _ _ fun b => (MR_le (inp m ρ c) hi t b).trans ?_
  refine forall₂_congr fun n hn => ?_
  rw [AR_eq m ρ c (256 * i + t.val) n (by omega) hn]

theorem ysFin_eq (c : Dev nD) : ysFin (inp m ρ c) = sTab (m0 m c) (m1 m c) (m2 m c) (m3 m c) := by
  funext j
  have h0 : (j 0).val < 2 := (j 0).isLt
  have h1 : (j 1).val < 1536 := (j 1).isLt
  unfold ysFin sTab
  have hi : 6 * (j 0).val + (j 1).val / 256 < 12 := by omega
  have ht : (j 1).val % 256 < 256 := by omega
  rw [i2_eq (n := 1) (m := 256) (show 0 < 1 by omega) ht]
  refine (scale_val (inp m ρ c) hi ⟨_, ht⟩).trans ?_
  rw [MR_eq m ρ c _ hi]
  congr 2
  show 256 * (6 * (j 0).val + (j 1).val / 256) + (j 1).val % 256 = _
  omega

theorem yFin_eq (c : Dev nD) (i : Fin 3072) (n : Fin 1920) : yFin (inp m ρ c) (ix2 i n)
    = min (Ideal.ofBits .f32 0x43E00000#32) (max (Ideal.ofBits .f32 0xC3E00000#32)
    (aTab (m0 m c) (m1 m c) (m2 m c) (m3 m c) i.val n.val * Ideal.div 1 (rscale (mTab (m0 m c) (m1 m c) (m2 m c) (m3 m c) i.val)))) := by
  have hi : i.val / 256 < 12 := by omega
  have hr : i.val - 256 * (i.val / 256) < 256 := by omega
  have he : 256 * (i.val / 256) + (i.val - 256 * (i.val / 256)) = i.val := by omega
  refine (code_val (inp m ρ c) hi hr n.isLt).trans ?_
  rw [MR_eq m ρ c _ hi, AR_eq m ρ c _ _ (by omega) n.isLt]
  show min _ (max _ (aTab _ _ _ _ (256 * (i.val / 256) + (i.val - 256 * (i.val / 256))) _
    * Ideal.div 1 (rscale (mTab _ _ _ _ (256 * (i.val / 256) + (i.val - 256 * (i.val / 256))))))) = _
  rw [he]

theorem out_read (c : Dev nD) (b : Fin 2) (s : Fin 1536) (n : Fin 1920) : VE m ρ c (Proc.devRef .tc main_v4) (ix3 b s n)
    = yFin (inp m ρ c) (ix2 ⟨b.val * 1536 + s.val, by omega⟩ n) := by
  show StableHlo.after hostOps1 (VB m ρ c) (Proc.devRef .tc main_v4) (ix3 b s n) = _
  simp only [hostOps1]
  after_results
  rw [VB_v3_0]
  generalize yFin (inp m ρ c) = z
  pointwise

theorem out_eq (c : Dev nD) : VE m ρ c (Proc.devRef .tc main_v4) = yTab (m0 m c) (m1 m c) (m2 m c) (m3 m c) := by
  funext j
  obtain ⟨b, s, n, rfl⟩ : ∃ (b : Fin 2) (s : Fin 1536) (n : Fin 1920), j = ix3 b s n :=
    ⟨j 0, j 1, j 2, by funext a; match a with | 0 => rfl | 1 => rfl | 2 => rfl⟩
  exact (out_read m ρ c b s n).trans (yFin_eq m ρ c _ n)

/-- The kernel's run at the extended reals: the two results are those functions of the arguments. -/
theorem run_value : θ_run (defs (F := Ideal)) (onTc (τ := τ) (main (F := Ideal))) ⟨m, fun _ => 0, ρ⟩ (fun r => ∀ c : Dev nD,
    r.2.mem ((c.tc : Thread nD τ).loc main_v4) = yTab (m0 m c) (m1 m c) (m2 m c) (m3 m c)
    ∧ r.2.mem ((c.tc : Thread nD τ).loc main_v3_1) = sTab (m0 m c) (m1 m c) (m2 m c) (m3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun r h c => ⟨(h.1 c).2.2.2.2.1.trans (out_eq m ρ c), (h.1 c).2.2.2.2.2.trans (ysFin_eq m ρ c),
    (h.1 c).1, (h.1 c).2.1, (h.1 c).2.2.1, (h.1 c).2.2.2.1⟩) (run_main m ρ)

end Cert.Kernel.V

end
-- ==== Proof.RefVal.lean ====
/- The reference's payloads at the extended reals. -/
module

public import proofs.«01_k».proof.Proof.Gen.ReferenceIdeal.Frame
public import proofs.«01_k».proof.Proof.Scale

@[expose] public section

set_option synthInstance.maxSize 4096
set_option maxRecDepth 16384

noncomputable section

namespace Cert.ReferenceIdeal.V

open Cert.ReferenceIdeal.Gen
open Idealize.ShloMosaic
open Cert.Kernel.V (pw rscale below r448 fmax ofBits_ninf)

variable (X : S3072x11776.Idx → EReal) (XS : S3072x11776.Idx → EReal) (W : S11776x1920.Idx → EReal) (WS : S11776x1920.Idx → EReal)
  (P : S1x254.Idx → EReal)

/-- The squared activations. -/
abbrev act : S3072x1920.Idx → EReal := k0_pay3 (F := Ideal) X XS W WS
/-- Their row maxima. -/
abbrev amax : S3072x1.Idx → EReal := k0_pay4 (F := Ideal) X XS W WS
/-- The scales and the codes. -/
abbrev scl : S3072x1.Idx → EReal := k0_pay1 (F := Ideal) (k0_pay5 (F := Ideal) X XS W WS P P) (k0_pay6 (F := Ideal) X XS W WS P P) (k0_pay7 (F := Ideal))
abbrev codes : S3072x1920.Idx → EReal :=
  k0_pay2 (F := Ideal) (k0_pay3 (F := Ideal) X XS W WS) (k0_pay5 (F := Ideal) X XS W WS P P) (k0_pay6 (F := Ideal) X XS W WS P P) (k0_pay7 (F := Ideal))

theorem act_at (i : Fin 3072) (n : Fin 1920) : act X XS W WS (ix2 i n)
    = max (∑ k : Fin 11776, X (ix2 i k) * XS (ix2 i k) * (W (ix2 k n) * WS (ix2 k n))) 0
      * max (∑ k : Fin 11776, X (ix2 i k) * XS (ix2 i k) * (W (ix2 k n) * WS (ix2 k n))) 0 := by
  unfold act k0_pay3
  pointwise

theorem act_nonneg (i : Fin 3072) (n : Fin 1920) : 0 ≤ act X XS W WS (ix2 i n) := by
  rw [act_at]; exact mul_nonneg (le_max_right _ _) (le_max_right _ _)

theorem amax_le (i : Fin 3072) (b : EReal) : amax X XS W WS (ix2 i 0) ≤ b ↔ ∀ n : Fin 1920, act X XS W WS (ix2 i n) ≤ b := by
  unfold amax k0_pay4
  have hz : ∀ z : FVec Ideal S3072 .f32, shapeCast S3072x1 z shapeCasts_S3072_S3072x1 (ix2 i 0) = z (ix1 i) := by
    intro z; pointwise
  refine Iff.trans (iff_of_eq (congrArg (fun x : EReal => x ≤ b) (hz _))) ?_
  refine Iff.trans (iff_of_eq (congrArg (fun x : EReal => x ≤ b) (Ideal.multiReduction_maximumf_single _ _ _ _ _ _))) ?_
  rw [Finset.fold_max_le]
  have hl : ∀ x : Fin 1920, reduces_S3072x1920_S3072.lift (ix1 i) x = ix2 i x := by
    intro x
    funext a
    match a with
    | 0 => rfl
    | 1 => rfl
  have ha : ∀ x : Fin 1920, absf (F := Ideal) (φ := .f32) (act X XS W WS) (reduces_S3072x1920_S3072.lift (ix1 i) x) = act X XS W WS (ix2 i x) := by
    intro x
    rw [hl]
    have h0 := act_nonneg X XS W WS i x
    show max (act X XS W WS (ix2 i x)) (-(act X XS W WS (ix2 i x))) = _
    exact max_eq_left ((by simpa using h0 : -(act X XS W WS (ix2 i x)) ≤ 0).trans h0)
  constructor
  · intro h q
    have h1 : @LE.le EReal _ (absf (F := Ideal) (φ := .f32) (act X XS W WS) (reduces_S3072x1920_S3072.lift (ix1 i) q)) b := h.2 q (Finset.mem_univ _)
    rw [ha] at h1
    exact h1
  · intro h
    have hq : ∀ q : Fin 1920, @LE.le EReal _ (absf (F := Ideal) (φ := .f32) (act X XS W WS) (reduces_S3072x1920_S3072.lift (ix1 i) q)) b :=
      fun q => by rw [ha]; exact h q
    refine ⟨?_, fun q _ => hq q⟩
    rw [show (FloatOps.ofBits (F := Ideal) .f32 4286578688#32 : EReal) = Ideal.ofBits .f32 0xFF800000#32 from rfl, ofBits_ninf]; exact bot_le

/-- Which powers of two the table's row keeps. -/
def kept (A : FVec Ideal S3072x1 .f32) (P : FVec Ideal S1x254 .f32) : FVec Ideal S3072x254 .f32 :=
  select (cmpf .ole (broadcastTo S3072x254 P broadcasts_S1x254_S3072x254)
    (broadcastTo S3072x254 (mulf A (broadcast S3072x1 (Scalar.ofBits .f32 0x3B124925#32))) broadcasts_S3072x1_S3072x254))
    (broadcastTo S3072x254 (shapeCast S1x254 P shapeCasts_S1x254_S1x254) broadcasts_S1x254_S3072x254)
    (broadcast S3072x254 (Scalar.ofBits .f32 0x00000000#32))

theorem kept_at (A : FVec Ideal S3072x1 .f32) (P : FVec Ideal S1x254 .f32) (i : Fin 3072) (k : Fin 254) : kept A P (ix2 i k)
    = Scalar.select (Ideal.cmp .ole (P (ix2 0 k)) (A (ix2 i 0) * r448)) (P (ix2 0 k)) 0 := by
  unfold kept
  pointwise
  rfl

/-- The largest power kept. -/
def largest (A : FVec Ideal S3072x1 .f32) (P : FVec Ideal S1x254 .f32) : FVec Ideal S3072x1 .f32 :=
  shapeCast S3072x1 (multiReduction .maximumf [1] S3072 (kept A P) 0xFF800000#32 reduces_S3072x254_S3072 (.inl rfl) rfl)
    shapeCasts_S3072_S3072x1

theorem largest_at (A : FVec Ideal S3072x1 .f32) (P : FVec Ideal S1x254 .f32) (hP : ∀ k : Fin 254, P (ix2 0 k) = pw (k.val + 1))
    (i : Fin 3072) : largest A P (ix2 i 0) = below (A (ix2 i 0) * r448) := by
  unfold largest
  have hz : ∀ z : FVec Ideal S3072 .f32, shapeCast S3072x1 z shapeCasts_S3072_S3072x1 (ix2 i 0) = z (ix1 i) := by
    intro z; pointwise
  refine (hz _).trans ?_
  refine (Ideal.multiReduction_maximumf_single _ _ _ _ _ _).trans ?_
  have hl : ∀ x : Fin 254, reduces_S3072x254_S3072.lift (ix1 i) x = ix2 i x := by
    intro x
    funext a
    match a with
    | 0 => rfl
    | 1 => rfl
  have hf : (kept A P ∘ reduces_S3072x254_S3072.lift (ix1 i)) = fun k : Fin 254 =>
      Scalar.select (Ideal.cmp .ole (pw (k.val + 1)) (A (ix2 i 0) * r448)) (pw (k.val + 1)) 0 := by
    funext k
    have h1 := kept_at A P i k
    rw [hP k] at h1
    exact (congrArg (kept A P) (hl k)).trans h1
  exact congrArg (fun f : Fin 254 → EReal => (Finset.univ : Finset (Fin 254)).fold max (Ideal.ofBits .f32 0xFF800000#32) f) hf

/-- The scales, from the row maxima and the largest powers. -/
def scales (A S : FVec Ideal S3072x1 .f32) : FVec Ideal S3072x1 .f32 :=
  k0_pay1 S (ori (cmpf .oeq S (broadcast S3072x1 (Scalar.ofBits .f32 0x00000000#32)))
    (cmpf .ogt A (broadcast S3072x1 (Scalar.ofBits .f32 0x7F7FFFFF#32)))) k0_pay7

theorem scales_at (A S : FVec Ideal S3072x1 .f32) (i : Fin 3072) : scales A S (ix2 i 0)
    = Scalar.select (Scalar.ori (Ideal.cmp .oeq (S (ix2 i 0)) 0) (Ideal.cmp .ogt (A (ix2 i 0)) fmax)) 1
      (Ideal.ofBits .f32 0x40000000#32 * S (ix2 i 0)) := by
  unfold scales k0_pay1 k0_pay7
  pointwise
  rfl

theorem scl_eq : scl X XS W WS P = scales (amax X XS W WS) (largest (amax X XS W WS) P) := rfl

/-- The codes, from the activations and the scales. -/
theorem pay2_at (y : FVec Ideal S3072x1920 .f32) (a : FVec Ideal S3072x1 .f32) (b : IVec S3072x1 1) (d : FVec Ideal S3072x1 .f32)
    (i : Fin 3072) (n : Fin 1920) : k0_pay2 y a b d (ix2 i n)
    = min (Ideal.ofBits .f32 0x43E00000#32) (max (Ideal.ofBits .f32 0xC3E00000#32) (y (ix2 i n) * Ideal.div 1 (k0_pay1 a b d (ix2 i 0)))) := by
  unfold k0_pay2
  generalize k0_pay1 a b d = s
  pointwise

variable (hP : ∀ k : Fin 254, P (ix2 0 k) = pw (k.val + 1))
include hP

theorem scl_at (i : Fin 3072) : scl X XS W WS P (ix2 i 0) = rscale (amax X XS W WS (ix2 i 0)) := by
  rw [scl_eq]
  refine (scales_at _ _ i).trans ?_
  rw [largest_at (amax X XS W WS) P hP i]
  rfl

theorem codes_at (i : Fin 3072) (n : Fin 1920) : codes X XS W WS P (ix2 i n)
    = min (Ideal.ofBits .f32 0x43E00000#32) (max (Ideal.ofBits .f32 0xC3E00000#32)
      (act X XS W WS (ix2 i n) * Ideal.div 1 (rscale (amax X XS W WS (ix2 i 0))))) := by
  rw [← scl_at X XS W WS P hP i]
  exact pay2_at _ _ _ _ i n

end Cert.ReferenceIdeal.V
-- ==== Proof.RefRun.lean ====
/- The reference's run. -/
module

public import proofs.«01_k».proof.Proof.RefVal
public import proofs.«01_k».proof.Proof.Table
public import Idealize.ShloMosaic.Lib.Pipeline.ValueKit

@[expose] public section

set_option synthInstance.maxSize 4096
set_option maxRecDepth 16384

noncomputable section

namespace Cert.ReferenceIdeal.V

open Cert.ReferenceIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk0 (c : Dev nD) : iblk m c 0 t0_0 = V m c main_v6 := by
  funext j; blk_point [iblk, V, idx t0_0]

theorem blk1 (c : Dev nD) : iblk m c 1 t0_0 = V m c main_v2 := by
  funext j; blk_point [iblk, V, idx t0_0]

theorem blk2 (c : Dev nD) : iblk m c 2 t0_0 = V m c main_arg2 := by
  funext j; blk_point [iblk, V, idx t0_0]

theorem blk3 (c : Dev nD) : iblk m c 3 t0_0 = V m c main_v5 := by
  funext j; blk_point [iblk, V, idx t0_0]

theorem blk4 (c : Dev nD) : iblk m c 4 t0_0 = V m c main_cst := by
  funext j; blk_point [iblk, V, idx t0_0]

/-- The codes the call returns. -/
theorem final5 (c : Dev nD) : (dats m 0 c).arrAt 5 (cfgs 0).N
    = codes (V m c main_v6) (V m c main_v2) (V m c main_arg2) (V m c main_v5) (V m c main_cst) := by
  refine (dats m 0 c).arrAt_eq_of_after_last 5 t0_0 (by decide +kernel) _ fun j => ?_
  blk_simp
  rw [after0_5]
  unfold_out out0_5
  frame_out
  rw [blk0, blk1, blk2, blk3, blk4]

/-- The scales the call returns. -/
theorem final6 (c : Dev nD) : (dats m 0 c).arrAt 6 (cfgs 0).N
    = scl (V m c main_v6) (V m c main_v2) (V m c main_arg2) (V m c main_v5) (V m c main_cst) := by
  refine (dats m 0 c).arrAt_eq_of_after_last 6 t0_0 (by decide +kernel) _ fun j => ?_
  blk_simp
  rw [after0_6]
  unfold_out out0_6
  frame_out
  rw [blk0, blk1, blk2, blk3, blk4]

theorem inj : Function.Injective (Pipeline.arrRef spec0) := by
  intro a b; revert a b; decide

theorem run : θ_run defs (onTc (τ := τ) (main (F := Ideal))) ⟨m, fun _ => 0, ρ⟩ (fun r => ∀ c : Dev nD,
    r.2.mem ((c.tc : Thread nD τ).loc main_v8) = shapeCast S2x1536x1920 ((dats m 0 c).arrAt 5 (cfgs 0).N) shapeCasts_S3072x1920_S2x1536x1920
    ∧ r.2.mem ((c.tc : Thread nD τ).loc main_v9) = shapeCast S2x1536 ((dats m 0 c).arrAt 6 (cfgs 0).N) shapeCasts_S3072x1_S2x1536
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from Gen.run_main m ρ & Gen.frame m ρ
  · unfold Pipeline.afterTail₀
    simp only [hostOps1, List.flatten_cons, List.flatten_nil, List.append_nil, List.cons_append, List.nil_append]
    after_results
    exact congrArg (fun z => shapeCast S2x1536x1920 z shapeCasts_S3072x1920_S2x1536x1920) (Pipeline.withArrays_arr spec0 inj c (V0 m c) _ 5)
  · unfold Pipeline.afterTail₀
    simp only [hostOps1, List.flatten_cons, List.flatten_nil, List.append_nil, List.cons_append, List.nil_append]
    after_results
    exact congrArg (fun z => shapeCast S2x1536 z shapeCasts_S3072x1_S2x1536) (Pipeline.withArrays_arr spec0 inj c (V0 m c) _ 6)
  · exact W_main_arg0 m (dats m) c
  · exact W_main_arg1 m (dats m) c
  · exact W_main_arg3 m (dats m) c

theorem lits : ∀ k : Fin 254, lit0 (S1x254.rowMajor (ix2 0 k)) = BitVec.ofNat 32 (k.val + 1) <<< (23 : ℕ) := by decide +kernel

theorem read_cst (c : Dev nD) (k : Fin 254) : V m c main_cst (ix2 0 k) = Cert.Kernel.V.pw (k.val + 1) := by
  show StableHlo.after (List.flatten [hostOps0]) (fun b => m (c, b)) (Proc.devRef .tc main_cst) (ix2 0 k) = _
  simp only [hostOps0, List.flatten_cons, List.flatten_nil, List.append_nil, List.cons_append, List.nil_append]
  after_results
  exact congrArg (Ideal.ofBits .f32) (lits k)

theorem read_v6 (c : Dev nD) (i : Fin 3072) (k : Fin 11776) : V m c main_v6 (ix2 i k)
    = m ((c.tc : Thread nD τ).loc main_arg0) (ix3 ⟨i.val / 1536, by omega⟩ ⟨i.val % 1536, by omega⟩ k) := by
  show StableHlo.after (List.flatten [hostOps0]) (fun b => m (c, b)) (Proc.devRef .tc main_v6) (ix2 i k) = _
  simp only [hostOps0, List.flatten_cons, List.flatten_nil, List.append_nil, List.cons_append, List.nil_append]
  after_results
  pointwise

theorem read_v2 (c : Dev nD) (i : Fin 3072) (k : Fin 11776) : V m c main_v2 (ix2 i k)
    = m ((c.tc : Thread nD τ).loc main_arg1) (ix3 ⟨i.val / 1536, by omega⟩ ⟨i.val % 1536, by omega⟩ ⟨k.val / 128, by omega⟩) := by
  show StableHlo.after (List.flatten [hostOps0]) (fun b => m (c, b)) (Proc.devRef .tc main_v2) (ix2 i k) = _
  simp only [hostOps0, List.flatten_cons, List.flatten_nil, List.append_nil, List.cons_append, List.nil_append]
  after_results
  pointwise

theorem read_v5 (c : Dev nD) (k : Fin 11776) (n : Fin 1920) : V m c main_v5 (ix2 k n)
    = m ((c.tc : Thread nD τ).loc main_arg3) (ix2 ⟨k.val / 128, by omega⟩ ⟨n.val / 128, by omega⟩) := by
  show StableHlo.after (List.flatten [hostOps0]) (fun b => m (c, b)) (Proc.devRef .tc main_v5) (ix2 k n) = _
  simp only [hostOps0, List.flatten_cons, List.flatten_nil, List.append_nil, List.cons_append, List.nil_append]
  after_results
  pointwise

open Cert.Kernel.V (rscale AX AXS AW AWS hTab aTab mTab yTab sTab i2 i3 mTab_unique i2_eq i3_eq)

abbrev m0 (c : Dev nD) : AX := m ((c : Thread nD τ).loc main_arg0)
abbrev m1 (c : Dev nD) : AXS := m ((c : Thread nD τ).loc main_arg1)
abbrev m2 (c : Dev nD) : AW := m ((c : Thread nD τ).loc main_arg2)
abbrev m3 (c : Dev nD) : AWS := m ((c : Thread nD τ).loc main_arg3)

theorem sum_eq (c : Dev nD) (i : Fin 3072) (n : Fin 1920) :
    (∑ k : Fin 11776, (show EReal from V m c main_v6 (ix2 i k)) * (show EReal from V m c main_v2 (ix2 i k))
      * ((show EReal from V m c main_arg2 (ix2 k n)) * (show EReal from V m c main_v5 (ix2 k n))))
    = hTab (m0 m c) (m1 m c) (m2 m c) (m3 m c) i.val n.val := by
  unfold hTab
  rw [← Fin.sum_univ_eq_sum_range (fun k => (m0 m c (i3 (i.val / 1536) (i.val % 1536) k) * m1 m c (i3 (i.val / 1536) (i.val % 1536) (k / 128)))
    * (m2 m c (i2 k n.val) * m3 m c (i2 (k / 128) (n.val / 128)))) 11776]
  refine Finset.sum_congr rfl fun k _ => ?_
  rw [read_v6, read_v2, read_v5, V_main_arg2]
  rw [i3_eq (n := 2) (m := 1536) (l := 11776) (show i.val / 1536 < 2 by omega) (show i.val % 1536 < 1536 by omega) k.isLt,
    i3_eq (n := 2) (m := 1536) (l := 92) (show i.val / 1536 < 2 by omega) (show i.val % 1536 < 1536 by omega) (show k.val / 128 < 92 by omega),
    i2_eq (n := 11776) (m := 1920) k.isLt n.isLt, i2_eq (n := 92) (m := 15) (show k.val / 128 < 92 by omega) (show n.val / 128 < 15 by omega)]

abbrev actV (c : Dev nD) := act (V m c main_v6) (V m c main_v2) (V m c main_arg2) (V m c main_v5)
abbrev amaxV (c : Dev nD) := amax (V m c main_v6) (V m c main_v2) (V m c main_arg2) (V m c main_v5)

theorem act_eq (c : Dev nD) (i : Fin 3072) (n : Fin 1920) : actV m c (ix2 i n)
    = aTab (m0 m c) (m1 m c) (m2 m c) (m3 m c) i.val n.val := by
  refine (act_at _ _ _ _ i n).trans ?_
  unfold aTab
  rw [← sum_eq m c i n]

theorem amax_eq (c : Dev nD) (i : Fin 3072) : amaxV m c (ix2 i 0) = mTab (m0 m c) (m1 m c) (m2 m c) (m3 m c) i.val := by
  refine mTab_unique _ _ _ _ _ _ fun b => (amax_le _ _ _ _ i b).trans ?_
  have h := fun n => act_eq m c i n
  exact ⟨fun H n hn => (ge_of_eq (h ⟨n, hn⟩)).trans (H ⟨n, hn⟩), fun H n => (le_of_eq (h n)).trans (H n.val n.isLt)⟩

theorem res5 (c : Dev nD) (i : Fin 3072) (n : Fin 1920) : (dats m 0 c).arrAt 5 (cfgs 0).N (ix2 i n)
    = min (Ideal.ofBits .f32 0x43E00000#32) (max (Ideal.ofBits .f32 0xC3E00000#32)
    (aTab (m0 m c) (m1 m c) (m2 m c) (m3 m c) i.val n.val * Ideal.div 1 (rscale (mTab (m0 m c) (m1 m c) (m2 m c) (m3 m c) i.val)))) := by
  rw [← act_eq m c i n, ← amax_eq m c i]
  exact (congrFun (final5 m c) _).trans (codes_at _ _ _ _ _ (read_cst m c) i n)

theorem res6 (c : Dev nD) (i : Fin 3072) : (dats m 0 c).arrAt 6 (cfgs 0).N (ix2 i 0) = rscale (mTab (m0 m c) (m1 m c) (m2 m c) (m3 m c) i.val) := by
  rw [← amax_eq m c i]
  exact (congrFun (final6 m c) _).trans (scl_at _ _ _ _ _ (read_cst m c) i)

theorem cast8 (z : S3072x1920.Idx → EReal) (b : Fin 2) (s : Fin 1536) (n : Fin 1920) :
    shapeCast S2x1536x1920 z shapeCasts_S3072x1920_S2x1536x1920 (ix3 b s n) = z (ix2 ⟨b.val * 1536 + s.val, by omega⟩ n) := by
  pointwise

theorem cast9 (z : S3072x1.Idx → EReal) (b : Fin 2) (s : Fin 1536) :
    shapeCast S2x1536 z shapeCasts_S3072x1_S2x1536 (ix2 b s) = z (ix2 ⟨b.val * 1536 + s.val, by omega⟩ 0) := by
  pointwise

theorem out8 (c : Dev nD) : shapeCast S2x1536x1920 ((dats m 0 c).arrAt 5 (cfgs 0).N) shapeCasts_S3072x1920_S2x1536x1920
    = yTab (m0 m c) (m1 m c) (m2 m c) (m3 m c) := by
  funext j
  obtain ⟨b, s, n, rfl⟩ : ∃ (b : Fin 2) (s : Fin 1536) (n : Fin 1920), j = ix3 b s n :=
    ⟨j 0, j 1, j 2, by funext a; match a with | 0 => rfl | 1 => rfl | 2 => rfl⟩
  exact (cast8 _ b s n).trans (res5 m c _ n)

theorem out9 (c : Dev nD) : shapeCast S2x1536 ((dats m 0 c).arrAt 6 (cfgs 0).N) shapeCasts_S3072x1_S2x1536
    = sTab (m0 m c) (m1 m c) (m2 m c) (m3 m c) := by
  funext j
  obtain ⟨b, s, rfl⟩ : ∃ (b : Fin 2) (s : Fin 1536), j = ix2 b s :=
    ⟨j 0, j 1, by funext a; match a with | 0 => rfl | 1 => rfl⟩
  exact (cast9 _ b s).trans (res6 m c _)

/-- The reference's run: the two results are those functions of the arguments. -/
theorem run_value : θ_run defs (onTc (τ := τ) (main (F := Ideal))) ⟨m, fun _ => 0, ρ⟩ (fun r => ∀ c : Dev nD,
    r.2.mem ((c.tc : Thread nD τ).loc main_v8) = yTab (m0 m c) (m1 m c) (m2 m c) (m3 m c)
    ∧ r.2.mem ((c.tc : Thread nD τ).loc main_v9) = sTab (m0 m c) (m1 m c) (m2 m c) (m3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun r h c => ⟨(h c).1.trans (out8 m c), (h c).2.1.trans (out9 m c), (h c).2.2⟩) (run m ρ)

end Cert.ReferenceIdeal.V
-- ==== Proof.Algebraic.lean ====
/- The value claim: over the extended reals, the kernel and the reference end with the same two arrays. -/
module

public import proofs.«01_k».proof.Defs
public import proofs.«01_k».proof.Proof.KLink
public import proofs.«01_k».proof.Proof.RefRun
public import proofs.«01_k».proof.Proof.Gen.Kernel
public import proofs.«01_k».proof.Proof.Gen.KernelIdeal
public import Idealize.ShloMosaic.Lib.Tactic

@[expose] public section

noncomputable section

namespace Cert.Kernel.V

open Idealize.ShloMosaic
open Idealize.SL Idealize.SL.Sem

/-- The kernel's run with its two results, in the words of the printed kernel -/
def Valued : Prop :=
  ∀ (m : (ℓ : Loc Cert.Kernel.nD Cert.Kernel.τ Cert.Kernel.sig) → Buf (Elt Ideal) ℓ) (g : Dev Cert.Kernel.nD → PrngReg),
    θ_run (Cert.Kernel.defs (F := Ideal)) (onTc (τ := Cert.Kernel.τ) (Cert.Kernel.main (F := Ideal))) ⟨m, fun _ => 0, g⟩ (fun r => ∀ c : Dev Cert.Kernel.nD,
      r.2.mem ((c.tc : Thread Cert.Kernel.nD Cert.Kernel.τ).loc Cert.Kernel.main_v4)
        = yTab (m ((c.tc : Thread Cert.Kernel.nD Cert.Kernel.τ).loc Cert.Kernel.main_arg0)) (m ((c.tc : Thread Cert.Kernel.nD Cert.Kernel.τ).loc Cert.Kernel.main_arg1))
          (m ((c.tc : Thread Cert.Kernel.nD Cert.Kernel.τ).loc Cert.Kernel.main_arg2)) (m ((c.tc : Thread Cert.Kernel.nD Cert.Kernel.τ).loc Cert.Kernel.main_arg3))
      ∧ r.2.mem ((c.tc : Thread Cert.Kernel.nD Cert.Kernel.τ).loc Cert.Kernel.main_v3_1)
        = sTab (m ((c.tc : Thread Cert.Kernel.nD Cert.Kernel.τ).loc Cert.Kernel.main_arg0)) (m ((c.tc : Thread Cert.Kernel.nD Cert.Kernel.τ).loc Cert.Kernel.main_arg1))
          (m ((c.tc : Thread Cert.Kernel.nD Cert.Kernel.τ).loc Cert.Kernel.main_arg2)) (m ((c.tc : Thread Cert.Kernel.nD Cert.Kernel.τ).loc Cert.Kernel.main_arg3))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

/-- and of its ideal print. -/
def ValuedIdeal : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4)
        = yTab (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v3_1)
        = sTab (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

theorem valued : Valued := fun m g => run_value m g

theorem valued_eq : ValuedIdeal = Valued := by
  sl_kernel_rfl

theorem algebraic : Cert.algebraic_KernelIdeal_ReferenceIdeal (hKernelIdeal := Cert.KernelIdeal.Gen.facts)
    (hReferenceIdeal := Cert.ReferenceIdeal.Gen.facts) := by
  intro m g m' g' _ hagree
  have hK := valued_eq.mpr valued m g
  have hR := Cert.ReferenceIdeal.V.run_value m' g'
  refine ⟨_, _, hK, (θ_run _ _ _).mono (fun r h c => ?_) hR⟩
  have hc := h c
  have ha := hagree c
  exact ⟨hc.1.trans (by
      unfold Cert.ReferenceIdeal.V.m0 Cert.ReferenceIdeal.V.m1 Cert.ReferenceIdeal.V.m2 Cert.ReferenceIdeal.V.m3
      rw [ha.1, ha.2.1, ha.2.2.1, ha.2.2.2]), hc.2.1.trans (by
      unfold Cert.ReferenceIdeal.V.m0 Cert.ReferenceIdeal.V.m1 Cert.ReferenceIdeal.V.m2 Cert.ReferenceIdeal.V.m3
      rw [ha.1, ha.2.1, ha.2.2.1, ha.2.2.2]), hc.2.2⟩

end Cert.Kernel.V

end
-- ==== Proof.lean ====
/- The certificate: the frames of the kernel at both readings (Proof/Frames.lean), of the reference, `preserves`, and the value claim
   (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel.V.quiet_P, Cert.Kernel.V.quiet_PI, fun m ρ _ => Cert.ReferenceIdeal.Gen.frame m ρ, trivial,
  Cert.Kernel.V.algebraic⟩

end Cert.Proof

end
